-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_v64) = v1 c
          ∧ r.2.mem ((c.tc : Thread Cert.Reference4Ideal.nD Cert.Reference4Ideal.τ).loc Cert.Reference4Ideal.main_v65) = v2 c
          ∧ r.2.mem ((c.tc : Thread Cert.Reference4Ideal.nD Cert.Reference4Ideal.τ).loc Cert.Reference4Ideal.main_v66) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  IdealRules.named_const.Statement Cert.Kernel11Ideal.κ "inv_bias1" .f32 0x3FC48605#32 (((5463681 / 8388608)⁻¹ : ℝ) : EReal)
  ∧ IdealRules.named_const.Statement Cert.Kernel11Ideal.κ "inv_bias2" .f32 0x42C8E6D3#32 (((2672307 / 268435456)⁻¹ : ℝ) : EReal)

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  IdealRules.named_const.Statement Cert.Kernel12Ideal.κ "inv_bias1" .f32 0x3FC48605#32 (((5463681 / 8388608)⁻¹ : ℝ) : EReal)
  ∧ IdealRules.named_const.Statement Cert.Kernel12Ideal.κ "inv_bias2" .f32 0x42C8E6D3#32 (((2672307 / 268435456)⁻¹ : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "inv_bias1" .f32 0x3FC48605#32 (((5463681 / 8388608)⁻¹ : ℝ) : EReal)
  ∧ IdealRules.named_const.Statement Cert.Kernel13Ideal.κ "inv_bias2" .f32 0x42C8E6D3#32 (((2672307 / 268435456)⁻¹ : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  IdealRules.named_const.Statement Cert.Kernel14Ideal.κ "inv_bias1" .f32 0x3FC48605#32 (((5463681 / 8388608)⁻¹ : ℝ) : EReal)
  ∧ IdealRules.named_const.Statement Cert.Kernel14Ideal.κ "inv_bias2" .f32 0x42C8E6D3#32 (((2672307 / 268435456)⁻¹ : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  IdealRules.named_const.Statement Cert.Kernel15Ideal.κ "inv_bias1" .f32 0x3FC48605#32 (((5463681 / 8388608)⁻¹ : ℝ) : EReal)
  ∧ IdealRules.named_const.Statement Cert.Kernel15Ideal.κ "inv_bias2" .f32 0x42C8E6D3#32 (((2672307 / 268435456)⁻¹ : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  IdealRules.named_const.Statement Cert.Kernel16Ideal.κ "inv_bias1" .f32 0x3FC48605#32 (((5463681 / 8388608)⁻¹ : ℝ) : EReal)
  ∧ IdealRules.named_const.Statement Cert.Kernel16Ideal.κ "inv_bias2" .f32 0x42C8E6D3#32 (((2672307 / 268435456)⁻¹ : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  IdealRules.named_const.Statement Cert.Kernel17Ideal.κ "inv_bias1" .f32 0x3FC48605#32 (((5463681 / 8388608)⁻¹ : ℝ) : EReal)
  ∧ IdealRules.named_const.Statement Cert.Kernel17Ideal.κ "inv_bias2" .f32 0x42C8E6D3#32 (((2672307 / 268435456)⁻¹ : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  IdealRules.named_const.Statement Cert.Kernel18Ideal.κ "inv_bias1" .f32 0x3FC48605#32 (((5463681 / 8388608)⁻¹ : ℝ) : EReal)
  ∧ IdealRules.named_const.Statement Cert.Kernel18Ideal.κ "inv_bias2" .f32 0x42C8E6D3#32 (((2672307 / 268435456)⁻¹ : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  IdealRules.named_const.Statement Cert.Kernel19Ideal.κ "inv_bias1" .f32 0x3FC48605#32 (((5463681 / 8388608)⁻¹ : ℝ) : EReal)
  ∧ IdealRules.named_const.Statement Cert.Kernel19Ideal.κ "inv_bias2" .f32 0x42C8E6D3#32 (((2672307 / 268435456)⁻¹ : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "inv_bias1" .f32 0x3FC48605#32 (((5463681 / 8388608)⁻¹ : ℝ) : EReal)
  ∧ IdealRules.named_const.Statement Cert.Kernel20Ideal.κ "inv_bias2" .f32 0x42C8E6D3#32 (((2672307 / 268435456)⁻¹ : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  IdealRules.named_const.Statement Cert.Kernel21Ideal.κ "inv_bias1" .f32 0x3FC48605#32 (((5463681 / 8388608)⁻¹ : ℝ) : EReal)
  ∧ IdealRules.named_const.Statement Cert.Kernel21Ideal.κ "inv_bias2" .f32 0x42C8E6D3#32 (((2672307 / 268435456)⁻¹ : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  IdealRules.named_const.Statement Cert.Kernel22Ideal.κ "inv_bias1" .f32 0x3FC48605#32 (((5463681 / 8388608)⁻¹ : ℝ) : EReal)
  ∧ IdealRules.named_const.Statement Cert.Kernel22Ideal.κ "inv_bias2" .f32 0x42C8E6D3#32 (((2672307 / 268435456)⁻¹ : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S2048x16x96 : Shape := ⟨3, ![2048, 16, 96]⟩
abbrev S2048x16x64 : Shape := ⟨3, ![2048, 16, 64]⟩
abbrev S2048x1024 : Shape := ⟨2, ![2048, 1024]⟩
abbrev S_ : Shape := ⟨0, ![]⟩

class Facts : Prop where
  bcast_S_S2048x16x96 : S_.BroadcastsInDim S2048x16x96 (![] : Fin 0 → Fin S2048x16x96.rank)
  bcast_S_S2048x16x64 : S_.BroadcastsInDim S2048x16x64 (![] : Fin 0 → Fin S2048x16x64.rank)
  bcast_S_S2048x1024 : S_.BroadcastsInDim S2048x1024 (![] : Fin 0 → Fin S2048x1024.rank)

variable [Facts]

def fn_part1 {F : FTy → Type} [FloatOps F] (main_arg3 : FVec F S2048x1024 .f32) (main_v4 : IVec S2048x16x96 1) (main_v9 : IVec S2048x16x96 1) (main_v14 : IVec S2048x16x64 1) (main_v16 : IVec S2048x1024 1) : IVec S2048x16x96 1 × IVec S2048x16x96 1 × IVec S2048x16x64 1 × IVec S2048x1024 1 :=
  let main_cst_6 : FVec F S_ .f32 := constant S_ .f32 0xFF800000#32
  let main_v17 : FVec F S2048x1024 .f32 := broadcastInDim S2048x1024 ![] bcast_S_S2048x1024 main_cst_6
  let main_v18 : IVec S2048x1024 1 := cmpf .ogt main_arg3 main_v17
  let main_v19 : IVec S2048x1024 1 := andi main_v16 main_v18
  (main_v4, main_v9, main_v14, main_v19)

def fn {F : FTy → Type} [FloatOps F] (main_arg0 : FVec F S2048x16x96 .f32) (main_arg1 : FVec F S2048x16x96 .f32) (main_arg2 : FVec F S2048x16x64 .f32) (main_arg3 : FVec F S2048x1024 .f32) : IVec S2048x16x96 1 × IVec S2048x16x96 1 × IVec S2048x16x64 1 × IVec S2048x1024 1 :=
  let main_cst : FVec F S_ .f32 := constant S_ .f32 0x7F800000#32
  let main_v0 : FVec F S2048x16x96 .f32 := broadcastInDim S2048x16x96 ![] bcast_S_S2048x16x96 main_cst
  let main_v1 : IVec S2048x16x96 1 := cmpf .olt main_arg0 main_v0
  let main_cst_0 : FVec F S_ .f32 := constant S_ .f32 0xFF800000#32
  let main_v2 : FVec F S2048x16x96 .f32 := broadcastInDim S2048x16x96 ![] bcast_S_S2048x16x96 main_cst_0
  let main_v3 : IVec S2048x16x96 1 := cmpf .ogt main_arg0 main_v2
  let main_v4 : IVec S2048x16x96 1 := andi main_v1 main_v3
  let main_cst_1 : FVec F S_ .f32 := constant S_ .f32 0x7F800000#32
  let main_v5 : FVec F S2048x16x96 .f32 := broadcastInDim S2048x16x96 ![] bcast_S_S2048x16x96 main_cst_1
  let main_v6 : IVec S2048x16x96 1 := cmpf .olt main_arg1 main_v5
  let main_cst_2 : FVec F S_ .f32 := constant S_ .f32 0xFF800000#32
  let main_v7 : FVec F S2048x16x96 .f32 := broadcastInDim S2048x16x96 ![] bcast_S_S2048x16x96 main_cst_2
  let main_v8 : IVec S2048x16x96 1 := cmpf .ogt main_arg1 main_v7
  let main_v9 : IVec S2048x16x96 1 := andi main_v6 main_v8
  let main_cst_3 : FVec F S_ .f32 := constant S_ .f32 0x7F800000#32
  let main_v10 : FVec F S2048x16x64 .f32 := broadcastInDim S2048x16x64 ![] bcast_S_S2048x16x64 main_cst_3
  let main_v11 : IVec S2048x16x64 1 := cmpf .olt main_arg2 main_v10
  let main_cst_4 : FVec F S_ .f32 := constant S_ .f32 0xFF800000#32
  let main_v12 : FVec F S2048x16x64 .f32 := broadcastInDim S2048x16x64 ![] bcast_S_S2048x16x64 main_cst_4
  let main_v13 : IVec S2048x16x64 1 := cmpf .ogt main_arg2 main_v12
  let main_v14 : IVec S2048x16x64 1 := andi main_v11 main_v13
  let main_cst_5 : FVec F S_ .f32 := constant S_ .f32 0x7F800000#32
  let main_v15 : FVec F S2048x1024 .f32 := broadcastInDim S2048x1024 ![] bcast_S_S2048x1024 main_cst_5
  let main_v16 : IVec S2048x1024 1 := cmpf .olt main_arg3 main_v15
  fn_part1 (F := F) main_arg3 main_v4 main_v9 main_v14 main_v16
-- ==== Pre_finite2.lean ====
abbrev S2048x1024 : Shape := ⟨2, ![2048, 1024]⟩
abbrev S4x704x1024 : Shape := ⟨3, ![4, 704, 1024]⟩
abbrev S4x2x2048x704 : Shape := ⟨4, ![4, 2, 2048, 704]⟩
abbrev S_ : Shape := ⟨0, ![]⟩

class Facts : Prop where
  bcast_S_S2048x1024 : S_.BroadcastsInDim S2048x1024 (![] : Fin 0 → Fin S2048x1024.rank)
  bcast_S_S4x704x1024 : S_.BroadcastsInDim S4x704x1024 (![] : Fin 0 → Fin S4x704x1024.rank)
  bcast_S_S4x2x2048x704 : S_.BroadcastsInDim S4x2x2048x704 (![] : Fin 0 → Fin S4x2x2048x704.rank)

variable [Facts]

def fn {F : FTy → Type} [FloatOps F] (main_arg0 : FVec F S2048x1024 .f32) (main_arg1 : FVec F S4x704x1024 .f32) (main_arg2 : FVec F S4x2x2048x704 .f32) : IVec S2048x1024 1 × IVec S4x704x1024 1 × IVec S4x2x2048x704 1 :=
  let main_cst : FVec F S_ .f32 := constant S_ .f32 0x7F800000#32
  let main_v0 : FVec F S2048x1024 .f32 := broadcastInDim S2048x1024 ![] bcast_S_S2048x1024 main_cst
  let main_v1 : IVec S2048x1024 1 := cmpf .olt main_arg0 main_v0
  let main_cst_0 : FVec F S_ .f32 := constant S_ .f32 0xFF800000#32
  let main_v2 : FVec F S2048x1024 .f32 := broadcastInDim S2048x1024 ![] bcast_S_S2048x1024 main_cst_0
  let main_v3 : IVec S2048x1024 1 := cmpf .ogt main_arg0 main_v2
  let main_v4 : IVec S2048x1024 1 := andi main_v1 main_v3
  let main_cst_1 : FVec F S_ .f32 := constant S_ .f32 0x7F800000#32
  let main_v5 : FVec F S4x704x1024 .f32 := broadcastInDim S4x704x1024 ![] bcast_S_S4x704x1024 main_cst_1
  let main_v6 : IVec S4x704x1024 1 := cmpf .olt main_arg1 main_v5
  let main_cst_2 : FVec F S_ .f32 := constant S_ .f32 0xFF800000#32
  let main_v7 : FVec F S4x704x1024 .f32 := broadcastInDim S4x704x1024 ![] bcast_S_S4x704x1024 main_cst_2
  let main_v8 : IVec S4x704x1024 1 := cmpf .ogt main_arg1 main_v7
  let main_v9 : IVec S4x704x1024 1 := andi main_v6 main_v8
  let main_cst_3 : FVec F S_ .f32 := constant S_ .f32 0x7F800000#32
  let main_v10 : FVec F S4x2x2048x704 .f32 := broadcastInDim S4x2x2048x704 ![] bcast_S_S4x2x2048x704 main_cst_3
  let main_v11 : IVec S4x2x2048x704 1 := cmpf .olt main_arg2 main_v10
  let main_cst_4 : FVec F S_ .f32 := constant S_ .f32 0xFF800000#32
  let main_v12 : FVec F S4x2x2048x704 .f32 := broadcastInDim S4x2x2048x704 ![] bcast_S_S4x2x2048x704 main_cst_4
  let main_v13 : IVec S4x2x2048x704 1 := cmpf .ogt main_arg2 main_v12
  let main_v14 : IVec S4x2x2048x704 1 := andi main_v11 main_v13
  (main_v4, main_v9, main_v14)
-- ==== Kernel.lean ====
abbrev S2048x16x96 : Shape := ⟨3, ![2048, 16, 96]⟩
abbrev S2048x16x64 : Shape := ⟨3, ![2048, 16, 64]⟩
abbrev S2048x1024 : Shape := ⟨2, ![2048, 1024]⟩
abbrev S16x2048x96 : Shape := ⟨3, ![16, 2048, 96]⟩
abbrev S16x2048x64 : Shape := ⟨3, ![16, 2048, 64]⟩
abbrev S16x2048x1 : Shape := ⟨3, ![16, 2048, 1]⟩
abbrev S1x512x96 : Shape := ⟨3, ![1, 512, 96]⟩
abbrev S1x2048x96 : Shape := ⟨3, ![1, 2048, 96]⟩
abbrev S1x2048x64 : Shape := ⟨3, ![1, 2048, 64]⟩
abbrev S1x512x64 : Shape := ⟨3, ![1, 512, 64]⟩
abbrev S1x512x1 : Shape := ⟨3, ![1, 512, 1]⟩
abbrev S512x512 : Shape := ⟨2, ![512, 512]⟩
abbrev S512x96 : Shape := ⟨2, ![512, 96]⟩
abbrev S512 : Shape := ⟨1, ![512]⟩
abbrev S512x1 : Shape := ⟨2, ![512, 1]⟩
abbrev S512x64 : Shape := ⟨2, ![512, 64]⟩
abbrev S512x1024 : Shape := ⟨2, ![512, 1024]⟩
abbrev S1x1024x96 : Shape := ⟨3, ![1, 1024, 96]⟩
abbrev S1024x96 : Shape := ⟨2, ![1024, 96]⟩
abbrev S1x1024x64 : Shape := ⟨3, ![1, 1024, 64]⟩
abbrev S1024x64 : Shape := ⟨2, ![1024, 64]⟩
abbrev S512x1536 : Shape := ⟨2, ![512, 1536]⟩
abbrev S1x1536x96 : Shape := ⟨3, ![1, 1536, 96]⟩
abbrev S1536x96 : Shape := ⟨2, ![1536, 96]⟩
abbrev S1x1536x64 : Shape := ⟨3, ![1, 1536, 64]⟩
abbrev S1536x64 : Shape := ⟨2, ![1536, 64]⟩
abbrev S512x2048 : Shape := ⟨2, ![512, 2048]⟩
abbrev S2048x96 : Shape := ⟨2, ![2048, 96]⟩
abbrev S2048x64 : Shape := ⟨2, ![2048, 64]⟩

abbrev nBuf : Space → Nat
  | .hbm => 17
  | .vmem => 28
  | .smem => 0
  | _ => 0

abbrev bufTy : (tb : Table) → Fin (tcTables nBuf tb) → BufTy
  | .hbm, ⟨0, _⟩ => ⟨S2048x16x96, .f32⟩
  | .hbm, ⟨1, _⟩ => ⟨S2048x16x96, .f32⟩
  | .hbm, ⟨2, _⟩ => ⟨S2048x16x64, .f32⟩
  | .hbm, ⟨3, _⟩ => ⟨S2048x1024, .f32⟩
  | .hbm, ⟨4, _⟩ => ⟨S16x2048x96, .f32⟩
  | .hbm, ⟨5, _⟩ => ⟨S16x2048x96, .bf16⟩
  | .hbm, ⟨6, _⟩ => ⟨S16x2048x96, .f32⟩
  | .hbm, ⟨7, _⟩ => ⟨S16x2048x96, .bf16⟩
  | .hbm, ⟨8, _⟩ => ⟨S16x2048x64, .f32⟩
  | .hbm, ⟨9, _⟩ => ⟨S16x2048x64, .bf16⟩
  | .hbm, ⟨10, _⟩ => ⟨S16x2048x64, .f32⟩
  | .hbm, ⟨11, _⟩ => ⟨S16x2048x1, .f32⟩
  | .hbm, ⟨12, _⟩ => ⟨S2048x16x64, .f32⟩
  | .hbm, ⟨13, _⟩ => ⟨S16x2048x64, .f32⟩
  | .hbm, ⟨14, _⟩ => ⟨S16x2048x96, .f32⟩
  | .hbm, ⟨15, _⟩ => ⟨S16x2048x96, .f32⟩
  | .hbm, ⟨16, _⟩ => ⟨S16x2048x64, .f32⟩
  | .local _ .vmem, ⟨0, _⟩ => ⟨S1x512x96, .bf16⟩
  | .local _ .vmem, ⟨1, _⟩ => ⟨S1x512x96, .bf16⟩
  | .local _ .vmem, ⟨2, _⟩ => ⟨S1x2048x96, .bf16⟩
  | .local _ .vmem, ⟨3, _⟩ => ⟨S1x2048x96, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x512x64, .f32⟩
  | .local _ .vmem, ⟨7, _⟩ => ⟨S1x512x64, .f32⟩
  | .local _ .vmem, ⟨8, _⟩ => ⟨S1x512x1, .f32⟩
  | .local _ .vmem, ⟨9, _⟩ => ⟨S1x512x1, .f32⟩
  | .local _ .vmem, ⟨10, _⟩ => ⟨S1x512x96, .bf16⟩
  | .local _ .vmem, ⟨11, _⟩ => ⟨S1x512x96, .bf16⟩
  | .local _ .vmem, ⟨12, _⟩ => ⟨S1x2048x96, .bf16⟩
  | .local _ .vmem, ⟨13, _⟩ => ⟨S1x2048x96, .bf16⟩
  | .local _ .vmem, ⟨14, _⟩ => ⟨S1x2048x64, .bf16⟩
  | .local _ .vmem, ⟨15, _⟩ => ⟨S1x2048x64, .bf16⟩
  | .local _ .vmem, ⟨16, _⟩ => ⟨S1x512x64, .f32⟩
  | .local _ .vmem, ⟨17, _⟩ => ⟨S1x512x64, .f32⟩
  | .local _ .vmem, ⟨18, _⟩ => ⟨S1x512x64, .f32⟩
  | .local _ .vmem, ⟨19, _⟩ => ⟨S1x512x64, .f32⟩
  | .local _ .vmem, ⟨20, _⟩ => ⟨S1x512x1, .f32⟩
  | .local _ .vmem, ⟨21, _⟩ => ⟨S1x512x1, .f32⟩
  | .local _ .vmem, ⟨22, _⟩ => ⟨S1x512x96, .f32⟩
  | .local _ .vmem, ⟨23, _⟩ => ⟨S1x512x96, .f32⟩
  | .local _ .vmem, ⟨24, _⟩ => ⟨S1x2048x96, .f32⟩
  | .local _ .vmem, ⟨25, _⟩ => ⟨S1x2048x96, .f32⟩
  | .local _ .vmem, ⟨26, _⟩ => ⟨S1x2048x64, .f32⟩
  | .local _ .vmem, ⟨27, _⟩ => ⟨S1x2048x64, .f32⟩
  | _, _ => ⟨S2048x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![16, 4], ![false, false]⟩

def k1_cond2 (i : grid1.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k1_cond3 (i : grid1.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def k1_cond4 (i : grid1.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

def k1_cond5 (i : grid1.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x96 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x96 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x2048x96 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x2048x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== ReferenceIdeal.lean ====
abbrev S2048x16x96 : Shape := ⟨3, ![2048, 16, 96]⟩
abbrev S2048x16x64 : Shape := ⟨3, ![2048, 16, 64]⟩
abbrev S2048x1024 : Shape := ⟨2, ![2048, 1024]⟩
abbrev S16x2048x2048 : Shape := ⟨3, ![16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x2048 : Shape := ⟨2, ![16, 2048]⟩
abbrev S16x2048x1 : Shape := ⟨3, ![16, 2048, 1]⟩
abbrev S16x64x2048 : Shape := ⟨3, ![16, 64, 2048]⟩
abbrev S16x2048x96 : Shape := ⟨3, ![16, 2048, 96]⟩
abbrev S16x2048x64 : Shape := ⟨3, ![16, 2048, 64]⟩

abbrev nBuf : Space → Nat
  | .hbm => 93
  | .vmem => 0
  | .smem => 0
  | _ => 0

abbrev bufTy : (tb : Table) → Fin (tcTables nBuf tb) → BufTy
  | .hbm, ⟨0, _⟩ => ⟨S2048x16x96, .f32⟩
  | .hbm, ⟨1, _⟩ => ⟨S2048x16x96, .f32⟩
  | .hbm, ⟨2, _⟩ => ⟨S2048x16x64, .f32⟩
  | .hbm, ⟨3, _⟩ => ⟨S2048x1024, .f32⟩
  | .hbm, ⟨4, _⟩ => ⟨S16x2048x2048, .f32⟩
  | .hbm, ⟨5, _⟩ => ⟨S_, .f32⟩
  | .hbm, ⟨6, _⟩ => ⟨S16x2048x2048, .f32⟩
  | .hbm, ⟨7, _⟩ => ⟨S16x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S_, .f32⟩
  | .hbm, ⟨15, _⟩ => ⟨S_, .f32⟩
  | .hbm, ⟨16, _⟩ => ⟨S16x2048x2048, .i1⟩
  | .hbm, ⟨17, _⟩ => ⟨S16x2048x2048, .f32⟩
  | .hbm, ⟨18, _⟩ => ⟨S16x2048x2048, .f32⟩
  | .hbm, ⟨19, _⟩ => ⟨S_, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S16x2048x2048, .f32⟩
  | .hbm, ⟨25, _⟩ => ⟨S16x2048x2048, .i1⟩
  | .hbm, ⟨26, _⟩ => ⟨S16x2048x2048, .f32⟩
  | .hbm, ⟨27, _⟩ => ⟨S_, .f32⟩
  | .hbm, ⟨28, _⟩ => ⟨S16x2048, .f32⟩
  | .hbm, ⟨29, _⟩ => ⟨S_, .f32⟩
  | .hbm, ⟨30, _⟩ => ⟨S16x2048, .f32⟩
  | .hbm, ⟨31, _⟩ => ⟨S16x2048, .f32⟩
  | .hbm, ⟨32, _⟩ => ⟨S_, .f32⟩
  | .hbm, ⟨33, _⟩ => ⟨S16x2048, .f32⟩
  | .hbm, ⟨34, _⟩ => ⟨S16x2048, .i1⟩
  | .hbm, ⟨35, _⟩ => ⟨S_, .f32⟩
  | .hbm, ⟨36, _⟩ => ⟨S16x2048, .f32⟩
  | .hbm, ⟨37, _⟩ => ⟨S16x2048, .i1⟩
  | .hbm, ⟨38, _⟩ => ⟨S_, .f32⟩
  | .hbm, ⟨39, _⟩ => ⟨S16x2048, .f32⟩
  | .hbm, ⟨40, _⟩ => ⟨S_, .f32⟩
  | .hbm, ⟨41, _⟩ => ⟨S16x2048, .f32⟩
  | .hbm, ⟨42, _⟩ => ⟨S_, .f32⟩
  | .hbm, ⟨43, _⟩ => ⟨S16x2048, .f32⟩
  | .hbm, ⟨44, _⟩ => ⟨S16x2048, .f32⟩
  | .hbm, ⟨45, _⟩ => ⟨S16x2048, .f32⟩
  | .hbm, ⟨46, _⟩ => ⟨S16x2048x1, .f32⟩
  | .hbm, ⟨47, _⟩ => ⟨S16x2048x2048, .f32⟩
  | .hbm, ⟨48, _⟩ => ⟨S16x2048x2048, .f32⟩
  | .hbm, ⟨49, _⟩ => ⟨S16x2048x2048, .f32⟩
  | .hbm, ⟨50, _⟩ => ⟨S_, .f32⟩
  | .hbm, ⟨51, _⟩ => ⟨S16x2048, .f32⟩
  | .hbm, ⟨52, _⟩ => ⟨S16x2048x1, .f32⟩
  | .hbm, ⟨53, _⟩ => ⟨S16x2048x2048, .f32⟩
  | .hbm, ⟨54, _⟩ => ⟨S16x2048x2048, .f32⟩
  | .hbm, ⟨55, _⟩ => ⟨S16x2048x1, .f32⟩
  | .hbm, ⟨56, _⟩ => ⟨S_, .f32⟩
  | .hbm, ⟨57, _⟩ => ⟨S16x2048x1, .f32⟩
  | .hbm, ⟨58, _⟩ => ⟨S16x2048x1, .f32⟩
  | .hbm, ⟨59, _⟩ => ⟨S16x64x2048, .f32⟩
  | .hbm, ⟨60, _⟩ => ⟨S2048x16x64, .f32⟩
  | .hbm, ⟨61, _⟩ => ⟨S2048x16x64, .f32⟩
  | .hbm, ⟨62, _⟩ => ⟨S16x64x2048, .f32⟩
  | .hbm, ⟨63, _⟩ => ⟨S16x2048x2048, .f32⟩
  | .hbm, ⟨64, _⟩ => ⟨S16x64x2048, .f32⟩
  | .hbm, ⟨65, _⟩ => ⟨S2048x16x64, .f32⟩
  | .hbm, ⟨66, _⟩ => ⟨S16x2048x2048, .f32⟩
  | .hbm, ⟨67, _⟩ => ⟨S16x2048x2048, .f32⟩
  | .hbm, ⟨68, _⟩ => ⟨S16x2048x2048, .f32⟩
  | .hbm, ⟨69, _⟩ => ⟨S_, .f32⟩
  | .hbm, ⟨70, _⟩ => ⟨S16x2048, .f32⟩
  | .hbm, ⟨71, _⟩ => ⟨S16x2048x1, .f32⟩
  | .hbm, ⟨72, _⟩ => ⟨S16x2048x1, .f32⟩
  | .hbm, ⟨73, _⟩ => ⟨S16x2048x2048, .f32⟩
  | .hbm, ⟨74, _⟩ => ⟨S16x2048x2048, .f32⟩
  | .hbm, ⟨75, _⟩ => ⟨S_, .f32⟩
  | .hbm, ⟨76, _⟩ => ⟨S16x2048, .f32⟩
  | .hbm, ⟨77, _⟩ => ⟨S16x2048x2048, .f32⟩
  | .hbm, ⟨78, _⟩ => ⟨S16x2048x2048, .f32⟩
  | .hbm, ⟨79, _⟩ => ⟨S16x2048x2048, .f32⟩
  | .hbm, ⟨80, _⟩ => ⟨S_, .f32⟩
  | .hbm, ⟨81, _⟩ => ⟨S16x2048x2048, .f32⟩
  | .hbm, ⟨82, _⟩ => ⟨S16x2048x2048, .f32⟩
  | .hbm, ⟨83, _⟩ => ⟨S_, .f32⟩
  | .hbm, ⟨84, _⟩ => ⟨S16x2048x2048, .f32⟩
  | .hbm, ⟨85, _⟩ => ⟨S16x2048x2048, .f32⟩
  | .hbm, ⟨86, _⟩ => ⟨S16x2048x96, .f32⟩
  | .hbm, ⟨87, _⟩ => ⟨S2048x16x96, .f32⟩
  | .hbm, ⟨88, _⟩ => ⟨S16x2048x96, .f32⟩
  | .hbm, ⟨89, _⟩ => ⟨S2048x16x96, .f32⟩
  | .hbm, ⟨90, _⟩ => ⟨S16x2048x96, .f32⟩
  | .hbm, ⟨91, _⟩ => ⟨S16x2048x96, .f32⟩
  | .hbm, ⟨92, _⟩ => ⟨S16x2048x64, .f32⟩
  | _, _ => ⟨S2048x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]
-- ==== Kernel2.lean ====
abbrev S2048x1024 : Shape := ⟨2, ![2048, 1024]⟩
abbrev S4x704x1024 : Shape := ⟨3, ![4, 704, 1024]⟩
abbrev S4x2x2048x704 : Shape := ⟨4, ![4, 2, 2048, 704]⟩
abbrev S1024x1024 : Shape := ⟨2, ![1024, 1024]⟩
abbrev S1x704x1024 : Shape := ⟨3, ![1, 704, 1024]⟩
abbrev S1x2x1024x704 : Shape := ⟨4, ![1, 2, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 7
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S4x704x1024, .f32⟩
  | .hbm, ⟨2, _⟩ => ⟨S4x2x2048x704, .f32⟩
  | .hbm, ⟨3, _⟩ => ⟨S2048x1024, .bf16⟩
  | .hbm, ⟨4, _⟩ => ⟨S4x704x1024, .bf16⟩
  | .hbm, ⟨5, _⟩ => ⟨S4x2x2048x704, .bf16⟩
  | .hbm, ⟨6, _⟩ => ⟨S4x2x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x2x1024x704, .bf16⟩
  | .local _ .vmem, ⟨5, _⟩ => ⟨S1x2x1024x704, .bf16⟩
  | .local _ .vmem, ⟨6, _⟩ => ⟨S1x2x1024x704, .bf16⟩
  | .local _ .vmem, ⟨7, _⟩ => ⟨S1x2x1024x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2048x1024 : Shape := ⟨2, ![2048, 1024]⟩
abbrev S4x704x1024 : Shape := ⟨3, ![4, 704, 1024]⟩
abbrev S4x2x2048x704 : Shape := ⟨4, ![4, 2, 2048, 704]⟩
abbrev S4x1x2048x704 : Shape := ⟨4, ![4, 1, 2048, 704]⟩
abbrev S4x2048x704 : Shape := ⟨3, ![4, 2048, 704]⟩
abbrev S_ : Shape := ⟨0, ![]⟩
abbrev S2048x4x704 : Shape := ⟨3, ![2048, 4, 704]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x704x1024, .f32⟩
  | .hbm, ⟨2, _⟩ => ⟨S4x2x2048x704, .f32⟩
  | .hbm, ⟨3, _⟩ => ⟨S4x1x2048x704, .f32⟩
  | .hbm, ⟨4, _⟩ => ⟨S4x2048x704, .f32⟩
  | .hbm, ⟨5, _⟩ => ⟨S4x2048x704, .f32⟩
  | .hbm, ⟨6, _⟩ => ⟨S4x2048x704, .f32⟩
  | .hbm, ⟨7, _⟩ => ⟨S_, .f32⟩
  | .hbm, ⟨8, _⟩ => ⟨S4x2048x704, .f32⟩
  | .hbm, ⟨9, _⟩ => ⟨S4x2048x704, .f32⟩
  | .hbm, ⟨10, _⟩ => ⟨S_, .f32⟩
  | .hbm, ⟨11, _⟩ => ⟨S4x2048x704, .f32⟩
  | .hbm, ⟨12, _⟩ => ⟨S4x2048x704, .f32⟩
  | .hbm, ⟨13, _⟩ => ⟨S_, .f32⟩
  | .hbm, ⟨14, _⟩ => ⟨S4x2048x704, .f32⟩
  | .hbm, ⟨15, _⟩ => ⟨S4x2048x704, .f32⟩
  | .hbm, ⟨16, _⟩ => ⟨S4x2048x704, .f32⟩
  | .hbm, ⟨17, _⟩ => ⟨S4x2048x704, .f32⟩
  | .hbm, ⟨18, _⟩ => ⟨S4x1x2048x704, .f32⟩
  | .hbm, ⟨19, _⟩ => ⟨S4x2048x704, .f32⟩
  | .hbm, ⟨20, _⟩ => ⟨S4x2048x704, .f32⟩
  | .hbm, ⟨21, _⟩ => ⟨S2048x1024, .f32⟩
  | .hbm, ⟨22, _⟩ => ⟨S2048x4x704, .f32⟩
  | .hbm, ⟨23, _⟩ => ⟨S4x2048x704, .f32⟩
  | .hbm, ⟨24, _⟩ => ⟨S4x2048x704, .f32⟩
  | .hbm, ⟨25, _⟩ => ⟨S4x2048x704, .f32⟩
  | .hbm, ⟨26, _⟩ => ⟨S4x1x2048x704, .f32⟩
  | .hbm, ⟨27, _⟩ => ⟨S_, .f32⟩
  | .hbm, ⟨28, _⟩ => ⟨S4x2x2048x704, .f32⟩
  | .hbm, ⟨29, _⟩ => ⟨S4x2048x704, .f32⟩
  | .hbm, ⟨30, _⟩ => ⟨S4x2048x704, .f32⟩
  | .hbm, ⟨31, _⟩ => ⟨S4x2048x704, .f32⟩
  | .hbm, ⟨32, _⟩ => ⟨S4x2048x704, .f32⟩
  | .hbm, ⟨33, _⟩ => ⟨S4x1x2048x704, .f32⟩
  | .hbm, ⟨34, _⟩ => ⟨S_, .f32⟩
  | .hbm, ⟨35, _⟩ => ⟨S4x2x2048x704, .f32⟩
  | .hbm, ⟨36, _⟩ => ⟨S4x2x2048x704, .f32⟩
  | .hbm, ⟨37, _⟩ => ⟨S4x2x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]
-- ==== Kernel3.lean ====
abbrev S4x2x2048x704 : Shape := ⟨4, ![4, 2, 2048, 704]⟩
abbrev S2048x1024 : Shape := ⟨2, ![2048, 1024]⟩
abbrev S8x2048x704 : Shape := ⟨3, ![8, 2048, 704]⟩
abbrev S1x2048x1024 : Shape := ⟨3, ![1, 2048, 1024]⟩
abbrev S2x4x704x1024 : Shape := ⟨4, ![2, 4, 704, 1024]⟩
abbrev S1x2048x704 : Shape := ⟨3, ![1, 2048, 704]⟩
abbrev S1x1x704x1024 : Shape := ⟨4, ![1, 1, 704, 1024]⟩
abbrev S2048x704 : Shape := ⟨2, ![2048, 704]⟩
abbrev S704x1024 : Shape := ⟨2, ![704, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4x2x2048x704, .f32⟩
  | .hbm, ⟨1, _⟩ => ⟨S2048x1024, .f32⟩
  | .hbm, ⟨2, _⟩ => ⟨S4x2x2048x704, .bf16⟩
  | .hbm, ⟨3, _⟩ => ⟨S8x2048x704, .bf16⟩
  | .hbm, ⟨4, _⟩ => ⟨S2048x1024, .bf16⟩
  | .hbm, ⟨5, _⟩ => ⟨S1x2048x1024, .bf16⟩
  | .hbm, ⟨6, _⟩ => ⟨S2x4x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S1x2048x1024, .bf16⟩
  | .local _ .vmem, ⟨3, _⟩ => ⟨S1x1x704x1024, .f32⟩
  | .local _ .vmem, ⟨4, _⟩ => ⟨S1x1x704x1024, .f32⟩
  | _, _ => ⟨S4x2x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.divsi arg0 c2_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat, arg1.toNat, arg2.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference3Ideal.lean ====
abbrev S4x2x2048x704 : Shape := ⟨4, ![4, 2, 2048, 704]⟩
abbrev S2048x1024 : Shape := ⟨2, ![2048, 1024]⟩
abbrev S_ : Shape := ⟨0, ![]⟩
abbrev S4x2x1024x704 : Shape := ⟨4, ![4, 2, 1024, 704]⟩
abbrev S4x2x704x2048 : Shape := ⟨4, ![4, 2, 704, 2048]⟩
abbrev S4x2x704x1024 : Shape := ⟨4, ![4, 2, 704, 1024]⟩
abbrev S2x4x704x1024 : Shape := ⟨4, ![2, 4, 704, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x2x2048x704, .f32⟩
  | .hbm, ⟨1, _⟩ => ⟨S2048x1024, .f32⟩
  | .hbm, ⟨2, _⟩ => ⟨S_, .f32⟩
  | .hbm, ⟨3, _⟩ => ⟨S4x2x1024x704, .f32⟩
  | .hbm, ⟨4, _⟩ => ⟨S4x2x704x2048, .f32⟩
  | .hbm, ⟨5, _⟩ => ⟨S4x2x2048x704, .f32⟩
  | .hbm, ⟨6, _⟩ => ⟨S4x2x704x2048, .f32⟩
  | .hbm, ⟨7, _⟩ => ⟨S4x2x704x1024, .f32⟩
  | .hbm, ⟨8, _⟩ => ⟨S4x2x1024x704, .f32⟩
  | .hbm, ⟨9, _⟩ => ⟨S2x4x704x1024, .f32⟩
  | _, _ => ⟨S4x2x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4x2x2048x704 : Shape := ⟨4, ![4, 2, 2048, 704]⟩
abbrev S4x2x1024x704 : Shape := ⟨4, ![4, 2, 1024, 704]⟩
abbrev S2048x1024 : Shape := ⟨2, ![2048, 1024]⟩
abbrev S8x1024 : Shape := ⟨2, ![8, 1024]⟩
abbrev S1x1024 : Shape := ⟨2, ![1, 1024]⟩
abbrev S1x2x512x704 : Shape := ⟨4, ![1, 2, 512, 704]⟩
abbrev S1x2x1024x704 : Shape := ⟨4, ![1, 2, 1024, 704]⟩
abbrev S512x1024 : Shape := ⟨2, ![512, 1024]⟩
abbrev S1x1x512x704 : Shape := ⟨4, ![1, 1, 512, 704]⟩
abbrev S512x704 : Shape := ⟨2, ![512, 704]⟩
abbrev S1x1x1024x704 : Shape := ⟨4, ![1, 1, 1024, 704]⟩
abbrev S1024x704 : Shape := ⟨2, ![1024, 704]⟩
abbrev S512 : Shape := ⟨1, ![512]⟩
abbrev S512x1 : Shape := ⟨2, ![512, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S4x2x2048x704, .f32⟩
  | .hbm, ⟨1, _⟩ => ⟨S4x2x1024x704, .f32⟩
  | .hbm, ⟨2, _⟩ => ⟨S2048x1024, .f32⟩
  | .hbm, ⟨3, _⟩ => ⟨S2048x1024, .f32⟩
  | .hbm, ⟨4, _⟩ => ⟨S8x1024, .f32⟩
  | .hbm, ⟨5, _⟩ => ⟨S4x2x2048x704, .bf16⟩
  | .hbm, ⟨6, _⟩ => ⟨S4x2x1024x704, .bf16⟩
  | .hbm, ⟨7, _⟩ => ⟨S2048x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x2x512x704, .bf16⟩
  | .local _ .vmem, ⟨1, _⟩ => ⟨S1x2x512x704, .bf16⟩
  | .local _ .vmem, ⟨2, _⟩ => ⟨S1x2x1024x704, .bf16⟩
  | .local _ .vmem, ⟨3, _⟩ => ⟨S1x2x1024x704, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | _, _ => ⟨S4x2x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![4, 4], ![false, false]⟩

def k0_cond4 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_21 : BitVec 32 := 0#32
  let v24 : BitVec 1 := Scalar.cmpi .ne v23 c0_i32_21
  v24

def k0_cond3 (i : grid0.Coords) : BitVec 1 :=
  let arg0 : BitVec 32 := BitVec.ofNat 32 (i 0).val
  let c0_i32_18 : BitVec 32 := 0#32
  let v17 : BitVec 1 := Scalar.cmpi .eq arg0 c0_i32_18
  let arg1 : BitVec 32 := BitVec.ofNat 32 (i 1).val
  let c0_i32_19 : BitVec 32 := 0#32
  let v18 : BitVec 1 := Scalar.cmpi .eq arg1 c0_i32_19
  let v19 : BitVec 1 := Scalar.andi v17 v18
  let v20 : BitVec 32 := Scalar.extui v19
  let c0_i32_20 : BitVec 32 := 0#32
  let v21 : BitVec 1 := Scalar.cmpi .ne v20 c0_i32_20
  v21

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference4Ideal.lean ====
abbrev S4x2x2048x704 : Shape := ⟨4, ![4, 2, 2048, 704]⟩
abbrev S4x2x1024x704 : Shape := ⟨4, ![4, 2, 1024, 704]⟩
abbrev S2048x1024 : Shape := ⟨2, ![2048, 1024]⟩
abbrev S8x1024 : Shape := ⟨2, ![8, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S4x2x704x2048 : Shape := ⟨4, ![4, 2, 704, 2048]⟩

abbrev nBuf : Space → Nat
  | .hbm => 86
  | .vmem => 0
  | .smem => 0
  | _ => 0

abbrev bufTy : (tb : Table) → Fin (tcTables nBuf tb) → BufTy
  | .hbm, ⟨0, _⟩ => ⟨S4x2x2048x704, .f32⟩
  | .hbm, ⟨1, _⟩ => ⟨S4x2x1024x704, .f32⟩
  | .hbm, ⟨2, _⟩ => ⟨S2048x1024, .f32⟩
  | .hbm, ⟨3, _⟩ => ⟨S2048x1024, .f32⟩
  | .hbm, ⟨4, _⟩ => ⟨S8x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S4x2x704x2048, .f32⟩
  | .hbm, ⟨41, _⟩ => ⟨S4x2x2048x704, .f32⟩
  | .hbm, ⟨42, _⟩ => ⟨S4x2x704x2048, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S_, .f32⟩
  | .hbm, ⟨48, _⟩ => ⟨S1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S2048x1024, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1, .f32⟩
  | .hbm, ⟨73, _⟩ => ⟨S_, .f32⟩
  | .hbm, ⟨74, _⟩ => ⟨S2048x1, .f32⟩
  | .hbm, ⟨75, _⟩ => ⟨S2048x1, .f32⟩
  | .hbm, ⟨76, _⟩ => ⟨S_, .f32⟩
  | .hbm, ⟨77, _⟩ => ⟨S2048, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S1x1024, .f32⟩
  | .hbm, ⟨84, _⟩ => ⟨S1x1024, .f32⟩
  | .hbm, ⟨85, _⟩ => ⟨S1x1024, .f32⟩
  | _, _ => ⟨S4x2x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]
-- ==== Kernel5.lean ====
abbrev S4x2048x704 : Shape := ⟨3, ![4, 2048, 704]⟩
abbrev S2048x1024 : Shape := ⟨2, ![2048, 1024]⟩
abbrev S1x2048x1024 : Shape := ⟨3, ![1, 2048, 1024]⟩
abbrev S2x4x704x512 : Shape := ⟨4, ![2, 4, 704, 512]⟩
abbrev S1x2048x704 : Shape := ⟨3, ![1, 2048, 704]⟩
abbrev S1x2048x512 : Shape := ⟨3, ![1, 2048, 512]⟩
abbrev S1x1x704x512 : Shape := ⟨4, ![1, 1, 704, 512]⟩
abbrev S2048x704 : Shape := ⟨2, ![2048, 704]⟩
abbrev S2048x512 : Shape := ⟨2, ![2048, 512]⟩
abbrev S704x512 : Shape := ⟨2, ![704, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x704, .f32⟩
  | .hbm, ⟨1, _⟩ => ⟨S2048x1024, .f32⟩
  | .hbm, ⟨2, _⟩ => ⟨S4x2048x704, .bf16⟩
  | .hbm, ⟨3, _⟩ => ⟨S2048x1024, .bf16⟩
  | .hbm, ⟨4, _⟩ => ⟨S1x2048x1024, .bf16⟩
  | .hbm, ⟨5, _⟩ => ⟨S2x4x704x512, .f32⟩
  | .local _ .vmem, ⟨0, _⟩ => ⟨S1x2048x704, .bf16⟩
  | .local _ .vmem, ⟨1, _⟩ => ⟨S1x2048x704, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1x704x512, .f32⟩
  | .local _ .vmem, ⟨5, _⟩ => ⟨S1x1x704x512, .f32⟩
  | _, _ => ⟨S4x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1x704x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference5Ideal.lean ====
abbrev S4x2048x704 : Shape := ⟨3, ![4, 2048, 704]⟩
abbrev S2048x1024 : Shape := ⟨2, ![2048, 1024]⟩
abbrev S_ : Shape := ⟨0, ![]⟩
abbrev S4x704x1024 : Shape := ⟨3, ![4, 704, 1024]⟩
abbrev S1024x4x704 : Shape := ⟨3, ![1024, 4, 704]⟩
abbrev S4x704x2x512 : Shape := ⟨4, ![4, 704, 2, 512]⟩
abbrev S2x4x704x512 : Shape := ⟨4, ![2, 4, 704, 512]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x704, .f32⟩
  | .hbm, ⟨1, _⟩ => ⟨S2048x1024, .f32⟩
  | .hbm, ⟨2, _⟩ => ⟨S_, .f32⟩
  | .hbm, ⟨3, _⟩ => ⟨S4x704x1024, .f32⟩
  | .hbm, ⟨4, _⟩ => ⟨S2048x1024, .f32⟩
  | .hbm, ⟨5, _⟩ => ⟨S1024x4x704, .f32⟩
  | .hbm, ⟨6, _⟩ => ⟨S4x704x1024, .f32⟩
  | .hbm, ⟨7, _⟩ => ⟨S4x704x2x512, .f32⟩
  | .hbm, ⟨8, _⟩ => ⟨S2x4x704x512, .f32⟩
  | _, _ => ⟨S4x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x1024 : Shape := ⟨2, ![2048, 1024]⟩
abbrev S4x2x1024x704 : Shape := ⟨4, ![4, 2, 1024, 704]⟩
abbrev S4x2x2048x704 : Shape := ⟨4, ![4, 2, 2048, 704]⟩
abbrev S4x2048x704 : Shape := ⟨3, ![4, 2048, 704]⟩
abbrev S1024x1024 : Shape := ⟨2, ![1024, 1024]⟩
abbrev S1x1x1024x704 : Shape := ⟨4, ![1, 1, 1024, 704]⟩
abbrev S1x2x1024x704 : Shape := ⟨4, ![1, 2, 1024, 704]⟩
abbrev S1x1024x704 : Shape := ⟨3, ![1, 1024, 704]⟩
abbrev S1024x704 : Shape := ⟨2, ![1024, 704]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S4x2x1024x704, .f32⟩
  | .hbm, ⟨2, _⟩ => ⟨S2048x1024, .bf16⟩
  | .hbm, ⟨3, _⟩ => ⟨S4x2x1024x704, .bf16⟩
  | .hbm, ⟨4, _⟩ => ⟨S4x2x2048x704, .bf16⟩
  | .hbm, ⟨5, _⟩ => ⟨S4x2048x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x2x1024x704, .bf16⟩
  | .local _ .vmem, ⟨7, _⟩ => ⟨S1x2x1024x704, .bf16⟩
  | .local _ .vmem, ⟨8, _⟩ => ⟨S1x1024x704, .bf16⟩
  | .local _ .vmem, ⟨9, _⟩ => ⟨S1x1024x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S2048x1024 : Shape := ⟨2, ![2048, 1024]⟩
abbrev S4x2x1024x704 : Shape := ⟨4, ![4, 2, 1024, 704]⟩
abbrev S4x2x704x2048 : Shape := ⟨4, ![4, 2, 704, 2048]⟩
abbrev S4x2x2048x704 : Shape := ⟨4, ![4, 2, 2048, 704]⟩
abbrev S4x1x2048x704 : Shape := ⟨4, ![4, 1, 2048, 704]⟩
abbrev S4x2048x704 : Shape := ⟨3, ![4, 2048, 704]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x2x1024x704, .f32⟩
  | .hbm, ⟨2, _⟩ => ⟨S4x2x704x2048, .f32⟩
  | .hbm, ⟨3, _⟩ => ⟨S4x2x2048x704, .f32⟩
  | .hbm, ⟨4, _⟩ => ⟨S4x2x2048x704, .bf16⟩
  | .hbm, ⟨5, _⟩ => ⟨S4x1x2048x704, .f32⟩
  | .hbm, ⟨6, _⟩ => ⟨S4x2048x704, .f32⟩
  | .hbm, ⟨7, _⟩ => ⟨S4x2048x704, .f32⟩
  | .hbm, ⟨8, _⟩ => ⟨S4x2048x704, .f32⟩
  | .hbm, ⟨9, _⟩ => ⟨S_, .f32⟩
  | .hbm, ⟨10, _⟩ => ⟨S4x2048x704, .f32⟩
  | .hbm, ⟨11, _⟩ => ⟨S4x2048x704, .f32⟩
  | .hbm, ⟨12, _⟩ => ⟨S_, .f32⟩
  | .hbm, ⟨13, _⟩ => ⟨S4x2048x704, .f32⟩
  | .hbm, ⟨14, _⟩ => ⟨S4x2048x704, .f32⟩
  | .hbm, ⟨15, _⟩ => ⟨S4x2048x704, .f32⟩
  | .hbm, ⟨16, _⟩ => ⟨S4x1x2048x704, .f32⟩
  | .hbm, ⟨17, _⟩ => ⟨S4x2048x704, .f32⟩
  | .hbm, ⟨18, _⟩ => ⟨S4x2048x704, .f32⟩
  | .hbm, ⟨19, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel7.lean ====
abbrev S4x2048x704 : Shape := ⟨3, ![4, 2048, 704]⟩
abbrev S4x704x1024 : Shape := ⟨3, ![4, 704, 1024]⟩
abbrev S2048x1024 : Shape := ⟨2, ![2048, 1024]⟩
abbrev S8x1024 : Shape := ⟨2, ![8, 1024]⟩
abbrev S2x2x2048x704 : Shape := ⟨4, ![2, 2, 2048, 704]⟩
abbrev S2x2x704x1024 : Shape := ⟨4, ![2, 2, 704, 1024]⟩
abbrev S1x2x512x704 : Shape := ⟨4, ![1, 2, 512, 704]⟩
abbrev S1x2x704x1024 : Shape := ⟨4, ![1, 2, 704, 1024]⟩
abbrev S512x1024 : Shape := ⟨2, ![512, 1024]⟩
abbrev S1x1x512x704 : Shape := ⟨4, ![1, 1, 512, 704]⟩
abbrev S512x704 : Shape := ⟨2, ![512, 704]⟩
abbrev S1x1x704x1024 : Shape := ⟨4, ![1, 1, 704, 1024]⟩
abbrev S704x1024 : Shape := ⟨2, ![704, 1024]⟩
abbrev S512 : Shape := ⟨1, ![512]⟩
abbrev S512x1 : Shape := ⟨2, ![512, 1]⟩
abbrev S1x1024 : Shape := ⟨2, ![1, 1024]⟩

abbrev nBuf : Space → Nat
  | .hbm => 10
  | .vmem => 11
  | .smem => 0
  | _ => 0

abbrev bufTy : (tb : Table) → Fin (tcTables nBuf tb) → BufTy
  | .hbm, ⟨0, _⟩ => ⟨S4x2048x704, .f32⟩
  | .hbm, ⟨1, _⟩ => ⟨S4x704x1024, .f32⟩
  | .hbm, ⟨2, _⟩ => ⟨S2048x1024, .f32⟩
  | .hbm, ⟨3, _⟩ => ⟨S8x1024, .f32⟩
  | .hbm, ⟨4, _⟩ => ⟨S4x2048x704, .bf16⟩
  | .hbm, ⟨5, _⟩ => ⟨S4x704x1024, .bf16⟩
  | .hbm, ⟨6, _⟩ => ⟨S2x2x2048x704, .bf16⟩
  | .hbm, ⟨7, _⟩ => ⟨S2x2x704x1024, .bf16⟩
  | .hbm, ⟨8, _⟩ => ⟨S2048x1024, .f32⟩
  | .hbm, ⟨9, _⟩ => ⟨S2048x1024, .f32⟩
  | .local _ .vmem, ⟨0, _⟩ => ⟨S1x2x512x704, .bf16⟩
  | .local _ .vmem, ⟨1, _⟩ => ⟨S1x2x512x704, .bf16⟩
  | .local _ .vmem, ⟨2, _⟩ => ⟨S1x2x704x1024, .bf16⟩
  | .local _ .vmem, ⟨3, _⟩ => ⟨S1x2x704x1024, .bf16⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_15 : BitVec 32 := 0#32
  let v13 : BitVec 1 := Scalar.cmpi .ne v12 c0_i32_15
  v13

def k0_cond2 (i : grid0.Coords) : BitVec 1 :=
  let arg1 : BitVec 32 := BitVec.ofNat 32 (i 1).val
  let c0_i32_16 : BitVec 32 := 0#32
  let v14 : BitVec 1 := Scalar.cmpi .sgt arg1 c0_i32_16
  let v15 : BitVec 32 := Scalar.extui v14
  let c0_i32_17 : BitVec 32 := 0#32
  let v16 : BitVec 1 := Scalar.cmpi .ne v15 c0_i32_17
  v16

def k0_cond3 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_18 : BitVec 32 := 0#32
  let v19 : BitVec 1 := Scalar.cmpi .ne v18 c0_i32_18
  v19

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference7Ideal.lean ====
abbrev S4x2048x704 : Shape := ⟨3, ![4, 2048, 704]⟩
abbrev S4x704x1024 : Shape := ⟨3, ![4, 704, 1024]⟩
abbrev S2048x1024 : Shape := ⟨2, ![2048, 1024]⟩
abbrev S8x1024 : Shape := ⟨2, ![8, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1024 : Shape := ⟨1, ![1024]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x704, .f32⟩
  | .hbm, ⟨1, _⟩ => ⟨S4x704x1024, .f32⟩
  | .hbm, ⟨2, _⟩ => ⟨S2048x1024, .f32⟩
  | .hbm, ⟨3, _⟩ => ⟨S8x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | _, _ => ⟨S4x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel8.lean ====
abbrev S2048x1024 : Shape := ⟨2, ![2048, 1024]⟩
abbrev S4x1024x2304 : Shape := ⟨3, ![4, 1024, 2304]⟩
abbrev S72x2048x128 : Shape := ⟨3, ![72, 2048, 128]⟩
abbrev S1024x1024 : Shape := ⟨2, ![1024, 1024]⟩
abbrev S1x1024x768 : Shape := ⟨3, ![1, 1024, 768]⟩
abbrev S6x1024x128 : Shape := ⟨3, ![6, 1024, 128]⟩
abbrev S1024x768 : Shape := ⟨2, ![1024, 768]⟩
abbrev S1024x128 : Shape := ⟨2, ![1024, 128]⟩
abbrev S1x1024x128 : Shape := ⟨3, ![1, 1024, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4x1024x2304, .f32⟩
  | .hbm, ⟨2, _⟩ => ⟨S2048x1024, .bf16⟩
  | .hbm, ⟨3, _⟩ => ⟨S4x1024x2304, .bf16⟩
  | .hbm, ⟨4, _⟩ => ⟨S72x2048x128, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S6x1024x128, .f32⟩
  | .local _ .vmem, ⟨5, _⟩ => ⟨S6x1024x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, arg2.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S6x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference8Ideal.lean ====
abbrev S2048x1024 : Shape := ⟨2, ![2048, 1024]⟩
abbrev S4x1024x2304 : Shape := ⟨3, ![4, 1024, 2304]⟩
abbrev S4x2304x2048 : Shape := ⟨3, ![4, 2304, 2048]⟩
abbrev S4x2048x2304 : Shape := ⟨3, ![4, 2048, 2304]⟩
abbrev S4x2048x18x128 : Shape := ⟨4, ![4, 2048, 18, 128]⟩
abbrev S4x18x2048x128 : Shape := ⟨4, ![4, 18, 2048, 128]⟩
abbrev S72x2048x128 : Shape := ⟨3, ![72, 2048, 128]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x1024x2304, .f32⟩
  | .hbm, ⟨2, _⟩ => ⟨S4x2304x2048, .f32⟩
  | .hbm, ⟨3, _⟩ => ⟨S4x2048x2304, .f32⟩
  | .hbm, ⟨4, _⟩ => ⟨S4x2048x18x128, .f32⟩
  | .hbm, ⟨5, _⟩ => ⟨S4x18x2048x128, .f32⟩
  | .hbm, ⟨6, _⟩ => ⟨S72x2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S2048x1024 : Shape := ⟨2, ![2048, 1024]⟩
abbrev S72x2048x128 : Shape := ⟨3, ![72, 2048, 128]⟩
abbrev S2x4x512x2304 : Shape := ⟨4, ![2, 4, 512, 2304]⟩
abbrev S2048x512 : Shape := ⟨2, ![2048, 512]⟩
abbrev S6x2048x128 : Shape := ⟨3, ![6, 2048, 128]⟩
abbrev S1x1x512x768 : Shape := ⟨4, ![1, 1, 512, 768]⟩
abbrev S1x2048x128 : Shape := ⟨3, ![1, 2048, 128]⟩
abbrev S2048x128 : Shape := ⟨2, ![2048, 128]⟩
abbrev S2048x768 : Shape := ⟨2, ![2048, 768]⟩
abbrev S512x768 : Shape := ⟨2, ![512, 768]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S72x2048x128, .f32⟩
  | .hbm, ⟨2, _⟩ => ⟨S2048x1024, .bf16⟩
  | .hbm, ⟨3, _⟩ => ⟨S72x2048x128, .bf16⟩
  | .hbm, ⟨4, _⟩ => ⟨S2x4x512x2304, .f32⟩
  | .local _ .vmem, ⟨0, _⟩ => ⟨S2048x512, .bf16⟩
  | .local _ .vmem, ⟨1, _⟩ => ⟨S2048x512, .bf16⟩
  | .local _ .vmem, ⟨2, _⟩ => ⟨S6x2048x128, .bf16⟩
  | .local _ .vmem, ⟨3, _⟩ => ⟨S6x2048x128, .bf16⟩
  | .local _ .vmem, ⟨4, _⟩ => ⟨S1x1x512x768, .f32⟩
  | .local _ .vmem, ⟨5, _⟩ => ⟨S1x1x512x768, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S6x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference9Ideal.lean ====
abbrev S2048x1024 : Shape := ⟨2, ![2048, 1024]⟩
abbrev S72x2048x128 : Shape := ⟨3, ![72, 2048, 128]⟩
abbrev S_ : Shape := ⟨0, ![]⟩
abbrev S4x1024x2304 : Shape := ⟨3, ![4, 1024, 2304]⟩
abbrev S4x2304x2048 : Shape := ⟨3, ![4, 2304, 2048]⟩
abbrev S4x2048x2304 : Shape := ⟨3, ![4, 2048, 2304]⟩
abbrev S4x2048x18x128 : Shape := ⟨4, ![4, 2048, 18, 128]⟩
abbrev S4x18x2048x128 : Shape := ⟨4, ![4, 18, 2048, 128]⟩
abbrev S4x2304x1024 : Shape := ⟨3, ![4, 2304, 1024]⟩
abbrev S4x2x512x2304 : Shape := ⟨4, ![4, 2, 512, 2304]⟩
abbrev S2x4x512x2304 : Shape := ⟨4, ![2, 4, 512, 2304]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S72x2048x128, .f32⟩
  | .hbm, ⟨2, _⟩ => ⟨S_, .f32⟩
  | .hbm, ⟨3, _⟩ => ⟨S4x1024x2304, .f32⟩
  | .hbm, ⟨4, _⟩ => ⟨S4x2304x2048, .f32⟩
  | .hbm, ⟨5, _⟩ => ⟨S4x2048x2304, .f32⟩
  | .hbm, ⟨6, _⟩ => ⟨S4x2048x18x128, .f32⟩
  | .hbm, ⟨7, _⟩ => ⟨S4x18x2048x128, .f32⟩
  | .hbm, ⟨8, _⟩ => ⟨S72x2048x128, .f32⟩
  | .hbm, ⟨9, _⟩ => ⟨S4x18x2048x128, .f32⟩
  | .hbm, ⟨10, _⟩ => ⟨S4x2048x18x128, .f32⟩
  | .hbm, ⟨11, _⟩ => ⟨S4x2048x2304, .f32⟩
  | .hbm, ⟨12, _⟩ => ⟨S4x2304x2048, .f32⟩
  | .hbm, ⟨13, _⟩ => ⟨S4x2304x1024, .f32⟩
  | .hbm, ⟨14, _⟩ => ⟨S4x1024x2304, .f32⟩
  | .hbm, ⟨15, _⟩ => ⟨S4x2x512x2304, .f32⟩
  | .hbm, ⟨16, _⟩ => ⟨S2x4x512x2304, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel10.lean ====
abbrev S72x2048x128 : Shape := ⟨3, ![72, 2048, 128]⟩
abbrev S4x1024x2304 : Shape := ⟨3, ![4, 1024, 2304]⟩
abbrev S2048x1024 : Shape := ⟨2, ![2048, 1024]⟩
abbrev S9x512x128 : Shape := ⟨3, ![9, 512, 128]⟩
abbrev S1x1024x1152 : Shape := ⟨3, ![1, 1024, 1152]⟩
abbrev S512x1024 : Shape := ⟨2, ![512, 1024]⟩
abbrev S1x512x128 : Shape := ⟨3, ![1, 512, 128]⟩
abbrev S512x128 : Shape := ⟨2, ![512, 128]⟩
abbrev S512x1152 : Shape := ⟨2, ![512, 1152]⟩
abbrev S1024x1152 : Shape := ⟨2, ![1024, 1152]⟩

abbrev nBuf : Space → Nat
  | .hbm => 5
  | .vmem => 6
  | .smem => 0
  | _ => 0

abbrev bufTy : (tb : Table) → Fin (tcTables nBuf tb) → BufTy
  | .hbm, ⟨0, _⟩ => ⟨S72x2048x128, .f32⟩
  | .hbm, ⟨1, _⟩ => ⟨S4x1024x2304, .f32⟩
  | .hbm, ⟨2, _⟩ => ⟨S72x2048x128, .bf16⟩
  | .hbm, ⟨3, _⟩ => ⟨S4x1024x2304, .bf16⟩
  | .hbm, ⟨4, _⟩ => ⟨S2048x1024, .f32⟩
  | .local _ .vmem, ⟨0, _⟩ => ⟨S9x512x128, .bf16⟩
  | .local _ .vmem, ⟨1, _⟩ => ⟨S9x512x128, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S512x1024, .f32⟩
  | .local _ .vmem, ⟨5, _⟩ => ⟨S512x1024, .f32⟩
  | _, _ => ⟨S72x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v22 : BitVec 1 := Scalar.cmpi .eq arg1 c0_i32
  let v23 : BitVec 32 := Scalar.extui v22
  let c0_i32_21 : BitVec 32 := 0#32
  let v24 : BitVec 1 := Scalar.cmpi .ne v23 c0_i32_21
  v24

def k0_cond2 (i : grid0.Coords) : BitVec 1 :=
  let arg1 : BitVec 32 := BitVec.ofNat 32 (i 1).val
  let c0_i32_22 : BitVec 32 := 0#32
  let v25 : BitVec 1 := Scalar.cmpi .sgt arg1 c0_i32_22
  let v26 : BitVec 32 := Scalar.extui v25
  let c0_i32_23 : BitVec 32 := 0#32
  let v27 : BitVec 1 := Scalar.cmpi .ne v26 c0_i32_23
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S9x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S72x2048x128 : Shape := ⟨3, ![72, 2048, 128]⟩
abbrev S4x1024x2304 : Shape := ⟨3, ![4, 1024, 2304]⟩
abbrev S_ : Shape := ⟨0, ![]⟩
abbrev S2048x1024 : Shape := ⟨2, ![2048, 1024]⟩
abbrev S4x2304x2048 : Shape := ⟨3, ![4, 2304, 2048]⟩
abbrev S4x2048x2304 : Shape := ⟨3, ![4, 2048, 2304]⟩
abbrev S4x2048x18x128 : Shape := ⟨4, ![4, 2048, 18, 128]⟩
abbrev S4x18x2048x128 : Shape := ⟨4, ![4, 18, 2048, 128]⟩

abbrev nBuf : Space → Nat
  | .hbm => 14
  | .vmem => 0
  | .smem => 0
  | _ => 0

abbrev bufTy : (tb : Table) → Fin (tcTables nBuf tb) → BufTy
  | .hbm, ⟨0, _⟩ => ⟨S72x2048x128, .f32⟩
  | .hbm, ⟨1, _⟩ => ⟨S4x1024x2304, .f32⟩
  | .hbm, ⟨2, _⟩ => ⟨S_, .f32⟩
  | .hbm, ⟨3, _⟩ => ⟨S2048x1024, .f32⟩
  | .hbm, ⟨4, _⟩ => ⟨S4x2304x2048, .f32⟩
  | .hbm, ⟨5, _⟩ => ⟨S4x2048x2304, .f32⟩
  | .hbm, ⟨6, _⟩ => ⟨S4x2048x18x128, .f32⟩
  | .hbm, ⟨7, _⟩ => ⟨S4x18x2048x128, .f32⟩
  | .hbm, ⟨8, _⟩ => ⟨S72x2048x128, .f32⟩
  | .hbm, ⟨9, _⟩ => ⟨S4x18x2048x128, .f32⟩
  | .hbm, ⟨10, _⟩ => ⟨S4x2048x18x128, .f32⟩
  | .hbm, ⟨11, _⟩ => ⟨S4x2048x2304, .f32⟩
  | .hbm, ⟨12, _⟩ => ⟨S4x2304x2048, .f32⟩
  | .hbm, ⟨13, _⟩ => ⟨S2048x1024, .f32⟩
  | _, _ => ⟨S72x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel11.lean ====
abbrev S2816x1024 : Shape := ⟨2, ![2816, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel11Ideal.lean ====
abbrev S2816x1024 : Shape := ⟨2, ![2816, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S2048x2304 : Shape := ⟨2, ![2048, 2304]⟩
abbrev S128x2304 : Shape := ⟨2, ![128, 2304]⟩

abbrev nBuf : Space → Nat
  | .hbm => 7
  | .vmem => 14
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .local _ .vmem, ⟨0, _⟩ => ⟨S128x2304, .f32⟩
  | .local _ .vmem, ⟨1, _⟩ => ⟨S128x2304, .f32⟩
  | .local _ .vmem, ⟨2, _⟩ => ⟨S128x2304, .f32⟩
  | .local _ .vmem, ⟨3, _⟩ => ⟨S128x2304, .f32⟩
  | .local _ .vmem, ⟨4, _⟩ => ⟨S128x2304, .f32⟩
  | .local _ .vmem, ⟨5, _⟩ => ⟨S128x2304, .f32⟩
  | .local _ .vmem, ⟨6, _⟩ => ⟨S128x2304, .f32⟩
  | .local _ .vmem, ⟨7, _⟩ => ⟨S128x2304, .f32⟩
  | .local _ .vmem, ⟨8, _⟩ => ⟨S128x2304, .f32⟩
  | .local _ .vmem, ⟨9, _⟩ => ⟨S128x2304, .f32⟩
  | .local _ .vmem, ⟨10, _⟩ => ⟨S128x2304, .f32⟩
  | .local _ .vmem, ⟨11, _⟩ => ⟨S128x2304, .f32⟩
  | .local _ .vmem, ⟨12, _⟩ => ⟨S128x2304, .f32⟩
  | .local _ .vmem, ⟨13, _⟩ => ⟨S128x2304, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel12Ideal.lean ====
abbrev S2048x2304 : Shape := ⟨2, ![2048, 2304]⟩
abbrev S128x2304 : Shape := ⟨2, ![128, 2304]⟩

abbrev nBuf : Space → Nat
  | .hbm => 7
  | .vmem => 14
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .local _ .vmem, ⟨0, _⟩ => ⟨S128x2304, .f32⟩
  | .local _ .vmem, ⟨1, _⟩ => ⟨S128x2304, .f32⟩
  | .local _ .vmem, ⟨2, _⟩ => ⟨S128x2304, .f32⟩
  | .local _ .vmem, ⟨3, _⟩ => ⟨S128x2304, .f32⟩
  | .local _ .vmem, ⟨4, _⟩ => ⟨S128x2304, .f32⟩
  | .local _ .vmem, ⟨5, _⟩ => ⟨S128x2304, .f32⟩
  | .local _ .vmem, ⟨6, _⟩ => ⟨S128x2304, .f32⟩
  | .local _ .vmem, ⟨7, _⟩ => ⟨S128x2304, .f32⟩
  | .local _ .vmem, ⟨8, _⟩ => ⟨S128x2304, .f32⟩
  | .local _ .vmem, ⟨9, _⟩ => ⟨S128x2304, .f32⟩
  | .local _ .vmem, ⟨10, _⟩ => ⟨S128x2304, .f32⟩
  | .local _ .vmem, ⟨11, _⟩ => ⟨S128x2304, .f32⟩
  | .local _ .vmem, ⟨12, _⟩ => ⟨S128x2304, .f32⟩
  | .local _ .vmem, ⟨13, _⟩ => ⟨S128x2304, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S2048x2304 : Shape := ⟨2, ![2048, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S_, .f32⟩
  | .hbm, ⟨5, _⟩ => ⟨S2048x2304, .f32⟩
  | .hbm, ⟨6, _⟩ => ⟨S2048x2304, .f32⟩
  | .hbm, ⟨7, _⟩ => ⟨S_, .f32⟩
  | .hbm, ⟨8, _⟩ => ⟨S2048x2304, .f32⟩
  | .hbm, ⟨9, _⟩ => ⟨S2048x2304, .f32⟩
  | .hbm, ⟨10, _⟩ => ⟨S2048x2304, .f32⟩
  | .hbm, ⟨11, _⟩ => ⟨S_, .f32⟩
  | .hbm, ⟨12, _⟩ => ⟨S2048x2304, .f32⟩
  | .hbm, ⟨13, _⟩ => ⟨S2048x2304, .f32⟩
  | .hbm, ⟨14, _⟩ => ⟨S2048x2304, .f32⟩
  | .hbm, ⟨15, _⟩ => ⟨S_, .f32⟩
  | .hbm, ⟨16, _⟩ => ⟨S2048x2304, .f32⟩
  | .hbm, ⟨17, _⟩ => ⟨S2048x2304, .f32⟩
  | .hbm, ⟨18, _⟩ => ⟨S2048x2304, .f32⟩
  | .hbm, ⟨19, _⟩ => ⟨S_, .f32⟩
  | .hbm, ⟨20, _⟩ => ⟨S2048x2304, .f32⟩
  | .hbm, ⟨21, _⟩ => ⟨S2048x2304, .f32⟩
  | .hbm, ⟨22, _⟩ => ⟨S_, .f32⟩
  | .hbm, ⟨23, _⟩ => ⟨S2048x2304, .f32⟩
  | .hbm, ⟨24, _⟩ => ⟨S2048x2304, .f32⟩
  | .hbm, ⟨25, _⟩ => ⟨S2048x2304, .f32⟩
  | .hbm, ⟨26, _⟩ => ⟨S_, .f32⟩
  | .hbm, ⟨27, _⟩ => ⟨S2048x2304, .f32⟩
  | .hbm, ⟨28, _⟩ => ⟨S2048x2304, .f32⟩
  | .hbm, ⟨29, _⟩ => ⟨S2048x2304, .f32⟩
  | .hbm, ⟨30, _⟩ => ⟨S_, .f32⟩
  | .hbm, ⟨31, _⟩ => ⟨S2048x2304, .f32⟩
  | .hbm, ⟨32, _⟩ => ⟨S2048x2304, .f32⟩
  | .hbm, ⟨33, _⟩ => ⟨S2048x2304, .f32⟩
  | .hbm, ⟨34, _⟩ => ⟨S_, .f32⟩
  | .hbm, ⟨35, _⟩ => ⟨S2048x2304, .f32⟩
  | .hbm, ⟨36, _⟩ => ⟨S2048x2304, .f32⟩
  | _, _ => ⟨S2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S2x9216 : Shape := ⟨2, ![2, 9216]⟩

abbrev nBuf : Space → Nat
  | .hbm => 7
  | .vmem => 7
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S2x9216, .f32⟩
  | .hbm, ⟨5, _⟩ => ⟨S2x9216, .f32⟩
  | .hbm, ⟨6, _⟩ => ⟨S2x9216, .f32⟩
  | .local _ .vmem, ⟨0, _⟩ => ⟨S2x9216, .f32⟩
  | .local _ .vmem, ⟨1, _⟩ => ⟨S2x9216, .f32⟩
  | .local _ .vmem, ⟨2, _⟩ => ⟨S2x9216, .f32⟩
  | .local _ .vmem, ⟨3, _⟩ => ⟨S2x9216, .f32⟩
  | .local _ .vmem, ⟨4, _⟩ => ⟨S2x9216, .f32⟩
  | .local _ .vmem, ⟨5, _⟩ => ⟨S2x9216, .f32⟩
  | .local _ .vmem, ⟨6, _⟩ => ⟨S2x9216, .f32⟩
  | _, _ => ⟨S2x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel13Ideal.lean ====
abbrev S2x9216 : Shape := ⟨2, ![2, 9216]⟩

abbrev nBuf : Space → Nat
  | .hbm => 7
  | .vmem => 7
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S2x9216, .f32⟩
  | .hbm, ⟨5, _⟩ => ⟨S2x9216, .f32⟩
  | .hbm, ⟨6, _⟩ => ⟨S2x9216, .f32⟩
  | .local _ .vmem, ⟨0, _⟩ => ⟨S2x9216, .f32⟩
  | .local _ .vmem, ⟨1, _⟩ => ⟨S2x9216, .f32⟩
  | .local _ .vmem, ⟨2, _⟩ => ⟨S2x9216, .f32⟩
  | .local _ .vmem, ⟨3, _⟩ => ⟨S2x9216, .f32⟩
  | .local _ .vmem, ⟨4, _⟩ => ⟨S2x9216, .f32⟩
  | .local _ .vmem, ⟨5, _⟩ => ⟨S2x9216, .f32⟩
  | .local _ .vmem, ⟨6, _⟩ => ⟨S2x9216, .f32⟩
  | _, _ => ⟨S2x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference13Ideal.lean ====
abbrev S2x9216 : Shape := ⟨2, ![2, 9216]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S_, .f32⟩
  | .hbm, ⟨5, _⟩ => ⟨S2x9216, .f32⟩
  | .hbm, ⟨6, _⟩ => ⟨S2x9216, .f32⟩
  | .hbm, ⟨7, _⟩ => ⟨S_, .f32⟩
  | .hbm, ⟨8, _⟩ => ⟨S2x9216, .f32⟩
  | .hbm, ⟨9, _⟩ => ⟨S2x9216, .f32⟩
  | .hbm, ⟨10, _⟩ => ⟨S2x9216, .f32⟩
  | .hbm, ⟨11, _⟩ => ⟨S_, .f32⟩
  | .hbm, ⟨12, _⟩ => ⟨S2x9216, .f32⟩
  | .hbm, ⟨13, _⟩ => ⟨S2x9216, .f32⟩
  | .hbm, ⟨14, _⟩ => ⟨S2x9216, .f32⟩
  | .hbm, ⟨15, _⟩ => ⟨S_, .f32⟩
  | .hbm, ⟨16, _⟩ => ⟨S2x9216, .f32⟩
  | .hbm, ⟨17, _⟩ => ⟨S2x9216, .f32⟩
  | .hbm, ⟨18, _⟩ => ⟨S2x9216, .f32⟩
  | .hbm, ⟨19, _⟩ => ⟨S_, .f32⟩
  | .hbm, ⟨20, _⟩ => ⟨S2x9216, .f32⟩
  | .hbm, ⟨21, _⟩ => ⟨S2x9216, .f32⟩
  | .hbm, ⟨22, _⟩ => ⟨S_, .f32⟩
  | .hbm, ⟨23, _⟩ => ⟨S2x9216, .f32⟩
  | .hbm, ⟨24, _⟩ => ⟨S2x9216, .f32⟩
  | .hbm, ⟨25, _⟩ => ⟨S2x9216, .f32⟩
  | .hbm, ⟨26, _⟩ => ⟨S_, .f32⟩
  | .hbm, ⟨27, _⟩ => ⟨S2x9216, .f32⟩
  | .hbm, ⟨28, _⟩ => ⟨S2x9216, .f32⟩
  | .hbm, ⟨29, _⟩ => ⟨S2x9216, .f32⟩
  | .hbm, ⟨30, _⟩ => ⟨S_, .f32⟩
  | .hbm, ⟨31, _⟩ => ⟨S2x9216, .f32⟩
  | .hbm, ⟨32, _⟩ => ⟨S2x9216, .f32⟩
  | .hbm, ⟨33, _⟩ => ⟨S2x9216, .f32⟩
  | .hbm, ⟨34, _⟩ => ⟨S_, .f32⟩
  | .hbm, ⟨35, _⟩ => ⟨S2x9216, .f32⟩
  | .hbm, ⟨36, _⟩ => ⟨S2x9216, .f32⟩
  | _, _ => ⟨S2x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S6x256 : Shape := ⟨2, ![6, 256]⟩

abbrev nBuf : Space → Nat
  | .hbm => 7
  | .vmem => 7
  | .smem => 0
  | _ => 0

abbrev bufTy : (tb : Table) → Fin (tcTables nBuf tb) → BufTy
  | .hbm, ⟨0, _⟩ => ⟨S6x256, .f32⟩
  | .hbm, ⟨1, _⟩ => ⟨S6x256, .f32⟩
  | .hbm, ⟨2, _⟩ => ⟨S6x256, .f32⟩
  | .hbm, ⟨3, _⟩ => ⟨S6x256, .f32⟩
  | .hbm, ⟨4, _⟩ => ⟨S6x256, .f32⟩
  | .hbm, ⟨5, _⟩ => ⟨S6x256, .f32⟩
  | .hbm, ⟨6, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | _, _ => ⟨S6x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel14Ideal.lean ====
abbrev S6x256 : Shape := ⟨2, ![6, 256]⟩

abbrev nBuf : Space → Nat
  | .hbm => 7
  | .vmem => 7
  | .smem => 0
  | _ => 0

abbrev bufTy : (tb : Table) → Fin (tcTables nBuf tb) → BufTy
  | .hbm, ⟨0, _⟩ => ⟨S6x256, .f32⟩
  | .hbm, ⟨1, _⟩ => ⟨S6x256, .f32⟩
  | .hbm, ⟨2, _⟩ => ⟨S6x256, .f32⟩
  | .hbm, ⟨3, _⟩ => ⟨S6x256, .f32⟩
  | .hbm, ⟨4, _⟩ => ⟨S6x256, .f32⟩
  | .hbm, ⟨5, _⟩ => ⟨S6x256, .f32⟩
  | .hbm, ⟨6, _⟩ => ⟨S6x256, .f32⟩
  | .local _ .vmem, ⟨0, _⟩ => ⟨S6x256, .f32⟩
  | .local _ .vmem, ⟨1, _⟩ => ⟨S6x256, .f32⟩
  | .local _ .vmem, ⟨2, _⟩ => ⟨S6x256, .f32⟩
  | .local _ .vmem, ⟨3, _⟩ => ⟨S6x256, .f32⟩
  | .local _ .vmem, ⟨4, _⟩ => ⟨S6x256, .f32⟩
  | .local _ .vmem, ⟨5, _⟩ => ⟨S6x256, .f32⟩
  | .local _ .vmem, ⟨6, _⟩ => ⟨S6x256, .f32⟩
  | _, _ => ⟨S6x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S6x256 : Shape := ⟨2, ![6, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S6x256, .f32⟩
  | .hbm, ⟨1, _⟩ => ⟨S6x256, .f32⟩
  | .hbm, ⟨2, _⟩ => ⟨S6x256, .f32⟩
  | .hbm, ⟨3, _⟩ => ⟨S6x256, .f32⟩
  | .hbm, ⟨4, _⟩ => ⟨S_, .f32⟩
  | .hbm, ⟨5, _⟩ => ⟨S6x256, .f32⟩
  | .hbm, ⟨6, _⟩ => ⟨S6x256, .f32⟩
  | .hbm, ⟨7, _⟩ => ⟨S_, .f32⟩
  | .hbm, ⟨8, _⟩ => ⟨S6x256, .f32⟩
  | .hbm, ⟨9, _⟩ => ⟨S6x256, .f32⟩
  | .hbm, ⟨10, _⟩ => ⟨S6x256, .f32⟩
  | .hbm, ⟨11, _⟩ => ⟨S_, .f32⟩
  | .hbm, ⟨12, _⟩ => ⟨S6x256, .f32⟩
  | .hbm, ⟨13, _⟩ => ⟨S6x256, .f32⟩
  | .hbm, ⟨14, _⟩ => ⟨S6x256, .f32⟩
  | .hbm, ⟨15, _⟩ => ⟨S_, .f32⟩
  | .hbm, ⟨16, _⟩ => ⟨S6x256, .f32⟩
  | .hbm, ⟨17, _⟩ => ⟨S6x256, .f32⟩
  | .hbm, ⟨18, _⟩ => ⟨S6x256, .f32⟩
  | .hbm, ⟨19, _⟩ => ⟨S_, .f32⟩
  | .hbm, ⟨20, _⟩ => ⟨S6x256, .f32⟩
  | .hbm, ⟨21, _⟩ => ⟨S6x256, .f32⟩
  | .hbm, ⟨22, _⟩ => ⟨S_, .f32⟩
  | .hbm, ⟨23, _⟩ => ⟨S6x256, .f32⟩
  | .hbm, ⟨24, _⟩ => ⟨S6x256, .f32⟩
  | .hbm, ⟨25, _⟩ => ⟨S6x256, .f32⟩
  | .hbm, ⟨26, _⟩ => ⟨S_, .f32⟩
  | .hbm, ⟨27, _⟩ => ⟨S6x256, .f32⟩
  | .hbm, ⟨28, _⟩ => ⟨S6x256, .f32⟩
  | .hbm, ⟨29, _⟩ => ⟨S6x256, .f32⟩
  | .hbm, ⟨30, _⟩ => ⟨S_, .f32⟩
  | .hbm, ⟨31, _⟩ => ⟨S6x256, .f32⟩
  | .hbm, ⟨32, _⟩ => ⟨S6x256, .f32⟩
  | .hbm, ⟨33, _⟩ => ⟨S6x256, .f32⟩
  | .hbm, ⟨34, _⟩ => ⟨S_, .f32⟩
  | .hbm, ⟨35, _⟩ => ⟨S6x256, .f32⟩
  | .hbm, ⟨36, _⟩ => ⟨S6x256, .f32⟩
  | _, _ => ⟨S6x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S256x672 : Shape := ⟨2, ![256, 672]⟩

abbrev nBuf : Space → Nat
  | .hbm => 7
  | .vmem => 7
  | .smem => 0
  | _ => 0

abbrev bufTy : (tb : Table) → Fin (tcTables nBuf tb) → BufTy
  | .hbm, ⟨0, _⟩ => ⟨S256x672, .f32⟩
  | .hbm, ⟨1, _⟩ => ⟨S256x672, .f32⟩
  | .hbm, ⟨2, _⟩ => ⟨S256x672, .f32⟩
  | .hbm, ⟨3, _⟩ => ⟨S256x672, .f32⟩
  | .hbm, ⟨4, _⟩ => ⟨S256x672, .f32⟩
  | .hbm, ⟨5, _⟩ => ⟨S256x672, .f32⟩
  | .hbm, ⟨6, _⟩ => ⟨S256x672, .f32⟩
  | .local _ .vmem, ⟨0, _⟩ => ⟨S256x672, .f32⟩
  | .local _ .vmem, ⟨1, _⟩ => ⟨S256x672, .f32⟩
  | .local _ .vmem, ⟨2, _⟩ => ⟨S256x672, .f32⟩
  | .local _ .vmem, ⟨3, _⟩ => ⟨S256x672, .f32⟩
  | .local _ .vmem, ⟨4, _⟩ => ⟨S256x672, .f32⟩
  | .local _ .vmem, ⟨5, _⟩ => ⟨S256x672, .f32⟩
  | .local _ .vmem, ⟨6, _⟩ => ⟨S256x672, .f32⟩
  | _, _ => ⟨S256x672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x672 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x672 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x672 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x672 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x672 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x672 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x672 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel15Ideal.lean ====
abbrev S256x672 : Shape := ⟨2, ![256, 672]⟩

abbrev nBuf : Space → Nat
  | .hbm => 7
  | .vmem => 7
  | .smem => 0
  | _ => 0

abbrev bufTy : (tb : Table) → Fin (tcTables nBuf tb) → BufTy
  | .hbm, ⟨0, _⟩ => ⟨S256x672, .f32⟩
  | .hbm, ⟨1, _⟩ => ⟨S256x672, .f32⟩
  | .hbm, ⟨2, _⟩ => ⟨S256x672, .f32⟩
  | .hbm, ⟨3, _⟩ => ⟨S256x672, .f32⟩
  | .hbm, ⟨4, _⟩ => ⟨S256x672, .f32⟩
  | .hbm, ⟨5, _⟩ => ⟨S256x672, .f32⟩
  | .hbm, ⟨6, _⟩ => ⟨S256x672, .f32⟩
  | .local _ .vmem, ⟨0, _⟩ => ⟨S256x672, .f32⟩
  | .local _ .vmem, ⟨1, _⟩ => ⟨S256x672, .f32⟩
  | .local _ .vmem, ⟨2, _⟩ => ⟨S256x672, .f32⟩
  | .local _ .vmem, ⟨3, _⟩ => ⟨S256x672, .f32⟩
  | .local _ .vmem, ⟨4, _⟩ => ⟨S256x672, .f32⟩
  | .local _ .vmem, ⟨5, _⟩ => ⟨S256x672, .f32⟩
  | .local _ .vmem, ⟨6, _⟩ => ⟨S256x672, .f32⟩
  | _, _ => ⟨S256x672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x672 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x672 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x672 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x672 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x672 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x672 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x672 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S256x672 : Shape := ⟨2, ![256, 672]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x672, .f32⟩
  | .hbm, ⟨1, _⟩ => ⟨S256x672, .f32⟩
  | .hbm, ⟨2, _⟩ => ⟨S256x672, .f32⟩
  | .hbm, ⟨3, _⟩ => ⟨S256x672, .f32⟩
  | .hbm, ⟨4, _⟩ => ⟨S_, .f32⟩
  | .hbm, ⟨5, _⟩ => ⟨S256x672, .f32⟩
  | .hbm, ⟨6, _⟩ => ⟨S256x672, .f32⟩
  | .hbm, ⟨7, _⟩ => ⟨S_, .f32⟩
  | .hbm, ⟨8, _⟩ => ⟨S256x672, .f32⟩
  | .hbm, ⟨9, _⟩ => ⟨S256x672, .f32⟩
  | .hbm, ⟨10, _⟩ => ⟨S256x672, .f32⟩
  | .hbm, ⟨11, _⟩ => ⟨S_, .f32⟩
  | .hbm, ⟨12, _⟩ => ⟨S256x672, .f32⟩
  | .hbm, ⟨13, _⟩ => ⟨S256x672, .f32⟩
  | .hbm, ⟨14, _⟩ => ⟨S256x672, .f32⟩
  | .hbm, ⟨15, _⟩ => ⟨S_, .f32⟩
  | .hbm, ⟨16, _⟩ => ⟨S256x672, .f32⟩
  | .hbm, ⟨17, _⟩ => ⟨S256x672, .f32⟩
  | .hbm, ⟨18, _⟩ => ⟨S256x672, .f32⟩
  | .hbm, ⟨19, _⟩ => ⟨S_, .f32⟩
  | .hbm, ⟨20, _⟩ => ⟨S256x672, .f32⟩
  | .hbm, ⟨21, _⟩ => ⟨S256x672, .f32⟩
  | .hbm, ⟨22, _⟩ => ⟨S_, .f32⟩
  | .hbm, ⟨23, _⟩ => ⟨S256x672, .f32⟩
  | .hbm, ⟨24, _⟩ => ⟨S256x672, .f32⟩
  | .hbm, ⟨25, _⟩ => ⟨S256x672, .f32⟩
  | .hbm, ⟨26, _⟩ => ⟨S_, .f32⟩
  | .hbm, ⟨27, _⟩ => ⟨S256x672, .f32⟩
  | .hbm, ⟨28, _⟩ => ⟨S256x672, .f32⟩
  | .hbm, ⟨29, _⟩ => ⟨S256x672, .f32⟩
  | .hbm, ⟨30, _⟩ => ⟨S_, .f32⟩
  | .hbm, ⟨31, _⟩ => ⟨S256x672, .f32⟩
  | .hbm, ⟨32, _⟩ => ⟨S256x672, .f32⟩
  | .hbm, ⟨33, _⟩ => ⟨S256x672, .f32⟩
  | .hbm, ⟨34, _⟩ => ⟨S_, .f32⟩
  | .hbm, ⟨35, _⟩ => ⟨S256x672, .f32⟩
  | .hbm, ⟨36, _⟩ => ⟨S256x672, .f32⟩
  | _, _ => ⟨S256x672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S384x384 : Shape := ⟨2, ![384, 384]⟩

abbrev nBuf : Space → Nat
  | .hbm => 7
  | .vmem => 7
  | .smem => 0
  | _ => 0

abbrev bufTy : (tb : Table) → Fin (tcTables nBuf tb) → BufTy
  | .hbm, ⟨0, _⟩ => ⟨S384x384, .f32⟩
  | .hbm, ⟨1, _⟩ => ⟨S384x384, .f32⟩
  | .hbm, ⟨2, _⟩ => ⟨S384x384, .f32⟩
  | .hbm, ⟨3, _⟩ => ⟨S384x384, .f32⟩
  | .hbm, ⟨4, _⟩ => ⟨S384x384, .f32⟩
  | .hbm, ⟨5, _⟩ => ⟨S384x384, .f32⟩
  | .hbm, ⟨6, _⟩ => ⟨S384x384, .f32⟩
  | .local _ .vmem, ⟨0, _⟩ => ⟨S384x384, .f32⟩
  | .local _ .vmem, ⟨1, _⟩ => ⟨S384x384, .f32⟩
  | .local _ .vmem, ⟨2, _⟩ => ⟨S384x384, .f32⟩
  | .local _ .vmem, ⟨3, _⟩ => ⟨S384x384, .f32⟩
  | .local _ .vmem, ⟨4, _⟩ => ⟨S384x384, .f32⟩
  | .local _ .vmem, ⟨5, _⟩ => ⟨S384x384, .f32⟩
  | .local _ .vmem, ⟨6, _⟩ => ⟨S384x384, .f32⟩
  | _, _ => ⟨S384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S384x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S384x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S384x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S384x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S384x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel16Ideal.lean ====
abbrev S384x384 : Shape := ⟨2, ![384, 384]⟩

abbrev nBuf : Space → Nat
  | .hbm => 7
  | .vmem => 7
  | .smem => 0
  | _ => 0

abbrev bufTy : (tb : Table) → Fin (tcTables nBuf tb) → BufTy
  | .hbm, ⟨0, _⟩ => ⟨S384x384, .f32⟩
  | .hbm, ⟨1, _⟩ => ⟨S384x384, .f32⟩
  | .hbm, ⟨2, _⟩ => ⟨S384x384, .f32⟩
  | .hbm, ⟨3, _⟩ => ⟨S384x384, .f32⟩
  | .hbm, ⟨4, _⟩ => ⟨S384x384, .f32⟩
  | .hbm, ⟨5, _⟩ => ⟨S384x384, .f32⟩
  | .hbm, ⟨6, _⟩ => ⟨S384x384, .f32⟩
  | .local _ .vmem, ⟨0, _⟩ => ⟨S384x384, .f32⟩
  | .local _ .vmem, ⟨1, _⟩ => ⟨S384x384, .f32⟩
  | .local _ .vmem, ⟨2, _⟩ => ⟨S384x384, .f32⟩
  | .local _ .vmem, ⟨3, _⟩ => ⟨S384x384, .f32⟩
  | .local _ .vmem, ⟨4, _⟩ => ⟨S384x384, .f32⟩
  | .local _ .vmem, ⟨5, _⟩ => ⟨S384x384, .f32⟩
  | .local _ .vmem, ⟨6, _⟩ => ⟨S384x384, .f32⟩
  | _, _ => ⟨S384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S384x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S384x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S384x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S384x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S384x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S384x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S384x384 : Shape := ⟨2, ![384, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S384x384, .f32⟩
  | .hbm, ⟨1, _⟩ => ⟨S384x384, .f32⟩
  | .hbm, ⟨2, _⟩ => ⟨S384x384, .f32⟩
  | .hbm, ⟨3, _⟩ => ⟨S384x384, .f32⟩
  | .hbm, ⟨4, _⟩ => ⟨S_, .f32⟩
  | .hbm, ⟨5, _⟩ => ⟨S384x384, .f32⟩
  | .hbm, ⟨6, _⟩ => ⟨S384x384, .f32⟩
  | .hbm, ⟨7, _⟩ => ⟨S_, .f32⟩
  | .hbm, ⟨8, _⟩ => ⟨S384x384, .f32⟩
  | .hbm, ⟨9, _⟩ => ⟨S384x384, .f32⟩
  | .hbm, ⟨10, _⟩ => ⟨S384x384, .f32⟩
  | .hbm, ⟨11, _⟩ => ⟨S_, .f32⟩
  | .hbm, ⟨12, _⟩ => ⟨S384x384, .f32⟩
  | .hbm, ⟨13, _⟩ => ⟨S384x384, .f32⟩
  | .hbm, ⟨14, _⟩ => ⟨S384x384, .f32⟩
  | .hbm, ⟨15, _⟩ => ⟨S_, .f32⟩
  | .hbm, ⟨16, _⟩ => ⟨S384x384, .f32⟩
  | .hbm, ⟨17, _⟩ => ⟨S384x384, .f32⟩
  | .hbm, ⟨18, _⟩ => ⟨S384x384, .f32⟩
  | .hbm, ⟨19, _⟩ => ⟨S_, .f32⟩
  | .hbm, ⟨20, _⟩ => ⟨S384x384, .f32⟩
  | .hbm, ⟨21, _⟩ => ⟨S384x384, .f32⟩
  | .hbm, ⟨22, _⟩ => ⟨S_, .f32⟩
  | .hbm, ⟨23, _⟩ => ⟨S384x384, .f32⟩
  | .hbm, ⟨24, _⟩ => ⟨S384x384, .f32⟩
  | .hbm, ⟨25, _⟩ => ⟨S384x384, .f32⟩
  | .hbm, ⟨26, _⟩ => ⟨S_, .f32⟩
  | .hbm, ⟨27, _⟩ => ⟨S384x384, .f32⟩
  | .hbm, ⟨28, _⟩ => ⟨S384x384, .f32⟩
  | .hbm, ⟨29, _⟩ => ⟨S384x384, .f32⟩
  | .hbm, ⟨30, _⟩ => ⟨S_, .f32⟩
  | .hbm, ⟨31, _⟩ => ⟨S384x384, .f32⟩
  | .hbm, ⟨32, _⟩ => ⟨S384x384, .f32⟩
  | .hbm, ⟨33, _⟩ => ⟨S384x384, .f32⟩
  | .hbm, ⟨34, _⟩ => ⟨S_, .f32⟩
  | .hbm, ⟨35, _⟩ => ⟨S384x384, .f32⟩
  | .hbm, ⟨36, _⟩ => ⟨S384x384, .f32⟩
  | _, _ => ⟨S384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel17Ideal.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel18Ideal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S1024x2304 : Shape := ⟨2, ![1024, 2304]⟩
abbrev S128x2304 : Shape := ⟨2, ![128, 2304]⟩

abbrev nBuf : Space → Nat
  | .hbm => 7
  | .vmem => 14
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S1024x2304, .f32⟩
  | .hbm, ⟨5, _⟩ => ⟨S1024x2304, .f32⟩
  | .hbm, ⟨6, _⟩ => ⟨S1024x2304, .f32⟩
  | .local _ .vmem, ⟨0, _⟩ => ⟨S128x2304, .f32⟩
  | .local _ .vmem, ⟨1, _⟩ => ⟨S128x2304, .f32⟩
  | .local _ .vmem, ⟨2, _⟩ => ⟨S128x2304, .f32⟩
  | .local _ .vmem, ⟨3, _⟩ => ⟨S128x2304, .f32⟩
  | .local _ .vmem, ⟨4, _⟩ => ⟨S128x2304, .f32⟩
  | .local _ .vmem, ⟨5, _⟩ => ⟨S128x2304, .f32⟩
  | .local _ .vmem, ⟨6, _⟩ => ⟨S128x2304, .f32⟩
  | .local _ .vmem, ⟨7, _⟩ => ⟨S128x2304, .f32⟩
  | .local _ .vmem, ⟨8, _⟩ => ⟨S128x2304, .f32⟩
  | .local _ .vmem, ⟨9, _⟩ => ⟨S128x2304, .f32⟩
  | .local _ .vmem, ⟨10, _⟩ => ⟨S128x2304, .f32⟩
  | .local _ .vmem, ⟨11, _⟩ => ⟨S128x2304, .f32⟩
  | .local _ .vmem, ⟨12, _⟩ => ⟨S128x2304, .f32⟩
  | .local _ .vmem, ⟨13, _⟩ => ⟨S128x2304, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel19Ideal.lean ====
abbrev S1024x2304 : Shape := ⟨2, ![1024, 2304]⟩
abbrev S128x2304 : Shape := ⟨2, ![128, 2304]⟩

abbrev nBuf : Space → Nat
  | .hbm => 7
  | .vmem => 14
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S1024x2304, .f32⟩
  | .hbm, ⟨5, _⟩ => ⟨S1024x2304, .f32⟩
  | .hbm, ⟨6, _⟩ => ⟨S1024x2304, .f32⟩
  | .local _ .vmem, ⟨0, _⟩ => ⟨S128x2304, .f32⟩
  | .local _ .vmem, ⟨1, _⟩ => ⟨S128x2304, .f32⟩
  | .local _ .vmem, ⟨2, _⟩ => ⟨S128x2304, .f32⟩
  | .local _ .vmem, ⟨3, _⟩ => ⟨S128x2304, .f32⟩
  | .local _ .vmem, ⟨4, _⟩ => ⟨S128x2304, .f32⟩
  | .local _ .vmem, ⟨5, _⟩ => ⟨S128x2304, .f32⟩
  | .local _ .vmem, ⟨6, _⟩ => ⟨S128x2304, .f32⟩
  | .local _ .vmem, ⟨7, _⟩ => ⟨S128x2304, .f32⟩
  | .local _ .vmem, ⟨8, _⟩ => ⟨S128x2304, .f32⟩
  | .local _ .vmem, ⟨9, _⟩ => ⟨S128x2304, .f32⟩
  | .local _ .vmem, ⟨10, _⟩ => ⟨S128x2304, .f32⟩
  | .local _ .vmem, ⟨11, _⟩ => ⟨S128x2304, .f32⟩
  | .local _ .vmem, ⟨12, _⟩ => ⟨S128x2304, .f32⟩
  | .local _ .vmem, ⟨13, _⟩ => ⟨S128x2304, .f32⟩
  | _, _ => ⟨S1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S1024x2304 : Shape := ⟨2, ![1024, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2304, .f32⟩
  | .hbm, ⟨1, _⟩ => ⟨S1024x2304, .f32⟩
  | .hbm, ⟨2, _⟩ => ⟨S1024x2304, .f32⟩
  | .hbm, ⟨3, _⟩ => ⟨S1024x2304, .f32⟩
  | .hbm, ⟨4, _⟩ => ⟨S_, .f32⟩
  | .hbm, ⟨5, _⟩ => ⟨S1024x2304, .f32⟩
  | .hbm, ⟨6, _⟩ => ⟨S1024x2304, .f32⟩
  | .hbm, ⟨7, _⟩ => ⟨S_, .f32⟩
  | .hbm, ⟨8, _⟩ => ⟨S1024x2304, .f32⟩
  | .hbm, ⟨9, _⟩ => ⟨S1024x2304, .f32⟩
  | .hbm, ⟨10, _⟩ => ⟨S1024x2304, .f32⟩
  | .hbm, ⟨11, _⟩ => ⟨S_, .f32⟩
  | .hbm, ⟨12, _⟩ => ⟨S1024x2304, .f32⟩
  | .hbm, ⟨13, _⟩ => ⟨S1024x2304, .f32⟩
  | .hbm, ⟨14, _⟩ => ⟨S1024x2304, .f32⟩
  | .hbm, ⟨15, _⟩ => ⟨S_, .f32⟩
  | .hbm, ⟨16, _⟩ => ⟨S1024x2304, .f32⟩
  | .hbm, ⟨17, _⟩ => ⟨S1024x2304, .f32⟩
  | .hbm, ⟨18, _⟩ => ⟨S1024x2304, .f32⟩
  | .hbm, ⟨19, _⟩ => ⟨S_, .f32⟩
  | .hbm, ⟨20, _⟩ => ⟨S1024x2304, .f32⟩
  | .hbm, ⟨21, _⟩ => ⟨S1024x2304, .f32⟩
  | .hbm, ⟨22, _⟩ => ⟨S_, .f32⟩
  | .hbm, ⟨23, _⟩ => ⟨S1024x2304, .f32⟩
  | .hbm, ⟨24, _⟩ => ⟨S1024x2304, .f32⟩
  | .hbm, ⟨25, _⟩ => ⟨S1024x2304, .f32⟩
  | .hbm, ⟨26, _⟩ => ⟨S_, .f32⟩
  | .hbm, ⟨27, _⟩ => ⟨S1024x2304, .f32⟩
  | .hbm, ⟨28, _⟩ => ⟨S1024x2304, .f32⟩
  | .hbm, ⟨29, _⟩ => ⟨S1024x2304, .f32⟩
  | .hbm, ⟨30, _⟩ => ⟨S_, .f32⟩
  | .hbm, ⟨31, _⟩ => ⟨S1024x2304, .f32⟩
  | .hbm, ⟨32, _⟩ => ⟨S1024x2304, .f32⟩
  | .hbm, ⟨33, _⟩ => ⟨S1024x2304, .f32⟩
  | .hbm, ⟨34, _⟩ => ⟨S_, .f32⟩
  | .hbm, ⟨35, _⟩ => ⟨S1024x2304, .f32⟩
  | .hbm, ⟨36, _⟩ => ⟨S1024x2304, .f32⟩
  | _, _ => ⟨S1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S1x384 : Shape := ⟨2, ![1, 384]⟩

abbrev nBuf : Space → Nat
  | .hbm => 7
  | .vmem => 7
  | .smem => 0
  | _ => 0

abbrev bufTy : (tb : Table) → Fin (tcTables nBuf tb) → BufTy
  | .hbm, ⟨0, _⟩ => ⟨S1x384, .f32⟩
  | .hbm, ⟨1, _⟩ => ⟨S1x384, .f32⟩
  | .hbm, ⟨2, _⟩ => ⟨S1x384, .f32⟩
  | .hbm, ⟨3, _⟩ => ⟨S1x384, .f32⟩
  | .hbm, ⟨4, _⟩ => ⟨S1x384, .f32⟩
  | .hbm, ⟨5, _⟩ => ⟨S1x384, .f32⟩
  | .hbm, ⟨6, _⟩ => ⟨S1x384, .f32⟩
  | .local _ .vmem, ⟨0, _⟩ => ⟨S1x384, .f32⟩
  | .local _ .vmem, ⟨1, _⟩ => ⟨S1x384, .f32⟩
  | .local _ .vmem, ⟨2, _⟩ => ⟨S1x384, .f32⟩
  | .local _ .vmem, ⟨3, _⟩ => ⟨S1x384, .f32⟩
  | .local _ .vmem, ⟨4, _⟩ => ⟨S1x384, .f32⟩
  | .local _ .vmem, ⟨5, _⟩ => ⟨S1x384, .f32⟩
  | .local _ .vmem, ⟨6, _⟩ => ⟨S1x384, .f32⟩
  | _, _ => ⟨S1x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel20Ideal.lean ====
abbrev S1x384 : Shape := ⟨2, ![1, 384]⟩

abbrev nBuf : Space → Nat
  | .hbm => 7
  | .vmem => 7
  | .smem => 0
  | _ => 0

abbrev bufTy : (tb : Table) → Fin (tcTables nBuf tb) → BufTy
  | .hbm, ⟨0, _⟩ => ⟨S1x384, .f32⟩
  | .hbm, ⟨1, _⟩ => ⟨S1x384, .f32⟩
  | .hbm, ⟨2, _⟩ => ⟨S1x384, .f32⟩
  | .hbm, ⟨3, _⟩ => ⟨S1x384, .f32⟩
  | .hbm, ⟨4, _⟩ => ⟨S1x384, .f32⟩
  | .hbm, ⟨5, _⟩ => ⟨S1x384, .f32⟩
  | .hbm, ⟨6, _⟩ => ⟨S1x384, .f32⟩
  | .local _ .vmem, ⟨0, _⟩ => ⟨S1x384, .f32⟩
  | .local _ .vmem, ⟨1, _⟩ => ⟨S1x384, .f32⟩
  | .local _ .vmem, ⟨2, _⟩ => ⟨S1x384, .f32⟩
  | .local _ .vmem, ⟨3, _⟩ => ⟨S1x384, .f32⟩
  | .local _ .vmem, ⟨4, _⟩ => ⟨S1x384, .f32⟩
  | .local _ .vmem, ⟨5, _⟩ => ⟨S1x384, .f32⟩
  | .local _ .vmem, ⟨6, _⟩ => ⟨S1x384, .f32⟩
  | _, _ => ⟨S1x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S1x384 : Shape := ⟨2, ![1, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x384, .f32⟩
  | .hbm, ⟨1, _⟩ => ⟨S1x384, .f32⟩
  | .hbm, ⟨2, _⟩ => ⟨S1x384, .f32⟩
  | .hbm, ⟨3, _⟩ => ⟨S1x384, .f32⟩
  | .hbm, ⟨4, _⟩ => ⟨S_, .f32⟩
  | .hbm, ⟨5, _⟩ => ⟨S1x384, .f32⟩
  | .hbm, ⟨6, _⟩ => ⟨S1x384, .f32⟩
  | .hbm, ⟨7, _⟩ => ⟨S_, .f32⟩
  | .hbm, ⟨8, _⟩ => ⟨S1x384, .f32⟩
  | .hbm, ⟨9, _⟩ => ⟨S1x384, .f32⟩
  | .hbm, ⟨10, _⟩ => ⟨S1x384, .f32⟩
  | .hbm, ⟨11, _⟩ => ⟨S_, .f32⟩
  | .hbm, ⟨12, _⟩ => ⟨S1x384, .f32⟩
  | .hbm, ⟨13, _⟩ => ⟨S1x384, .f32⟩
  | .hbm, ⟨14, _⟩ => ⟨S1x384, .f32⟩
  | .hbm, ⟨15, _⟩ => ⟨S_, .f32⟩
  | .hbm, ⟨16, _⟩ => ⟨S1x384, .f32⟩
  | .hbm, ⟨17, _⟩ => ⟨S1x384, .f32⟩
  | .hbm, ⟨18, _⟩ => ⟨S1x384, .f32⟩
  | .hbm, ⟨19, _⟩ => ⟨S_, .f32⟩
  | .hbm, ⟨20, _⟩ => ⟨S1x384, .f32⟩
  | .hbm, ⟨21, _⟩ => ⟨S1x384, .f32⟩
  | .hbm, ⟨22, _⟩ => ⟨S_, .f32⟩
  | .hbm, ⟨23, _⟩ => ⟨S1x384, .f32⟩
  | .hbm, ⟨24, _⟩ => ⟨S1x384, .f32⟩
  | .hbm, ⟨25, _⟩ => ⟨S1x384, .f32⟩
  | .hbm, ⟨26, _⟩ => ⟨S_, .f32⟩
  | .hbm, ⟨27, _⟩ => ⟨S1x384, .f32⟩
  | .hbm, ⟨28, _⟩ => ⟨S1x384, .f32⟩
  | .hbm, ⟨29, _⟩ => ⟨S1x384, .f32⟩
  | .hbm, ⟨30, _⟩ => ⟨S_, .f32⟩
  | .hbm, ⟨31, _⟩ => ⟨S1x384, .f32⟩
  | .hbm, ⟨32, _⟩ => ⟨S1x384, .f32⟩
  | .hbm, ⟨33, _⟩ => ⟨S1x384, .f32⟩
  | .hbm, ⟨34, _⟩ => ⟨S_, .f32⟩
  | .hbm, ⟨35, _⟩ => ⟨S1x384, .f32⟩
  | .hbm, ⟨36, _⟩ => ⟨S1x384, .f32⟩
  | _, _ => ⟨S1x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel21Ideal.lean ====
abbrev S1x256 : Shape := ⟨2, ![1, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S1x256, .f32⟩
  | .hbm, ⟨6, _⟩ => ⟨S1x256, .f32⟩
  | .local _ .vmem, ⟨0, _⟩ => ⟨S1x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | _, _ => ⟨S1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "inv_bias1" => some (((5463681 / 8388608)⁻¹ : ℝ) : EReal)
  | "inv_bias2" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S1x256 : Shape := ⟨2, ![1, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256, .f32⟩
  | .hbm, ⟨1, _⟩ => ⟨S1x256, .f32⟩
  | .hbm, ⟨2, _⟩ => ⟨S1x256, .f32⟩
  | .hbm, ⟨3, _⟩ => ⟨S1x256, .f32⟩
  | .hbm, ⟨4, _⟩ => ⟨S_, .f32⟩
  | .hbm, ⟨5, _⟩ => ⟨S1x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S_, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S_, .f32⟩
  | .hbm, ⟨20, _⟩ => ⟨S1x256, .f32⟩
  | .hbm, ⟨21, _⟩ => ⟨S1x256, .f32⟩
  | .hbm, ⟨22, _⟩ => ⟨S_, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | _, _ => ⟨S1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S32x48 : Shape := ⟨2, ![32, 48]⟩

abbrev nBuf : Space → Nat
  | .hbm => 7
  | .vmem => 7
  | .smem => 0
  | _ => 0

abbrev bufTy : (tb : Table) → Fin (tcTables nBuf tb) → BufTy
  | .hbm, ⟨0, _⟩ => ⟨S32x48, .f32⟩
  | .hbm, ⟨1, _⟩ => ⟨S32x48, .f32⟩
  | .hbm, ⟨2, _⟩ => ⟨S32x48, .f32⟩
  | .hbm, ⟨3, _⟩ => ⟨S32x48, .f32⟩
  | .hbm, ⟨4, _⟩ => ⟨S32x48, .f32⟩
  | .hbm, ⟨5, _⟩ => ⟨S32x48, .f32⟩
  | .hbm, ⟨6, _⟩ => ⟨S32x48, .f32⟩
  | .local _ .vmem, ⟨0, _⟩ => ⟨S32x48, .f32⟩
  | .local _ .vmem, ⟨1, _⟩ => ⟨S32x48, .f32⟩
  | .local _ .vmem, ⟨2, _⟩ => ⟨S32x48, .f32⟩
  | .local _ .vmem, ⟨3, _⟩ => ⟨S32x48, .f32⟩
  | .local _ .vmem, ⟨4, _⟩ => ⟨S32x48, .f32⟩
  | .local _ .vmem, ⟨5, _⟩ => ⟨S32x48, .f32⟩
  | .local _ .vmem, ⟨6, _⟩ => ⟨S32x48, .f32⟩
  | _, _ => ⟨S32x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel22Ideal.lean ====
variable {F : FTy → Type} [FloatOps F] [Named F]
def κ : String → Option EReal := fun
  | "inv_bias1" => some (((5463681 / 8388608)⁻¹ : ℝ) : EReal)
  | "inv_bias2" => some (((2672307 / 268435456)⁻¹ : ℝ) : EReal)
  | _ => none
-- ==== Reference22Ideal.lean ====
abbrev S32x48 : Shape := ⟨2, ![32, 48]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x48, .f32⟩
  | .hbm, ⟨1, _⟩ => ⟨S32x48, .f32⟩
  | .hbm, ⟨2, _⟩ => ⟨S32x48, .f32⟩
  | .hbm, ⟨3, _⟩ => ⟨S32x48, .f32⟩
  | .hbm, ⟨4, _⟩ => ⟨S_, .f32⟩
  | .hbm, ⟨5, _⟩ => ⟨S32x48, .f32⟩
  | .hbm, ⟨6, _⟩ => ⟨S32x48, .f32⟩
  | .hbm, ⟨7, _⟩ => ⟨S_, .f32⟩
  | .hbm, ⟨8, _⟩ => ⟨S32x48, .f32⟩
  | .hbm, ⟨9, _⟩ => ⟨S32x48, .f32⟩
  | .hbm, ⟨10, _⟩ => ⟨S32x48, .f32⟩
  | .hbm, ⟨11, _⟩ => ⟨S_, .f32⟩
  | .hbm, ⟨12, _⟩ => ⟨S32x48, .f32⟩
  | .hbm, ⟨13, _⟩ => ⟨S32x48, .f32⟩
  | .hbm, ⟨14, _⟩ => ⟨S32x48, .f32⟩
  | .hbm, ⟨15, _⟩ => ⟨S_, .f32⟩
  | .hbm, ⟨16, _⟩ => ⟨S32x48, .f32⟩
  | .hbm, ⟨17, _⟩ => ⟨S32x48, .f32⟩
  | .hbm, ⟨18, _⟩ => ⟨S32x48, .f32⟩
  | .hbm, ⟨19, _⟩ => ⟨S_, .f32⟩
  | .hbm, ⟨20, _⟩ => ⟨S32x48, .f32⟩
  | .hbm, ⟨21, _⟩ => ⟨S32x48, .f32⟩
  | .hbm, ⟨22, _⟩ => ⟨S_, .f32⟩
  | .hbm, ⟨23, _⟩ => ⟨S32x48, .f32⟩
  | .hbm, ⟨24, _⟩ => ⟨S32x48, .f32⟩
  | .hbm, ⟨25, _⟩ => ⟨S32x48, .f32⟩
  | .hbm, ⟨26, _⟩ => ⟨S_, .f32⟩
  | .hbm, ⟨27, _⟩ => ⟨S32x48, .f32⟩
  | .hbm, ⟨28, _⟩ => ⟨S32x48, .f32⟩
  | .hbm, ⟨29, _⟩ => ⟨S32x48, .f32⟩
  | .hbm, ⟨30, _⟩ => ⟨S_, .f32⟩
  | .hbm, ⟨31, _⟩ => ⟨S32x48, .f32⟩
  | .hbm, ⟨32, _⟩ => ⟨S32x48, .f32⟩
  | .hbm, ⟨33, _⟩ => ⟨S32x48, .f32⟩
  | .hbm, ⟨34, _⟩ => ⟨S_, .f32⟩
  | .hbm, ⟨35, _⟩ => ⟨S32x48, .f32⟩
  | .hbm, ⟨36, _⟩ => ⟨S32x48, .f32⟩
  | _, _ => ⟨S32x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Ffn.Index.lean ====
/- Arrays of extended reals read at natural numbers, zero outside, so that an array's index can be computed with; and the
   layout operations of the programs' host lines at such an index. -/
module

public import Idealize.ShloMosaic.Lib.Pointwise
public import Idealize.ShloMosaic.Lib.Pipeline
public import Idealize.ShloMosaic.Lib.IdealHost

@[expose] public section

noncomputable section

namespace Cert.Ffn

open Idealize.ShloMosaic

/-- A rank-2 array at two numbers. -/
def at2 {n0 n1 : ℕ} (x : (⟨2, ![n0, n1]⟩ : Shape).Idx → EReal) (a b : ℕ) : EReal :=
  if h : a < n0 ∧ b < n1 then x (ix2 ⟨a, h.1⟩ ⟨b, h.2⟩) else 0
/-- A rank-3 array at three numbers. -/
def at3 {n0 n1 n2 : ℕ} (x : (⟨3, ![n0, n1, n2]⟩ : Shape).Idx → EReal) (a b c : ℕ) : EReal :=
  if h : a < n0 ∧ b < n1 ∧ c < n2 then x (ix3 ⟨a, h.1⟩ ⟨b, h.2.1⟩ ⟨c, h.2.2⟩) else 0
/-- A rank-4 array at four numbers. -/
def at4 {n0 n1 n2 n3 : ℕ} (x : (⟨4, ![n0, n1, n2, n3]⟩ : Shape).Idx → EReal) (a b c d : ℕ) : EReal :=
  if h : a < n0 ∧ b < n1 ∧ c < n2 ∧ d < n3 then x (ix4 ⟨a, h.1⟩ ⟨b, h.2.1⟩ ⟨c, h.2.2.1⟩ ⟨d, h.2.2.2⟩) else 0

/-- An array at an index is the array at the index's numbers. -/
theorem at2_eq {n0 n1 : ℕ} (x : (⟨2, ![n0, n1]⟩ : Shape).Idx → EReal) (i : (⟨2, ![n0, n1]⟩ : Shape).Idx) {a b : ℕ}
    (h0 : (i 0).val = a) (h1 : (i 1).val = b) : x i = at2 x a b := by
  subst h0; subst h1
  rw [at2, dif_pos ⟨(i 0).isLt, (i 1).isLt⟩]
  exact congrArg x (funext fun k => match k with | ⟨0, _⟩ => rfl | ⟨1, _⟩ => rfl)
/-- An array at an index is the array at the index's numbers. -/
theorem at3_eq {n0 n1 n2 : ℕ} (x : (⟨3, ![n0, n1, n2]⟩ : Shape).Idx → EReal) (i : (⟨3, ![n0, n1, n2]⟩ : Shape).Idx) {a b c : ℕ}
    (h0 : (i 0).val = a) (h1 : (i 1).val = b) (h2 : (i 2).val = c) : x i = at3 x a b c := by
  subst h0; subst h1; subst h2
  rw [at3, dif_pos ⟨(i 0).isLt, (i 1).isLt, (i 2).isLt⟩]
  exact congrArg x (funext fun k => match k with | ⟨0, _⟩ => rfl | ⟨1, _⟩ => rfl | ⟨2, _⟩ => rfl)
/-- An array at an index is the array at the index's numbers. -/
theorem at4_eq {n0 n1 n2 n3 : ℕ} (x : (⟨4, ![n0, n1, n2, n3]⟩ : Shape).Idx → EReal) (i : (⟨4, ![n0, n1, n2, n3]⟩ : Shape).Idx) {a b c d : ℕ}
    (h0 : (i 0).val = a) (h1 : (i 1).val = b) (h2 : (i 2).val = c) (h3 : (i 3).val = d) : x i = at4 x a b c d := by
  subst h0; subst h1; subst h2; subst h3
  rw [at4, dif_pos ⟨(i 0).isLt, (i 1).isLt, (i 2).isLt, (i 3).isLt⟩]
  exact congrArg x (funext fun k => match k with | ⟨0, _⟩ => rfl | ⟨1, _⟩ => rfl | ⟨2, _⟩ => rfl | ⟨3, _⟩ => rfl)

/-- An index of rank 3 is that of its coordinates. -/
theorem ix3_self {n0 n1 n2 : ℕ} (i : (⟨3, ![n0, n1, n2]⟩ : Shape).Idx) : i = ix3 (n0 := n0) (n1 := n1) (n2 := n2) (i 0) (i 1) (i 2) :=
  funext fun k => match k with | ⟨0, _⟩ => rfl | ⟨1, _⟩ => rfl | ⟨2, _⟩ => rfl
/-- An index of rank 4 is that of its coordinates. -/
theorem ix4_self {n0 n1 n2 n3 : ℕ} (i : (⟨4, ![n0, n1, n2, n3]⟩ : Shape).Idx) :
    i = ix4 (n0 := n0) (n1 := n1) (n2 := n2) (n3 := n3) (i 0) (i 1) (i 2) (i 3) :=
  funext fun k => match k with | ⟨0, _⟩ => rfl | ⟨1, _⟩ => rfl | ⟨2, _⟩ => rfl | ⟨3, _⟩ => rfl
/-- An index of rank 2 is that of its coordinates. -/
theorem ix2_self {n0 n1 : ℕ} (i : (⟨2, ![n0, n1]⟩ : Shape).Idx) : i = ix2 (n0 := n0) (n1 := n1) (i 0) (i 1) :=
  funext fun k => match k with | ⟨0, _⟩ => rfl | ⟨1, _⟩ => rfl

/-- The first two axes taken as one. -/
theorem merge_two {n0 n1 n2 n3 n : ℕ} (hn : n = n0 * n1) (x : (⟨4, ![n0, n1, n2, n3]⟩ : Shape).Idx → EReal)
    (h : (⟨4, ![n0, n1, n2, n3]⟩ : Shape).ShapeCasts ⟨3, ![n, n2, n3]⟩) (j : (⟨3, ![n, n2, n3]⟩ : Shape).Idx) :
    shapeCast ⟨3, ![n, n2, n3]⟩ x h j = at4 x ((j 0).val / n1) ((j 0).val % n1) (j 1).val (j 2).val := by
  have h0 : (j 0).val < n := (j 0).isLt
  have h1 : (j 0).val < n1 * n0 := Nat.mul_comm n0 n1 ▸ hn ▸ h0
  have hp : 0 < n1 := Nat.pos_of_ne_zero fun h => by subst h; simp at h1
  refine (shapeCast_apply x h j (ix4 (n0 := n0) (n1 := n1) (n2 := n2) (n3 := n3) ⟨(j 0).val / n1, Nat.div_lt_of_lt_mul h1⟩
    ⟨(j 0).val % n1, Nat.mod_lt _ hp⟩ (j 1) (j 2)) ?_).trans (at4_eq x _ rfl rfl rfl rfl)
  rw [Shape.rowMajor_val_three, Shape.rowMajor_val_four]
  show (((j 0).val / n1 * n1 + (j 0).val % n1) * n2 + (j 1).val) * n3 + (j 2).val = ((j 0).val * n2 + (j 1).val) * n3 + (j 2).val
  rw [Nat.div_add_mod']

end Cert.Ffn

end
-- ==== Proof.Value.Softmax.lean ====
/- The causal softmax of one row and its derivative, over the real numbers, and how the extended-real operations that
   compute it read on real operands. A row `r` has scores `S 0, S 1, …`; only the columns `j ≤ r` take part. -/
module

public import Idealize.ShloMosaic.PureOps.Ideal.Laws
public import Idealize.ShloMosaic.Lib.WordCmp
public import Idealize.ShloMosaic.Lib.ValueIdxCore
public import Mathlib.Analysis.SpecialFunctions.Log.Basic

@[expose] public section

noncomputable section

namespace Cert.Softmax

open Idealize.ShloMosaic Finset

/-! ## Extended reals that are real -/

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of reals over `Fin n`, read as a sum over the first `n` numbers. -/
theorem sum_fin (n : ℕ) (f : ℕ → ℝ) : ∑ k : Fin n, ((f k.val : ℝ) : EReal) = ((∑ k ∈ range n, f k : ℝ) : EReal) := by
  rw [← coe_sum, Fin.sum_univ_eq_sum_range f n]

/-- A sum whose terms vanish past `r` is the sum up to `r`. -/
theorem sum_cut {n r : ℕ} (h : r < n) (f : ℕ → ℝ) (hf : ∀ j, r < j → f j = 0) : ∑ j ∈ range n, f j = ∑ j ∈ range (r + 1), f j := by
  symm
  refine Finset.sum_subset (fun j hj => ?_) fun j _ hj => hf j ?_
  · rw [mem_range] at hj ⊢; omega
  · rw [mem_range] at hj; omega

theorem div_coe (x : ℝ) {y : ℝ} (hy : y ≠ 0) : Ideal.div (x : EReal) (y : EReal) = ((x / y : ℝ) : EReal) := by
  rw [Ideal.div_coe hy, ← EReal.coe_mul, mul_one_div]

theorem log_coe {x : ℝ} (hx : 0 < x) : Ideal.log (x : EReal) = ((Real.log x : ℝ) : EReal) := by
  rw [Ideal.log_coe, if_neg (not_le.mpr hx)]

theorem ofBits_bot : Ideal.ofBits .f32 0xFF800000#32 = (⊥ : EReal) := by
  simp [Ideal.ofBits, Ideal.ieee]

theorem ofBits_top : Ideal.ofBits .f32 0x7F800000#32 = (⊤ : EReal) := by
  simp [Ideal.ofBits, Ideal.ieee]

/-- The scale both programs multiply the scores by, as a real number: the float nearest to `96 ^ (-1/2)`. -/
def scale : ℝ := (Ideal.ofBits .f32 0x3DD105EC#32 : EReal).toReal

theorem ofBits_scale : Ideal.ofBits .f32 0x3DD105EC#32 = ((scale : ℝ) : EReal) := by
  refine (EReal.coe_toReal ?_ ?_).symm <;>
  · show Ideal.ieee 8 23 (0x3DD105EC#32) ≠ _
    unfold Ideal.ieee
    simp only [show ¬(BitVec.extractLsb' 23 8 0x3DD105EC#32).toNat = 2 ^ 8 - 1 by decide,
      show ¬(BitVec.extractLsb' 23 8 0x3DD105EC#32).toNat = 0 by decide, if_false]
    first | exact EReal.coe_ne_top _ | exact EReal.coe_ne_bot _

/-! ## A row of the softmax -/

/-- The largest score among the columns `0, …, r`. -/
def top (S : ℕ → ℝ) (r : ℕ) : ℝ := (range (r + 1)).sup' ⟨0, by simp⟩ S

/-- A column's weight: the exponential of its score below the largest, 0 past the diagonal. -/
def weight (S : ℕ → ℝ) (r j : ℕ) : ℝ := if j ≤ r then Real.exp (S j - top S r) else 0

/-- The sum of the row's weights. -/
def mass (S : ℕ → ℝ) (r : ℕ) : ℝ := ∑ j ∈ range (r + 1), weight S r j

/-- A column's probability. -/
def prob (S : ℕ → ℝ) (r j : ℕ) : ℝ := weight S r j / mass S r

theorem weight_past (S : ℕ → ℝ) (r j : ℕ) (h : r < j) : weight S r j = 0 := if_neg (by omega)

theorem prob_past (S : ℕ → ℝ) (r j : ℕ) (h : r < j) : prob S r j = 0 := by
  rw [prob, weight_past S r j h, zero_div]

theorem mass_pos (S : ℕ → ℝ) (r : ℕ) : 0 < mass S r := by
  refine Finset.sum_pos (fun j hj => ?_) ⟨0, by simp⟩
  rw [mem_range] at hj
  rw [weight, if_pos (by omega)]
  exact Real.exp_pos _

theorem mass_ne (S : ℕ → ℝ) (r : ℕ) : mass S r ≠ 0 := (mass_pos S r).ne'

/-- A score where the mask holds, `⊥` past the diagonal. -/
def masked (S : ℕ → ℝ) (r j : ℕ) : EReal := if j ≤ r then ((S j : ℝ) : EReal) else ⊥

/-- The largest masked score of a row. -/
theorem fold_max {n r : ℕ} (h : r < n) (S : ℕ → ℝ) :
    (Finset.univ : Finset (Fin n)).fold max (⊥ : EReal) (fun k => masked S r k.val) = ((top S r : ℝ) : EReal) := by
  show (Finset.univ : Finset (Fin n)).sup (fun k => masked S r k.val) = _
  apply le_antisymm
  · refine Finset.sup_le fun k _ => ?_
    unfold masked
    split
    · next hk => exact EReal.coe_le_coe_iff.mpr (Finset.le_sup' S (by rw [mem_range]; omega))
    · exact bot_le
  · obtain ⟨j, hj, e⟩ := Finset.exists_mem_eq_sup' (⟨0, by simp⟩ : (range (r + 1)).Nonempty) S
    rw [mem_range] at hj
    have hm : masked S r j = ((top S r : ℝ) : EReal) := by rw [masked, if_pos (by omega), top, e]
    rw [← hm]
    exact Finset.le_sup (f := fun k : Fin n => masked S r k.val) (Finset.mem_univ (⟨j, by omega⟩ : Fin n))

/-- The exponential of a masked score below the largest is the weight. -/
theorem exp_masked (S : ℕ → ℝ) (r j : ℕ) : Ideal.exp (masked S r j - ((top S r : ℝ) : EReal)) = ((weight S r j : ℝ) : EReal) := by
  unfold masked weight
  split
  · rw [← EReal.coe_sub, Ideal.exp_coe]
  · rw [sub_eq_add_neg, EReal.bot_add]; rfl

/-- The sum of a row's weights, over any number of columns reaching past the diagonal. -/
theorem sum_weight {n r : ℕ} (h : r < n) (S : ℕ → ℝ) : ∑ k : Fin n, ((weight S r k.val : ℝ) : EReal) = ((mass S r : ℝ) : EReal) := by
  rw [sum_fin n (weight S r), sum_cut h _ (weight_past S r), mass]

/-- The exponential of a score below the row's log-sum-exp is the probability. -/
theorem exp_lse (S : ℕ → ℝ) (r j : ℕ) (h : j ≤ r) : Real.exp (S j - (top S r + Real.log (mass S r))) = prob S r j := by
  rw [prob, weight, if_pos h, ← sub_sub, Real.exp_sub, Real.exp_log (mass_pos S r)]

/-! ## The attention of one head -/

section head

/-- The queries, keys, values of one head and the cotangent of its result, as functions of row and feature. -/
structure Head where
  q : ℕ → ℕ → ℝ
  k : ℕ → ℕ → ℝ
  v : ℕ → ℕ → ℝ
  g : ℕ → ℕ → ℝ

variable (H : Head)

/-- The scaled score of query `r` and key `j`. -/
def score (r j : ℕ) : ℝ := (∑ d ∈ range 96, H.q r d * H.k j d) * scale

/-- The probability that query `r` gives key `j`. -/
def p (r j : ℕ) : ℝ := prob (score H r) r j

/-- The attention's result. -/
def out (r d : ℕ) : ℝ := ∑ j ∈ range (r + 1), p H r j * H.v j d

/-- The cotangent of the probability. -/
def dp (r j : ℕ) : ℝ := ∑ d ∈ range 64, H.g r d * H.v j d

/-- The probabilities' mean of `dp`. -/
def mean (r : ℕ) : ℝ := ∑ j ∈ range (r + 1), p H r j * dp H r j

/-- The cotangent of the unscaled score. -/
def ds (r j : ℕ) : ℝ := p H r j * (dp H r j - mean H r) * scale

/-- The queries' gradient. -/
def dq (r d : ℕ) : ℝ := ∑ j ∈ range (r + 1), ds H r j * H.k j d

/-- The keys' gradient from the first `n` queries. -/
def dk (n j d : ℕ) : ℝ := ∑ r ∈ range n, ds H r j * H.q r d

/-- The values' gradient from the first `n` queries. -/
def dv (n j d : ℕ) : ℝ := ∑ r ∈ range n, p H r j * H.g r d

theorem p_past (r j : ℕ) (h : r < j) : p H r j = 0 := prob_past _ r j h

theorem ds_past (r j : ℕ) (h : r < j) : ds H r j = 0 := by rw [ds, p_past H r j h, zero_mul, zero_mul]

/-- The cotangent against the attention's result is the mean of `dp`. -/
theorem sum_g_out (r : ℕ) : ∑ d ∈ range 64, H.g r d * out H r d = mean H r := by
  simp only [out, mean, dp, Finset.mul_sum]
  rw [Finset.sum_comm]
  exact Finset.sum_congr rfl fun j _ => Finset.sum_congr rfl fun d _ => by ring

end head

end Cert.Softmax

end
-- ==== Proof.Value.Tiles.lean ====
/- What one grid point of the two attention kernels computes, over the reals: each payload of the kernels' stores, read at
   an index, where the blocks it is computed from hold one head's queries, keys, values and cotangent. -/
module

public import proofs.«01_k».proof.Proof.Gen.KernelIdeal.Skeleton
public import proofs.«01_k».proof.Proof.Value.Softmax
public import Idealize.ShloMosaic.Lib.Pointwise

@[expose] public section

set_option maxRecDepth 16384

noncomputable section

namespace Cert.KernelIdeal.Tiles

open Cert.KernelIdeal Cert.KernelIdeal.Gen Cert.Softmax Idealize.ShloMosaic

/-! ## One row -/

/-- A product of two real rows. -/
theorem dot_fin (n : ℕ) (f g : ℕ → ℝ) :
    ∑ x : Fin n, ((f x.val : ℝ) : EReal) * ((g x.val : ℝ) : EReal) = ((∑ x ∈ Finset.range n, f x * g x : ℝ) : EReal) := by
  rw [← sum_fin n fun x => f x * g x]
  exact Finset.sum_congr rfl fun x _ => (EReal.coe_mul _ _).symm

/-- The causal mask's word at row `r` of query block `i` and column `j`. -/
theorem mask_word {i r j : ℕ} (hi : i < 4) (hr : r < 512) (hj : j < 2048) :
    IntOp.cmpi CmpIPredicate.sle (BitVec.ofNat 32 j) (IntOp.addi (Scalar.muli (BitVec.ofNat 32 i) 512#32) (BitVec.ofNat 32 r))
      = BitVec.ofBool (decide (j ≤ 512 * i + r)) := by
  have e : IntOp.addi (Scalar.muli (BitVec.ofNat 32 i) 512#32) (BitVec.ofNat 32 r) = BitVec.ofNat 32 (512 * i + r) := by
    rw [show Scalar.muli (BitVec.ofNat 32 i) 512#32 = IntOp.muli (BitVec.ofNat 32 i) (BitVec.ofNat 32 512) from rfl,
      WordCmp.muli_ofNat, WordCmp.addi_ofNat, Nat.mul_comm]
  rw [e, WordCmp.cmpi_sle_ofNat (by omega) (by omega)]

variable (H : Head)

/-- A row of weights against the values, over the row's mass, is the attention's result. -/
theorem out_row {n R : ℕ} (h : R < n) (d : ℕ) :
    (∑ x ∈ Finset.range n, weight (score H R) R x * H.v x d) / mass (score H R) R = out H R d := by
  rw [sum_cut h _ fun j hj => by rw [weight_past _ R j hj, zero_mul], Finset.sum_div]
  exact Finset.sum_congr rfl fun j _ => by rw [p, prob]; ring

/-- The probability read off the row's log-sum-exp, under the mask. -/
theorem prob_row (R j : ℕ) :
    (if j ≤ R then Ideal.exp (((score H R j : ℝ) : EReal) - ((top (score H R) R + Real.log (mass (score H R) R) : ℝ) : EReal)) else 0)
      = ((p H R j : ℝ) : EReal) := by
  split
  · next h => rw [← EReal.coe_sub, Ideal.exp_coe, exp_lse _ _ _ h, p]
  · next h => rw [p_past H R j (by omega)]; rfl

/-- The queries' gradient, over any number of columns reaching past the diagonal. -/
theorem dq_row {n R : ℕ} (h : R < n) (d : ℕ) : ∑ j ∈ Finset.range n, ds H R j * H.k j d = dq H R d := by
  rw [sum_cut h _ fun j hj => by rw [ds_past H R j hj, zero_mul], dq]

/-- The keys' gradient after one more block of queries. -/
theorem dk_step (i j d : ℕ) :
    dk H (512 * i) j d + ∑ x ∈ Finset.range 512, ds H (512 * i + x) j * H.q (512 * i + x) d = dk H (512 * i + 512) j d := by
  rw [dk, dk, Finset.sum_range_add]

/-- The values' gradient after one more block of queries. -/
theorem dv_step (i j d : ℕ) :
    dv H (512 * i) j d + ∑ x ∈ Finset.range 512, p H (512 * i + x) j * H.g (512 * i + x) d = dv H (512 * i + 512) j d := by
  rw [dv, dv, Finset.sum_range_add]

/-- No query of the first `n` reaches a key past them. -/
theorem dk_past (n j d : ℕ) (h : n ≤ j) : dk H n j d = 0 :=
  Finset.sum_eq_zero fun r hr => by rw [ds_past H r j (by have := Finset.mem_range.mp hr; omega), zero_mul]

theorem dv_past (n j d : ℕ) (h : n ≤ j) : dv H n j d = 0 :=
  Finset.sum_eq_zero fun r hr => by rw [p_past H r j (by have := Finset.mem_range.mp hr; omega), zero_mul]

/-- A later block of queries adds nothing to the keys that its mask hides. -/
theorem dk_hidden (i j d : ℕ) (h : 512 * i + 512 ≤ j) : dk H (512 * i) j d = dk H (512 * i + 512) j d := by
  rw [dk_past H _ j d h, dk_past H _ j d (by omega)]

theorem dv_hidden (i j d : ℕ) (h : 512 * i + 512 ≤ j) : dv H (512 * i) j d = dv H (512 * i + 512) j d := by
  rw [dv_past H _ j d h, dv_past H _ j d (by omega)]

/-- The logarithm of the row's sum of exponentials. -/
def lse (R : ℕ) : ℝ := top (score H R) R + Real.log (mass (score H R) R)

/-- A column of 512 read under a leading axis of one. -/
theorem column (x : FVec Ideal S512x1 .f32) (h : S512x1.ShapeCasts S1x512x1) (r : Fin 512) :
    shapeCast S1x512x1 x h (ix3 (0 : Fin 1) r (0 : Fin 1)) = x (ix2 r (0 : Fin 1)) := by
  refine shapeCast_apply x h _ _ ?_
  rw [Shape.rowMajor_val_two, Shape.rowMajor_val_three]
  show r.val * 1 + 0 = 0 * (512 * 1) + (r.val * 1 + 0)
  omega

theorem add_log {s : Shape} (x y : FVec Ideal s .f32) (j : s.Idx) : addf x (log y) j = x j + Ideal.log (y j) := rfl

/-! ## The blocks a point is given -/

/-- The block `x` holds the rows of `f` from row `o` on. -/
def Blk {n w : ℕ} (x : (⟨3, ![1, n, w]⟩ : Shape).Idx → EReal) (o : ℕ) (f : ℕ → ℕ → ℝ) : Prop :=
  ∀ (r : Fin n) (d : Fin w), x (ix3 (0 : Fin 1) r d) = ((f (o + r.val) d.val : ℝ) : EReal)

variable {H} {i : ℕ} {q : Vec Ideal S1x512x96 .bf16} {g o : Vec Ideal S1x512x64 .f32} {l : Vec Ideal S1x512x1 .f32}

/-! ## The forward kernel over the first 512 keys -/

section forward512

variable {k : Vec Ideal S1x512x96 .bf16} {v : Vec Ideal S1x512x64 .bf16}

theorem score512 (hi : i < 4) (hq : Blk q (512 * i) H.q) (hk : Blk k 0 H.k) (r : Fin 512) (j : Fin 512) :
    k0_pay1 (F := Ideal) (BitVec.ofNat 32 i) q k (ix2 r j) = masked (score H (512 * i + r.val)) (512 * i + r.val) j.val := by
  pointwise [k0_pay1]
  rw [mask_word hi r.isLt (by omega), WordCmp.select_decide, ofBits_bot, ofBits_scale]
  unfold Blk at hq hk
  simp only [hq, hk, Nat.zero_add]
  rw [dot_fin 96 (H.q (512 * i + r.val)) (H.k j.val), ← EReal.coe_mul]
  rfl

theorem top512 (hi : i < 4) (hn : 512 * i + 512 ≤ 512) (hq : Blk q (512 * i) H.q) (hk : Blk k 0 H.k) (r : Fin 512) :
    k0_pay2 (F := Ideal) (BitVec.ofNat 32 i) q k (ix2 r (0 : Fin 1)) = ((top (score H (512 * i + r.val)) (512 * i + r.val) : ℝ) : EReal) := by
  pointwise [k0_pay2]
  simp only [score512 hi hq hk, ofBits_bot]
  exact fold_max (by omega) _

theorem weight512 (hi : i < 4) (hn : 512 * i + 512 ≤ 512) (hq : Blk q (512 * i) H.q) (hk : Blk k 0 H.k) (r : Fin 512) (j : Fin 512) :
    k0_pay3 (F := Ideal) (BitVec.ofNat 32 i) q k (ix2 r j) = ((weight (score H (512 * i + r.val)) (512 * i + r.val) j.val : ℝ) : EReal) := by
  pointwise [k0_pay3]
  rw [score512 hi hq hk, top512 hi hn hq hk, exp_masked]

theorem mass512 (hi : i < 4) (hn : 512 * i + 512 ≤ 512) (hq : Blk q (512 * i) H.q) (hk : Blk k 0 H.k) (r : Fin 512) :
    k0_pay4 (F := Ideal) (BitVec.ofNat 32 i) q k (ix2 r (0 : Fin 1)) = ((mass (score H (512 * i + r.val)) (512 * i + r.val) : ℝ) : EReal) := by
  pointwise [k0_pay4]
  simp only [weight512 hi hn hq hk]
  exact sum_weight (by omega) _

/-- The block of results. -/
theorem out512 (hi : i < 4) (hn : 512 * i + 512 ≤ 512) (hq : Blk q (512 * i) H.q) (hk : Blk k 0 H.k) (hv : Blk v 0 H.v) :
    Blk (k0_pay5 (F := Ideal) (BitVec.ofNat 32 i) q k v) (512 * i) (out H) := by
  intro r d
  pointwise [k0_pay5]
  unfold Blk at hv
  simp only [weight512 hi hn hq hk, mass512 hi hn hq hk, hv, Nat.zero_add]
  rw [dot_fin 512 (weight (score H (512 * i + r.val)) (512 * i + r.val)) (fun j => H.v j d.val), div_coe _ (mass_ne _ _), out_row H (by omega)]

/-- The block of log-sum-exps. -/
theorem lse512 (hi : i < 4) (hn : 512 * i + 512 ≤ 512) (hq : Blk q (512 * i) H.q) (hk : Blk k 0 H.k) :
    Blk (k0_pay6 (F := Ideal) (BitVec.ofNat 32 i) q k) (512 * i) (fun R _ => lse H R) := by
  intro r d
  obtain rfl : d = 0 := Subsingleton.elim _ _
  rw [k0_pay6, column, add_log, mass512 hi hn hq hk, top512 hi hn hq hk, log_coe (mass_pos _ _), ← EReal.coe_add]
  show _ = ((lse H (512 * i + r.val) : ℝ) : EReal)
  rw [lse]

end forward512

/-! ## The forward kernel over the first 1024 keys -/

section forward1024

variable {k : Vec Ideal S1x1024x96 .bf16} {v : Vec Ideal S1x1024x64 .bf16}

theorem score1024 (hi : i < 4) (hq : Blk q (512 * i) H.q) (hk : Blk k 0 H.k) (r : Fin 512) (j : Fin 1024) :
    k0_pay7 (F := Ideal) (BitVec.ofNat 32 i) q k (ix2 r j) = masked (score H (512 * i + r.val)) (512 * i + r.val) j.val := by
  pointwise [k0_pay7]
  rw [mask_word hi r.isLt (by omega), WordCmp.select_decide, ofBits_bot, ofBits_scale]
  unfold Blk at hq hk
  simp only [hq, hk, Nat.zero_add]
  rw [dot_fin 96 (H.q (512 * i + r.val)) (H.k j.val), ← EReal.coe_mul]
  rfl

theorem top1024 (hi : i < 4) (hn : 512 * i + 512 ≤ 1024) (hq : Blk q (512 * i) H.q) (hk : Blk k 0 H.k) (r : Fin 512) :
    k0_pay8 (F := Ideal) (BitVec.ofNat 32 i) q k (ix2 r (0 : Fin 1)) = ((top (score H (512 * i + r.val)) (512 * i + r.val) : ℝ) : EReal) := by
  pointwise [k0_pay8]
  simp only [score1024 hi hq hk, ofBits_bot]
  exact fold_max (by omega) _

theorem weight1024 (hi : i < 4) (hn : 512 * i + 512 ≤ 1024) (hq : Blk q (512 * i) H.q) (hk : Blk k 0 H.k) (r : Fin 512) (j : Fin 1024) :
    k0_pay9 (F := Ideal) (BitVec.ofNat 32 i) q k (ix2 r j) = ((weight (score H (512 * i + r.val)) (512 * i + r.val) j.val : ℝ) : EReal) := by
  pointwise [k0_pay9]
  rw [score1024 hi hq hk, top1024 hi hn hq hk, exp_masked]

theorem mass1024 (hi : i < 4) (hn : 512 * i + 512 ≤ 1024) (hq : Blk q (512 * i) H.q) (hk : Blk k 0 H.k) (r : Fin 512) :
    k0_pay10 (F := Ideal) (BitVec.ofNat 32 i) q k (ix2 r (0 : Fin 1)) = ((mass (score H (512 * i + r.val)) (512 * i + r.val) : ℝ) : EReal) := by
  pointwise [k0_pay10]
  simp only [weight1024 hi hn hq hk]
  exact sum_weight (by omega) _

/-- The block of results. -/
theorem out1024 (hi : i < 4) (hn : 512 * i + 512 ≤ 1024) (hq : Blk q (512 * i) H.q) (hk : Blk k 0 H.k) (hv : Blk v 0 H.v) :
    Blk (k0_pay11 (F := Ideal) (BitVec.ofNat 32 i) q k v) (512 * i) (out H) := by
  intro r d
  pointwise [k0_pay11]
  unfold Blk at hv
  simp only [weight1024 hi hn hq hk, mass1024 hi hn hq hk, hv, Nat.zero_add]
  rw [dot_fin 1024 (weight (score H (512 * i + r.val)) (512 * i + r.val)) (fun j => H.v j d.val), div_coe _ (mass_ne _ _), out_row H (by omega)]

/-- The block of log-sum-exps. -/
theorem lse1024 (hi : i < 4) (hn : 512 * i + 512 ≤ 1024) (hq : Blk q (512 * i) H.q) (hk : Blk k 0 H.k) :
    Blk (k0_pay12 (F := Ideal) (BitVec.ofNat 32 i) q k) (512 * i) (fun R _ => lse H R) := by
  intro r d
  obtain rfl : d = 0 := Subsingleton.elim _ _
  rw [k0_pay12, column, add_log, mass1024 hi hn hq hk, top1024 hi hn hq hk, log_coe (mass_pos _ _), ← EReal.coe_add]
  show _ = ((lse H (512 * i + r.val) : ℝ) : EReal)
  rw [lse]

end forward1024

/-! ## The forward kernel over the first 1536 keys -/

section forward1536

variable {k : Vec Ideal S1x1536x96 .bf16} {v : Vec Ideal S1x1536x64 .bf16}

theorem score1536 (hi : i < 4) (hq : Blk q (512 * i) H.q) (hk : Blk k 0 H.k) (r : Fin 512) (j : Fin 1536) :
    k0_pay13 (F := Ideal) (BitVec.ofNat 32 i) q k (ix2 r j) = masked (score H (512 * i + r.val)) (512 * i + r.val) j.val := by
  pointwise [k0_pay13]
  rw [mask_word hi r.isLt (by omega), WordCmp.select_decide, ofBits_bot, ofBits_scale]
  unfold Blk at hq hk
  simp only [hq, hk, Nat.zero_add]
  rw [dot_fin 96 (H.q (512 * i + r.val)) (H.k j.val), ← EReal.coe_mul]
  rfl

theorem top1536 (hi : i < 4) (hn : 512 * i + 512 ≤ 1536) (hq : Blk q (512 * i) H.q) (hk : Blk k 0 H.k) (r : Fin 512) :
    k0_pay14 (F := Ideal) (BitVec.ofNat 32 i) q k (ix2 r (0 : Fin 1)) = ((top (score H (512 * i + r.val)) (512 * i + r.val) : ℝ) : EReal) := by
  pointwise [k0_pay14]
  simp only [score1536 hi hq hk, ofBits_bot]
  exact fold_max (by omega) _

theorem weight1536 (hi : i < 4) (hn : 512 * i + 512 ≤ 1536) (hq : Blk q (512 * i) H.q) (hk : Blk k 0 H.k) (r : Fin 512) (j : Fin 1536) :
    k0_pay15 (F := Ideal) (BitVec.ofNat 32 i) q k (ix2 r j) = ((weight (score H (512 * i + r.val)) (512 * i + r.val) j.val : ℝ) : EReal) := by
  pointwise [k0_pay15]
  rw [score1536 hi hq hk, top1536 hi hn hq hk, exp_masked]

theorem mass1536 (hi : i < 4) (hn : 512 * i + 512 ≤ 1536) (hq : Blk q (512 * i) H.q) (hk : Blk k 0 H.k) (r : Fin 512) :
    k0_pay16 (F := Ideal) (BitVec.ofNat 32 i) q k (ix2 r (0 : Fin 1)) = ((mass (score H (512 * i + r.val)) (512 * i + r.val) : ℝ) : EReal) := by
  pointwise [k0_pay16]
  simp only [weight1536 hi hn hq hk]
  exact sum_weight (by omega) _

/-- The block of results. -/
theorem out1536 (hi : i < 4) (hn : 512 * i + 512 ≤ 1536) (hq : Blk q (512 * i) H.q) (hk : Blk k 0 H.k) (hv : Blk v 0 H.v) :
    Blk (k0_pay17 (F := Ideal) (BitVec.ofNat 32 i) q k v) (512 * i) (out H) := by
  intro r d
  pointwise [k0_pay17]
  unfold Blk at hv
  simp only [weight1536 hi hn hq hk, mass1536 hi hn hq hk, hv, Nat.zero_add]
  rw [dot_fin 1536 (weight (score H (512 * i + r.val)) (512 * i + r.val)) (fun j => H.v j d.val), div_coe _ (mass_ne _ _), out_row H (by omega)]

/-- The block of log-sum-exps. -/
theorem lse1536 (hi : i < 4) (hn : 512 * i + 512 ≤ 1536) (hq : Blk q (512 * i) H.q) (hk : Blk k 0 H.k) :
    Blk (k0_pay18 (F := Ideal) (BitVec.ofNat 32 i) q k) (512 * i) (fun R _ => lse H R) := by
  intro r d
  obtain rfl : d = 0 := Subsingleton.elim _ _
  rw [k0_pay18, column, add_log, mass1536 hi hn hq hk, top1536 hi hn hq hk, log_coe (mass_pos _ _), ← EReal.coe_add]
  show _ = ((lse H (512 * i + r.val) : ℝ) : EReal)
  rw [lse]

end forward1536

/-! ## The forward kernel over the first 2048 keys -/

section forward2048

variable {k : Vec Ideal S1x2048x96 .bf16} {v : Vec Ideal S1x2048x64 .bf16}

theorem score2048 (hi : i < 4) (hq : Blk q (512 * i) H.q) (hk : Blk k 0 H.k) (r : Fin 512) (j : Fin 2048) :
    k0_pay19 (F := Ideal) (BitVec.ofNat 32 i) q k (ix2 r j) = masked (score H (512 * i + r.val)) (512 * i + r.val) j.val := by
  pointwise [k0_pay19]
  rw [mask_word hi r.isLt (by omega), WordCmp.select_decide, ofBits_bot, ofBits_scale]
  unfold Blk at hq hk
  simp only [hq, hk, Nat.zero_add]
  rw [dot_fin 96 (H.q (512 * i + r.val)) (H.k j.val), ← EReal.coe_mul]
  rfl

theorem top2048 (hi : i < 4) (hn : 512 * i + 512 ≤ 2048) (hq : Blk q (512 * i) H.q) (hk : Blk k 0 H.k) (r : Fin 512) :
    k0_pay20 (F := Ideal) (BitVec.ofNat 32 i) q k (ix2 r (0 : Fin 1)) = ((top (score H (512 * i + r.val)) (512 * i + r.val) : ℝ) : EReal) := by
  pointwise [k0_pay20]
  simp only [score2048 hi hq hk, ofBits_bot]
  exact fold_max (by omega) _

theorem weight2048 (hi : i < 4) (hn : 512 * i + 512 ≤ 2048) (hq : Blk q (512 * i) H.q) (hk : Blk k 0 H.k) (r : Fin 512) (j : Fin 2048) :
    k0_pay21 (F := Ideal) (BitVec.ofNat 32 i) q k (ix2 r j) = ((weight (score H (512 * i + r.val)) (512 * i + r.val) j.val : ℝ) : EReal) := by
  pointwise [k0_pay21]
  rw [score2048 hi hq hk, top2048 hi hn hq hk, exp_masked]

theorem mass2048 (hi : i < 4) (hn : 512 * i + 512 ≤ 2048) (hq : Blk q (512 * i) H.q) (hk : Blk k 0 H.k) (r : Fin 512) :
    k0_pay22 (F := Ideal) (BitVec.ofNat 32 i) q k (ix2 r (0 : Fin 1)) = ((mass (score H (512 * i + r.val)) (512 * i + r.val) : ℝ) : EReal) := by
  pointwise [k0_pay22]
  simp only [weight2048 hi hn hq hk]
  exact sum_weight (by omega) _

/-- The block of results. -/
theorem out2048 (hi : i < 4) (hn : 512 * i + 512 ≤ 2048) (hq : Blk q (512 * i) H.q) (hk : Blk k 0 H.k) (hv : Blk v 0 H.v) :
    Blk (k0_pay23 (F := Ideal) (BitVec.ofNat 32 i) q k v) (512 * i) (out H) := by
  intro r d
  pointwise [k0_pay23]
  unfold Blk at hv
  simp only [weight2048 hi hn hq hk, mass2048 hi hn hq hk, hv, Nat.zero_add]
  rw [dot_fin 2048 (weight (score H (512 * i + r.val)) (512 * i + r.val)) (fun j => H.v j d.val), div_coe _ (mass_ne _ _), out_row H (by omega)]

/-- The block of log-sum-exps. -/
theorem lse2048 (hi : i < 4) (hn : 512 * i + 512 ≤ 2048) (hq : Blk q (512 * i) H.q) (hk : Blk k 0 H.k) :
    Blk (k0_pay24 (F := Ideal) (BitVec.ofNat 32 i) q k) (512 * i) (fun R _ => lse H R) := by
  intro r d
  obtain rfl : d = 0 := Subsingleton.elim _ _
  rw [k0_pay24, column, add_log, mass2048 hi hn hq hk, top2048 hi hn hq hk, log_coe (mass_pos _ _), ← EReal.coe_add]
  show _ = ((lse H (512 * i + r.val) : ℝ) : EReal)
  rw [lse]

end forward2048

end Cert.KernelIdeal.Tiles

end
-- ==== Proof.Value.TilesBackward.lean ====
/- What one grid point of the backward attention kernel computes, over the reals. -/
module

public import proofs.«01_k».proof.Proof.Value.Tiles

@[expose] public section

set_option maxRecDepth 16384

noncomputable section

namespace Cert.KernelIdeal.Tiles

open Cert.KernelIdeal Cert.KernelIdeal.Gen Cert.Softmax Idealize.ShloMosaic

variable {H : Head} {i : ℕ} {q : Vec Ideal S1x512x96 .bf16} {g o : Vec Ideal S1x512x64 .f32} {l : Vec Ideal S1x512x1 .f32}

/-! ## What the first point of a head stores before anything else -/

theorem zero_dk : Blk (k1_pay1 (F := Ideal)) 0 (dk H 0) := by
  intro r d
  refine Eq.trans ?_ (show (0 : EReal) = ((dk H 0 (0 + r.val) d.val : ℝ) : EReal) from by rw [dk, Finset.range_zero, Finset.sum_empty, EReal.coe_zero])
  pointwise [k1_pay1]

theorem zero_dv : Blk (k1_pay2 (F := Ideal)) 0 (dv H 0) := by
  intro r d
  refine Eq.trans ?_ (show (0 : EReal) = ((dv H 0 (0 + r.val) d.val : ℝ) : EReal) from by rw [dv, Finset.range_zero, Finset.sum_empty, EReal.coe_zero])
  pointwise [k1_pay2]

/-! ## The backward kernel over the first 512 keys -/

section backward512

variable {k : Vec Ideal S1x512x96 .bf16} {v : Vec Ideal S1x512x64 .bf16} {pv : Vec Ideal S1x512x64 .f32} {pk : Vec Ideal S1x512x96 .f32}

theorem cast_q512 (hq : Blk q (512 * i) H.q) (r : Fin 512) (d : Fin 96) :
    k1_pay15 (F := Ideal) q (ix2 r d) = ((H.q (512 * i + r.val) d.val : ℝ) : EReal) := by
  refine Eq.trans ?_ (hq r d)
  pointwise [k1_pay15]

theorem cast_k512 (hk : Blk k 0 H.k) (j : Fin 512) (d : Fin 96) :
    k1_pay16 (F := Ideal) k (ix2 j d) = ((H.k j.val d.val : ℝ) : EReal) := by
  refine Eq.trans ?_ ((hk j d).trans (by rw [Nat.zero_add]))
  pointwise [k1_pay16]

theorem cast_v512 (hv : Blk v 0 H.v) (j : Fin 512) (d : Fin 64) :
    k1_pay17 (F := Ideal) v (ix2 j d) = ((H.v j.val d.val : ℝ) : EReal) := by
  refine Eq.trans ?_ ((hv j d).trans (by rw [Nat.zero_add]))
  pointwise [k1_pay17]

theorem cast_g512 (hg : Blk g (512 * i) H.g) (r : Fin 512) (d : Fin 64) :
    k1_pay18 (F := Ideal) g (ix2 r d) = ((H.g (512 * i + r.val) d.val : ℝ) : EReal) := by
  refine Eq.trans ?_ (hg r d)
  pointwise [k1_pay18]

theorem trunc_g512 (hg : Blk g (512 * i) H.g) (r : Fin 512) (d : Fin 64) :
    k1_pay20 (F := Ideal) g (ix2 r d) = ((H.g (512 * i + r.val) d.val : ℝ) : EReal) := by
  refine Eq.trans ?_ (cast_g512 hg r d)
  pointwise [k1_pay20]

/-- The tile of probabilities. -/
theorem p512 (hi : i < 4) (hq : Blk q (512 * i) H.q) (hk : Blk k 0 H.k) (hl : Blk l (512 * i) (fun R _ => lse H R)) (r : Fin 512) (j : Fin 512) :
    k1_pay19 (F := Ideal) (BitVec.ofNat 32 i) q k l (ix2 r j) = ((p H (512 * i + r.val) j.val : ℝ) : EReal) := by
  pointwise [k1_pay19]
  rw [mask_word hi r.isLt (by omega), WordCmp.select_decide, ofBits_scale, hl r 0]
  simp only [cast_q512 hq, cast_k512 hk]
  rw [dot_fin 96 (H.q (512 * i + r.val)) (H.k j.val), ← EReal.coe_mul]
  exact prob_row H _ _

/-- The values' gradient of the first 512 keys, one block of queries further. -/
theorem dv512 (hi : i < 4) (hq : Blk q (512 * i) H.q) (hk : Blk k 0 H.k) (hl : Blk l (512 * i) (fun R _ => lse H R)) (hg : Blk g (512 * i) H.g)
    (hp : Blk pv 0 (dv H (512 * i))) : Blk (k1_pay21 (F := Ideal) (BitVec.ofNat 32 i) q k g l pv) 0 (dv H (512 * i + 512)) := by
  intro j d
  pointwise [k1_pay21]
  rw [hp j d]
  simp only [p512 hi hq hk hl, trunc_g512 hg]
  rw [dot_fin 512 (fun x => p H (512 * i + x) j.val) (fun x => H.g (512 * i + x) d.val), ← EReal.coe_add, Nat.zero_add, dv_step]

/-- The tile of the scores' cotangents. -/
theorem ds512 (hi : i < 4) (hq : Blk q (512 * i) H.q) (hk : Blk k 0 H.k) (hv : Blk v 0 H.v) (ho : Blk o (512 * i) (out H)) (hg : Blk g (512 * i) H.g)
    (hl : Blk l (512 * i) (fun R _ => lse H R)) (r : Fin 512) (j : Fin 512) :
    k1_pay3 (F := Ideal) (k1_pay17 v) (k1_pay18 g) (k1_pay19 (BitVec.ofNat 32 i) q k l) (k1_pay20 g) o (ix2 r j)
      = ((ds H (512 * i + r.val) j.val : ℝ) : EReal) := by
  pointwise [k1_pay3]
  unfold Blk at ho
  simp only [p512 hi hq hk hl, cast_v512 hv, cast_g512 hg, trunc_g512 hg, ho]
  rw [dot_fin 64 (H.g (512 * i + r.val)) (H.v j.val), dot_fin 64 (H.g (512 * i + r.val)) (out H (512 * i + r.val)), sum_g_out, ofBits_scale,
    ← EReal.coe_sub, ← EReal.coe_mul, ← EReal.coe_mul]
  rfl

/-- The block of the queries' gradient. -/
theorem dq512 (hi : i < 4) (hn : 512 * i + 512 ≤ 512) (hq : Blk q (512 * i) H.q) (hk : Blk k 0 H.k) (hv : Blk v 0 H.v) (ho : Blk o (512 * i) (out H))
    (hg : Blk g (512 * i) H.g) (hl : Blk l (512 * i) (fun R _ => lse H R)) :
    Blk (k1_pay4 (F := Ideal) (k1_pay16 k) (k1_pay17 v) (k1_pay18 g) (k1_pay19 (BitVec.ofNat 32 i) q k l) (k1_pay20 g) o)
      (512 * i) (dq H) := by
  intro r d
  pointwise [k1_pay4]
  simp only [ds512 hi hq hk hv ho hg hl, cast_k512 hk]
  rw [dot_fin 512 (ds H (512 * i + r.val)) (fun j => H.k j d.val), dq_row H (by omega)]

/-- The keys' gradient of the first 512 keys, one block of queries further. -/
theorem dk512 (hi : i < 4) (hq : Blk q (512 * i) H.q) (hk : Blk k 0 H.k) (hv : Blk v 0 H.v) (ho : Blk o (512 * i) (out H))
    (hg : Blk g (512 * i) H.g) (hl : Blk l (512 * i) (fun R _ => lse H R)) (hp : Blk pk 0 (dk H (512 * i))) :
    Blk (k1_pay5 (F := Ideal) (k1_pay15 q) (k1_pay17 v) (k1_pay18 g) (k1_pay19 (BitVec.ofNat 32 i) q k l) (k1_pay20 g) o pk)
      0 (dk H (512 * i + 512)) := by
  intro j d
  pointwise [k1_pay5]
  rw [hp j d]
  simp only [ds512 hi hq hk hv ho hg hl, cast_q512 hq]
  rw [dot_fin 512 (fun x => ds H (512 * i + x) j.val) (fun x => H.q (512 * i + x) d.val), ← EReal.coe_add, Nat.zero_add, dk_step]

end backward512

/-! ## The backward kernel over the first 1024 keys -/

section backward1024

variable {k : Vec Ideal S1x1024x96 .bf16} {v : Vec Ideal S1x1024x64 .bf16} {pv : Vec Ideal S1x1024x64 .f32} {pk : Vec Ideal S1x1024x96 .f32}

theorem cast_q1024 (hq : Blk q (512 * i) H.q) (r : Fin 512) (d : Fin 96) :
    k1_pay22 (F := Ideal) q (ix2 r d) = ((H.q (512 * i + r.val) d.val : ℝ) : EReal) := by
  refine Eq.trans ?_ (hq r d)
  pointwise [k1_pay22]

theorem cast_k1024 (hk : Blk k 0 H.k) (j : Fin 1024) (d : Fin 96) :
    k1_pay23 (F := Ideal) k (ix2 j d) = ((H.k j.val d.val : ℝ) : EReal) := by
  refine Eq.trans ?_ ((hk j d).trans (by rw [Nat.zero_add]))
  pointwise [k1_pay23]

theorem cast_v1024 (hv : Blk v 0 H.v) (j : Fin 1024) (d : Fin 64) :
    k1_pay24 (F := Ideal) v (ix2 j d) = ((H.v j.val d.val : ℝ) : EReal) := by
  refine Eq.trans ?_ ((hv j d).trans (by rw [Nat.zero_add]))
  pointwise [k1_pay24]

theorem cast_g1024 (hg : Blk g (512 * i) H.g) (r : Fin 512) (d : Fin 64) :
    k1_pay25 (F := Ideal) g (ix2 r d) = ((H.g (512 * i + r.val) d.val : ℝ) : EReal) := by
  refine Eq.trans ?_ (hg r d)
  pointwise [k1_pay25]

theorem trunc_g1024 (hg : Blk g (512 * i) H.g) (r : Fin 512) (d : Fin 64) :
    k1_pay27 (F := Ideal) g (ix2 r d) = ((H.g (512 * i + r.val) d.val : ℝ) : EReal) := by
  refine Eq.trans ?_ (cast_g1024 hg r d)
  pointwise [k1_pay27]

/-- The tile of probabilities. -/
theorem p1024 (hi : i < 4) (hq : Blk q (512 * i) H.q) (hk : Blk k 0 H.k) (hl : Blk l (512 * i) (fun R _ => lse H R)) (r : Fin 512) (j : Fin 1024) :
    k1_pay26 (F := Ideal) (BitVec.ofNat 32 i) q k l (ix2 r j) = ((p H (512 * i + r.val) j.val : ℝ) : EReal) := by
  pointwise [k1_pay26]
  rw [mask_word hi r.isLt (by omega), WordCmp.select_decide, ofBits_scale, hl r 0]
  simp only [cast_q1024 hq, cast_k1024 hk]
  rw [dot_fin 96 (H.q (512 * i + r.val)) (H.k j.val), ← EReal.coe_mul]
  exact prob_row H _ _

/-- The values' gradient of the first 1024 keys, one block of queries further. -/
theorem dv1024 (hi : i < 4) (hq : Blk q (512 * i) H.q) (hk : Blk k 0 H.k) (hl : Blk l (512 * i) (fun R _ => lse H R)) (hg : Blk g (512 * i) H.g)
    (hp : Blk pv 0 (dv H (512 * i))) : Blk (k1_pay28 (F := Ideal) (BitVec.ofNat 32 i) q k g l pv) 0 (dv H (512 * i + 512)) := by
  intro j d
  pointwise [k1_pay28]
  rw [hp j d]
  simp only [p1024 hi hq hk hl, trunc_g1024 hg]
  rw [dot_fin 512 (fun x => p H (512 * i + x) j.val) (fun x => H.g (512 * i + x) d.val), ← EReal.coe_add, Nat.zero_add, dv_step]

/-- The tile of the scores' cotangents. -/
theorem ds1024 (hi : i < 4) (hq : Blk q (512 * i) H.q) (hk : Blk k 0 H.k) (hv : Blk v 0 H.v) (ho : Blk o (512 * i) (out H)) (hg : Blk g (512 * i) H.g)
    (hl : Blk l (512 * i) (fun R _ => lse H R)) (r : Fin 512) (j : Fin 1024) :
    k1_pay6 (F := Ideal) (k1_pay24 v) (k1_pay25 g) (k1_pay26 (BitVec.ofNat 32 i) q k l) (k1_pay27 g) o (ix2 r j)
      = ((ds H (512 * i + r.val) j.val : ℝ) : EReal) := by
  pointwise [k1_pay6]
  unfold Blk at ho
  simp only [p1024 hi hq hk hl, cast_v1024 hv, cast_g1024 hg, trunc_g1024 hg, ho]
  rw [dot_fin 64 (H.g (512 * i + r.val)) (H.v j.val), dot_fin 64 (H.g (512 * i + r.val)) (out H (512 * i + r.val)), sum_g_out, ofBits_scale,
    ← EReal.coe_sub, ← EReal.coe_mul, ← EReal.coe_mul]
  rfl

/-- The block of the queries' gradient. -/
theorem dq1024 (hi : i < 4) (hn : 512 * i + 512 ≤ 1024) (hq : Blk q (512 * i) H.q) (hk : Blk k 0 H.k) (hv : Blk v 0 H.v) (ho : Blk o (512 * i) (out H))
    (hg : Blk g (512 * i) H.g) (hl : Blk l (512 * i) (fun R _ => lse H R)) :
    Blk (k1_pay7 (F := Ideal) (k1_pay23 k) (k1_pay24 v) (k1_pay25 g) (k1_pay26 (BitVec.ofNat 32 i) q k l) (k1_pay27 g) o)
      (512 * i) (dq H) := by
  intro r d
  pointwise [k1_pay7]
  simp only [ds1024 hi hq hk hv ho hg hl, cast_k1024 hk]
  rw [dot_fin 1024 (ds H (512 * i + r.val)) (fun j => H.k j d.val), dq_row H (by omega)]

/-- The keys' gradient of the first 1024 keys, one block of queries further. -/
theorem dk1024 (hi : i < 4) (hq : Blk q (512 * i) H.q) (hk : Blk k 0 H.k) (hv : Blk v 0 H.v) (ho : Blk o (512 * i) (out H))
    (hg : Blk g (512 * i) H.g) (hl : Blk l (512 * i) (fun R _ => lse H R)) (hp : Blk pk 0 (dk H (512 * i))) :
    Blk (k1_pay8 (F := Ideal) (k1_pay22 q) (k1_pay24 v) (k1_pay25 g) (k1_pay26 (BitVec.ofNat 32 i) q k l) (k1_pay27 g) o pk)
      0 (dk H (512 * i + 512)) := by
  intro j d
  pointwise [k1_pay8]
  rw [hp j d]
  simp only [ds1024 hi hq hk hv ho hg hl, cast_q1024 hq]
  rw [dot_fin 512 (fun x => ds H (512 * i + x) j.val) (fun x => H.q (512 * i + x) d.val), ← EReal.coe_add, Nat.zero_add, dk_step]

end backward1024

/-! ## The backward kernel over the first 1536 keys -/

section backward1536

variable {k : Vec Ideal S1x1536x96 .bf16} {v : Vec Ideal S1x1536x64 .bf16} {pv : Vec Ideal S1x1536x64 .f32} {pk : Vec Ideal S1x1536x96 .f32}

theorem cast_q1536 (hq : Blk q (512 * i) H.q) (r : Fin 512) (d : Fin 96) :
    k1_pay29 (F := Ideal) q (ix2 r d) = ((H.q (512 * i + r.val) d.val : ℝ) : EReal) := by
  refine Eq.trans ?_ (hq r d)
  pointwise [k1_pay29]

theorem cast_k1536 (hk : Blk k 0 H.k) (j : Fin 1536) (d : Fin 96) :
    k1_pay30 (F := Ideal) k (ix2 j d) = ((H.k j.val d.val : ℝ) : EReal) := by
  refine Eq.trans ?_ ((hk j d).trans (by rw [Nat.zero_add]))
  pointwise [k1_pay30]

theorem cast_v1536 (hv : Blk v 0 H.v) (j : Fin 1536) (d : Fin 64) :
    k1_pay31 (F := Ideal) v (ix2 j d) = ((H.v j.val d.val : ℝ) : EReal) := by
  refine Eq.trans ?_ ((hv j d).trans (by rw [Nat.zero_add]))
  pointwise [k1_pay31]

theorem cast_g1536 (hg : Blk g (512 * i) H.g) (r : Fin 512) (d : Fin 64) :
    k1_pay32 (F := Ideal) g (ix2 r d) = ((H.g (512 * i + r.val) d.val : ℝ) : EReal) := by
  refine Eq.trans ?_ (hg r d)
  pointwise [k1_pay32]

theorem trunc_g1536 (hg : Blk g (512 * i) H.g) (r : Fin 512) (d : Fin 64) :
    k1_pay34 (F := Ideal) g (ix2 r d) = ((H.g (512 * i + r.val) d.val : ℝ) : EReal) := by
  refine Eq.trans ?_ (cast_g1536 hg r d)
  pointwise [k1_pay34]

/-- The tile of probabilities. -/
theorem p1536 (hi : i < 4) (hq : Blk q (512 * i) H.q) (hk : Blk k 0 H.k) (hl : Blk l (512 * i) (fun R _ => lse H R)) (r : Fin 512) (j : Fin 1536) :
    k1_pay33 (F := Ideal) (BitVec.ofNat 32 i) q k l (ix2 r j) = ((p H (512 * i + r.val) j.val : ℝ) : EReal) := by
  pointwise [k1_pay33]
  rw [mask_word hi r.isLt (by omega), WordCmp.select_decide, ofBits_scale, hl r 0]
  simp only [cast_q1536 hq, cast_k1536 hk]
  rw [dot_fin 96 (H.q (512 * i + r.val)) (H.k j.val), ← EReal.coe_mul]
  exact prob_row H _ _

/-- The values' gradient of the first 1536 keys, one block of queries further. -/
theorem dv1536 (hi : i < 4) (hq : Blk q (512 * i) H.q) (hk : Blk k 0 H.k) (hl : Blk l (512 * i) (fun R _ => lse H R)) (hg : Blk g (512 * i) H.g)
    (hp : Blk pv 0 (dv H (512 * i))) : Blk (k1_pay35 (F := Ideal) (BitVec.ofNat 32 i) q k g l pv) 0 (dv H (512 * i + 512)) := by
  intro j d
  pointwise [k1_pay35]
  rw [hp j d]
  simp only [p1536 hi hq hk hl, trunc_g1536 hg]
  rw [dot_fin 512 (fun x => p H (512 * i + x) j.val) (fun x => H.g (512 * i + x) d.val), ← EReal.coe_add, Nat.zero_add, dv_step]

/-- The tile of the scores' cotangents. -/
theorem ds1536 (hi : i < 4) (hq : Blk q (512 * i) H.q) (hk : Blk k 0 H.k) (hv : Blk v 0 H.v) (ho : Blk o (512 * i) (out H)) (hg : Blk g (512 * i) H.g)
    (hl : Blk l (512 * i) (fun R _ => lse H R)) (r : Fin 512) (j : Fin 1536) :
    k1_pay9 (F := Ideal) (k1_pay31 v) (k1_pay32 g) (k1_pay33 (BitVec.ofNat 32 i) q k l) (k1_pay34 g) o (ix2 r j)
      = ((ds H (512 * i + r.val) j.val : ℝ) : EReal) := by
  pointwise [k1_pay9]
  unfold Blk at ho
  simp only [p1536 hi hq hk hl, cast_v1536 hv, cast_g1536 hg, trunc_g1536 hg, ho]
  rw [dot_fin 64 (H.g (512 * i + r.val)) (H.v j.val), dot_fin 64 (H.g (512 * i + r.val)) (out H (512 * i + r.val)), sum_g_out, ofBits_scale,
    ← EReal.coe_sub, ← EReal.coe_mul, ← EReal.coe_mul]
  rfl

/-- The block of the queries' gradient. -/
theorem dq1536 (hi : i < 4) (hn : 512 * i + 512 ≤ 1536) (hq : Blk q (512 * i) H.q) (hk : Blk k 0 H.k) (hv : Blk v 0 H.v) (ho : Blk o (512 * i) (out H))
    (hg : Blk g (512 * i) H.g) (hl : Blk l (512 * i) (fun R _ => lse H R)) :
    Blk (k1_pay10 (F := Ideal) (k1_pay30 k) (k1_pay31 v) (k1_pay32 g) (k1_pay33 (BitVec.ofNat 32 i) q k l) (k1_pay34 g) o)
      (512 * i) (dq H) := by
  intro r d
  pointwise [k1_pay10]
  simp only [ds1536 hi hq hk hv ho hg hl, cast_k1536 hk]
  rw [dot_fin 1536 (ds H (512 * i + r.val)) (fun j => H.k j d.val), dq_row H (by omega)]

/-- The keys' gradient of the first 1536 keys, one block of queries further. -/
theorem dk1536 (hi : i < 4) (hq : Blk q (512 * i) H.q) (hk : Blk k 0 H.k) (hv : Blk v 0 H.v) (ho : Blk o (512 * i) (out H))
    (hg : Blk g (512 * i) H.g) (hl : Blk l (512 * i) (fun R _ => lse H R)) (hp : Blk pk 0 (dk H (512 * i))) :
    Blk (k1_pay11 (F := Ideal) (k1_pay29 q) (k1_pay31 v) (k1_pay32 g) (k1_pay33 (BitVec.ofNat 32 i) q k l) (k1_pay34 g) o pk)
      0 (dk H (512 * i + 512)) := by
  intro j d
  pointwise [k1_pay11]
  rw [hp j d]
  simp only [ds1536 hi hq hk hv ho hg hl, cast_q1536 hq]
  rw [dot_fin 512 (fun x => ds H (512 * i + x) j.val) (fun x => H.q (512 * i + x) d.val), ← EReal.coe_add, Nat.zero_add, dk_step]

end backward1536

/-! ## The backward kernel over the first 2048 keys -/

section backward2048

variable {k : Vec Ideal S1x2048x96 .bf16} {v : Vec Ideal S1x2048x64 .bf16} {pv : Vec Ideal S1x2048x64 .f32} {pk : Vec Ideal S1x2048x96 .f32}

theorem cast_q2048 (hq : Blk q (512 * i) H.q) (r : Fin 512) (d : Fin 96) :
    k1_pay36 (F := Ideal) q (ix2 r d) = ((H.q (512 * i + r.val) d.val : ℝ) : EReal) := by
  refine Eq.trans ?_ (hq r d)
  pointwise [k1_pay36]

theorem cast_k2048 (hk : Blk k 0 H.k) (j : Fin 2048) (d : Fin 96) :
    k1_pay37 (F := Ideal) k (ix2 j d) = ((H.k j.val d.val : ℝ) : EReal) := by
  refine Eq.trans ?_ ((hk j d).trans (by rw [Nat.zero_add]))
  pointwise [k1_pay37]

theorem cast_v2048 (hv : Blk v 0 H.v) (j : Fin 2048) (d : Fin 64) :
    k1_pay38 (F := Ideal) v (ix2 j d) = ((H.v j.val d.val : ℝ) : EReal) := by
  refine Eq.trans ?_ ((hv j d).trans (by rw [Nat.zero_add]))
  pointwise [k1_pay38]

theorem cast_g2048 (hg : Blk g (512 * i) H.g) (r : Fin 512) (d : Fin 64) :
    k1_pay39 (F := Ideal) g (ix2 r d) = ((H.g (512 * i + r.val) d.val : ℝ) : EReal) := by
  refine Eq.trans ?_ (hg r d)
  pointwise [k1_pay39]

theorem trunc_g2048 (hg : Blk g (512 * i) H.g) (r : Fin 512) (d : Fin 64) :
    k1_pay41 (F := Ideal) g (ix2 r d) = ((H.g (512 * i + r.val) d.val : ℝ) : EReal) := by
  refine Eq.trans ?_ (cast_g2048 hg r d)
  pointwise [k1_pay41]

/-- The tile of probabilities. -/
theorem p2048 (hi : i < 4) (hq : Blk q (512 * i) H.q) (hk : Blk k 0 H.k) (hl : Blk l (512 * i) (fun R _ => lse H R)) (r : Fin 512) (j : Fin 2048) :
    k1_pay40 (F := Ideal) (BitVec.ofNat 32 i) q k l (ix2 r j) = ((p H (512 * i + r.val) j.val : ℝ) : EReal) := by
  pointwise [k1_pay40]
  rw [mask_word hi r.isLt (by omega), WordCmp.select_decide, ofBits_scale, hl r 0]
  simp only [cast_q2048 hq, cast_k2048 hk]
  rw [dot_fin 96 (H.q (512 * i + r.val)) (H.k j.val), ← EReal.coe_mul]
  exact prob_row H _ _

/-- The values' gradient of the first 2048 keys, one block of queries further. -/
theorem dv2048 (hi : i < 4) (hq : Blk q (512 * i) H.q) (hk : Blk k 0 H.k) (hl : Blk l (512 * i) (fun R _ => lse H R)) (hg : Blk g (512 * i) H.g)
    (hp : Blk pv 0 (dv H (512 * i))) : Blk (k1_pay42 (F := Ideal) (BitVec.ofNat 32 i) q k g l pv) 0 (dv H (512 * i + 512)) := by
  intro j d
  pointwise [k1_pay42]
  rw [hp j d]
  simp only [p2048 hi hq hk hl, trunc_g2048 hg]
  rw [dot_fin 512 (fun x => p H (512 * i + x) j.val) (fun x => H.g (512 * i + x) d.val), ← EReal.coe_add, Nat.zero_add, dv_step]

/-- The tile of the scores' cotangents. -/
theorem ds2048 (hi : i < 4) (hq : Blk q (512 * i) H.q) (hk : Blk k 0 H.k) (hv : Blk v 0 H.v) (ho : Blk o (512 * i) (out H)) (hg : Blk g (512 * i) H.g)
    (hl : Blk l (512 * i) (fun R _ => lse H R)) (r : Fin 512) (j : Fin 2048) :
    k1_pay12 (F := Ideal) (k1_pay38 v) (k1_pay39 g) (k1_pay40 (BitVec.ofNat 32 i) q k l) (k1_pay41 g) o (ix2 r j)
      = ((ds H (512 * i + r.val) j.val : ℝ) : EReal) := by
  pointwise [k1_pay12]
  unfold Blk at ho
  simp only [p2048 hi hq hk hl, cast_v2048 hv, cast_g2048 hg, trunc_g2048 hg, ho]
  rw [dot_fin 64 (H.g (512 * i + r.val)) (H.v j.val), dot_fin 64 (H.g (512 * i + r.val)) (out H (512 * i + r.val)), sum_g_out, ofBits_scale,
    ← EReal.coe_sub, ← EReal.coe_mul, ← EReal.coe_mul]
  rfl

/-- The block of the queries' gradient. -/
theorem dq2048 (hi : i < 4) (hn : 512 * i + 512 ≤ 2048) (hq : Blk q (512 * i) H.q) (hk : Blk k 0 H.k) (hv : Blk v 0 H.v) (ho : Blk o (512 * i) (out H))
    (hg : Blk g (512 * i) H.g) (hl : Blk l (512 * i) (fun R _ => lse H R)) :
    Blk (k1_pay13 (F := Ideal) (k1_pay37 k) (k1_pay38 v) (k1_pay39 g) (k1_pay40 (BitVec.ofNat 32 i) q k l) (k1_pay41 g) o)
      (512 * i) (dq H) := by
  intro r d
  pointwise [k1_pay13]
  simp only [ds2048 hi hq hk hv ho hg hl, cast_k2048 hk]
  rw [dot_fin 2048 (ds H (512 * i + r.val)) (fun j => H.k j d.val), dq_row H (by omega)]

/-- The keys' gradient of the first 2048 keys, one block of queries further. -/
theorem dk2048 (hi : i < 4) (hq : Blk q (512 * i) H.q) (hk : Blk k 0 H.k) (hv : Blk v 0 H.v) (ho : Blk o (512 * i) (out H))
    (hg : Blk g (512 * i) H.g) (hl : Blk l (512 * i) (fun R _ => lse H R)) (hp : Blk pk 0 (dk H (512 * i))) :
    Blk (k1_pay14 (F := Ideal) (k1_pay36 q) (k1_pay38 v) (k1_pay39 g) (k1_pay40 (BitVec.ofNat 32 i) q k l) (k1_pay41 g) o pk)
      0 (dk H (512 * i + 512)) := by
  intro j d
  pointwise [k1_pay14]
  rw [hp j d]
  simp only [ds2048 hi hq hk hv ho hg hl, cast_q2048 hq]
  rw [dot_fin 512 (fun x => ds H (512 * i + x) j.val) (fun x => H.q (512 * i + x) d.val), ← EReal.coe_add, Nat.zero_add, dk_step]

end backward2048

end Cert.KernelIdeal.Tiles

end
-- ==== Proof.Attn.Forward.lean ====
/- The forward call of the attention as one region of the program: what each grid point finds in its windows, the four cases of its
   branches (one per block of 512 queries), what the body leaves in `o` and `lse` in each, and the proof data of the region at any entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_mla_attn_fwd` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 4) — by arithmetic of the point. -/
theorem hcond0_0 : ∀ t : Fin cfg0.N, cond0_0 (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

abbrev cond0_1 (i : grid0.Coords) : Prop := k0_cond2 i = 1#1
theorem hcond0_1 : ∀ t : Fin cfg0.N, cond0_1 (grid0.coords t) ↔ t.val % 4 = 1 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 1)

abbrev cond0_2 (i : grid0.Coords) : Prop := k0_cond3 i = 1#1
theorem hcond0_2 : ∀ t : Fin cfg0.N, cond0_2 (grid0.coords t) ↔ t.val % 4 = 2 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 4 = 2)

abbrev cond0_3 (i : grid0.Coords) : Prop := k0_cond4 i = 1#1
theorem hcond0_3 : ∀ t : Fin cfg0.N, cond0_3 (grid0.coords t) ↔ t.val % 4 = 3 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_3, k0_cond4, e0, e1]
    word_cmp
   : ∀ t : Fin grid0.N, cond0_3 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ ¬cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
abbrev conds0_B (i : grid0.Coords) : Prop := ¬cond0_0 i ∧ cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
abbrev conds0_D (i : grid0.Coords) : Prop := ¬cond0_0 i ∧ ¬cond0_1 i ∧ ¬cond0_2 i ∧ cond0_3 i
instance conds0_D.dec (i : grid0.Coords) : Decidable (conds0_D i) :=
  @instDecidableAnd _ _ inferInstance (@instDecidableAnd _ _ inferInstance (@instDecidableAnd _ _ inferInstance inferInstance))
/-- At the points of case A the printed configuration (`Cfg.idle`) calls output 3 live: the case stores into it. -/
theorem liveAt0_3_A : ∀ t : Fin cfg0.N, cond0_0 (grid0.coords t) → ¬cond0_1 (grid0.coords t) → ¬cond0_2 (grid0.coords t) → ¬cond0_3 (grid0.coords t) → cfg0.idle 3 (grid0.coords t) = false :=
  fun t h0 h1 h2 h3 => (by decide +kernel : ∀ t : Fin cfg0.N, conds0_A (grid0.coords t) → cfg0.idle 3 (grid0.coords t) = false) t ⟨h0, h1, h2, h3⟩
theorem liveAt0_3_B : ∀ t : Fin cfg0.N, ¬cond0_0 (grid0.coords t) → cond0_1 (grid0.coords t) → ¬cond0_2 (grid0.coords t) → ¬cond0_3 (grid0.coords t) → cfg0.idle 3 (grid0.coords t) = false :=
  fun t h0 h1 h2 h3 => (by decide +kernel : ∀ t : Fin cfg0.N, conds0_B (grid0.coords t) → cfg0.idle 3 (grid0.coords t) = false) t ⟨h0, h1, h2, h3⟩
theorem liveAt0_3_C : ∀ t : Fin cfg0.N, ¬cond0_0 (grid0.coords t) → ¬cond0_1 (grid0.coords t) → cond0_2 (grid0.coords t) → ¬cond0_3 (grid0.coords t) → cfg0.idle 3 (grid0.coords t) = false :=
  fun t h0 h1 h2 h3 => (by decide +kernel : ∀ t : Fin cfg0.N, conds0_C (grid0.coords t) → cfg0.idle 3 (grid0.coords t) = false) t ⟨h0, h1, h2, h3⟩
theorem liveAt0_3_D : ∀ t : Fin cfg0.N, ¬cond0_0 (grid0.coords t) → ¬cond0_1 (grid0.coords t) → ¬cond0_2 (grid0.coords t) → cond0_3 (grid0.coords t) → cfg0.idle 3 (grid0.coords t) = false :=
  fun t h0 h1 h2 h3 => (by decide +kernel : ∀ t : Fin cfg0.N, conds0_D (grid0.coords t) → cfg0.idle 3 (grid0.coords t) = false) t ⟨h0, h1, h2, h3⟩
theorem liveAt0_4_A : ∀ t : Fin cfg0.N, cond0_0 (grid0.coords t) → ¬cond0_1 (grid0.coords t) → ¬cond0_2 (grid0.coords t) → ¬cond0_3 (grid0.coords t) → cfg0.idle 4 (grid0.coords t) = false :=
  fun t h0 h1 h2 h3 => (by decide +kernel : ∀ t : Fin cfg0.N, conds0_A (grid0.coords t) → cfg0.idle 4 (grid0.coords t) = false) t ⟨h0, h1, h2, h3⟩
theorem liveAt0_4_B : ∀ t : Fin cfg0.N, ¬cond0_0 (grid0.coords t) → cond0_1 (grid0.coords t) → ¬cond0_2 (grid0.coords t) → ¬cond0_3 (grid0.coords t) → cfg0.idle 4 (grid0.coords t) = false :=
  fun t h0 h1 h2 h3 => (by decide +kernel : ∀ t : Fin cfg0.N, conds0_B (grid0.coords t) → cfg0.idle 4 (grid0.coords t) = false) t ⟨h0, h1, h2, h3⟩
theorem liveAt0_4_C : ∀ t : Fin cfg0.N, ¬cond0_0 (grid0.coords t) → ¬cond0_1 (grid0.coords t) → cond0_2 (grid0.coords t) → ¬cond0_3 (grid0.coords t) → cfg0.idle 4 (grid0.coords t) = false :=
  fun t h0 h1 h2 h3 => (by decide +kernel : ∀ t : Fin cfg0.N, conds0_C (grid0.coords t) → cfg0.idle 4 (grid0.coords t) = false) t ⟨h0, h1, h2, h3⟩
theorem liveAt0_4_D : ∀ t : Fin cfg0.N, ¬cond0_0 (grid0.coords t) → ¬cond0_1 (grid0.coords t) → ¬cond0_2 (grid0.coords t) → cond0_3 (grid0.coords t) → cfg0.idle 4 (grid0.coords t) = false :=
  fun t h0 h1 h2 h3 => (by decide +kernel : ∀ t : Fin cfg0.N, conds0_D (grid0.coords t) → cfg0.idle 4 (grid0.coords t) = false) t ⟨h0, h1, h2, h3⟩

/-! ## The kernel body on any staging memrefs: a subtype the run finds -/

/-- One staging buffer of output window 3, through which its contents are stated (`View.read_writes_of_cover`: the
    choice does not matter). -/
abbrev VO0_3 : View sig .tc .vmem S1x512x64 .f32 := (Memref.whole cc0_stg3_0 : Memref sig .tc .vmem S1x512x64 .f32).view
abbrev VO0_4 : View sig .tc .vmem S1x512x1 .f32 := (Memref.whole cc0_stg4_0 : Memref sig .tc .vmem S1x512x1 .f32).view
/-- Each window's current staging memref at point `t`, spelled as the pipeline passes it (`bodyAt0`), and its wholeness. -/
abbrev ms0_0 (t : Fin cfg0.N) : Memref sig .tc .vmem S1x512x96 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x96 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x1 .f32 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken, `scf.if` 3 not taken: points 0, 4, … 60: 16 of 64), WITH the
    proof that on whole staging memrefs — the inputs' at their contents, the other outputs' at
    anything, the body runs to the continuation holding the inputs' as they were,
    each output's buffer with its pieces written. Each branch is decided by the case's hypotheses `hc·`; the pieces are what the run finds. -/
noncomputable def kernelRun0_A (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : cond0_0 i) (hc1 : ¬cond0_1 i) (hc2 : ¬cond0_2 i) (hc3 : ¬cond0_3 i)
    (x0 : Vec F S1x512x96 .bf16) (x1 : Vec F S1x2048x96 .bf16) (x2 : Vec F S1x2048x64 .bf16) :
    Σ' (L3 : List (View.Piece (Elt F) S1x512x64 .f32)), { L4 : List (View.Piece (Elt F) S1x512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_mla_attn_fwd i arg2 harg2 arg3 harg3 arg4 harg4 arg5 harg5 arg6 harg6) K } := by
  refine ⟨?_, ?_, fun E K => ?run⟩
  case run =>
    simp only [cc0_mla_attn_fwd_eq_skeleton]; unfold cc0_mla_attn_fwd_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- Case A's pieces for output 3 tile its block (1 store of `S1x512x64`, checked by the kernel's evaluation: Lib/Ring.lean `Piece.tiledL`, linear in the pieces, through a loop's `@[irreducible]` trip theorem too), so they cover it. -/
theorem cover0_A_3 (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : cond0_0 i) (hc1 : ¬cond0_1 i) (hc2 : ¬cond0_2 i) (hc3 : ¬cond0_3 i)
    (x0 : Vec F S1x512x96 .bf16) (x1 : Vec F S1x2048x96 .bf16) (x2 : Vec F S1x2048x64 .bf16) (y : S1x512x64.Idx) :
    ∃ pc ∈ (kernelRun0_A c i arg2 harg2 arg3 harg3 arg4 harg4 arg5 harg5 arg6 harg6 hc0 hc1 hc2 hc3 x0 x1 x2).1, y ∈ pc.1.set :=
  View.cover_of_tiledL (kernelRun0_A c i arg2 harg2 arg3 harg3 arg4 harg4 arg5 harg5 arg6 harg6 hc0 hc1 hc2 hc3 x0 x1 x2).1 S1x512x64.size (by sl_kernel_rfl) y

/-- What case A leaves in output 3's staging buffer: its pieces read back over junk. -/
def out0_A_3 (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : cond0_0 i) (hc1 : ¬cond0_1 i) (hc2 : ¬cond0_2 i) (hc3 : ¬cond0_3 i)
    (x0 : Vec F S1x512x96 .bf16) (x1 : Vec F S1x2048x96 .bf16) (x2 : Vec F S1x2048x64 .bf16) : Vec F S1x512x64 .f32 :=
  VO0_3.read (Elt F) (VO0_3.writes (Elt F) VO0_3.junk (kernelRun0_A c i arg2 harg2 arg3 harg3 arg4 harg4 arg5 harg5 arg6 harg6 hc0 hc1 hc2 hc3 x0 x1 x2).1)

theorem cover0_A_4 (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : cond0_0 i) (hc1 : ¬cond0_1 i) (hc2 : ¬cond0_2 i) (hc3 : ¬cond0_3 i)
    (x0 : Vec F S1x512x96 .bf16) (x1 : Vec F S1x2048x96 .bf16) (x2 : Vec F S1x2048x64 .bf16) (y : S1x512x1.Idx) :
    ∃ pc ∈ (kernelRun0_A c i arg2 harg2 arg3 harg3 arg4 harg4 arg5 harg5 arg6 harg6 hc0 hc1 hc2 hc3 x0 x1 x2).2.1, y ∈ pc.1.set :=
  View.cover_of_tiledL (kernelRun0_A c i arg2 harg2 arg3 harg3 arg4 harg4 arg5 harg5 arg6 harg6 hc0 hc1 hc2 hc3 x0 x1 x2).2.1 S1x512x1.size (by sl_kernel_rfl) y

def out0_A_4 (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : cond0_0 i) (hc1 : ¬cond0_1 i) (hc2 : ¬cond0_2 i) (hc3 : ¬cond0_3 i)
    (x0 : Vec F S1x512x96 .bf16) (x1 : Vec F S1x2048x96 .bf16) (x2 : Vec F S1x2048x64 .bf16) : Vec F S1x512x1 .f32 :=
  VO0_4.read (Elt F) (VO0_4.writes (Elt F) VO0_4.junk (kernelRun0_A c i arg2 harg2 arg3 harg3 arg4 harg4 arg5 harg5 arg6 harg6 hc0 hc1 hc2 hc3 x0 x1 x2).2.1)

-- (the run's proof term is large: the definition's epilogue — `abstractNestedProofs` — walks it past the default budget)
set_option maxHeartbeats 1000000 in
noncomputable def kernelRun0_B (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : ¬cond0_0 i) (hc1 : cond0_1 i) (hc2 : ¬cond0_2 i) (hc3 : ¬cond0_3 i)
    (x0 : Vec F S1x512x96 .bf16) (x1 : Vec F S1x2048x96 .bf16) (x2 : Vec F S1x2048x64 .bf16) :
    Σ' (L3 : List (View.Piece (Elt F) S1x512x64 .f32)), { L4 : List (View.Piece (Elt F) S1x512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_mla_attn_fwd i arg2 harg2 arg3 harg3 arg4 harg4 arg5 harg5 arg6 harg6) K } := by
  refine ⟨?_, ?_, fun E K => ?run⟩
  case run =>
    simp only [cc0_mla_attn_fwd_eq_skeleton]; unfold cc0_mla_attn_fwd_skel
    simp only [k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

theorem cover0_B_3 (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : ¬cond0_0 i) (hc1 : cond0_1 i) (hc2 : ¬cond0_2 i) (hc3 : ¬cond0_3 i)
    (x0 : Vec F S1x512x96 .bf16) (x1 : Vec F S1x2048x96 .bf16) (x2 : Vec F S1x2048x64 .bf16) (y : S1x512x64.Idx) :
    ∃ pc ∈ (kernelRun0_B c i arg2 harg2 arg3 harg3 arg4 harg4 arg5 harg5 arg6 harg6 hc0 hc1 hc2 hc3 x0 x1 x2).1, y ∈ pc.1.set :=
  View.cover_of_tiledL (kernelRun0_B c i arg2 harg2 arg3 harg3 arg4 harg4 arg5 harg5 arg6 harg6 hc0 hc1 hc2 hc3 x0 x1 x2).1 S1x512x64.size (by sl_kernel_rfl) y

def out0_B_3 (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : ¬cond0_0 i) (hc1 : cond0_1 i) (hc2 : ¬cond0_2 i) (hc3 : ¬cond0_3 i)
    (x0 : Vec F S1x512x96 .bf16) (x1 : Vec F S1x2048x96 .bf16) (x2 : Vec F S1x2048x64 .bf16) : Vec F S1x512x64 .f32 :=
  VO0_3.read (Elt F) (VO0_3.writes (Elt F) VO0_3.junk (kernelRun0_B c i arg2 harg2 arg3 harg3 arg4 harg4 arg5 harg5 arg6 harg6 hc0 hc1 hc2 hc3 x0 x1 x2).1)

theorem cover0_B_4 (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : ¬cond0_0 i) (hc1 : cond0_1 i) (hc2 : ¬cond0_2 i) (hc3 : ¬cond0_3 i)
    (x0 : Vec F S1x512x96 .bf16) (x1 : Vec F S1x2048x96 .bf16) (x2 : Vec F S1x2048x64 .bf16) (y : S1x512x1.Idx) :
    ∃ pc ∈ (kernelRun0_B c i arg2 harg2 arg3 harg3 arg4 harg4 arg5 harg5 arg6 harg6 hc0 hc1 hc2 hc3 x0 x1 x2).2.1, y ∈ pc.1.set :=
  View.cover_of_tiledL (kernelRun0_B c i arg2 harg2 arg3 harg3 arg4 harg4 arg5 harg5 arg6 harg6 hc0 hc1 hc2 hc3 x0 x1 x2).2.1 S1x512x1.size (by sl_kernel_rfl) y

def out0_B_4 (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : ¬cond0_0 i) (hc1 : cond0_1 i) (hc2 : ¬cond0_2 i) (hc3 : ¬cond0_3 i)
    (x0 : Vec F S1x512x96 .bf16) (x1 : Vec F S1x2048x96 .bf16) (x2 : Vec F S1x2048x64 .bf16) : Vec F S1x512x1 .f32 :=
  VO0_4.read (Elt F) (VO0_4.writes (Elt F) VO0_4.junk (kernelRun0_B c i arg2 harg2 arg3 harg3 arg4 harg4 arg5 harg5 arg6 harg6 hc0 hc1 hc2 hc3 x0 x1 x2).2.1)

-- (the run's proof term is large: the definition's epilogue — `abstractNestedProofs` — walks it past the default budget)
set_option maxHeartbeats 1000000 in
noncomputable def kernelRun0_C (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : ¬cond0_0 i) (hc1 : ¬cond0_1 i) (hc2 : cond0_2 i) (hc3 : ¬cond0_3 i)
    (x0 : Vec F S1x512x96 .bf16) (x1 : Vec F S1x2048x96 .bf16) (x2 : Vec F S1x2048x64 .bf16) :
    Σ' (L3 : List (View.Piece (Elt F) S1x512x64 .f32)), { L4 : List (View.Piece (Elt F) S1x512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_mla_attn_fwd i arg2 harg2 arg3 harg3 arg4 harg4 arg5 harg5 arg6 harg6) K } := by
  refine ⟨?_, ?_, fun E K => ?run⟩
  case run =>
    simp only [cc0_mla_attn_fwd_eq_skeleton]; unfold cc0_mla_attn_fwd_skel
    simp only [k0_part3_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

theorem cover0_C_3 (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : ¬cond0_0 i) (hc1 : ¬cond0_1 i) (hc2 : cond0_2 i) (hc3 : ¬cond0_3 i)
    (x0 : Vec F S1x512x96 .bf16) (x1 : Vec F S1x2048x96 .bf16) (x2 : Vec F S1x2048x64 .bf16) (y : S1x512x64.Idx) :
    ∃ pc ∈ (kernelRun0_C c i arg2 harg2 arg3 harg3 arg4 harg4 arg5 harg5 arg6 harg6 hc0 hc1 hc2 hc3 x0 x1 x2).1, y ∈ pc.1.set :=
  View.cover_of_tiledL (kernelRun0_C c i arg2 harg2 arg3 harg3 arg4 harg4 arg5 harg5 arg6 harg6 hc0 hc1 hc2 hc3 x0 x1 x2).1 S1x512x64.size (by sl_kernel_rfl) y

def out0_C_3 (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : ¬cond0_0 i) (hc1 : ¬cond0_1 i) (hc2 : cond0_2 i) (hc3 : ¬cond0_3 i)
    (x0 : Vec F S1x512x96 .bf16) (x1 : Vec F S1x2048x96 .bf16) (x2 : Vec F S1x2048x64 .bf16) : Vec F S1x512x64 .f32 :=
  VO0_3.read (Elt F) (VO0_3.writes (Elt F) VO0_3.junk (kernelRun0_C c i arg2 harg2 arg3 harg3 arg4 harg4 arg5 harg5 arg6 harg6 hc0 hc1 hc2 hc3 x0 x1 x2).1)

theorem cover0_C_4 (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : ¬cond0_0 i) (hc1 : ¬cond0_1 i) (hc2 : cond0_2 i) (hc3 : ¬cond0_3 i)
    (x0 : Vec F S1x512x96 .bf16) (x1 : Vec F S1x2048x96 .bf16) (x2 : Vec F S1x2048x64 .bf16) (y : S1x512x1.Idx) :
    ∃ pc ∈ (kernelRun0_C c i arg2 harg2 arg3 harg3 arg4 harg4 arg5 harg5 arg6 harg6 hc0 hc1 hc2 hc3 x0 x1 x2).2.1, y ∈ pc.1.set :=
  View.cover_of_tiledL (kernelRun0_C c i arg2 harg2 arg3 harg3 arg4 harg4 arg5 harg5 arg6 harg6 hc0 hc1 hc2 hc3 x0 x1 x2).2.1 S1x512x1.size (by sl_kernel_rfl) y

def out0_C_4 (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : ¬cond0_0 i) (hc1 : ¬cond0_1 i) (hc2 : cond0_2 i) (hc3 : ¬cond0_3 i)
    (x0 : Vec F S1x512x96 .bf16) (x1 : Vec F S1x2048x96 .bf16) (x2 : Vec F S1x2048x64 .bf16) : Vec F S1x512x1 .f32 :=
  VO0_4.read (Elt F) (VO0_4.writes (Elt F) VO0_4.junk (kernelRun0_C c i arg2 harg2 arg3 harg3 arg4 harg4 arg5 harg5 arg6 harg6 hc0 hc1 hc2 hc3 x0 x1 x2).2.1)

-- (the run's proof term is large: the definition's epilogue — `abstractNestedProofs` — walks it past the default budget)
set_option maxHeartbeats 1000000 in
noncomputable def kernelRun0_D (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : ¬cond0_0 i) (hc1 : ¬cond0_1 i) (hc2 : ¬cond0_2 i) (hc3 : cond0_3 i)
    (x0 : Vec F S1x512x96 .bf16) (x1 : Vec F S1x2048x96 .bf16) (x2 : Vec F S1x2048x64 .bf16) :
    Σ' (L3 : List (View.Piece (Elt F) S1x512x64 .f32)), { L4 : List (View.Piece (Elt F) S1x512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0_mla_attn_fwd i arg2 harg2 arg3 harg3 arg4 harg4 arg5 harg5 arg6 harg6) K } := by
  refine ⟨?_, ?_, fun E K => ?run⟩
  case run =>
    simp only [cc0_mla_attn_fwd_eq_skeleton]; unfold cc0_mla_attn_fwd_skel
    simp only [k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

theorem cover0_D_3 (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : ¬cond0_0 i) (hc1 : ¬cond0_1 i) (hc2 : ¬cond0_2 i) (hc3 : cond0_3 i)
    (x0 : Vec F S1x512x96 .bf16) (x1 : Vec F S1x2048x96 .bf16) (x2 : Vec F S1x2048x64 .bf16) (y : S1x512x64.Idx) :
    ∃ pc ∈ (kernelRun0_D c i arg2 harg2 arg3 harg3 arg4 harg4 arg5 harg5 arg6 harg6 hc0 hc1 hc2 hc3 x0 x1 x2).1, y ∈ pc.1.set :=
  View.cover_of_tiledL (kernelRun0_D c i arg2 harg2 arg3 harg3 arg4 harg4 arg5 harg5 arg6 harg6 hc0 hc1 hc2 hc3 x0 x1 x2).1 S1x512x64.size (by sl_kernel_rfl) y

def out0_D_3 (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : ¬cond0_0 i) (hc1 : ¬cond0_1 i) (hc2 : ¬cond0_2 i) (hc3 : cond0_3 i)
    (x0 : Vec F S1x512x96 .bf16) (x1 : Vec F S1x2048x96 .bf16) (x2 : Vec F S1x2048x64 .bf16) : Vec F S1x512x64 .f32 :=
  VO0_3.read (Elt F) (VO0_3.writes (Elt F) VO0_3.junk (kernelRun0_D c i arg2 harg2 arg3 harg3 arg4 harg4 arg5 harg5 arg6 harg6 hc0 hc1 hc2 hc3 x0 x1 x2).1)

theorem cover0_D_4 (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : ¬cond0_0 i) (hc1 : ¬cond0_1 i) (hc2 : ¬cond0_2 i) (hc3 : cond0_3 i)
    (x0 : Vec F S1x512x96 .bf16) (x1 : Vec F S1x2048x96 .bf16) (x2 : Vec F S1x2048x64 .bf16) (y : S1x512x1.Idx) :
    ∃ pc ∈ (kernelRun0_D c i arg2 harg2 arg3 harg3 arg4 harg4 arg5 harg5 arg6 harg6 hc0 hc1 hc2 hc3 x0 x1 x2).2.1, y ∈ pc.1.set :=
  View.cover_of_tiledL (kernelRun0_D c i arg2 harg2 arg3 harg3 arg4 harg4 arg5 harg5 arg6 harg6 hc0 hc1 hc2 hc3 x0 x1 x2).2.1 S1x512x1.size (by sl_kernel_rfl) y

def out0_D_4 (c : Dev nD) (i : grid0.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x1 .f32) (harg6 : arg6.IsWhole) (hc0 : ¬cond0_0 i) (hc1 : ¬cond0_1 i) (hc2 : ¬cond0_2 i) (hc3 : cond0_3 i)
    (x0 : Vec F S1x512x96 .bf16) (x1 : Vec F S1x2048x96 .bf16) (x2 : Vec F S1x2048x64 .bf16) : Vec F S1x512x1 .f32 :=
  VO0_4.read (Elt F) (VO0_4.writes (Elt F) VO0_4.junk (kernelRun0_D c i arg2 harg2 arg3 harg3 arg4 harg4 arg5 harg5 arg6 harg6 hc0 hc1 hc2 hc3 x0 x1 x2).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x64 .f32 × Vec F S1x512x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk0 V c 0 ⟨0, hn⟩) (iblk0 V c 1 ⟨0, hn⟩) (iblk0 V c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 1 then
        False.elim (by have hN : n + 1 < 64 := lt_of_lt_of_eq hn (show cfg0.N = 64 from N_0); omega)
      else
        if h2 : (n + 1) % 4 = 2 then
          False.elim (by have hN : n + 1 < 64 := lt_of_lt_of_eq hn (show cfg0.N = 64 from N_0); omega)
        else
          if h3 : (n + 1) % 4 = 3 then
            False.elim (by have hN : n + 1 < 64 := lt_of_lt_of_eq hn (show cfg0.N = 64 from N_0); omega)
          else
            (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk0 V c 0 ⟨n + 1, hn⟩) (iblk0 V c 1 ⟨n + 1, hn⟩) (iblk0 V c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk0 V c 0 ⟨n + 1, hn⟩) (iblk0 V c 1 ⟨n + 1, hn⟩) (iblk0 V c 2 ⟨n + 1, hn⟩))
    else
      if h1 : (n + 1) % 4 = 1 then
        if h2 : (n + 1) % 4 = 2 then
          False.elim (by have hN : n + 1 < 64 := lt_of_lt_of_eq hn (show cfg0.N = 64 from N_0); omega)
        else
          if h3 : (n + 1) % 4 = 3 then
            False.elim (by have hN : n + 1 < 64 := lt_of_lt_of_eq hn (show cfg0.N = 64 from N_0); omega)
          else
            (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk0 V c 0 ⟨n + 1, hn⟩) (iblk0 V c 1 ⟨n + 1, hn⟩) (iblk0 V c 2 ⟨n + 1, hn⟩), out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk0 V c 0 ⟨n + 1, hn⟩) (iblk0 V c 1 ⟨n + 1, hn⟩) (iblk0 V c 2 ⟨n + 1, hn⟩))
      else
        if h2 : (n + 1) % 4 = 2 then
          if h3 : (n + 1) % 4 = 3 then
            False.elim (by have hN : n + 1 < 64 := lt_of_lt_of_eq hn (show cfg0.N = 64 from N_0); omega)
          else
            (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk0 V c 0 ⟨n + 1, hn⟩) (iblk0 V c 1 ⟨n + 1, hn⟩) (iblk0 V c 2 ⟨n + 1, hn⟩), out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk0 V c 0 ⟨n + 1, hn⟩) (iblk0 V c 1 ⟨n + 1, hn⟩) (iblk0 V c 2 ⟨n + 1, hn⟩))
        else
          if h3 : (n + 1) % 4 = 3 then
            (out0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk0 V c 0 ⟨n + 1, hn⟩) (iblk0 V c 1 ⟨n + 1, hn⟩) (iblk0 V c 2 ⟨n + 1, hn⟩), out0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk0 V c 0 ⟨n + 1, hn⟩) (iblk0 V c 1 ⟨n + 1, hn⟩) (iblk0 V c 2 ⟨n + 1, hn⟩))
          else
            False.elim (by have hN : n + 1 < 64 := lt_of_lt_of_eq hn (show cfg0.N = 64 from N_0); omega)

/-- `outsAt0` at a point of case A: that case's contents. -/
theorem outsAt0_A (c : Dev nD) (t : Fin cfg0.N) (h0 : t.val % 4 = 0) (h1 : ¬t.val % 4 = 1) (h2 : ¬t.val % 4 = 2) (h3 : ¬t.val % 4 = 3) :
    outsAt0 V c t.val t.isLt = (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (fun h => h2 ((hcond0_2 t).mp h)) (fun h => h3 ((hcond0_3 t).mp h)) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (fun h => h2 ((hcond0_2 t).mp h)) (fun h => h3 ((hcond0_3 t).mp h)) (iblk0 V c 0 t) (iblk0 V c 1 t) (iblk0 V c 2 t)) := by
  obtain ⟨n, hn⟩ := t
  cases n with
  | zero => exact rfl
  | succ n => exact (dif_pos h0).trans ((dif_neg h1).trans ((dif_neg h2).trans ((dif_neg h3).trans rfl)))

theorem outsAt0_B (c : Dev nD) (t : Fin cfg0.N) (h0 : ¬t.val % 4 = 0) (h1 : t.val % 4 = 1) (h2 : ¬t.val % 4 = 2) (h3 : ¬t.val % 4 = 3) :
    outsAt0 V c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (fun h => h2 ((hcond0_2 t).mp h)) (fun h => h3 ((hcond0_3 t).mp h)) (iblk0 V c 0 t) (iblk0 V c 1 t) (iblk0 V c 2 t), out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (fun h => h2 ((hcond0_2 t).mp h)) (fun h => h3 ((hcond0_3 t).mp h)) (iblk0 V c 0 t) (iblk0 V c 1 t) (iblk0 V c 2 t)) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

theorem outsAt0_C (c : Dev nD) (t : Fin cfg0.N) (h0 : ¬t.val % 4 = 0) (h1 : ¬t.val % 4 = 1) (h2 : t.val % 4 = 2) (h3 : ¬t.val % 4 = 3) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) ((hcond0_2 t).mpr h2) (fun h => h3 ((hcond0_3 t).mp h)) (iblk0 V c 0 t) (iblk0 V c 1 t) (iblk0 V c 2 t), out0_C_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) ((hcond0_2 t).mpr h2) (fun h => h3 ((hcond0_3 t).mp h)) (iblk0 V c 0 t) (iblk0 V c 1 t) (iblk0 V c 2 t)) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

theorem outsAt0_D (c : Dev nD) (t : Fin cfg0.N) (h0 : ¬t.val % 4 = 0) (h1 : ¬t.val % 4 = 1) (h2 : ¬t.val % 4 = 2) (h3 : t.val % 4 = 3) :
    outsAt0 V c t.val t.isLt = (out0_D_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) (fun h => h2 ((hcond0_2 t).mp h)) ((hcond0_3 t).mpr h3) (iblk0 V c 0 t) (iblk0 V c 1 t) (iblk0 V c 2 t), out0_D_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) (fun h => h2 ((hcond0_2 t).mp h)) ((hcond0_3 t).mpr h3) (iblk0 V c 0 t) (iblk0 V c 1 t) (iblk0 V c 2 t)) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl]
  have hN : t.val < 64 := lt_of_lt_of_eq t.isLt (show cfg0.N = 64 from N_0)
  by_cases h0 : t.val % 4 = 0
  · by_cases h1 : t.val % 4 = 1
    · exfalso; omega
    · by_cases h2 : t.val % 4 = 2
      · exfalso; omega
      · by_cases h3 : t.val % 4 = 3
        · exfalso; omega
        · rw [show (dat0 V c).leavesExact 0 t = owns (c : Thread nD τ) (ms0_0 t) fullShare ((dat0 V c).after 0 t) from by
      unfold Dat.leavesExact; rw [liveAt0_0 t], after0_0]
          rw [show (dat0 V c).leavesExact 1 t = owns (c : Thread nD τ) (ms0_1 t) fullShare ((dat0 V c).after 1 t) from by
      unfold Dat.leavesExact; rw [liveAt0_1 t], after0_1]
          rw [show (dat0 V c).leavesExact 2 t = owns (c : Thread nD τ) (ms0_2 t) fullShare ((dat0 V c).after 2 t) from by
      unfold Dat.leavesExact; rw [liveAt0_2 t], after0_2]
          rw [show (dat0 V c).leavesExact 3 t = owns (c : Thread nD τ) (ms0_3 t) fullShare ((dat0 V c).after 3 t) from by
      unfold Dat.leavesExact; rw [liveAt0_3_A t ((hcond0_0 t).mpr h0) (fun h => h1 ((hcond0_1 t).mp h)) (fun h => h2 ((hcond0_2 t).mp h)) (fun h => h3 ((hcond0_3 t).mp h))], after0_3]
          rw [show (dat0 V c).leavesExact 4 t = owns (c : Thread nD τ) (ms0_4 t) fullShare ((dat0 V c).after 4 t) from by
      unfold Dat.leavesExact; rw [liveAt0_4_A t ((hcond0_0 t).mpr h0) (fun h => h1 ((hcond0_1 t).mp h)) (fun h => h2 ((hcond0_2 t).mp h)) (fun h => h3 ((hcond0_3 t).mp h))], after0_4]
          rw [outsAt0_A V c t h0 h1 h2 h3]
          unfold out0_A_3 out0_A_4; (try dsimp only)
          iintro ⟨HΦ, Ho, ⟨%d0, H0⟩, ⟨%d1, H1⟩, ⟨%d2, H2⟩, ⟨%d3, H3⟩, ⟨%d4, H4⟩⟩
          iapply ((kernelRun0_A c (grid0.coords t) _ _ _ _ _ _ _ _ _ _ ((hcond0_0 t).mpr h0) (fun h => h1 ((hcond0_1 t).mp h)) (fun h => h2 ((hcond0_2 t).mp h)) (fun h => h3 ((hcond0_3 t).mp h)) (iblk0 V c 0 t) (iblk0 V c 1 t) (iblk0 V c 2 t)).2.2 Set.univ _)
          isplitl [H0]; · iexact H0
          isplitl [H1]; · iexact H1
          isplitl [H2]; · iexact H2
          isplitl [H3]; · iexists _; iexact H3
          isplitl [H4]; · iexists _; iexact H4
          iintro ⟨H0, H1, H2, ⟨%e3, H3⟩, ⟨%e4, H4⟩⟩
          isplitl [HΦ]; · iexact HΦ
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_A_3 c _ _ _ _ _ _ _ _ _ _ _ _ _ _ _ _ _ _)
          unfold owns; iexists _; isplitr
          swap; · iexact H4
          ipureintro; exact View.read_writes_of_cover _ _ _ _ _ (cover0_A_4 c _ _ _ _ _ _ _ _ _ _ _ _ _ _ _ _ _ _)
  · by_cases h1 : t.val % 4 = 1
    · by_cases h2 : t.val % 4 = 2
      · exfalso; omega
      · by_cases h3 : t.val % 4 = 3
        · exfalso; omega
        · rw [show (dat0 V c).leavesExact 0 t = owns (c : Thread nD τ) (ms0_0 t) fullShare ((dat0 V c).after 0 t) from by
      unfold Dat.leavesExact; rw [liveAt0_0 t], after0_0]
          rw [show (dat0 V c).leavesExact 1 t = owns (c : Thread nD τ) (ms0_1 t) fullShare ((dat0 V c).after 1 t) from by
      unfold Dat.leavesExact; rw [liveAt0_1 t], after0_1]
          rw [show (dat0 V c).leavesExact 2 t = owns (c : Thread nD τ) (ms0_2 t) fullShare ((dat0 V c).after 2 t) from by
      unfold Dat.leavesExact; rw [liveAt0_2 t], after0_2]
          rw [show (dat0 V c).leavesExact 3 t = owns (c : Thread nD τ) (ms0_3 t) fullShare ((dat0 V c).after 3 t) from by
      unfold Dat.leavesExact; rw [liveAt0_3_B t (fun h => h0 ((hcond0_0 t).mp h)) ((hcond0_1 t).mpr h1) (fun h => h2 ((hcond0_2 t).mp h)) (fun h => h3 ((hcond0_3 t).mp h))], after0_3]
          rw [show (dat0 V c).leavesExact 4 t = owns (c : Thread nD τ) (ms0_4 t) fullShare ((dat0 V c).after 4 t) from by
      unfold Dat.leavesExact; rw [liveAt0_4_B t (fun h => h0 ((hcond0_0 t).mp h)) ((hcond0_1 t).mpr h1) (fun h => h2 ((hcond0_2 t).mp h)) (fun h => h3 ((hcond0_3 t).mp h))], after0_4]
          rw [outsAt0_B V c t h0 h1 h2 h3]
          unfold out0_B_3 out0_B_4; (try dsimp only)
          iintro ⟨HΦ, Ho, ⟨%d0, H0⟩, ⟨%d1, H1⟩, ⟨%d2, H2⟩, ⟨%d3, H3⟩, ⟨%d4, H4⟩⟩
          iapply ((kernelRun0_B c (grid0.coords t) _ _ _ _ _ _ _ _ _ _ (fun h => h0 ((hcond0_0 t).mp h)) ((hcond0_1 t).mpr h1) (fun h => h2 ((hcond0_2 t).mp h)) (fun h => h3 ((hcond0_3 t).mp h)) (iblk0 V c 0 t) (iblk0 V c 1 t) (iblk0 V c 2 t)).2.2 Set.univ _)
          isplitl [H0]; · iexact H0
          isplitl [H1]; · iexact H1
          isplitl [H2]; · iexact H2
          isplitl [H3]; · iexists _; iexact H3
          isplitl [H4]; · iexists _; iexact H4
          iintro ⟨H0, H1, H2, ⟨%e3, H3⟩, ⟨%e4, H4⟩⟩
          isplitl [HΦ]; · iexact HΦ
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_B_3 c _ _ _ _ _ _ _ _ _ _ _ _ _ _ _ _ _ _)
          unfold owns; iexists _; isplitr
          swap; · iexact H4
          ipureintro; exact View.read_writes_of_cover _ _ _ _ _ (cover0_B_4 c _ _ _ _ _ _ _ _ _ _ _ _ _ _ _ _ _ _)
    · by_cases h2 : t.val % 4 = 2
      · by_cases h3 : t.val % 4 = 3
        · exfalso; omega
        · rw [show (dat0 V c).leavesExact 0 t = owns (c : Thread nD τ) (ms0_0 t) fullShare ((dat0 V c).after 0 t) from by
      unfold Dat.leavesExact; rw [liveAt0_0 t], after0_0]
          rw [show (dat0 V c).leavesExact 1 t = owns (c : Thread nD τ) (ms0_1 t) fullShare ((dat0 V c).after 1 t) from by
      unfold Dat.leavesExact; rw [liveAt0_1 t], after0_1]
          rw [show (dat0 V c).leavesExact 2 t = owns (c : Thread nD τ) (ms0_2 t) fullShare ((dat0 V c).after 2 t) from by
      unfold Dat.leavesExact; rw [liveAt0_2 t], after0_2]
          rw [show (dat0 V c).leavesExact 3 t = owns (c : Thread nD τ) (ms0_3 t) fullShare ((dat0 V c).after 3 t) from by
      unfold Dat.leavesExact; rw [liveAt0_3_C t (fun h => h0 ((hcond0_0 t).mp h)) (fun h => h1 ((hcond0_1 t).mp h)) ((hcond0_2 t).mpr h2) (fun h => h3 ((hcond0_3 t).mp h))], after0_3]
          rw [show (dat0 V c).leavesExact 4 t = owns (c : Thread nD τ) (ms0_4 t) fullShare ((dat0 V c).after 4 t) from by
      unfold Dat.leavesExact; rw [liveAt0_4_C t (fun h => h0 ((hcond0_0 t).mp h)) (fun h => h1 ((hcond0_1 t).mp h)) ((hcond0_2 t).mpr h2) (fun h => h3 ((hcond0_3 t).mp h))], after0_4]
          rw [outsAt0_C V c t h0 h1 h2 h3]
          unfold out0_C_3 out0_C_4; (try dsimp only)
          iintro ⟨HΦ, Ho, ⟨%d0, H0⟩, ⟨%d1, H1⟩, ⟨%d2, H2⟩, ⟨%d3, H3⟩, ⟨%d4, H4⟩⟩
          iapply ((kernelRun0_C c (grid0.coords t) _ _ _ _ _ _ _ _ _ _ (fun h => h0 ((hcond0_0 t).mp h)) (fun h => h1 ((hcond0_1 t).mp h)) ((hcond0_2 t).mpr h2) (fun h => h3 ((hcond0_3 t).mp h)) (iblk0 V c 0 t) (iblk0 V c 1 t) (iblk0 V c 2 t)).2.2 Set.univ _)
          isplitl [H0]; · iexact H0
          isplitl [H1]; · iexact H1
          isplitl [H2]; · iexact H2
          isplitl [H3]; · iexists _; iexact H3
          isplitl [H4]; · iexists _; iexact H4
          iintro ⟨H0, H1, H2, ⟨%e3, H3⟩, ⟨%e4, H4⟩⟩
          isplitl [HΦ]; · iexact HΦ
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_C_3 c _ _ _ _ _ _ _ _ _ _ _ _ _ _ _ _ _ _)
          unfold owns; iexists _; isplitr
          swap; · iexact H4
          ipureintro; exact View.read_writes_of_cover _ _ _ _ _ (cover0_C_4 c _ _ _ _ _ _ _ _ _ _ _ _ _ _ _ _ _ _)
      · by_cases h3 : t.val % 4 = 3
        · rw [show (dat0 V c).leavesExact 0 t = owns (c : Thread nD τ) (ms0_0 t) fullShare ((dat0 V c).after 0 t) from by
      unfold Dat.leavesExact; rw [liveAt0_0 t], after0_0]
          rw [show (dat0 V c).leavesExact 1 t = owns (c : Thread nD τ) (ms0_1 t) fullShare ((dat0 V c).after 1 t) from by
      unfold Dat.leavesExact; rw [liveAt0_1 t], after0_1]
          rw [show (dat0 V c).leavesExact 2 t = owns (c : Thread nD τ) (ms0_2 t) fullShare ((dat0 V c).after 2 t) from by
      unfold Dat.leavesExact; rw [liveAt0_2 t], after0_2]
          rw [show (dat0 V c).leavesExact 3 t = owns (c : Thread nD τ) (ms0_3 t) fullShare ((dat0 V c).after 3 t) from by
      unfold Dat.leavesExact; rw [liveAt0_3_D t (fun h => h0 ((hcond0_0 t).mp h)) (fun h => h1 ((hcond0_1 t).mp h)) (fun h => h2 ((hcond0_2 t).mp h)) ((hcond0_3 t).mpr h3)], after0_3]
          rw [show (dat0 V c).leavesExact 4 t = owns (c : Thread nD τ) (ms0_4 t) fullShare ((dat0 V c).after 4 t) from by
      unfold Dat.leavesExact; rw [liveAt0_4_D t (fun h => h0 ((hcond0_0 t).mp h)) (fun h => h1 ((hcond0_1 t).mp h)) (fun h => h2 ((hcond0_2 t).mp h)) ((hcond0_3 t).mpr h3)], after0_4]
          rw [outsAt0_D V c t h0 h1 h2 h3]
          unfold out0_D_3 out0_D_4; (try dsimp only)
          iintro ⟨HΦ, Ho, ⟨%d0, H0⟩, ⟨%d1, H1⟩, ⟨%d2, H2⟩, ⟨%d3, H3⟩, ⟨%d4, H4⟩⟩
          iapply ((kernelRun0_D c (grid0.coords t) _ _ _ _ _ _ _ _ _ _ (fun h => h0 ((hcond0_0 t).mp h)) (fun h => h1 ((hcond0_1 t).mp h)) (fun h => h2 ((hcond0_2 t).mp h)) ((hcond0_3 t).mpr h3) (iblk0 V c 0 t) (iblk0 V c 1 t) (iblk0 V c 2 t)).2.2 Set.univ _)
          isplitl [H0]; · iexact H0
          isplitl [H1]; · iexact H1
          isplitl [H2]; · iexact H2
          isplitl [H3]; · iexists _; iexact H3
          isplitl [H4]; · iexists _; iexact H4
          iintro ⟨H0, H1, H2, ⟨%e3, H3⟩, ⟨%e4, H4⟩⟩
          isplitl [HΦ]; · iexact HΦ
          isplitl [Ho]; · iexact Ho
          isplitl [H0]; · iexact H0
          isplitl [H1]; · iexact H1
          isplitl [H2]; · iexact H2
          isplitl [H3]
          · unfold owns; iexists _; isplitr
            swap; · iexact H3
            ipureintro; exact View.read_writes_of_cover _ _ _ _ _ (cover0_D_3 c _ _ _ _ _ _ _ _ _ _ _ _ _ _ _ _ _ _)
          unfold owns; iexists _; isplitr
          swap; · iexact H4
          ipureintro; exact View.read_writes_of_cover _ _ _ _ _ (cover0_D_4 c _ _ _ _ _ _ _ _ _ _ _ _ _ _ _ _ _ _)
        · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Attn

end
-- ==== Proof.Attn.Backward.lean ====
/- The backward call of the attention as one region of the program: what each grid point finds in its windows, the four cases of its
   branches (one per block of 512 queries), what the body leaves in `dq`, and in `dk` and `dv` over what the point before left there. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_mla_attn_bwd` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 0 (mod 4) — by arithmetic of the point. -/
theorem hcond1_0 : ∀ t : Fin cfg1.N, cond1_0 (grid1.coords t) ↔ t.val % 4 = 0 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [cond1_0, k1_cond1, e0, e1]
    word_cmp
   : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 0 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [cond1_1, k1_cond2, e0, e1]
    word_cmp
   : ∀ t : Fin grid1.N, cond1_1 (grid1.coords t) ↔ t.val % 4 = 0)

abbrev cond1_2 (i : grid1.Coords) : Prop := k1_cond3 i = 1#1
theorem hcond1_2 : ∀ t : Fin cfg1.N, cond1_2 (grid1.coords t) ↔ t.val % 4 = 1 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [cond1_2, k1_cond3, e0, e1]
    word_cmp
   : ∀ t : Fin grid1.N, cond1_2 (grid1.coords t) ↔ t.val % 4 = 1)

abbrev cond1_3 (i : grid1.Coords) : Prop := k1_cond4 i = 1#1
theorem hcond1_3 : ∀ t : Fin cfg1.N, cond1_3 (grid1.coords t) ↔ t.val % 4 = 2 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [cond1_3, k1_cond4, e0, e1]
    word_cmp
   : ∀ t : Fin grid1.N, cond1_3 (grid1.coords t) ↔ t.val % 4 = 2)

abbrev cond1_4 (i : grid1.Coords) : Prop := k1_cond5 i = 1#1
theorem hcond1_4 : ∀ t : Fin cfg1.N, cond1_4 (grid1.coords t) ↔ t.val % 4 = 3 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [cond1_4, k1_cond5, e0, e1]
    word_cmp
   : ∀ t : Fin grid1.N, cond1_4 (grid1.coords t) ↔ t.val % 4 = 3)

/-! ## Where the windows are idle (the printed configuration's table `Cfg.idle`) -/

/-- Window 0 is never idle (an input). -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds1_A (i : grid1.Coords) : Prop := cond1_0 i ∧ cond1_1 i ∧ ¬cond1_2 i ∧ ¬cond1_3 i ∧ ¬cond1_4 i
instance conds1_A.dec (i : grid1.Coords) : Decidable (conds1_A i) :=
  @instDecidableAnd _ _ inferInstance (@instDecidableAnd _ _ inferInstance (@instDecidableAnd _ _ inferInstance (@instDecidableAnd _ _ inferInstance inferInstance)))
abbrev conds1_B (i : grid1.Coords) : Prop := ¬cond1_0 i ∧ ¬cond1_1 i ∧ cond1_2 i ∧ ¬cond1_3 i ∧ ¬cond1_4 i
instance conds1_B.dec (i : grid1.Coords) : Decidable (conds1_B i) :=
  @instDecidableAnd _ _ inferInstance (@instDecidableAnd _ _ inferInstance (@instDecidableAnd _ _ inferInstance (@instDecidableAnd _ _ inferInstance inferInstance)))
abbrev conds1_C (i : grid1.Coords) : Prop := ¬cond1_0 i ∧ ¬cond1_1 i ∧ ¬cond1_2 i ∧ cond1_3 i ∧ ¬cond1_4 i
instance conds1_C.dec (i : grid1.Coords) : Decidable (conds1_C i) :=
  @instDecidableAnd _ _ inferInstance (@instDecidableAnd _ _ inferInstance (@instDecidableAnd _ _ inferInstance (@instDecidableAnd _ _ inferInstance inferInstance)))
abbrev conds1_D (i : grid1.Coords) : Prop := ¬cond1_0 i ∧ ¬cond1_1 i ∧ ¬cond1_2 i ∧ ¬cond1_3 i ∧ cond1_4 i
instance conds1_D.dec (i : grid1.Coords) : Decidable (conds1_D i) :=
  @instDecidableAnd _ _ inferInstance (@instDecidableAnd _ _ inferInstance (@instDecidableAnd _ _ inferInstance (@instDecidableAnd _ _ inferInstance inferInstance)))
/-- At the points of case A the printed configuration (`Cfg.idle`) calls output 6 live: the case stores into it. -/
theorem liveAt1_6_A : ∀ t : Fin cfg1.N, cond1_0 (grid1.coords t) → cond1_1 (grid1.coords t) → ¬cond1_2 (grid1.coords t) → ¬cond1_3 (grid1.coords t) → ¬cond1_4 (grid1.coords t) → cfg1.idle 6 (grid1.coords t) = false :=
  fun t h0 h1 h2 h3 h4 => (by decide +kernel : ∀ t : Fin cfg1.N, conds1_A (grid1.coords t) → cfg1.idle 6 (grid1.coords t) = false) t ⟨h0, h1, h2, h3, h4⟩
theorem liveAt1_6_B : ∀ t : Fin cfg1.N, ¬cond1_0 (grid1.coords t) → ¬cond1_1 (grid1.coords t) → cond1_2 (grid1.coords t) → ¬cond1_3 (grid1.coords t) → ¬cond1_4 (grid1.coords t) → cfg1.idle 6 (grid1.coords t) = false :=
  fun t h0 h1 h2 h3 h4 => (by decide +kernel : ∀ t : Fin cfg1.N, conds1_B (grid1.coords t) → cfg1.idle 6 (grid1.coords t) = false) t ⟨h0, h1, h2, h3, h4⟩
theorem liveAt1_6_C : ∀ t : Fin cfg1.N, ¬cond1_0 (grid1.coords t) → ¬cond1_1 (grid1.coords t) → ¬cond1_2 (grid1.coords t) → cond1_3 (grid1.coords t) → ¬cond1_4 (grid1.coords t) → cfg1.idle 6 (grid1.coords t) = false :=
  fun t h0 h1 h2 h3 h4 => (by decide +kernel : ∀ t : Fin cfg1.N, conds1_C (grid1.coords t) → cfg1.idle 6 (grid1.coords t) = false) t ⟨h0, h1, h2, h3, h4⟩
theorem liveAt1_6_D : ∀ t : Fin cfg1.N, ¬cond1_0 (grid1.coords t) → ¬cond1_1 (grid1.coords t) → ¬cond1_2 (grid1.coords t) → ¬cond1_3 (grid1.coords t) → cond1_4 (grid1.coords t) → cfg1.idle 6 (grid1.coords t) = false :=
  fun t h0 h1 h2 h3 h4 => (by decide +kernel : ∀ t : Fin cfg1.N, conds1_D (grid1.coords t) → cfg1.idle 6 (grid1.coords t) = false) t ⟨h0, h1, h2, h3, h4⟩
/-- Whether output 7's buffer is FRESH at each position `1 ‥ N` — holds nothing the body stored since the region's entry or the
    last write-back (written back at the point before, or idle there and fresh before it) —, as a bitmask, bit `n` for position `n + 1`; position 0 is fresh. `freshTab1_7_step` checks it against the configuration's own
    step point by point and Lib/Pipeline/TableIdle.lean `Cfg.fresh_tab` makes it `Cfg.fresh` (`fresh1_7_eq`). -/
def freshTab1_7 : ℕ → Bool
  | 0 => true
  | n + 1 => (0x8888888888888888 : ℕ).testBit n
theorem freshTab1_7_step : ∀ t : Fin cfg1.N,
    freshTab1_7 (t.val + 1) = ((cfg1.win 7).flush t || (cfg1.idle 7 (cfg1.grid.coords t) && freshTab1_7 t.val)) := by decide +kernel
theorem fresh1_7_eq (t : Fin cfg1.N) : cfg1.fresh 7 t.val = freshTab1_7 t.val :=
  Pipeline.Cfg.fresh_tab cfg1 7 freshTab1_7 rfl freshTab1_7_step t.val (Nat.le_of_lt t.isLt)
theorem liveAt1_7_A : ∀ t : Fin cfg1.N, cond1_0 (grid1.coords t) → cond1_1 (grid1.coords t) → ¬cond1_2 (grid1.coords t) → ¬cond1_3 (grid1.coords t) → ¬cond1_4 (grid1.coords t) → cfg1.idle 7 (grid1.coords t) = false :=
  fun t h0 h1 h2 h3 h4 => (by decide +kernel : ∀ t : Fin cfg1.N, conds1_A (grid1.coords t) → cfg1.idle 7 (grid1.coords t) = false) t ⟨h0, h1, h2, h3, h4⟩
theorem liveAt1_7_B : ∀ t : Fin cfg1.N, ¬cond1_0 (grid1.coords t) → ¬cond1_1 (grid1.coords t) → cond1_2 (grid1.coords t) → ¬cond1_3 (grid1.coords t) → ¬cond1_4 (grid1.coords t) → cfg1.idle 7 (grid1.coords t) = false :=
  fun t h0 h1 h2 h3 h4 => (by decide +kernel : ∀ t : Fin cfg1.N, conds1_B (grid1.coords t) → cfg1.idle 7 (grid1.coords t) = false) t ⟨h0, h1, h2, h3, h4⟩
/-- At the points of case B, which keeps output 7's prior contents (reads it before covering, or covers it in part), the
    window's buffer is not FRESH: something was stored into it since the region's entry or its last write-back, idle points
    between or not (Lib/Pipeline/TableIdle.lean `Cfg.fresh`, by the table `freshTab1_7`). -/
theorem notFresh1_7_B : ∀ t : Fin cfg1.N, ¬cond1_0 (grid1.coords t) → ¬cond1_1 (grid1.coords t) → cond1_2 (grid1.coords t) → ¬cond1_3 (grid1.coords t) → ¬cond1_4 (grid1.coords t) → cfg1.fresh 7 t.val = false :=
  fun t h0 h1 h2 h3 h4 => (by intro t; rw [fresh1_7_eq t]; revert t; decide +kernel : ∀ t : Fin cfg1.N, conds1_B (grid1.coords t) → cfg1.fresh 7 t.val = false) t ⟨h0, h1, h2, h3, h4⟩
theorem liveAt1_7_C : ∀ t : Fin cfg1.N, ¬cond1_0 (grid1.coords t) → ¬cond1_1 (grid1.coords t) → ¬cond1_2 (grid1.coords t) → cond1_3 (grid1.coords t) → ¬cond1_4 (grid1.coords t) → cfg1.idle 7 (grid1.coords t) = false :=
  fun t h0 h1 h2 h3 h4 => (by decide +kernel : ∀ t : Fin cfg1.N, conds1_C (grid1.coords t) → cfg1.idle 7 (grid1.coords t) = false) t ⟨h0, h1, h2, h3, h4⟩
theorem notFresh1_7_C : ∀ t : Fin cfg1.N, ¬cond1_0 (grid1.coords t) → ¬cond1_1 (grid1.coords t) → ¬cond1_2 (grid1.coords t) → cond1_3 (grid1.coords t) → ¬cond1_4 (grid1.coords t) → cfg1.fresh 7 t.val = false :=
  fun t h0 h1 h2 h3 h4 => (by intro t; rw [fresh1_7_eq t]; revert t; decide +kernel : ∀ t : Fin cfg1.N, conds1_C (grid1.coords t) → cfg1.fresh 7 t.val = false) t ⟨h0, h1, h2, h3, h4⟩
theorem liveAt1_7_D : ∀ t : Fin cfg1.N, ¬cond1_0 (grid1.coords t) → ¬cond1_1 (grid1.coords t) → ¬cond1_2 (grid1.coords t) → ¬cond1_3 (grid1.coords t) → cond1_4 (grid1.coords t) → cfg1.idle 7 (grid1.coords t) = false :=
  fun t h0 h1 h2 h3 h4 => (by decide +kernel : ∀ t : Fin cfg1.N, conds1_D (grid1.coords t) → cfg1.idle 7 (grid1.coords t) = false) t ⟨h0, h1, h2, h3, h4⟩
theorem notFresh1_7_D : ∀ t : Fin cfg1.N, ¬cond1_0 (grid1.coords t) → ¬cond1_1 (grid1.coords t) → ¬cond1_2 (grid1.coords t) → ¬cond1_3 (grid1.coords t) → cond1_4 (grid1.coords t) → cfg1.fresh 7 t.val = false :=
  fun t h0 h1 h2 h3 h4 => (by intro t; rw [fresh1_7_eq t]; revert t; decide +kernel : ∀ t : Fin cfg1.N, conds1_D (grid1.coords t) → cfg1.fresh 7 t.val = false) t ⟨h0, h1, h2, h3, h4⟩
def freshTab1_8 : ℕ → Bool
  | 0 => true
  | n + 1 => (0x8888888888888888 : ℕ).testBit n
theorem freshTab1_8_step : ∀ t : Fin cfg1.N,
    freshTab1_8 (t.val + 1) = ((cfg1.win 8).flush t || (cfg1.idle 8 (cfg1.grid.coords t) && freshTab1_8 t.val)) := by decide +kernel
theorem fresh1_8_eq (t : Fin cfg1.N) : cfg1.fresh 8 t.val = freshTab1_8 t.val :=
  Pipeline.Cfg.fresh_tab cfg1 8 freshTab1_8 rfl freshTab1_8_step t.val (Nat.le_of_lt t.isLt)
theorem liveAt1_8_A : ∀ t : Fin cfg1.N, cond1_0 (grid1.coords t) → cond1_1 (grid1.coords t) → ¬cond1_2 (grid1.coords t) → ¬cond1_3 (grid1.coords t) → ¬cond1_4 (grid1.coords t) → cfg1.idle 8 (grid1.coords t) = false :=
  fun t h0 h1 h2 h3 h4 => (by decide +kernel : ∀ t : Fin cfg1.N, conds1_A (grid1.coords t) → cfg1.idle 8 (grid1.coords t) = false) t ⟨h0, h1, h2, h3, h4⟩
theorem liveAt1_8_B : ∀ t : Fin cfg1.N, ¬cond1_0 (grid1.coords t) → ¬cond1_1 (grid1.coords t) → cond1_2 (grid1.coords t) → ¬cond1_3 (grid1.coords t) → ¬cond1_4 (grid1.coords t) → cfg1.idle 8 (grid1.coords t) = false :=
  fun t h0 h1 h2 h3 h4 => (by decide +kernel : ∀ t : Fin cfg1.N, conds1_B (grid1.coords t) → cfg1.idle 8 (grid1.coords t) = false) t ⟨h0, h1, h2, h3, h4⟩
theorem notFresh1_8_B : ∀ t : Fin cfg1.N, ¬cond1_0 (grid1.coords t) → ¬cond1_1 (grid1.coords t) → cond1_2 (grid1.coords t) → ¬cond1_3 (grid1.coords t) → ¬cond1_4 (grid1.coords t) → cfg1.fresh 8 t.val = false :=
  fun t h0 h1 h2 h3 h4 => (by intro t; rw [fresh1_8_eq t]; revert t; decide +kernel : ∀ t : Fin cfg1.N, conds1_B (grid1.coords t) → cfg1.fresh 8 t.val = false) t ⟨h0, h1, h2, h3, h4⟩
theorem liveAt1_8_C : ∀ t : Fin cfg1.N, ¬cond1_0 (grid1.coords t) → ¬cond1_1 (grid1.coords t) → ¬cond1_2 (grid1.coords t) → cond1_3 (grid1.coords t) → ¬cond1_4 (grid1.coords t) → cfg1.idle 8 (grid1.coords t) = false :=
  fun t h0 h1 h2 h3 h4 => (by decide +kernel : ∀ t : Fin cfg1.N, conds1_C (grid1.coords t) → cfg1.idle 8 (grid1.coords t) = false) t ⟨h0, h1, h2, h3, h4⟩
theorem notFresh1_8_C : ∀ t : Fin cfg1.N, ¬cond1_0 (grid1.coords t) → ¬cond1_1 (grid1.coords t) → ¬cond1_2 (grid1.coords t) → cond1_3 (grid1.coords t) → ¬cond1_4 (grid1.coords t) → cfg1.fresh 8 t.val = false :=
  fun t h0 h1 h2 h3 h4 => (by intro t; rw [fresh1_8_eq t]; revert t; decide +kernel : ∀ t : Fin cfg1.N, conds1_C (grid1.coords t) → cfg1.fresh 8 t.val = false) t ⟨h0, h1, h2, h3, h4⟩
theorem liveAt1_8_D : ∀ t : Fin cfg1.N, ¬cond1_0 (grid1.coords t) → ¬cond1_1 (grid1.coords t) → ¬cond1_2 (grid1.coords t) → ¬cond1_3 (grid1.coords t) → cond1_4 (grid1.coords t) → cfg1.idle 8 (grid1.coords t) = false :=
  fun t h0 h1 h2 h3 h4 => (by decide +kernel : ∀ t : Fin cfg1.N, conds1_D (grid1.coords t) → cfg1.idle 8 (grid1.coords t) = false) t ⟨h0, h1, h2, h3, h4⟩
theorem notFresh1_8_D : ∀ t : Fin cfg1.N, ¬cond1_0 (grid1.coords t) → ¬cond1_1 (grid1.coords t) → ¬cond1_2 (grid1.coords t) → ¬cond1_3 (grid1.coords t) → cond1_4 (grid1.coords t) → cfg1.fresh 8 t.val = false :=
  fun t h0 h1 h2 h3 h4 => (by intro t; rw [fresh1_8_eq t]; revert t; decide +kernel : ∀ t : Fin cfg1.N, conds1_D (grid1.coords t) → cfg1.fresh 8 t.val = false) t ⟨h0, h1, h2, h3, h4⟩

/-! ## The kernel body on any staging memrefs: a subtype the run finds -/

/-- One staging buffer of output window 6, through which its contents are stated (`View.read_writes_of_cover`: the
    choice does not matter). -/
abbrev VO1_6 : View sig .tc .vmem S1x512x96 .f32 := (Memref.whole cc1_stg6_0 : Memref sig .tc .vmem S1x512x96 .f32).view
abbrev VO1_7 : View sig .tc .vmem S1x2048x96 .f32 := (Memref.whole cc1_stg7_0 : Memref sig .tc .vmem S1x2048x96 .f32).view
abbrev VO1_8 : View sig .tc .vmem S1x2048x64 .f32 := (Memref.whole cc1_stg8_0 : Memref sig .tc .vmem S1x2048x64 .f32).view
/-- Each window's current staging memref at point `t`, spelled as the pipeline passes it (`bodyAt1`), and its wholeness. -/
abbrev ms1_0 (t : Fin cfg1.N) : Memref sig .tc .vmem S1x512x96 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x96 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x96 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2048x96 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x2048x64 .f32 := win1_8.stage (cfg1.slots t 8)
abbrev hs1_8 (t : Fin cfg1.N) : (ms1_8 t).IsWhole := hstage1_8 ((cfg1.slots t 8).cast nbuf1_8)

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken, `scf.if` 3 not taken, `scf.if` 4 not taken: points 0, 4, … 60: 16 of 64), WITH the
    proof that on whole staging memrefs — the inputs' at their contents, the other outputs' at
    anything, the body runs to the continuation holding the inputs' as they were,
    each output's buffer with its pieces written. Each branch is decided by the case's hypotheses `hc·`; the pieces are what the run finds. -/
noncomputable def kernelRun1_A (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : cond1_0 i) (hc1 : cond1_1 i) (hc2 : ¬cond1_2 i) (hc3 : ¬cond1_3 i) (hc4 : ¬cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) :
    Σ' (L6 : List (View.Piece (Elt F) S1x512x96 .f32)), Σ' (L7 : List (View.Piece (Elt F) S1x2048x96 .f32)), { L8 : List (View.Piece (Elt F) S1x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc1_mla_attn_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc1_mla_attn_bwd_eq_skeleton]; unfold cc1_mla_attn_bwd_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

/-- Case A's pieces for output 6 tile its block (1 store of `S1x512x96`, checked by the kernel's evaluation: Lib/Ring.lean `Piece.tiledL`, linear in the pieces, through a loop's `@[irreducible]` trip theorem too), so they cover it. -/
theorem cover1_A_6 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : cond1_0 i) (hc1 : cond1_1 i) (hc2 : ¬cond1_2 i) (hc3 : ¬cond1_3 i) (hc4 : ¬cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (y : S1x512x96.Idx) :
    ∃ pc ∈ (kernelRun1_A c i arg2 harg2 arg3 harg3 arg4 harg4 arg5 harg5 arg6 harg6 arg7 harg7 arg8 harg8 arg9 harg9 arg10 harg10 hc0 hc1 hc2 hc3 hc4 x0 x1 x2 x3 x4 x5).1, y ∈ pc.1.set :=
  View.cover_of_tiledL (kernelRun1_A c i arg2 harg2 arg3 harg3 arg4 harg4 arg5 harg5 arg6 harg6 arg7 harg7 arg8 harg8 arg9 harg9 arg10 harg10 hc0 hc1 hc2 hc3 hc4 x0 x1 x2 x3 x4 x5).1 S1x512x96.size (by sl_kernel_rfl) y

/-- What case A leaves in output 6's staging buffer: its pieces read back over junk. -/
def out1_A_6 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : cond1_0 i) (hc1 : cond1_1 i) (hc2 : ¬cond1_2 i) (hc3 : ¬cond1_3 i) (hc4 : ¬cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) : Vec F S1x512x96 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 hc1 hc2 hc3 hc4 x0 x1 x2 x3 x4 x5).1)

theorem cover1_A_7 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : cond1_0 i) (hc1 : cond1_1 i) (hc2 : ¬cond1_2 i) (hc3 : ¬cond1_3 i) (hc4 : ¬cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (y : S1x2048x96.Idx) :
    ∃ pc ∈ (kernelRun1_A c i arg2 harg2 arg3 harg3 arg4 harg4 arg5 harg5 arg6 harg6 arg7 harg7 arg8 harg8 arg9 harg9 arg10 harg10 hc0 hc1 hc2 hc3 hc4 x0 x1 x2 x3 x4 x5).2.1, y ∈ pc.1.set :=
  View.cover_of_tiledBy (kernelRun1_A c i arg2 harg2 arg3 harg3 arg4 harg4 arg5 harg5 arg6 harg6 arg7 harg7 arg8 harg8 arg9 harg9 arg10 harg10 hc0 hc1 hc2 hc3 hc4 x0 x1 x2 x3 x4 x5).2.1 ![1, 512, 96] (by sl_kernel_rfl) y

def out1_A_7 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : cond1_0 i) (hc1 : cond1_1 i) (hc2 : ¬cond1_2 i) (hc3 : ¬cond1_3 i) (hc4 : ¬cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) : Vec F S1x2048x96 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 hc0 hc1 hc2 hc3 hc4 x0 x1 x2 x3 x4 x5).2.1)

theorem cover1_A_8 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : cond1_0 i) (hc1 : cond1_1 i) (hc2 : ¬cond1_2 i) (hc3 : ¬cond1_3 i) (hc4 : ¬cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (y : S1x2048x64.Idx) :
    ∃ pc ∈ (kernelRun1_A c i arg2 harg2 arg3 harg3 arg4 harg4 arg5 harg5 arg6 harg6 arg7 harg7 arg8 harg8 arg9 harg9 arg10 harg10 hc0 hc1 hc2 hc3 hc4 x0 x1 x2 x3 x4 x5).2.2.1, y ∈ pc.1.set :=
  View.cover_of_tiledBy (kernelRun1_A c i arg2 harg2 arg3 harg3 arg4 harg4 arg5 harg5 arg6 harg6 arg7 harg7 arg8 harg8 arg9 harg9 arg10 harg10 hc0 hc1 hc2 hc3 hc4 x0 x1 x2 x3 x4 x5).2.2.1 ![1, 512, 64] (by sl_kernel_rfl) y

def out1_A_8 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : cond1_0 i) (hc1 : cond1_1 i) (hc2 : ¬cond1_2 i) (hc3 : ¬cond1_3 i) (hc4 : ¬cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) : Vec F S1x2048x64 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 hc0 hc1 hc2 hc3 hc4 x0 x1 x2 x3 x4 x5).2.2.1)

-- (the run's proof term is large: the definition's epilogue — `abstractNestedProofs` — walks it past the default budget)
set_option maxHeartbeats 1000000 in
noncomputable def kernelRun1_B (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : ¬cond1_0 i) (hc1 : ¬cond1_1 i) (hc2 : cond1_2 i) (hc3 : ¬cond1_3 i) (hc4 : ¬cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (xo7 : Vec F S1x2048x96 .f32) (xo8 : Vec F S1x2048x64 .f32) :
    Σ' (L6 : List (View.Piece (Elt F) S1x512x96 .f32)), Σ' (L7 : List (View.Piece (Elt F) S1x2048x96 .f32)), { L8 : List (View.Piece (Elt F) S1x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread xo7) L7) ∗ (arg10.view.loc (c : Thread nD τ) ↦[arg10.view.set]{fullShare} arg10.view.writes (Elt F) (harg10.unread xo8) L8)) -∗ K ⟨⟩))
          ⊢ wp frame (wpE (defs₀ (F := F)) Variants.none c none) E (cc1_mla_attn_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc1_mla_attn_bwd_eq_skeleton]; unfold cc1_mla_attn_bwd_skel
    simp only [k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexact H7
    iexact H8

theorem cover1_B_6 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : ¬cond1_0 i) (hc1 : ¬cond1_1 i) (hc2 : cond1_2 i) (hc3 : ¬cond1_3 i) (hc4 : ¬cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (xo7 : Vec F S1x2048x96 .f32) (xo8 : Vec F S1x2048x64 .f32) (y : S1x512x96.Idx) :
    ∃ pc ∈ (kernelRun1_B c i arg2 harg2 arg3 harg3 arg4 harg4 arg5 harg5 arg6 harg6 arg7 harg7 arg8 harg8 arg9 harg9 arg10 harg10 hc0 hc1 hc2 hc3 hc4 x0 x1 x2 x3 x4 x5 xo7 xo8).1, y ∈ pc.1.set :=
  View.cover_of_tiledL (kernelRun1_B c i arg2 harg2 arg3 harg3 arg4 harg4 arg5 harg5 arg6 harg6 arg7 harg7 arg8 harg8 arg9 harg9 arg10 harg10 hc0 hc1 hc2 hc3 hc4 x0 x1 x2 x3 x4 x5 xo7 xo8).1 S1x512x96.size (by sl_kernel_rfl) y

def out1_B_6 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : ¬cond1_0 i) (hc1 : ¬cond1_1 i) (hc2 : cond1_2 i) (hc3 : ¬cond1_3 i) (hc4 : ¬cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (xo7 : Vec F S1x2048x96 .f32) (xo8 : Vec F S1x2048x64 .f32) : Vec F S1x512x96 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 hc0 hc1 hc2 hc3 hc4 x0 x1 x2 x3 x4 x5 xo7 xo8).1)

/-- What case B leaves in output 7's staging buffer: its stores read back over what the point before left there (they do not cover the block). -/
def out1_B_7 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : ¬cond1_0 i) (hc1 : ¬cond1_1 i) (hc2 : cond1_2 i) (hc3 : ¬cond1_3 i) (hc4 : ¬cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (xo7 : Vec F S1x2048x96 .f32) (xo8 : Vec F S1x2048x64 .f32) : Vec F S1x2048x96 .f32 :=
  arg9.view.read (Elt F) (arg9.view.writes (Elt F) (harg9.unread xo7) (kernelRun1_B c i arg2 harg2 arg3 harg3 arg4 harg4 arg5 harg5 arg6 harg6 arg7 harg7 arg8 harg8 arg9 harg9 arg10 harg10 hc0 hc1 hc2 hc3 hc4 x0 x1 x2 x3 x4 x5 xo7 xo8).2.1)

def out1_B_8 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : ¬cond1_0 i) (hc1 : ¬cond1_1 i) (hc2 : cond1_2 i) (hc3 : ¬cond1_3 i) (hc4 : ¬cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (xo7 : Vec F S1x2048x96 .f32) (xo8 : Vec F S1x2048x64 .f32) : Vec F S1x2048x64 .f32 :=
  arg10.view.read (Elt F) (arg10.view.writes (Elt F) (harg10.unread xo8) (kernelRun1_B c i arg2 harg2 arg3 harg3 arg4 harg4 arg5 harg5 arg6 harg6 arg7 harg7 arg8 harg8 arg9 harg9 arg10 harg10 hc0 hc1 hc2 hc3 hc4 x0 x1 x2 x3 x4 x5 xo7 xo8).2.2.1)

-- (the run's proof term is large: the definition's epilogue — `abstractNestedProofs` — walks it past the default budget)
set_option maxHeartbeats 1000000 in
noncomputable def kernelRun1_C (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : ¬cond1_0 i) (hc1 : ¬cond1_1 i) (hc2 : ¬cond1_2 i) (hc3 : cond1_3 i) (hc4 : ¬cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (xo7 : Vec F S1x2048x96 .f32) (xo8 : Vec F S1x2048x64 .f32) :
    Σ' (L6 : List (View.Piece (Elt F) S1x512x96 .f32)), Σ' (L7 : List (View.Piece (Elt F) S1x2048x96 .f32)), { L8 : List (View.Piece (Elt F) S1x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread xo7) L7) ∗ (arg10.view.loc (c : Thread nD τ) ↦[arg10.view.set]{fullShare} arg10.view.writes (Elt F) (harg10.unread xo8) L8)) -∗ K ⟨⟩))
          ⊢ wp frame (wpE (defs₀ (F := F)) Variants.none c none) E (cc1_mla_attn_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc1_mla_attn_bwd_eq_skeleton]; unfold cc1_mla_attn_bwd_skel
    simp only [k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexact H7
    iexact H8

theorem cover1_C_6 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : ¬cond1_0 i) (hc1 : ¬cond1_1 i) (hc2 : ¬cond1_2 i) (hc3 : cond1_3 i) (hc4 : ¬cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (xo7 : Vec F S1x2048x96 .f32) (xo8 : Vec F S1x2048x64 .f32) (y : S1x512x96.Idx) :
    ∃ pc ∈ (kernelRun1_C c i arg2 harg2 arg3 harg3 arg4 harg4 arg5 harg5 arg6 harg6 arg7 harg7 arg8 harg8 arg9 harg9 arg10 harg10 hc0 hc1 hc2 hc3 hc4 x0 x1 x2 x3 x4 x5 xo7 xo8).1, y ∈ pc.1.set :=
  View.cover_of_tiledL (kernelRun1_C c i arg2 harg2 arg3 harg3 arg4 harg4 arg5 harg5 arg6 harg6 arg7 harg7 arg8 harg8 arg9 harg9 arg10 harg10 hc0 hc1 hc2 hc3 hc4 x0 x1 x2 x3 x4 x5 xo7 xo8).1 S1x512x96.size (by sl_kernel_rfl) y

def out1_C_6 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : ¬cond1_0 i) (hc1 : ¬cond1_1 i) (hc2 : ¬cond1_2 i) (hc3 : cond1_3 i) (hc4 : ¬cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (xo7 : Vec F S1x2048x96 .f32) (xo8 : Vec F S1x2048x64 .f32) : Vec F S1x512x96 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 hc2 hc3 hc4 x0 x1 x2 x3 x4 x5 xo7 xo8).1)

def out1_C_7 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : ¬cond1_0 i) (hc1 : ¬cond1_1 i) (hc2 : ¬cond1_2 i) (hc3 : cond1_3 i) (hc4 : ¬cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (xo7 : Vec F S1x2048x96 .f32) (xo8 : Vec F S1x2048x64 .f32) : Vec F S1x2048x96 .f32 :=
  arg9.view.read (Elt F) (arg9.view.writes (Elt F) (harg9.unread xo7) (kernelRun1_C c i arg2 harg2 arg3 harg3 arg4 harg4 arg5 harg5 arg6 harg6 arg7 harg7 arg8 harg8 arg9 harg9 arg10 harg10 hc0 hc1 hc2 hc3 hc4 x0 x1 x2 x3 x4 x5 xo7 xo8).2.1)

def out1_C_8 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : ¬cond1_0 i) (hc1 : ¬cond1_1 i) (hc2 : ¬cond1_2 i) (hc3 : cond1_3 i) (hc4 : ¬cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (xo7 : Vec F S1x2048x96 .f32) (xo8 : Vec F S1x2048x64 .f32) : Vec F S1x2048x64 .f32 :=
  arg10.view.read (Elt F) (arg10.view.writes (Elt F) (harg10.unread xo8) (kernelRun1_C c i arg2 harg2 arg3 harg3 arg4 harg4 arg5 harg5 arg6 harg6 arg7 harg7 arg8 harg8 arg9 harg9 arg10 harg10 hc0 hc1 hc2 hc3 hc4 x0 x1 x2 x3 x4 x5 xo7 xo8).2.2.1)

-- (the run's proof term is large: the definition's epilogue — `abstractNestedProofs` — walks it past the default budget)
set_option maxHeartbeats 1000000 in
noncomputable def kernelRun1_D (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : ¬cond1_0 i) (hc1 : ¬cond1_1 i) (hc2 : ¬cond1_2 i) (hc3 : ¬cond1_3 i) (hc4 : cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (xo7 : Vec F S1x2048x96 .f32) (xo8 : Vec F S1x2048x64 .f32) :
    Σ' (L6 : List (View.Piece (Elt F) S1x512x96 .f32)), Σ' (L7 : List (View.Piece (Elt F) S1x2048x96 .f32)), { L8 : List (View.Piece (Elt F) S1x2048x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7 ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc1_mla_attn_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc1_mla_attn_bwd_eq_skeleton]; unfold cc1_mla_attn_bwd_skel
    simp only [k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

theorem cover1_D_6 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : ¬cond1_0 i) (hc1 : ¬cond1_1 i) (hc2 : ¬cond1_2 i) (hc3 : ¬cond1_3 i) (hc4 : cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (xo7 : Vec F S1x2048x96 .f32) (xo8 : Vec F S1x2048x64 .f32) (y : S1x512x96.Idx) :
    ∃ pc ∈ (kernelRun1_D c i arg2 harg2 arg3 harg3 arg4 harg4 arg5 harg5 arg6 harg6 arg7 harg7 arg8 harg8 arg9 harg9 arg10 harg10 hc0 hc1 hc2 hc3 hc4 x0 x1 x2 x3 x4 x5 xo7 xo8).1, y ∈ pc.1.set :=
  View.cover_of_tiledL (kernelRun1_D c i arg2 harg2 arg3 harg3 arg4 harg4 arg5 harg5 arg6 harg6 arg7 harg7 arg8 harg8 arg9 harg9 arg10 harg10 hc0 hc1 hc2 hc3 hc4 x0 x1 x2 x3 x4 x5 xo7 xo8).1 S1x512x96.size (by sl_kernel_rfl) y

def out1_D_6 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : ¬cond1_0 i) (hc1 : ¬cond1_1 i) (hc2 : ¬cond1_2 i) (hc3 : ¬cond1_3 i) (hc4 : cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (xo7 : Vec F S1x2048x96 .f32) (xo8 : Vec F S1x2048x64 .f32) : Vec F S1x512x96 .f32 :=
  VO1_6.read (Elt F) (VO1_6.writes (Elt F) VO1_6.junk (kernelRun1_D c i arg2 harg2 arg3 harg3 arg4 harg4 arg5 harg5 arg6 harg6 arg7 harg7 arg8 harg8 arg9 harg9 arg10 harg10 hc0 hc1 hc2 hc3 hc4 x0 x1 x2 x3 x4 x5 xo7 xo8).1)

theorem cover1_D_7 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : ¬cond1_0 i) (hc1 : ¬cond1_1 i) (hc2 : ¬cond1_2 i) (hc3 : ¬cond1_3 i) (hc4 : cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (xo7 : Vec F S1x2048x96 .f32) (xo8 : Vec F S1x2048x64 .f32) (y : S1x2048x96.Idx) :
    ∃ pc ∈ (kernelRun1_D c i arg2 harg2 arg3 harg3 arg4 harg4 arg5 harg5 arg6 harg6 arg7 harg7 arg8 harg8 arg9 harg9 arg10 harg10 hc0 hc1 hc2 hc3 hc4 x0 x1 x2 x3 x4 x5 xo7 xo8).2.1, y ∈ pc.1.set :=
  View.cover_of_tiledL (kernelRun1_D c i arg2 harg2 arg3 harg3 arg4 harg4 arg5 harg5 arg6 harg6 arg7 harg7 arg8 harg8 arg9 harg9 arg10 harg10 hc0 hc1 hc2 hc3 hc4 x0 x1 x2 x3 x4 x5 xo7 xo8).2.1 S1x2048x96.size (by sl_kernel_rfl) y

def out1_D_7 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : ¬cond1_0 i) (hc1 : ¬cond1_1 i) (hc2 : ¬cond1_2 i) (hc3 : ¬cond1_3 i) (hc4 : cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (xo7 : Vec F S1x2048x96 .f32) (xo8 : Vec F S1x2048x64 .f32) : Vec F S1x2048x96 .f32 :=
  VO1_7.read (Elt F) (VO1_7.writes (Elt F) VO1_7.junk (kernelRun1_D c i arg2 harg2 arg3 harg3 arg4 harg4 arg5 harg5 arg6 harg6 arg7 harg7 arg8 harg8 arg9 harg9 arg10 harg10 hc0 hc1 hc2 hc3 hc4 x0 x1 x2 x3 x4 x5 xo7 xo8).2.1)

theorem cover1_D_8 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : ¬cond1_0 i) (hc1 : ¬cond1_1 i) (hc2 : ¬cond1_2 i) (hc3 : ¬cond1_3 i) (hc4 : cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (xo7 : Vec F S1x2048x96 .f32) (xo8 : Vec F S1x2048x64 .f32) (y : S1x2048x64.Idx) :
    ∃ pc ∈ (kernelRun1_D c i arg2 harg2 arg3 harg3 arg4 harg4 arg5 harg5 arg6 harg6 arg7 harg7 arg8 harg8 arg9 harg9 arg10 harg10 hc0 hc1 hc2 hc3 hc4 x0 x1 x2 x3 x4 x5 xo7 xo8).2.2.1, y ∈ pc.1.set :=
  View.cover_of_tiledL (kernelRun1_D c i arg2 harg2 arg3 harg3 arg4 harg4 arg5 harg5 arg6 harg6 arg7 harg7 arg8 harg8 arg9 harg9 arg10 harg10 hc0 hc1 hc2 hc3 hc4 x0 x1 x2 x3 x4 x5 xo7 xo8).2.2.1 S1x2048x64.size (by sl_kernel_rfl) y

def out1_D_8 (c : Dev nD) (i : grid1.Coords) (arg2 : Memref sig .tc .vmem S1x512x96 .bf16) (harg2 : arg2.IsWhole) (arg3 : Memref sig .tc .vmem S1x2048x96 .bf16) (harg3 : arg3.IsWhole) (arg4 : Memref sig .tc .vmem S1x2048x64 .bf16) (harg4 : arg4.IsWhole) (arg5 : Memref sig .tc .vmem S1x512x64 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x96 .f32) (harg8 : arg8.IsWhole) (arg9 : Memref sig .tc .vmem S1x2048x96 .f32) (harg9 : arg9.IsWhole) (arg10 : Memref sig .tc .vmem S1x2048x64 .f32) (harg10 : arg10.IsWhole) (hc0 : ¬cond1_0 i) (hc1 : ¬cond1_1 i) (hc2 : ¬cond1_2 i) (hc3 : ¬cond1_3 i) (hc4 : cond1_4 i)
    (x0 : Vec F S1x512x96 .bf16) (x1 : Vec F S1x2048x96 .bf16) (x2 : Vec F S1x2048x64 .bf16) (x3 : Vec F S1x512x64 .f32) (x4 : Vec F S1x512x64 .f32) (x5 : Vec F S1x512x1 .f32) (xo7 : Vec F S1x2048x96 .f32) (xo8 : Vec F S1x2048x64 .f32) : Vec F S1x2048x64 .f32 :=
  VO1_8.read (Elt F) (VO1_8.writes (Elt F) VO1_8.junk (kernelRun1_D c i arg2 harg2 arg3 harg3 arg4 harg4 arg5 harg5 arg6 harg6 arg7 harg7 arg8 harg8 arg9 harg9 arg10 harg10 hc0 hc1 hc2 hc3 hc4 x0 x1 x2 x3 x4 x5 xo7 xo8).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`); an output it leaves idle whose contents another case keeps stays
    what this leaves at `n - 1`, carried. An assignment of the conditions no point meets is no case (`False.elim`). -/
def outsAt1 (c : Dev nD) : (n : ℕ) → n < cfg1.N → Vec F S1x512x96 .f32 × Vec F S1x2048x96 .f32 × Vec F S1x2048x64 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) ((hcond1_0 ⟨0, hn⟩).mpr (Nat.zero_mod _)) ((hcond1_1 ⟨0, hn⟩).mpr (Nat.zero_mod _)) (fun h => (fun h => by (try dsimp only at h); omega) ((hcond1_2 ⟨0, hn⟩).mp h)) (fun h => (fun h => by (try dsimp only at h); omega) ((hcond1_3 ⟨0, hn⟩).mp h)) (fun h => (fun h => by (try dsimp only at h); omega) ((hcond1_4 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) ((hcond1_0 ⟨0, hn⟩).mpr (Nat.zero_mod _)) ((hcond1_1 ⟨0, hn⟩).mpr (Nat.zero_mod _)) (fun h => (fun h => by (try dsimp only at h); omega) ((hcond1_2 ⟨0, hn⟩).mp h)) (fun h => (fun h => by (try dsimp only at h); omega) ((hcond1_3 ⟨0, hn⟩).mp h)) (fun h => (fun h => by (try dsimp only at h); omega) ((hcond1_4 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) ((hcond1_0 ⟨0, hn⟩).mpr (Nat.zero_mod _)) ((hcond1_1 ⟨0, hn⟩).mpr (Nat.zero_mod _)) (fun h => (fun h => by (try dsimp only at h); omega) ((hcond1_2 ⟨0, hn⟩).mp h)) (fun h => (fun h => by (try dsimp only at h); omega) ((hcond1_3 ⟨0, hn⟩).mp h)) (fun h => (fun h => by (try dsimp only at h); omega) ((hcond1_4 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 4 = 0 then
      if h1 : (n + 1) % 4 = 0 then
        if h2 : (n + 1) % 4 = 1 then
          False.elim (by have hN : n + 1 < 64 := lt_of_lt_of_eq hn (show cfg1.N = 64 from N_1); omega)
        else
          if h3 : (n + 1) % 4 = 2 then
            False.elim (by have hN : n + 1 < 64 := lt_of_lt_of_eq hn (show cfg1.N = 64 from N_1); omega)
          else
            if h4 : (n + 1) % 4 = 3 then
              False.elim (by have hN : n + 1 < 64 := lt_of_lt_of_eq hn (show cfg1.N = 64 from N_1); omega)
            else
              (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) ((hcond1_0 ⟨n + 1, hn⟩).mpr h0) ((hcond1_1 ⟨n + 1, hn⟩).mpr h1) (fun h => h2 ((hcond1_2 ⟨n + 1, hn⟩).mp h)) (fun h => h3 ((hcond1_3 ⟨n + 1, hn⟩).mp h)) (fun h => h4 ((hcond1_4 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) ((hcond1_0 ⟨n + 1, hn⟩).mpr h0) ((hcond1_1 ⟨n + 1, hn⟩).mpr h1) (fun h => h2 ((hcond1_2 ⟨n + 1, hn⟩).mp h)) (fun h => h3 ((hcond1_3 ⟨n + 1, hn⟩).mp h)) (fun h => h4 ((hcond1_4 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) ((hcond1_0 ⟨n + 1, hn⟩).mpr h0) ((hcond1_1 ⟨n + 1, hn⟩).mpr h1) (fun h => h2 ((hcond1_2 ⟨n + 1, hn⟩).mp h)) (fun h => h3 ((hcond1_3 ⟨n + 1, hn⟩).mp h)) (fun h => h4 ((hcond1_4 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
      else
        False.elim (by have hN : n + 1 < 64 := lt_of_lt_of_eq hn (show cfg1.N = 64 from N_1); omega)
    else
      if h1 : (n + 1) % 4 = 0 then
        False.elim (by have hN : n + 1 < 64 := lt_of_lt_of_eq hn (show cfg1.N = 64 from N_1); omega)
      else
        if h2 : (n + 1) % 4 = 1 then
          if h3 : (n + 1) % 4 = 2 then
            False.elim (by have hN : n + 1 < 64 := lt_of_lt_of_eq hn (show cfg1.N = 64 from N_1); omega)
          else
            if h4 : (n + 1) % 4 = 3 then
              False.elim (by have hN : n + 1 < 64 := lt_of_lt_of_eq hn (show cfg1.N = 64 from N_1); omega)
            else
              (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (fun h => h0 ((hcond1_0 ⟨n + 1, hn⟩).mp h)) (fun h => h1 ((hcond1_1 ⟨n + 1, hn⟩).mp h)) ((hcond1_2 ⟨n + 1, hn⟩).mpr h2) (fun h => h3 ((hcond1_3 ⟨n + 1, hn⟩).mp h)) (fun h => h4 ((hcond1_4 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (fun h => h0 ((hcond1_0 ⟨n + 1, hn⟩).mp h)) (fun h => h1 ((hcond1_1 ⟨n + 1, hn⟩).mp h)) ((hcond1_2 ⟨n + 1, hn⟩).mpr h2) (fun h => h3 ((hcond1_3 ⟨n + 1, hn⟩).mp h)) (fun h => h4 ((hcond1_4 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2, out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (fun h => h0 ((hcond1_0 ⟨n + 1, hn⟩).mp h)) (fun h => h1 ((hcond1_1 ⟨n + 1, hn⟩).mp h)) ((hcond1_2 ⟨n + 1, hn⟩).mpr h2) (fun h => h3 ((hcond1_3 ⟨n + 1, hn⟩).mp h)) (fun h => h4 ((hcond1_4 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2)
        else
          if h3 : (n + 1) % 4 = 2 then
            if h4 : (n + 1) % 4 = 3 then
              False.elim (by have hN : n + 1 < 64 := lt_of_lt_of_eq hn (show cfg1.N = 64 from N_1); omega)
            else
              (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (fun h => h0 ((hcond1_0 ⟨n + 1, hn⟩).mp h)) (fun h => h1 ((hcond1_1 ⟨n + 1, hn⟩).mp h)) (fun h => h2 ((hcond1_2 ⟨n + 1, hn⟩).mp h)) ((hcond1_3 ⟨n + 1, hn⟩).mpr h3) (fun h => h4 ((hcond1_4 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (fun h => h0 ((hcond1_0 ⟨n + 1, hn⟩).mp h)) (fun h => h1 ((hcond1_1 ⟨n + 1, hn⟩).mp h)) (fun h => h2 ((hcond1_2 ⟨n + 1, hn⟩).mp h)) ((hcond1_3 ⟨n + 1, hn⟩).mpr h3) (fun h => h4 ((hcond1_4 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2, out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (fun h => h0 ((hcond1_0 ⟨n + 1, hn⟩).mp h)) (fun h => h1 ((hcond1_1 ⟨n + 1, hn⟩).mp h)) (fun h => h2 ((hcond1_2 ⟨n + 1, hn⟩).mp h)) ((hcond1_3 ⟨n + 1, hn⟩).mpr h3) (fun h => h4 ((hcond1_4 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2)
          else
            if h4 : (n + 1) % 4 = 3 then
              (out1_D_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (fun h => h0 ((hcond1_0 ⟨n + 1, hn⟩).mp h)) (fun h => h1 ((hcond1_1 ⟨n + 1, hn⟩).mp h)) (fun h => h2 ((hcond1_2 ⟨n + 1, hn⟩).mp h)) (fun h => h3 ((hcond1_3 ⟨n + 1, hn⟩).mp h)) ((hcond1_4 ⟨n + 1, hn⟩).mpr h4) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2, out1_D_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (fun h => h0 ((hcond1_0 ⟨n + 1, hn⟩).mp h)) (fun h => h1 ((hcond1_1 ⟨n + 1, hn⟩).mp h)) (fun h => h2 ((hcond1_2 ⟨n + 1, hn⟩).mp h)) (fun h => h3 ((hcond1_3 ⟨n + 1, hn⟩).mp h)) ((hcond1_4 ⟨n + 1, hn⟩).mpr h4) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2, out1_D_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (fun h => h0 ((hcond1_0 ⟨n + 1, hn⟩).mp h)) (fun h => h1 ((hcond1_1 ⟨n + 1, hn⟩).mp h)) (fun h => h2 ((hcond1_2 ⟨n + 1, hn⟩).mp h)) (fun h => h3 ((hcond1_3 ⟨n + 1, hn⟩).mp h)) ((hcond1_4 ⟨n + 1, hn⟩).mpr h4) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.1 (outsAt1 c n (Nat.lt_of_succ_lt hn)).2.2)
            else
              False.elim (by have hN : n + 1 < 64 := lt_of_lt_of_eq hn (show cfg1.N = 64 from N_1); omega)

/-- `outsAt1` at a point of case A: that case's contents. -/
theorem outsAt1_A (c : Dev nD) (t : Fin cfg1.N) (h0 : t.val % 4 = 0) (h1 : t.val % 4 = 0) (h2 : ¬t.val % 4 = 1) (h3 : ¬t.val % 4 = 2) (h4 : ¬t.val % 4 = 3) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) ((hcond1_1 t).mpr h1) (fun h => h2 ((hcond1_2 t).mp h)) (fun h => h3 ((hcond1_3 t).mp h)) (fun h => h4 ((hcond1_4 t).mp h)) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) ((hcond1_1 t).mpr h1) (fun h => h2 ((hcond1_2 t).mp h)) (fun h => h3 ((hcond1_3 t).mp h)) (fun h => h4 ((hcond1_4 t).mp h)) (iblk1 V c 0 t) (iblk1 V c 1 t) (iblk1 V c 2 t) (iblk1 V c 3 t) (iblk1 V c 4 t) (iblk1 V c 5 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) ((hcond1_1 t).mpr h1) (fun h => h2 ((hcond1_2 t).mp h)) (fun h => h3 ((hcond1_3 t).mp h)) (fun h => h4 ((hcond1_4 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_pos h1).trans ((dif_neg h2).trans ((dif_neg h3).trans ((dif_neg h4).trans rfl))))

/-- `outsAt1` at a point of case B: that case's contents, over what the point before left. -/
theorem outsAt1_B (c : Dev nD) (t : Fin cfg1.N) (h0 : ¬t.val % 4 = 0) (h1 : ¬t.val % 4 = 0) (h2 : t.val % 4 = 1) (h3 : ¬t.val % 4 = 2) (h4 : ¬t.val % 4 = 3) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (fun h => h1 ((hcond1_1 t).mp h)) ((hcond1_2 t).mpr h2) (fun h => h3 ((hcond1_3 t).mp h)) (fun h => h4 ((hcond1_4 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (fun h => h1 ((hcond1_1 t).mp h)) ((hcond1_2 t).mpr h2) (fun h => h3 ((hcond1_3 t).mp h)) (fun h => h4 ((hcond1_4 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (fun h => h1 ((hcond1_1 t).mp h)) ((hcond1_2 t).mpr h2) (fun h => h3 ((hcond1_3 t).mp h)) (fun h => h4 ((hcond1_4 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans ((dif_neg h4).trans rfl))))

theorem outsAt1_C (c : Dev nD) (t : Fin cfg1.N) (h0 : ¬t.val % 4 = 0) (h1 : ¬t.val % 4 = 0) (h2 : ¬t.val % 4 = 1) (h3 : t.val % 4 = 2) (h4 : ¬t.val % 4 = 3) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (fun h => h1 ((hcond1_1 t).mp h)) (fun h => h2 ((hcond1_2 t).mp h)) ((hcond1_3 t).mpr h3) (fun h => h4 ((hcond1_4 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (fun h => h1 ((hcond1_1 t).mp h)) (fun h => h2 ((hcond1_2 t).mp h)) ((hcond1_3 t).mpr h3) (fun h => h4 ((hcond1_4 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2, out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (fun h => h1 ((hcond1_1 t).mp h)) (fun h => h2 ((hcond1_2 t).mp h)) ((hcond1_3 t).mpr h3) (fun h => h4 ((hcond1_4 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

theorem outsAt1_D (c : Dev nD) (t : Fin cfg1.N) (h0 : ¬t.val % 4 = 0) (h1 : ¬t.val % 4 = 0) (h2 : ¬t.val % 4 = 1) (h3 : ¬t.val % 4 = 2) (h4 : t.val % 4 = 3) :
    outsAt1 V c t.val t.isLt = (out1_D_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (fun h => h1 ((hcond1_1 t).mp h)) (fun h => h2 ((hcond1_2 t).mp h)) (fun h => h3 ((hcond1_3 t).mp h)) ((hcond1_4 t).mpr h4) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2, out1_D_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (fun h => h1 ((hcond1_1 t).mp h)) (fun h => h2 ((hcond1_2 t).mp h)) (fun h => h3 ((hcond1_3 t).mp h)) ((hcond1_4 t).mpr h4) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2, out1_D_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (fun h => h1 ((hcond1_1 t).mp h)) (fun h => h2 ((hcond1_2 t).mp h)) (fun h => h3 ((hcond1_3 t).mp h)) ((hcond1_4 t).mpr h4) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_neg h3).trans ((dif_pos h4).trans rfl))))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
    | ⟨8, _⟩ => (outsAt1 V c t.val t.isLt).2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]
theorem after1_8 (c : Dev nD) (t : Fin cfg1.N) : (dat1 V c).after 8 t = (outsAt1 V c t.val t.isLt).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- Output 7's contents CARRY through the points that leave it idle: at such a point, its buffer not fresh, the proof data's
    `after` is the point before's (the case there stores nothing into the window and its term says so; a case that stores
    into it is not idle there by `liveAt1_7_κ`) — the hypothesis of Lib/Pipeline/TableIdle.lean `Dat.before_out_traj`. -/
theorem hcarry1_7 (c : Dev nD) : ∀ (t : Fin cfg1.N) (_ : t.val ≠ 0), cfg1.idle 7 (grid1.coords t) = true → cfg1.fresh 7 t.val = false →
    (dat1 V c).after 7 t = (dat1 V c).after 7 ⟨t.val - 1, by omega⟩ := by
  intro t _ hi _
  have hN : t.val < 64 := lt_of_lt_of_eq t.isLt (show cfg1.N = 64 from N_1)
  rw [after1_7, after1_7]
  by_cases h0 : t.val % 4 = 0
  · by_cases h1 : t.val % 4 = 0
    · by_cases h2 : t.val % 4 = 1
      · exfalso; omega
      · by_cases h3 : t.val % 4 = 2
        · exfalso; omega
        · by_cases h4 : t.val % 4 = 3
          · exfalso; omega
          · rw [liveAt1_7_A t ((hcond1_0 t).mpr h0) ((hcond1_1 t).mpr h1) (fun h => h2 ((hcond1_2 t).mp h)) (fun h => h3 ((hcond1_3 t).mp h)) (fun h => h4 ((hcond1_4 t).mp h))] at hi
            exact absurd hi Bool.false_ne_true
    · exfalso; omega
  · by_cases h1 : t.val % 4 = 0
    · exfalso; omega
    · by_cases h2 : t.val % 4 = 1
      · by_cases h3 : t.val % 4 = 2
        · exfalso; omega
        · by_cases h4 : t.val % 4 = 3
          · exfalso; omega
          · rw [liveAt1_7_B t (fun h => h0 ((hcond1_0 t).mp h)) (fun h => h1 ((hcond1_1 t).mp h)) ((hcond1_2 t).mpr h2) (fun h => h3 ((hcond1_3 t).mp h)) (fun h => h4 ((hcond1_4 t).mp h))] at hi
            exact absurd hi Bool.false_ne_true
      · by_cases h3 : t.val % 4 = 2
        · by_cases h4 : t.val % 4 = 3
          · exfalso; omega
          · rw [liveAt1_7_C t (fun h => h0 ((hcond1_0 t).mp h)) (fun h => h1 ((hcond1_1 t).mp h)) (fun h => h2 ((hcond1_2 t).mp h)) ((hcond1_3 t).mpr h3) (fun h => h4 ((hcond1_4 t).mp h))] at hi
            exact absurd hi Bool.false_ne_true
        · by_cases h4 : t.val % 4 = 3
          · rw [liveAt1_7_D t (fun h => h0 ((hcond1_0 t).mp h)) (fun h => h1 ((hcond1_1 t).mp h)) (fun h => h2 ((hcond1_2 t).mp h)) (fun h => h3 ((hcond1_3 t).mp h)) ((hcond1_4 t).mpr h4)] at hi
            exact absurd hi Bool.false_ne_true
          · exfalso; omega

theorem hcarry1_8 (c : Dev nD) : ∀ (t : Fin cfg1.N) (_ : t.val ≠ 0), cfg1.idle 8 (grid1.coords t) = true → cfg1.fresh 8 t.val = false →
    (dat1 V c).after 8 t = (dat1 V c).after 8 ⟨t.val - 1, by omega⟩ := by
  intro t _ hi _
  have hN : t.val < 64 := lt_of_lt_of_eq t.isLt (show cfg1.N = 64 from N_1)
  rw [after1_8, after1_8]
  by_cases h0 : t.val % 4 = 0
  · by_cases h1 : t.val % 4 = 0
    · by_cases h2 : t.val % 4 = 1
      · exfalso; omega
      · by_cases h3 : t.val % 4 = 2
        · exfalso; omega
        · by_cases h4 : t.val % 4 = 3
          · exfalso; omega
          · rw [liveAt1_8_A t ((hcond1_0 t).mpr h0) ((hcond1_1 t).mpr h1) (fun h => h2 ((hcond1_2 t).mp h)) (fun h => h3 ((hcond1_3 t).mp h)) (fun h => h4 ((hcond1_4 t).mp h))] at hi
            exact absurd hi Bool.false_ne_true
    · exfalso; omega
  · by_cases h1 : t.val % 4 = 0
    · exfalso; omega
    · by_cases h2 : t.val % 4 = 1
      · by_cases h3 : t.val % 4 = 2
        · exfalso; omega
        · by_cases h4 : t.val % 4 = 3
          · exfalso; omega
          · rw [liveAt1_8_B t (fun h => h0 ((hcond1_0 t).mp h)) (fun h => h1 ((hcond1_1 t).mp h)) ((hcond1_2 t).mpr h2) (fun h => h3 ((hcond1_3 t).mp h)) (fun h => h4 ((hcond1_4 t).mp h))] at hi
            exact absurd hi Bool.false_ne_true
      · by_cases h3 : t.val % 4 = 2
        · by_cases h4 : t.val % 4 = 3
          · exfalso; omega
          · rw [liveAt1_8_C t (fun h => h0 ((hcond1_0 t).mp h)) (fun h => h1 ((hcond1_1 t).mp h)) (fun h => h2 ((hcond1_2 t).mp h)) ((hcond1_3 t).mpr h3) (fun h => h4 ((hcond1_4 t).mp h))] at hi
            exact absurd hi Bool.false_ne_true
        · by_cases h4 : t.val % 4 = 3
          · rw [liveAt1_8_D t (fun h => h0 ((hcond1_0 t).mp h)) (fun h => h1 ((hcond1_1 t).mp h)) (fun h => h2 ((hcond1_2 t).mp h)) (fun h => h3 ((hcond1_3 t).mp h)) ((hcond1_4 t).mpr h4)] at hi
            exact absurd hi Bool.false_ne_true
          · exfalso; omega
/-- At a point of case B output 7's current staging buffer holds what the point before left: the buffer is not fresh
    there (`notFresh1_7_B`: stored into since the region's entry or the last write-back, carried through the points that
    leave it idle by `hcarry1_7`; Lib/Pipeline/TableIdle.lean `Dat.before_out_traj`). -/
theorem before1_7_B (c : Dev nD) (t : Fin cfg1.N) (h0 : ¬t.val % 4 = 0) (h1 : ¬t.val % 4 = 0) (h2 : t.val % 4 = 1) (h3 : ¬t.val % 4 = 2) (h4 : ¬t.val % 4 = 3) (d) :
    (dat1 V c).before 7 t d = (outsAt1 V c (t.val - 1) (Nat.lt_of_le_of_lt (Nat.sub_le _ _) t.isLt)).2.1 := by
  rw [Dat.before_out_traj _ 7 rfl (fun _ _ => rfl) (hcarry1_7 V c) t.val t rfl d,
    if_neg (by rw [notFresh1_7_B t (fun h => h0 ((hcond1_0 t).mp h)) (fun h => h1 ((hcond1_1 t).mp h)) ((hcond1_2 t).mpr h2) (fun h => h3 ((hcond1_3 t).mp h)) (fun h => h4 ((hcond1_4 t).mp h))]; exact Bool.false_ne_true)]
  dsimp only [dat1]
theorem before1_8_B (c : Dev nD) (t : Fin cfg1.N) (h0 : ¬t.val % 4 = 0) (h1 : ¬t.val % 4 = 0) (h2 : t.val % 4 = 1) (h3 : ¬t.val % 4 = 2) (h4 : ¬t.val % 4 = 3) (d) :
    (dat1 V c).before 8 t d = (outsAt1 V c (t.val - 1) (Nat.lt_of_le_of_lt (Nat.sub_le _ _) t.isLt)).2.2 := by
  rw [Dat.before_out_traj _ 8 rfl (fun _ _ => rfl) (hcarry1_8 V c) t.val t rfl d,
    if_neg (by rw [notFresh1_8_B t (fun h => h0 ((hcond1_0 t).mp h)) (fun h => h1 ((hcond1_1 t).mp h)) ((hcond1_2 t).mpr h2) (fun h => h3 ((hcond1_3 t).mp h)) (fun h => h4 ((hcond1_4 t).mp h))]; exact Bool.false_ne_true)]
  dsimp only [dat1]
theorem before1_7_C (c : Dev nD) (t : Fin cfg1.N) (h0 : ¬t.val % 4 = 0) (h1 : ¬t.val % 4 = 0) (h2 : ¬t.val % 4 = 1) (h3 : t.val % 4 = 2) (h4 : ¬t.val % 4 = 3) (d) :
    (dat1 V c).before 7 t d = (outsAt1 V c (t.val - 1) (Nat.lt_of_le_of_lt (Nat.sub_le _ _) t.isLt)).2.1 := by
  rw [Dat.before_out_traj _ 7 rfl (fun _ _ => rfl) (hcarry1_7 V c) t.val t rfl d,
    if_neg (by rw [notFresh1_7_C t (fun h => h0 ((hcond1_0 t).mp h)) (fun h => h1 ((hcond1_1 t).mp h)) (fun h => h2 ((hcond1_2 t).mp h)) ((hcond1_3 t).mpr h3) (fun h => h4 ((hcond1_4 t).mp h))]; exact Bool.false_ne_true)]
  dsimp only [dat1]
theorem before1_8_C (c : Dev nD) (t : Fin cfg1.N) (h0 : ¬t.val % 4 = 0) (h1 : ¬t.val % 4 = 0) (h2 : ¬t.val % 4 = 1) (h3 : t.val % 4 = 2) (h4 : ¬t.val % 4 = 3) (d) :
    (dat1 V c).before 8 t d = (outsAt1 V c (t.val - 1) (Nat.lt_of_le_of_lt (Nat.sub_le _ _) t.isLt)).2.2 := by
  rw [Dat.before_out_traj _ 8 rfl (fun _ _ => rfl) (hcarry1_8 V c) t.val t rfl d,
    if_neg (by rw [notFresh1_8_C t (fun h => h0 ((hcond1_0 t).mp h)) (fun h => h1 ((hcond1_1 t).mp h)) (fun h => h2 ((hcond1_2 t).mp h)) ((hcond1_3 t).mpr h3) (fun h => h4 ((hcond1_4 t).mp h))]; exact Bool.false_ne_true)]
  dsimp only [dat1]
theorem before1_7_D (c : Dev nD) (t : Fin cfg1.N) (h0 : ¬t.val % 4 = 0) (h1 : ¬t.val % 4 = 0) (h2 : ¬t.val % 4 = 1) (h3 : ¬t.val % 4 = 2) (h4 : t.val % 4 = 3) (d) :
    (dat1 V c).before 7 t d = (outsAt1 V c (t.val - 1) (Nat.lt_of_le_of_lt (Nat.sub_le _ _) t.isLt)).2.1 := by
  rw [Dat.before_out_traj _ 7 rfl (fun _ _ => rfl) (hcarry1_7 V c) t.val t rfl d,
    if_neg (by rw [notFresh1_7_D t (fun h => h0 ((hcond1_0 t).mp h)) (fun h => h1 ((hcond1_1 t).mp h)) (fun h => h2 ((hcond1_2 t).mp h)) (fun h => h3 ((hcond1_3 t).mp h)) ((hcond1_4 t).mpr h4)]; exact Bool.false_ne_true)]
  dsimp only [dat1]
theorem before1_8_D (c : Dev nD) (t : Fin cfg1.N) (h0 : ¬t.val % 4 = 0) (h1 : ¬t.val % 4 = 0) (h2 : ¬t.val % 4 = 1) (h3 : ¬t.val % 4 = 2) (h4 : t.val % 4 = 3) (d) :
    (dat1 V c).before 8 t d = (outsAt1 V c (t.val - 1) (Nat.lt_of_le_of_lt (Nat.sub_le _ _) t.isLt)).2.2 := by
  rw [Dat.before_out_traj _ 8 rfl (fun _ _ => rfl) (hcarry1_8 V c) t.val t rfl d,
    if_neg (by rw [notFresh1_8_D t (fun h => h0 ((hcond1_0 t).mp h)) (fun h => h1 ((hcond1_1 t).mp h)) (fun h => h2 ((hcond1_2 t).mp h)) (fun h => h3 ((hcond1_3 t).mp h)) ((hcond1_4 t).mpr h4)]; exact Bool.false_ne_true)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 3200000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl]
  have hN : t.val < 64 := lt_of_lt_of_eq t.isLt (show cfg1.N = 64 from N_1)
  by_cases h0 : t.val % 4 = 0
  · by_cases h1 : t.val % 4 = 0
    · by_cases h2 : t.val % 4 = 1
      · exfalso; omega
      · by_cases h3 : t.val % 4 = 2
        · exfalso; omega
        · by_cases h4 : t.val % 4 = 3
          · exfalso; omega
          · rw [show (dat1 V c).leavesExact 0 t = owns (c : Thread nD τ) (ms1_0 t) fullShare ((dat1 V c).after 0 t) from by
      unfold Dat.leavesExact; rw [liveAt1_0 t], after1_0]
            rw [show (dat1 V c).leavesExact 1 t = owns (c : Thread nD τ) (ms1_1 t) fullShare ((dat1 V c).after 1 t) from by
      unfold Dat.leavesExact; rw [liveAt1_1 t], after1_1]
            rw [show (dat1 V c).leavesExact 2 t = owns (c : Thread nD τ) (ms1_2 t) fullShare ((dat1 V c).after 2 t) from by
      unfold Dat.leavesExact; rw [liveAt1_2 t], after1_2]
            rw [show (dat1 V c).leavesExact 3 t = owns (c : Thread nD τ) (ms1_3 t) fullShare ((dat1 V c).after 3 t) from by
      unfold Dat.leavesExact; rw [liveAt1_3 t], after1_3]
            rw [show (dat1 V c).leavesExact 4 t = owns (c : Thread nD τ) (ms1_4 t) fullShare ((dat1 V c).after 4 t) from by
      unfold Dat.leavesExact; rw [liveAt1_4 t], after1_4]
            rw [show (dat1 V c).leavesExact 5 t = owns (c : Thread nD τ) (ms1_5 t) fullShare ((dat1 V c).after 5 t) from by
      unfold Dat.leavesExact; rw [liveAt1_5 t], after1_5]
            rw [show (dat1 V c).leavesExact 6 t = owns (c : Thread nD τ) (ms1_6 t) fullShare ((dat1 V c).after 6 t) from by
      unfold Dat.leavesExact; rw [liveAt1_6_A t ((hcond1_0 t).mpr h0) ((hcond1_1 t).mpr h1) (fun h => h2 ((hcond1_2 t).mp h)) (fun h => h3 ((hcond1_3 t).mp h)) (fun h => h4 ((hcond1_4 t).mp h))], after1_6]
            rw [show (dat1 V c).leavesExact 7 t = owns (c : Thread nD τ) (ms1_7 t) fullShare ((dat1 V c).after 7 t) from by
      unfold Dat.leavesExact; rw [liveAt1_7_A t ((hcond1_0 t).mpr h0) ((hcond1_1 t).mpr h1) (fun h => h2 ((hcond1_2 t).mp h)) (fun h => h3 ((hcond1_3 t).mp h)) (fun h => h4 ((hcond1_4 t).mp h))], after1_7]
            rw [show (dat1 V c).leavesExact 8 t = owns (c : Thread nD τ) (ms1_8 t) fullShare ((dat1 V c).after 8 t) from by
      unfold Dat.leavesExact; rw [liveAt1_8_A t ((hcond1_0 t).mpr h0) ((hcond1_1 t).mpr h1) (fun h => h2 ((hcond1_2 t).mp h)) (fun h => h3 ((hcond1_3 t).mp h)) (fun h => h4 ((hcond1_4 t).mp h))], after1_8]
            rw [outsAt1_A V c t h0 h1 h2 h3 h4]
            unfold out1_A_6 out1_A_7 out1_A_8; (try dsimp only)
            iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun1_A c (grid1.coords t) _ _ _ _ _ _ _ _ _ _ _ _ _ _ _ _ _ _ ((hcond1_0 t).mpr h0) ((hcond1_1 t).mpr h1) (fun h => h2 ((hcond1_2 t).mp h)) (fun h => h3 ((hcond1_3 t).mp h)) (fun h => h4 ((hcond1_4 t).mp h)) (iblk1 V c 0 t) (iblk1 V c 1 t) (iblk1 V c 2 t) (iblk1 V c 3 t) (iblk1 V c 4 t) (iblk1 V c 5 t)).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexists _; iexact H7
            isplitl [H8]; · iexists _; iexact H8
            iintro ⟨H0, H1, H2, H3, H4, H5, ⟨%e6, H6⟩, ⟨%e7, H7⟩, ⟨%e8, H8⟩⟩
            isplitl [HΦ]; · iexact HΦ
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]
            · unfold owns; iexists _; isplitr
              swap; · iexact H6
              ipureintro; exact View.read_writes_of_cover _ _ _ _ _ (cover1_A_6 c _ _ _ _ _ _ _ _ _ _ _ _ _ _ _ _ _ _ _ _ _ _ _ _ _ _ _ _ _ _)
            isplitl [H7]
            · unfold owns; iexists _; isplitr
              swap; · iexact H7
              ipureintro; exact View.read_writes_of_cover _ _ _ _ _ (cover1_A_7 c _ _ _ _ _ _ _ _ _ _ _ _ _ _ _ _ _ _ _ _ _ _ _ _ _ _ _ _ _ _)
            unfold owns; iexists _; isplitr
            swap; · iexact H8
            ipureintro; exact View.read_writes_of_cover _ _ _ _ _ (cover1_A_8 c _ _ _ _ _ _ _ _ _ _ _ _ _ _ _ _ _ _ _ _ _ _ _ _ _ _ _ _ _ _)
    · exfalso; omega
  · by_cases h1 : t.val % 4 = 0
    · exfalso; omega
    · by_cases h2 : t.val % 4 = 1
      · by_cases h3 : t.val % 4 = 2
        · exfalso; omega
        · by_cases h4 : t.val % 4 = 3
          · exfalso; omega
          · rw [show (dat1 V c).leavesExact 0 t = owns (c : Thread nD τ) (ms1_0 t) fullShare ((dat1 V c).after 0 t) from by
      unfold Dat.leavesExact; rw [liveAt1_0 t], after1_0]
            rw [show (dat1 V c).leavesExact 1 t = owns (c : Thread nD τ) (ms1_1 t) fullShare ((dat1 V c).after 1 t) from by
      unfold Dat.leavesExact; rw [liveAt1_1 t], after1_1]
            rw [show (dat1 V c).leavesExact 2 t = owns (c : Thread nD τ) (ms1_2 t) fullShare ((dat1 V c).after 2 t) from by
      unfold Dat.leavesExact; rw [liveAt1_2 t], after1_2]
            rw [show (dat1 V c).leavesExact 3 t = owns (c : Thread nD τ) (ms1_3 t) fullShare ((dat1 V c).after 3 t) from by
      unfold Dat.leavesExact; rw [liveAt1_3 t], after1_3]
            rw [show (dat1 V c).leavesExact 4 t = owns (c : Thread nD τ) (ms1_4 t) fullShare ((dat1 V c).after 4 t) from by
      unfold Dat.leavesExact; rw [liveAt1_4 t], after1_4]
            rw [show (dat1 V c).leavesExact 5 t = owns (c : Thread nD τ) (ms1_5 t) fullShare ((dat1 V c).after 5 t) from by
      unfold Dat.leavesExact; rw [liveAt1_5 t], after1_5]
            rw [show (dat1 V c).leavesExact 6 t = owns (c : Thread nD τ) (ms1_6 t) fullShare ((dat1 V c).after 6 t) from by
      unfold Dat.leavesExact; rw [liveAt1_6_B t (fun h => h0 ((hcond1_0 t).mp h)) (fun h => h1 ((hcond1_1 t).mp h)) ((hcond1_2 t).mpr h2) (fun h => h3 ((hcond1_3 t).mp h)) (fun h => h4 ((hcond1_4 t).mp h))], after1_6]
            rw [show (dat1 V c).leavesExact 7 t = owns (c : Thread nD τ) (ms1_7 t) fullShare ((dat1 V c).after 7 t) from by
      unfold Dat.leavesExact; rw [liveAt1_7_B t (fun h => h0 ((hcond1_0 t).mp h)) (fun h => h1 ((hcond1_1 t).mp h)) ((hcond1_2 t).mpr h2) (fun h => h3 ((hcond1_3 t).mp h)) (fun h => h4 ((hcond1_4 t).mp h))], after1_7]
            rw [show (dat1 V c).leavesExact 8 t = owns (c : Thread nD τ) (ms1_8 t) fullShare ((dat1 V c).after 8 t) from by
      unfold Dat.leavesExact; rw [liveAt1_8_B t (fun h => h0 ((hcond1_0 t).mp h)) (fun h => h1 ((hcond1_1 t).mp h)) ((hcond1_2 t).mpr h2) (fun h => h3 ((hcond1_3 t).mp h)) (fun h => h4 ((hcond1_4 t).mp h))], after1_8]
            rw [outsAt1_B V c t h0 h1 h2 h3 h4]
            simp only [before1_7_B V c t h0 h1 h2 h3 h4, before1_8_B V c t h0 h1 h2 h3 h4]
            unfold out1_B_6 out1_B_7 out1_B_8; (try dsimp only)
            iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun1_B c (grid1.coords t) _ _ _ _ _ _ _ _ _ _ _ _ _ _ _ _ _ _ (fun h => h0 ((hcond1_0 t).mp h)) (fun h => h1 ((hcond1_1 t).mp h)) ((hcond1_2 t).mpr h2) (fun h => h3 ((hcond1_3 t).mp h)) (fun h => h4 ((hcond1_4 t).mp h)) (iblk1 V c 0 t) (iblk1 V c 1 t) (iblk1 V c 2 t) (iblk1 V c 3 t) (iblk1 V c 4 t) (iblk1 V c 5 t) _ _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexact H7
            isplitl [H8]; · iexact H8
            iintro ⟨H0, H1, H2, H3, H4, H5, ⟨%e6, H6⟩, H7, H8⟩
            isplitl [HΦ]; · iexact HΦ
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]
            · unfold owns; iexists _; isplitr
              swap; · iexact H6
              ipureintro; exact View.read_writes_of_cover _ _ _ _ _ (cover1_B_6 c _ _ _ _ _ _ _ _ _ _ _ _ _ _ _ _ _ _ _ _ _ _ _ _ _ _ _ _ _ _ _ _)
            isplitl [H7]
            · unfold owns; iexists _; isplitr
              swap; · iexact H7
              ipureintro; rfl
            unfold owns; iexists _; isplitr
            swap; · iexact H8
            ipureintro; rfl
      · by_cases h3 : t.val % 4 = 2
        · by_cases h4 : t.val % 4 = 3
          · exfalso; omega
          · rw [show (dat1 V c).leavesExact 0 t = owns (c : Thread nD τ) (ms1_0 t) fullShare ((dat1 V c).after 0 t) from by
      unfold Dat.leavesExact; rw [liveAt1_0 t], after1_0]
            rw [show (dat1 V c).leavesExact 1 t = owns (c : Thread nD τ) (ms1_1 t) fullShare ((dat1 V c).after 1 t) from by
      unfold Dat.leavesExact; rw [liveAt1_1 t], after1_1]
            rw [show (dat1 V c).leavesExact 2 t = owns (c : Thread nD τ) (ms1_2 t) fullShare ((dat1 V c).after 2 t) from by
      unfold Dat.leavesExact; rw [liveAt1_2 t], after1_2]
            rw [show (dat1 V c).leavesExact 3 t = owns (c : Thread nD τ) (ms1_3 t) fullShare ((dat1 V c).after 3 t) from by
      unfold Dat.leavesExact; rw [liveAt1_3 t], after1_3]
            rw [show (dat1 V c).leavesExact 4 t = owns (c : Thread nD τ) (ms1_4 t) fullShare ((dat1 V c).after 4 t) from by
      unfold Dat.leavesExact; rw [liveAt1_4 t], after1_4]
            rw [show (dat1 V c).leavesExact 5 t = owns (c : Thread nD τ) (ms1_5 t) fullShare ((dat1 V c).after 5 t) from by
      unfold Dat.leavesExact; rw [liveAt1_5 t], after1_5]
            rw [show (dat1 V c).leavesExact 6 t = owns (c : Thread nD τ) (ms1_6 t) fullShare ((dat1 V c).after 6 t) from by
      unfold Dat.leavesExact; rw [liveAt1_6_C t (fun h => h0 ((hcond1_0 t).mp h)) (fun h => h1 ((hcond1_1 t).mp h)) (fun h => h2 ((hcond1_2 t).mp h)) ((hcond1_3 t).mpr h3) (fun h => h4 ((hcond1_4 t).mp h))], after1_6]
            rw [show (dat1 V c).leavesExact 7 t = owns (c : Thread nD τ) (ms1_7 t) fullShare ((dat1 V c).after 7 t) from by
      unfold Dat.leavesExact; rw [liveAt1_7_C t (fun h => h0 ((hcond1_0 t).mp h)) (fun h => h1 ((hcond1_1 t).mp h)) (fun h => h2 ((hcond1_2 t).mp h)) ((hcond1_3 t).mpr h3) (fun h => h4 ((hcond1_4 t).mp h))], after1_7]
            rw [show (dat1 V c).leavesExact 8 t = owns (c : Thread nD τ) (ms1_8 t) fullShare ((dat1 V c).after 8 t) from by
      unfold Dat.leavesExact; rw [liveAt1_8_C t (fun h => h0 ((hcond1_0 t).mp h)) (fun h => h1 ((hcond1_1 t).mp h)) (fun h => h2 ((hcond1_2 t).mp h)) ((hcond1_3 t).mpr h3) (fun h => h4 ((hcond1_4 t).mp h))], after1_8]
            rw [outsAt1_C V c t h0 h1 h2 h3 h4]
            simp only [before1_7_C V c t h0 h1 h2 h3 h4, before1_8_C V c t h0 h1 h2 h3 h4]
            unfold out1_C_6 out1_C_7 out1_C_8; (try dsimp only)
            iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun1_C c (grid1.coords t) _ _ _ _ _ _ _ _ _ _ _ _ _ _ _ _ _ _ (fun h => h0 ((hcond1_0 t).mp h)) (fun h => h1 ((hcond1_1 t).mp h)) (fun h => h2 ((hcond1_2 t).mp h)) ((hcond1_3 t).mpr h3) (fun h => h4 ((hcond1_4 t).mp h)) (iblk1 V c 0 t) (iblk1 V c 1 t) (iblk1 V c 2 t) (iblk1 V c 3 t) (iblk1 V c 4 t) (iblk1 V c 5 t) _ _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexact H7
            isplitl [H8]; · iexact H8
            iintro ⟨H0, H1, H2, H3, H4, H5, ⟨%e6, H6⟩, H7, H8⟩
            isplitl [HΦ]; · iexact HΦ
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]
            · unfold owns; iexists _; isplitr
              swap; · iexact H6
              ipureintro; exact View.read_writes_of_cover _ _ _ _ _ (cover1_C_6 c _ _ _ _ _ _ _ _ _ _ _ _ _ _ _ _ _ _ _ _ _ _ _ _ _ _ _ _ _ _ _ _)
            isplitl [H7]
            · unfold owns; iexists _; isplitr
              swap; · iexact H7
              ipureintro; rfl
            unfold owns; iexists _; isplitr
            swap; · iexact H8
            ipureintro; rfl
        · by_cases h4 : t.val % 4 = 3
          · rw [show (dat1 V c).leavesExact 0 t = owns (c : Thread nD τ) (ms1_0 t) fullShare ((dat1 V c).after 0 t) from by
      unfold Dat.leavesExact; rw [liveAt1_0 t], after1_0]
            rw [show (dat1 V c).leavesExact 1 t = owns (c : Thread nD τ) (ms1_1 t) fullShare ((dat1 V c).after 1 t) from by
      unfold Dat.leavesExact; rw [liveAt1_1 t], after1_1]
            rw [show (dat1 V c).leavesExact 2 t = owns (c : Thread nD τ) (ms1_2 t) fullShare ((dat1 V c).after 2 t) from by
      unfold Dat.leavesExact; rw [liveAt1_2 t], after1_2]
            rw [show (dat1 V c).leavesExact 3 t = owns (c : Thread nD τ) (ms1_3 t) fullShare ((dat1 V c).after 3 t) from by
      unfold Dat.leavesExact; rw [liveAt1_3 t], after1_3]
            rw [show (dat1 V c).leavesExact 4 t = owns (c : Thread nD τ) (ms1_4 t) fullShare ((dat1 V c).after 4 t) from by
      unfold Dat.leavesExact; rw [liveAt1_4 t], after1_4]
            rw [show (dat1 V c).leavesExact 5 t = owns (c : Thread nD τ) (ms1_5 t) fullShare ((dat1 V c).after 5 t) from by
      unfold Dat.leavesExact; rw [liveAt1_5 t], after1_5]
            rw [show (dat1 V c).leavesExact 6 t = owns (c : Thread nD τ) (ms1_6 t) fullShare ((dat1 V c).after 6 t) from by
      unfold Dat.leavesExact; rw [liveAt1_6_D t (fun h => h0 ((hcond1_0 t).mp h)) (fun h => h1 ((hcond1_1 t).mp h)) (fun h => h2 ((hcond1_2 t).mp h)) (fun h => h3 ((hcond1_3 t).mp h)) ((hcond1_4 t).mpr h4)], after1_6]
            rw [show (dat1 V c).leavesExact 7 t = owns (c : Thread nD τ) (ms1_7 t) fullShare ((dat1 V c).after 7 t) from by
      unfold Dat.leavesExact; rw [liveAt1_7_D t (fun h => h0 ((hcond1_0 t).mp h)) (fun h => h1 ((hcond1_1 t).mp h)) (fun h => h2 ((hcond1_2 t).mp h)) (fun h => h3 ((hcond1_3 t).mp h)) ((hcond1_4 t).mpr h4)], after1_7]
            rw [show (dat1 V c).leavesExact 8 t = owns (c : Thread nD τ) (ms1_8 t) fullShare ((dat1 V c).after 8 t) from by
      unfold Dat.leavesExact; rw [liveAt1_8_D t (fun h => h0 ((hcond1_0 t).mp h)) (fun h => h1 ((hcond1_1 t).mp h)) (fun h => h2 ((hcond1_2 t).mp h)) (fun h => h3 ((hcond1_3 t).mp h)) ((hcond1_4 t).mpr h4)], after1_8]
            rw [outsAt1_D V c t h0 h1 h2 h3 h4]
            simp only [before1_7_D V c t h0 h1 h2 h3 h4, before1_8_D V c t h0 h1 h2 h3 h4]
            unfold out1_D_6 out1_D_7 out1_D_8; (try dsimp only)
            iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun1_D c (grid1.coords t) _ _ _ _ _ _ _ _ _ _ _ _ _ _ _ _ _ _ (fun h => h0 ((hcond1_0 t).mp h)) (fun h => h1 ((hcond1_1 t).mp h)) (fun h => h2 ((hcond1_2 t).mp h)) (fun h => h3 ((hcond1_3 t).mp h)) ((hcond1_4 t).mpr h4) (iblk1 V c 0 t) (iblk1 V c 1 t) (iblk1 V c 2 t) (iblk1 V c 3 t) (iblk1 V c 4 t) (iblk1 V c 5 t) _ _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [H7]; · iexact H7
            isplitl [H8]; · iexact H8
            iintro ⟨H0, H1, H2, H3, H4, H5, ⟨%e6, H6⟩, ⟨%e7, H7⟩, ⟨%e8, H8⟩⟩
            isplitl [HΦ]; · iexact HΦ
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]
            · unfold owns; iexists _; isplitr
              swap; · iexact H6
              ipureintro; exact View.read_writes_of_cover _ _ _ _ _ (cover1_D_6 c _ _ _ _ _ _ _ _ _ _ _ _ _ _ _ _ _ _ _ _ _ _ _ _ _ _ _ _ _ _ _ _)
            isplitl [H7]
            · unfold owns; iexists _; isplitr
              swap; · iexact H7
              ipureintro; exact View.read_writes_of_cover _ _ _ _ _ (cover1_D_7 c _ _ _ _ _ _ _ _ _ _ _ _ _ _ _ _ _ _ _ _ _ _ _ _ _ _ _ _ _ _ _ _)
            unfold owns; iexists _; isplitr
            swap; · iexact H8
            ipureintro; exact View.read_writes_of_cover _ _ _ _ _ (cover1_D_8 c _ _ _ _ _ _ _ _ _ _ _ _ _ _ _ _ _ _ _ _ _ _ _ _ _ _ _ _ _ _ _ _)
          · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Attn

end
-- ==== Proof.Value.Cases.lean ====
/- What a grid point leaves in its output blocks, where its input blocks hold one head's rows: the forward kernel's results and
   log-sum-exps, the backward kernel's gradients. -/
module

public import proofs.«01_k».proof.Proof.Value.TilesBackward
public import proofs.«01_k».proof.Proof.Attn.Forward
public import proofs.«01_k».proof.Proof.Attn.Backward
public import Idealize.ShloMosaic.Lib.WritesUnit
public import Idealize.ShloMosaic.Lib.Pipeline.ValueKit.Tiles

@[expose] public section

set_option maxRecDepth 16384

noncomputable section

namespace Cert.KernelIdeal.Tiles

open Cert.KernelIdeal Cert.KernelIdeal.Gen Cert.KernelIdeal.Attn Cert.Softmax Idealize.ShloMosaic

theorem zero3 : (![0, 0, 0] : Fin 3 → Nat) = fun _ => 0 := funext fun a => by fin_cases a <;> rfl

/-- A load of a block's first rows. -/
theorem part {n m w o : ℕ} {f : ℕ → ℕ → ℝ} {x : (⟨3, ![1, n, w]⟩ : Shape).Idx → EReal} (h : Blk x o f)
    (inb : ∀ a, (![0, 0, 0] : Fin 3 → Nat) a + (![1, m, w] : Fin 3 → Nat) a ≤ (⟨3, ![1, n, w]⟩ : Shape).size a) :
    Blk (n := m) (w := w) (View.ld (Val := fun _ => EReal) (e' := .f32) x (Rect.unit (s := ⟨3, ![1, n, w]⟩) ![0, 0, 0] ![1, m, w] inb)) o f := by
  intro r d
  have hm : m ≤ n := by have := inb 1; simpa using this
  refine (View.ld_unit_apply_of (Val := fun _ => EReal) (e := .f32) x _ _ _ _ (ix3 0 ⟨r.val, by omega⟩ d) ?_).trans (h ⟨r.val, by omega⟩ d)
  intro a
  fin_cases a <;> simp [ix3]

/-- A store of a block's first rows over what it held. -/
theorem stored {n m w : ℕ} {f : ℕ → ℕ → ℝ} (v : View sig .tc .vmem (⟨3, ![1, n, w]⟩ : Shape) .f32) (b : v.ty.Contents (Elt Ideal))
    (inb : ∀ a, (![0, 0, 0] : Fin 3 → Nat) a + (![1, m, w] : Fin 3 → Nat) a ≤ (⟨3, ![1, n, w]⟩ : Shape).size a)
    (x : (⟨3, ![1, m, w]⟩ : Shape).Idx → EReal) (L : List (View.Piece (Elt Ideal) (⟨3, ![1, n, w]⟩ : Shape) .f32)) (hx : Blk x 0 f)
    (hr : ∀ (r : Fin n) (d : Fin w), m ≤ r.val → v.read (Elt Ideal) (v.writes (Elt Ideal) b L) (ix3 (0 : Fin 1) r d) = ((f r.val d.val : ℝ) : EReal)) :
    Blk (v.read (Elt Ideal) (v.writes (Elt Ideal) b (⟨Rect.unit (s := ⟨3, ![1, n, w]⟩) ![0, 0, 0] ![1, m, w] inb, x⟩ :: L))) 0 f := by
  intro r d
  by_cases h : r.val < m
  · refine (View.read_writes_cons_unit_of_mem v b inb x L (ix3 (0 : Fin 1) r d) (ix3 (0 : Fin 1) (⟨r.val, h⟩ : Fin m) d) rfl ?_).trans (hx ⟨r.val, h⟩ d)
    intro a
    fin_cases a <;> simp [ix3]
  · refine (View.read_writes_cons_unit_of_not_mem v b inb x L (ix3 (0 : Fin 1) r d) rfl 1 (Or.inr ?_)).trans ((hr r d (by omega)).trans (by rw [Nat.zero_add]))
    show 0 + m ≤ r.val
    omega

variable {H : Head}

section forward

variable (c : Dev nD) (i : grid0.Coords) (a2 : Memref sig .tc .vmem S1x512x96 .bf16) (h2 : a2.IsWhole) (a3 : Memref sig .tc .vmem S1x2048x96 .bf16)
  (h3 : a3.IsWhole) (a4 : Memref sig .tc .vmem S1x2048x64 .bf16) (h4 : a4.IsWhole) (a5 : Memref sig .tc .vmem S1x512x64 .f32) (h5 : a5.IsWhole)
  (a6 : Memref sig .tc .vmem S1x512x1 .f32) (h6 : a6.IsWhole) (x0 : Vec Ideal S1x512x96 .bf16) (x1 : Vec Ideal S1x2048x96 .bf16)
  (x2 : Vec Ideal S1x2048x64 .bf16)

theorem forward_A_3 (hc0 : cond0_0 i) (hc1 : ¬cond0_1 i) (hc2 : ¬cond0_2 i) (hc3 : ¬cond0_3 i) (hi : (i 1).val = 0)
    (hq : Blk x0 (512 * 0) H.q) (hk : Blk x1 0 H.k) (hv : Blk x2 0 H.v) :
    Blk (out0_A_3 c i a2 h2 a3 h3 a4 h4 a5 h5 a6 h6 hc0 hc1 hc2 hc3 x0 x1 x2) (512 * 0) (out H) := by
  unfold out0_A_3
  rw [View.read_writes_eq_canon _ _ _ (cover0_A_3 c i a2 h2 a3 h3 a4 h4 a5 h5 a6 h6 hc0 hc1 hc2 hc3 x0 x1 x2)]
  unfold kernelRun0_A
  dsimp only
  sl_unfold_words
  rw [View.canon_unit_zero zero3]
  simp only [View.readAt_eq_ld, h2.read_unread, h3.read_unread, h4.read_unread]
  rw [hi]
  exact out512 (by omega) (by omega) (part hq _) (part hk _) (part hv _)

theorem forward_A_4 (hc0 : cond0_0 i) (hc1 : ¬cond0_1 i) (hc2 : ¬cond0_2 i) (hc3 : ¬cond0_3 i) (hi : (i 1).val = 0)
    (hq : Blk x0 (512 * 0) H.q) (hk : Blk x1 0 H.k) :
    Blk (out0_A_4 c i a2 h2 a3 h3 a4 h4 a5 h5 a6 h6 hc0 hc1 hc2 hc3 x0 x1 x2) (512 * 0) (fun R _ => lse H R) := by
  unfold out0_A_4
  rw [View.read_writes_eq_canon _ _ _ (cover0_A_4 c i a2 h2 a3 h3 a4 h4 a5 h5 a6 h6 hc0 hc1 hc2 hc3 x0 x1 x2)]
  unfold kernelRun0_A
  dsimp only
  sl_unfold_words
  rw [View.canon_unit_zero zero3]
  simp only [View.readAt_eq_ld, h2.read_unread, h3.read_unread, h4.read_unread]
  rw [hi]
  exact lse512 (by omega) (by omega) (part hq _) (part hk _)

theorem forward_B_3 (hc0 : ¬cond0_0 i) (hc1 : cond0_1 i) (hc2 : ¬cond0_2 i) (hc3 : ¬cond0_3 i) (hi : (i 1).val = 1)
    (hq : Blk x0 (512 * 1) H.q) (hk : Blk x1 0 H.k) (hv : Blk x2 0 H.v) :
    Blk (out0_B_3 c i a2 h2 a3 h3 a4 h4 a5 h5 a6 h6 hc0 hc1 hc2 hc3 x0 x1 x2) (512 * 1) (out H) := by
  unfold out0_B_3
  rw [View.read_writes_eq_canon _ _ _ (cover0_B_3 c i a2 h2 a3 h3 a4 h4 a5 h5 a6 h6 hc0 hc1 hc2 hc3 x0 x1 x2)]
  unfold kernelRun0_B
  dsimp only
  sl_unfold_words
  rw [View.canon_unit_zero zero3]
  simp only [View.readAt_eq_ld, h2.read_unread, h3.read_unread, h4.read_unread]
  rw [hi]
  exact out1024 (by omega) (by omega) (part hq _) (part hk _) (part hv _)

theorem forward_B_4 (hc0 : ¬cond0_0 i) (hc1 : cond0_1 i) (hc2 : ¬cond0_2 i) (hc3 : ¬cond0_3 i) (hi : (i 1).val = 1)
    (hq : Blk x0 (512 * 1) H.q) (hk : Blk x1 0 H.k) :
    Blk (out0_B_4 c i a2 h2 a3 h3 a4 h4 a5 h5 a6 h6 hc0 hc1 hc2 hc3 x0 x1 x2) (512 * 1) (fun R _ => lse H R) := by
  unfold out0_B_4
  rw [View.read_writes_eq_canon _ _ _ (cover0_B_4 c i a2 h2 a3 h3 a4 h4 a5 h5 a6 h6 hc0 hc1 hc2 hc3 x0 x1 x2)]
  unfold kernelRun0_B
  dsimp only
  sl_unfold_words
  rw [View.canon_unit_zero zero3]
  simp only [View.readAt_eq_ld, h2.read_unread, h3.read_unread, h4.read_unread]
  rw [hi]
  exact lse1024 (by omega) (by omega) (part hq _) (part hk _)

theorem forward_C_3 (hc0 : ¬cond0_0 i) (hc1 : ¬cond0_1 i) (hc2 : cond0_2 i) (hc3 : ¬cond0_3 i) (hi : (i 1).val = 2)
    (hq : Blk x0 (512 * 2) H.q) (hk : Blk x1 0 H.k) (hv : Blk x2 0 H.v) :
    Blk (out0_C_3 c i a2 h2 a3 h3 a4 h4 a5 h5 a6 h6 hc0 hc1 hc2 hc3 x0 x1 x2) (512 * 2) (out H) := by
  unfold out0_C_3
  rw [View.read_writes_eq_canon _ _ _ (cover0_C_3 c i a2 h2 a3 h3 a4 h4 a5 h5 a6 h6 hc0 hc1 hc2 hc3 x0 x1 x2)]
  unfold kernelRun0_C
  dsimp only
  sl_unfold_words
  rw [View.canon_unit_zero zero3]
  simp only [View.readAt_eq_ld, h2.read_unread, h3.read_unread, h4.read_unread]
  rw [hi]
  exact out1536 (by omega) (by omega) (part hq _) (part hk _) (part hv _)

theorem forward_C_4 (hc0 : ¬cond0_0 i) (hc1 : ¬cond0_1 i) (hc2 : cond0_2 i) (hc3 : ¬cond0_3 i) (hi : (i 1).val = 2)
    (hq : Blk x0 (512 * 2) H.q) (hk : Blk x1 0 H.k) :
    Blk (out0_C_4 c i a2 h2 a3 h3 a4 h4 a5 h5 a6 h6 hc0 hc1 hc2 hc3 x0 x1 x2) (512 * 2) (fun R _ => lse H R) := by
  unfold out0_C_4
  rw [View.read_writes_eq_canon _ _ _ (cover0_C_4 c i a2 h2 a3 h3 a4 h4 a5 h5 a6 h6 hc0 hc1 hc2 hc3 x0 x1 x2)]
  unfold kernelRun0_C
  dsimp only
  sl_unfold_words
  rw [View.canon_unit_zero zero3]
  simp only [View.readAt_eq_ld, h2.read_unread, h3.read_unread, h4.read_unread]
  rw [hi]
  exact lse1536 (by omega) (by omega) (part hq _) (part hk _)

theorem forward_D_3 (hc0 : ¬cond0_0 i) (hc1 : ¬cond0_1 i) (hc2 : ¬cond0_2 i) (hc3 : cond0_3 i) (hi : (i 1).val = 3)
    (hq : Blk x0 (512 * 3) H.q) (hk : Blk x1 0 H.k) (hv : Blk x2 0 H.v) :
    Blk (out0_D_3 c i a2 h2 a3 h3 a4 h4 a5 h5 a6 h6 hc0 hc1 hc2 hc3 x0 x1 x2) (512 * 3) (out H) := by
  unfold out0_D_3
  rw [View.read_writes_eq_canon _ _ _ (cover0_D_3 c i a2 h2 a3 h3 a4 h4 a5 h5 a6 h6 hc0 hc1 hc2 hc3 x0 x1 x2)]
  unfold kernelRun0_D
  dsimp only
  sl_unfold_words
  rw [View.canon_unit_zero zero3]
  simp only [View.readAt_eq_ld, h2.read_unread, h3.read_unread, h4.read_unread]
  rw [hi]
  exact out2048 (by omega) (by omega) (part hq _) (part hk _) (part hv _)

theorem forward_D_4 (hc0 : ¬cond0_0 i) (hc1 : ¬cond0_1 i) (hc2 : ¬cond0_2 i) (hc3 : cond0_3 i) (hi : (i 1).val = 3)
    (hq : Blk x0 (512 * 3) H.q) (hk : Blk x1 0 H.k) :
    Blk (out0_D_4 c i a2 h2 a3 h3 a4 h4 a5 h5 a6 h6 hc0 hc1 hc2 hc3 x0 x1 x2) (512 * 3) (fun R _ => lse H R) := by
  unfold out0_D_4
  rw [View.read_writes_eq_canon _ _ _ (cover0_D_4 c i a2 h2 a3 h3 a4 h4 a5 h5 a6 h6 hc0 hc1 hc2 hc3 x0 x1 x2)]
  unfold kernelRun0_D
  dsimp only
  sl_unfold_words
  rw [View.canon_unit_zero zero3]
  simp only [View.readAt_eq_ld, h2.read_unread, h3.read_unread, h4.read_unread]
  rw [hi]
  exact lse2048 (by omega) (by omega) (part hq _) (part hk _)

end forward

section backward

variable (c : Dev nD) (i : grid1.Coords) (a2 : Memref sig .tc .vmem S1x512x96 .bf16) (h2 : a2.IsWhole) (a3 : Memref sig .tc .vmem S1x2048x96 .bf16)
  (h3 : a3.IsWhole) (a4 : Memref sig .tc .vmem S1x2048x64 .bf16) (h4 : a4.IsWhole) (a5 : Memref sig .tc .vmem S1x512x64 .f32) (h5 : a5.IsWhole)
  (a6 : Memref sig .tc .vmem S1x512x64 .f32) (h6 : a6.IsWhole) (a7 : Memref sig .tc .vmem S1x512x1 .f32) (h7 : a7.IsWhole)
  (a8 : Memref sig .tc .vmem S1x512x96 .f32) (h8 : a8.IsWhole) (a9 : Memref sig .tc .vmem S1x2048x96 .f32) (h9 : a9.IsWhole)
  (a10 : Memref sig .tc .vmem S1x2048x64 .f32) (h10 : a10.IsWhole) (x0 : Vec Ideal S1x512x96 .bf16) (x1 : Vec Ideal S1x2048x96 .bf16)
  (x2 : Vec Ideal S1x2048x64 .bf16) (x3 x4 : Vec Ideal S1x512x64 .f32) (x5 : Vec Ideal S1x512x1 .f32) (x7 : Vec Ideal S1x2048x96 .f32)
  (x8 : Vec Ideal S1x2048x64 .f32)

theorem backward_A_6 (hc0 : cond1_0 i) (hc1 : cond1_1 i) (hc2 : ¬cond1_2 i) (hc3 : ¬cond1_3 i) (hc4 : ¬cond1_4 i) (hi : (i 1).val = 0)
    (hq : Blk x0 (512 * 0) H.q) (hk : Blk x1 0 H.k) (hv : Blk x2 0 H.v) (ho : Blk x3 (512 * 0) (out H)) (hg : Blk x4 (512 * 0) H.g)
    (hl : Blk x5 (512 * 0) (fun R _ => lse H R)) :
    Blk (out1_A_6 c i a2 h2 a3 h3 a4 h4 a5 h5 a6 h6 a7 h7 a8 h8 a9 h9 a10 h10 hc0 hc1 hc2 hc3 hc4 x0 x1 x2 x3 x4 x5)
      (512 * 0) (dq H) := by
  unfold out1_A_6
  rw [View.read_writes_eq_canon _ _ _ (cover1_A_6 c i a2 h2 a3 h3 a4 h4 a5 h5 a6 h6 a7 h7 a8 h8 a9 h9 a10 h10 hc0 hc1 hc2 hc3 hc4 x0 x1 x2 x3 x4 x5)]
  unfold kernelRun1_A
  dsimp only
  sl_unfold_words
  rw [View.canon_unit_zero zero3]
  simp only [View.readAt_eq_ld, h2.read_unread, h3.read_unread, h4.read_unread, h5.read_unread, h6.read_unread, h7.read_unread, h9.read_unread, h10.read_unread]
  rw [hi]
  exact dq512 (by omega) (by omega) (part hq _) (part hk _) (part hv _) (part ho _) (part hg _) (part hl _)

theorem backward_A_7 (hc0 : cond1_0 i) (hc1 : cond1_1 i) (hc2 : ¬cond1_2 i) (hc3 : ¬cond1_3 i) (hc4 : ¬cond1_4 i) (hi : (i 1).val = 0)
    (hq : Blk x0 (512 * 0) H.q) (hk : Blk x1 0 H.k) (hv : Blk x2 0 H.v) (ho : Blk x3 (512 * 0) (out H)) (hg : Blk x4 (512 * 0) H.g)
    (hl : Blk x5 (512 * 0) (fun R _ => lse H R)) :
    Blk (out1_A_7 c i a2 h2 a3 h3 a4 h4 a5 h5 a6 h6 a7 h7 a8 h8 a9 h9 a10 h10 hc0 hc1 hc2 hc3 hc4 x0 x1 x2 x3 x4 x5)
      0 (dk H (512 * 0 + 512)) := by
  unfold out1_A_7
  unfold kernelRun1_A
  dsimp only
  sl_unfold_words
  simp only [View.readAt_eq_ld, h2.read_unread, h3.read_unread, h4.read_unread, h5.read_unread, h6.read_unread, h7.read_unread, h9.read_unread, h10.read_unread]
  rw [hi]
  refine stored _ _ _ _ _ (dk512 (by omega) (part hq _) (part hk _) (part hv _) (part ho _) (part hg _) (part hl _) ?_) ?_
  · exact part (stored (f := dk H (512 * 0)) a9.view a9.view.junk _ _ [] zero_dk fun r _ hr => absurd r.isLt (by omega)) _
  · intro r d hr
    rw [← dk_hidden H 0 _ _ hr]
    exact (stored (f := dk H (512 * 0)) VO1_7 VO1_7.junk _ _ [] zero_dk (fun r _ hr => absurd r.isLt (by omega)) r d).trans (by rw [Nat.zero_add])

theorem backward_A_8 (hc0 : cond1_0 i) (hc1 : cond1_1 i) (hc2 : ¬cond1_2 i) (hc3 : ¬cond1_3 i) (hc4 : ¬cond1_4 i) (hi : (i 1).val = 0)
    (hq : Blk x0 (512 * 0) H.q) (hk : Blk x1 0 H.k) (hv : Blk x2 0 H.v) (ho : Blk x3 (512 * 0) (out H)) (hg : Blk x4 (512 * 0) H.g)
    (hl : Blk x5 (512 * 0) (fun R _ => lse H R)) :
    Blk (out1_A_8 c i a2 h2 a3 h3 a4 h4 a5 h5 a6 h6 a7 h7 a8 h8 a9 h9 a10 h10 hc0 hc1 hc2 hc3 hc4 x0 x1 x2 x3 x4 x5)
      0 (dv H (512 * 0 + 512)) := by
  unfold out1_A_8
  unfold kernelRun1_A
  dsimp only
  sl_unfold_words
  simp only [View.readAt_eq_ld, h2.read_unread, h3.read_unread, h4.read_unread, h5.read_unread, h6.read_unread, h7.read_unread, h9.read_unread, h10.read_unread]
  rw [hi]
  refine stored _ _ _ _ _ (dv512 (by omega) (part hq _) (part hk _) (part hl _) (part hg _) ?_) ?_
  · exact part (stored (f := dv H (512 * 0)) a10.view a10.view.junk _ _ [] zero_dv fun r _ hr => absurd r.isLt (by omega)) _
  · intro r d hr
    rw [← dv_hidden H 0 _ _ hr]
    exact (stored (f := dv H (512 * 0)) VO1_8 VO1_8.junk _ _ [] zero_dv (fun r _ hr => absurd r.isLt (by omega)) r d).trans (by rw [Nat.zero_add])

theorem backward_B_6 (hc0 : ¬cond1_0 i) (hc1 : ¬cond1_1 i) (hc2 : cond1_2 i) (hc3 : ¬cond1_3 i) (hc4 : ¬cond1_4 i) (hi : (i 1).val = 1)
    (hq : Blk x0 (512 * 1) H.q) (hk : Blk x1 0 H.k) (hv : Blk x2 0 H.v) (ho : Blk x3 (512 * 1) (out H)) (hg : Blk x4 (512 * 1) H.g)
    (hl : Blk x5 (512 * 1) (fun R _ => lse H R)) :
    Blk (out1_B_6 c i a2 h2 a3 h3 a4 h4 a5 h5 a6 h6 a7 h7 a8 h8 a9 h9 a10 h10 hc0 hc1 hc2 hc3 hc4 x0 x1 x2 x3 x4 x5 x7 x8)
      (512 * 1) (dq H) := by
  unfold out1_B_6
  rw [View.read_writes_eq_canon _ _ _ (cover1_B_6 c i a2 h2 a3 h3 a4 h4 a5 h5 a6 h6 a7 h7 a8 h8 a9 h9 a10 h10 hc0 hc1 hc2 hc3 hc4 x0 x1 x2 x3 x4 x5 x7 x8)]
  unfold kernelRun1_B
  dsimp only
  sl_unfold_words
  rw [View.canon_unit_zero zero3]
  simp only [View.readAt_eq_ld, h2.read_unread, h3.read_unread, h4.read_unread, h5.read_unread, h6.read_unread, h7.read_unread, h9.read_unread, h10.read_unread]
  rw [hi]
  exact dq1024 (by omega) (by omega) (part hq _) (part hk _) (part hv _) (part ho _) (part hg _) (part hl _)

theorem backward_B_7 (hc0 : ¬cond1_0 i) (hc1 : ¬cond1_1 i) (hc2 : cond1_2 i) (hc3 : ¬cond1_3 i) (hc4 : ¬cond1_4 i) (hi : (i 1).val = 1)
    (hq : Blk x0 (512 * 1) H.q) (hk : Blk x1 0 H.k) (hv : Blk x2 0 H.v) (ho : Blk x3 (512 * 1) (out H)) (hg : Blk x4 (512 * 1) H.g)
    (hl : Blk x5 (512 * 1) (fun R _ => lse H R)) (hp : Blk x7 0 (dk H (512 * 1))) :
    Blk (out1_B_7 c i a2 h2 a3 h3 a4 h4 a5 h5 a6 h6 a7 h7 a8 h8 a9 h9 a10 h10 hc0 hc1 hc2 hc3 hc4 x0 x1 x2 x3 x4 x5 x7 x8)
      0 (dk H (512 * 1 + 512)) := by
  unfold out1_B_7
  unfold kernelRun1_B
  dsimp only
  sl_unfold_words
  simp only [View.readAt_eq_ld, h2.read_unread, h3.read_unread, h4.read_unread, h5.read_unread, h6.read_unread, h7.read_unread, h9.read_unread, h10.read_unread]
  rw [hi]
  refine stored _ _ _ _ _ (dk1024 (by omega) (part hq _) (part hk _) (part hv _) (part ho _) (part hg _) (part hl _) (part hp _)) ?_
  intro r d hr
  refine (congrFun (h9.read_unread x7) _).trans ((hp r d).trans ?_)
  rw [Nat.zero_add, dk_hidden H 1 _ _ hr]

theorem backward_B_8 (hc0 : ¬cond1_0 i) (hc1 : ¬cond1_1 i) (hc2 : cond1_2 i) (hc3 : ¬cond1_3 i) (hc4 : ¬cond1_4 i) (hi : (i 1).val = 1)
    (hq : Blk x0 (512 * 1) H.q) (hk : Blk x1 0 H.k) (hv : Blk x2 0 H.v) (ho : Blk x3 (512 * 1) (out H)) (hg : Blk x4 (512 * 1) H.g)
    (hl : Blk x5 (512 * 1) (fun R _ => lse H R)) (hp : Blk x8 0 (dv H (512 * 1))) :
    Blk (out1_B_8 c i a2 h2 a3 h3 a4 h4 a5 h5 a6 h6 a7 h7 a8 h8 a9 h9 a10 h10 hc0 hc1 hc2 hc3 hc4 x0 x1 x2 x3 x4 x5 x7 x8)
      0 (dv H (512 * 1 + 512)) := by
  unfold out1_B_8
  unfold kernelRun1_B
  dsimp only
  sl_unfold_words
  simp only [View.readAt_eq_ld, h2.read_unread, h3.read_unread, h4.read_unread, h5.read_unread, h6.read_unread, h7.read_unread, h9.read_unread, h10.read_unread]
  rw [hi]
  refine stored _ _ _ _ _ (dv1024 (by omega) (part hq _) (part hk _) (part hl _) (part hg _) (part hp _)) ?_
  intro r d hr
  refine (congrFun (h10.read_unread x8) _).trans ((hp r d).trans ?_)
  rw [Nat.zero_add, dv_hidden H 1 _ _ hr]

theorem backward_C_6 (hc0 : ¬cond1_0 i) (hc1 : ¬cond1_1 i) (hc2 : ¬cond1_2 i) (hc3 : cond1_3 i) (hc4 : ¬cond1_4 i) (hi : (i 1).val = 2)
    (hq : Blk x0 (512 * 2) H.q) (hk : Blk x1 0 H.k) (hv : Blk x2 0 H.v) (ho : Blk x3 (512 * 2) (out H)) (hg : Blk x4 (512 * 2) H.g)
    (hl : Blk x5 (512 * 2) (fun R _ => lse H R)) :
    Blk (out1_C_6 c i a2 h2 a3 h3 a4 h4 a5 h5 a6 h6 a7 h7 a8 h8 a9 h9 a10 h10 hc0 hc1 hc2 hc3 hc4 x0 x1 x2 x3 x4 x5 x7 x8)
      (512 * 2) (dq H) := by
  unfold out1_C_6
  rw [View.read_writes_eq_canon _ _ _ (cover1_C_6 c i a2 h2 a3 h3 a4 h4 a5 h5 a6 h6 a7 h7 a8 h8 a9 h9 a10 h10 hc0 hc1 hc2 hc3 hc4 x0 x1 x2 x3 x4 x5 x7 x8)]
  unfold kernelRun1_C
  dsimp only
  sl_unfold_words
  rw [View.canon_unit_zero zero3]
  simp only [View.readAt_eq_ld, h2.read_unread, h3.read_unread, h4.read_unread, h5.read_unread, h6.read_unread, h7.read_unread, h9.read_unread, h10.read_unread]
  rw [hi]
  exact dq1536 (by omega) (by omega) (part hq _) (part hk _) (part hv _) (part ho _) (part hg _) (part hl _)

theorem backward_C_7 (hc0 : ¬cond1_0 i) (hc1 : ¬cond1_1 i) (hc2 : ¬cond1_2 i) (hc3 : cond1_3 i) (hc4 : ¬cond1_4 i) (hi : (i 1).val = 2)
    (hq : Blk x0 (512 * 2) H.q) (hk : Blk x1 0 H.k) (hv : Blk x2 0 H.v) (ho : Blk x3 (512 * 2) (out H)) (hg : Blk x4 (512 * 2) H.g)
    (hl : Blk x5 (512 * 2) (fun R _ => lse H R)) (hp : Blk x7 0 (dk H (512 * 2))) :
    Blk (out1_C_7 c i a2 h2 a3 h3 a4 h4 a5 h5 a6 h6 a7 h7 a8 h8 a9 h9 a10 h10 hc0 hc1 hc2 hc3 hc4 x0 x1 x2 x3 x4 x5 x7 x8)
      0 (dk H (512 * 2 + 512)) := by
  unfold out1_C_7
  unfold kernelRun1_C
  dsimp only
  sl_unfold_words
  simp only [View.readAt_eq_ld, h2.read_unread, h3.read_unread, h4.read_unread, h5.read_unread, h6.read_unread, h7.read_unread, h9.read_unread, h10.read_unread]
  rw [hi]
  refine stored _ _ _ _ _ (dk1536 (by omega) (part hq _) (part hk _) (part hv _) (part ho _) (part hg _) (part hl _) (part hp _)) ?_
  intro r d hr
  refine (congrFun (h9.read_unread x7) _).trans ((hp r d).trans ?_)
  rw [Nat.zero_add, dk_hidden H 2 _ _ hr]

theorem backward_C_8 (hc0 : ¬cond1_0 i) (hc1 : ¬cond1_1 i) (hc2 : ¬cond1_2 i) (hc3 : cond1_3 i) (hc4 : ¬cond1_4 i) (hi : (i 1).val = 2)
    (hq : Blk x0 (512 * 2) H.q) (hk : Blk x1 0 H.k) (hv : Blk x2 0 H.v) (ho : Blk x3 (512 * 2) (out H)) (hg : Blk x4 (512 * 2) H.g)
    (hl : Blk x5 (512 * 2) (fun R _ => lse H R)) (hp : Blk x8 0 (dv H (512 * 2))) :
    Blk (out1_C_8 c i a2 h2 a3 h3 a4 h4 a5 h5 a6 h6 a7 h7 a8 h8 a9 h9 a10 h10 hc0 hc1 hc2 hc3 hc4 x0 x1 x2 x3 x4 x5 x7 x8)
      0 (dv H (512 * 2 + 512)) := by
  unfold out1_C_8
  unfold kernelRun1_C
  dsimp only
  sl_unfold_words
  simp only [View.readAt_eq_ld, h2.read_unread, h3.read_unread, h4.read_unread, h5.read_unread, h6.read_unread, h7.read_unread, h9.read_unread, h10.read_unread]
  rw [hi]
  refine stored _ _ _ _ _ (dv1536 (by omega) (part hq _) (part hk _) (part hl _) (part hg _) (part hp _)) ?_
  intro r d hr
  refine (congrFun (h10.read_unread x8) _).trans ((hp r d).trans ?_)
  rw [Nat.zero_add, dv_hidden H 2 _ _ hr]

theorem backward_D_6 (hc0 : ¬cond1_0 i) (hc1 : ¬cond1_1 i) (hc2 : ¬cond1_2 i) (hc3 : ¬cond1_3 i) (hc4 : cond1_4 i) (hi : (i 1).val = 3)
    (hq : Blk x0 (512 * 3) H.q) (hk : Blk x1 0 H.k) (hv : Blk x2 0 H.v) (ho : Blk x3 (512 * 3) (out H)) (hg : Blk x4 (512 * 3) H.g)
    (hl : Blk x5 (512 * 3) (fun R _ => lse H R)) :
    Blk (out1_D_6 c i a2 h2 a3 h3 a4 h4 a5 h5 a6 h6 a7 h7 a8 h8 a9 h9 a10 h10 hc0 hc1 hc2 hc3 hc4 x0 x1 x2 x3 x4 x5 x7 x8)
      (512 * 3) (dq H) := by
  unfold out1_D_6
  rw [View.read_writes_eq_canon _ _ _ (cover1_D_6 c i a2 h2 a3 h3 a4 h4 a5 h5 a6 h6 a7 h7 a8 h8 a9 h9 a10 h10 hc0 hc1 hc2 hc3 hc4 x0 x1 x2 x3 x4 x5 x7 x8)]
  unfold kernelRun1_D
  dsimp only
  sl_unfold_words
  rw [View.canon_unit_zero zero3]
  simp only [View.readAt_eq_ld, h2.read_unread, h3.read_unread, h4.read_unread, h5.read_unread, h6.read_unread, h7.read_unread, h9.read_unread, h10.read_unread]
  rw [hi]
  exact dq2048 (by omega) (by omega) (part hq _) (part hk _) (part hv _) (part ho _) (part hg _) (part hl _)

theorem backward_D_7 (hc0 : ¬cond1_0 i) (hc1 : ¬cond1_1 i) (hc2 : ¬cond1_2 i) (hc3 : ¬cond1_3 i) (hc4 : cond1_4 i) (hi : (i 1).val = 3)
    (hq : Blk x0 (512 * 3) H.q) (hk : Blk x1 0 H.k) (hv : Blk x2 0 H.v) (ho : Blk x3 (512 * 3) (out H)) (hg : Blk x4 (512 * 3) H.g)
    (hl : Blk x5 (512 * 3) (fun R _ => lse H R)) (hp : Blk x7 0 (dk H (512 * 3))) :
    Blk (out1_D_7 c i a2 h2 a3 h3 a4 h4 a5 h5 a6 h6 a7 h7 a8 h8 a9 h9 a10 h10 hc0 hc1 hc2 hc3 hc4 x0 x1 x2 x3 x4 x5 x7 x8)
      0 (dk H (512 * 3 + 512)) := by
  unfold out1_D_7
  unfold kernelRun1_D
  dsimp only
  sl_unfold_words
  simp only [View.readAt_eq_ld, h2.read_unread, h3.read_unread, h4.read_unread, h5.read_unread, h6.read_unread, h7.read_unread, h9.read_unread, h10.read_unread]
  rw [hi]
  refine stored _ _ _ _ _ (dk2048 (by omega) (part hq _) (part hk _) (part hv _) (part ho _) (part hg _) (part hl _) (part hp _)) ?_
  intro r d hr
  exact absurd r.isLt (by omega)

theorem backward_D_8 (hc0 : ¬cond1_0 i) (hc1 : ¬cond1_1 i) (hc2 : ¬cond1_2 i) (hc3 : ¬cond1_3 i) (hc4 : cond1_4 i) (hi : (i 1).val = 3)
    (hq : Blk x0 (512 * 3) H.q) (hk : Blk x1 0 H.k) (hv : Blk x2 0 H.v) (ho : Blk x3 (512 * 3) (out H)) (hg : Blk x4 (512 * 3) H.g)
    (hl : Blk x5 (512 * 3) (fun R _ => lse H R)) (hp : Blk x8 0 (dv H (512 * 3))) :
    Blk (out1_D_8 c i a2 h2 a3 h3 a4 h4 a5 h5 a6 h6 a7 h7 a8 h8 a9 h9 a10 h10 hc0 hc1 hc2 hc3 hc4 x0 x1 x2 x3 x4 x5 x7 x8)
      0 (dv H (512 * 3 + 512)) := by
  unfold out1_D_8
  unfold kernelRun1_D
  dsimp only
  sl_unfold_words
  simp only [View.readAt_eq_ld, h2.read_unread, h3.read_unread, h4.read_unread, h5.read_unread, h6.read_unread, h7.read_unread, h9.read_unread, h10.read_unread]
  rw [hi]
  refine stored _ _ _ _ _ (dv2048 (by omega) (part hq _) (part hk _) (part hl _) (part hg _) (part hp _)) ?_
  intro r d hr
  exact absurd r.isLt (by omega)

end backward

end Cert.KernelIdeal.Tiles

end
-- ==== Proof.Value.Blocks.lean ====
/- The blocks that the windows of the two kernels' grids read and write: point `4 h + i` of a grid is on head `h` and on block `i` of
   512 rows, or on all rows of head `h`. From them, what the two kernels leave in their results' arrays. -/
module

public import proofs.«01_k».proof.Proof.Value.Cases

@[expose] public section

set_option maxRecDepth 16384

noncomputable section

namespace Cert.KernelIdeal.Tiles

open Cert.KernelIdeal Cert.KernelIdeal.Gen Cert.KernelIdeal.Attn Cert.Softmax Idealize.ShloMosaic Idealize.ShloMosaic.TcCoe

theorem index0 : ∀ t : Fin cfg0.N, (grid0.coords t 1).val = t.val % 4
    ∧ (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = t.val % 4 ∧ win0_4.index t (2 : Fin 3) = 0) :=
  (by decide +kernel : ∀ t : Fin grid0.N, _)

theorem index1 : ∀ t : Fin cfg1.N, (grid1.coords t 1).val = t.val % 4
    ∧ (win1_0.index t (0 : Fin 3) = t.val / 4 ∧ win1_0.index t (1 : Fin 3) = t.val % 4 ∧ win1_0.index t (2 : Fin 3) = 0)
    ∧ (win1_1.index t (0 : Fin 3) = t.val / 4 ∧ win1_1.index t (1 : Fin 3) = 0 ∧ win1_1.index t (2 : Fin 3) = 0)
    ∧ (win1_2.index t (0 : Fin 3) = t.val / 4 ∧ win1_2.index t (1 : Fin 3) = 0 ∧ win1_2.index t (2 : Fin 3) = 0)
    ∧ (win1_3.index t (0 : Fin 3) = t.val / 4 ∧ win1_3.index t (1 : Fin 3) = t.val % 4 ∧ win1_3.index t (2 : Fin 3) = 0)
    ∧ (win1_4.index t (0 : Fin 3) = t.val / 4 ∧ win1_4.index t (1 : Fin 3) = t.val % 4 ∧ win1_4.index t (2 : Fin 3) = 0)
    ∧ (win1_5.index t (0 : Fin 3) = t.val / 4 ∧ win1_5.index t (1 : Fin 3) = t.val % 4 ∧ win1_5.index t (2 : Fin 3) = 0)
    ∧ (win1_6.index t (0 : Fin 3) = t.val / 4 ∧ win1_6.index t (1 : Fin 3) = t.val % 4 ∧ win1_6.index t (2 : Fin 3) = 0)
    ∧ (win1_7.index t (0 : Fin 3) = t.val / 4 ∧ win1_7.index t (1 : Fin 3) = 0 ∧ win1_7.index t (2 : Fin 3) = 0)
    ∧ (win1_8.index t (0 : Fin 3) = t.val / 4 ∧ win1_8.index t (1 : Fin 3) = 0 ∧ win1_8.index t (2 : Fin 3) = 0) :=
  (by decide +kernel : ∀ t : Fin grid1.N, _)

variable (V : (c : Dev nD) → (b : Ref sig .tc) → Buf (Elt Ideal) ((c : Thread nD τ).loc b)) (c : Dev nD)

/-- The array `A` holds `f h` for every head `h`. -/
def Arr {n w : ℕ} (A : (⟨3, ![16, n, w]⟩ : Shape).Idx → EReal) (f : ℕ → ℕ → ℕ → ℝ) : Prop :=
  ∀ j : (⟨3, ![16, n, w]⟩ : Shape).Idx, A j = ((f (j 0).val (j 1).val (j 2).val : ℝ) : EReal)

/-! ## What an input's window reads -/

theorem read0_0 {f : ℕ → ℕ → ℕ → ℝ} (h : Arr (n := 2048) (w := 96) (V c (Pipeline.arrRef spec0 0)) f) (t : Fin cfg0.N) {e : ℕ} (he : t.val % 4 = e) :
    Blk (n := 512) (w := 96) (iblk0 V c 0 t) (512 * e) (f (t.val / 4)) := by
  intro r d
  obtain ⟨-, ⟨e0, e1, e2⟩, -⟩ := index0 t
  refine (h (((cfg0.win 0).blk t).view.emb (ix3 (0 : Fin 1) r d))).trans ?_
  have h0 : ((((cfg0.win 0).blk t).view.emb (ix3 (0 : Fin 1) r d)) 0).val = t.val / 4 := by
    show win0_0.index t (0 : Fin 3) * 1 + 1 * 0 = _; omega
  have h1 : ((((cfg0.win 0).blk t).view.emb (ix3 (0 : Fin 1) r d)) 1).val = 512 * e + r.val := by
    show win0_0.index t (1 : Fin 3) * 512 + 1 * r.val = _; omega
  have h2 : ((((cfg0.win 0).blk t).view.emb (ix3 (0 : Fin 1) r d)) 2).val = d.val := by
    show win0_0.index t (2 : Fin 3) * 96 + 1 * d.val = _; omega
  rw [h0, h1, h2]

theorem read0_1 {f : ℕ → ℕ → ℕ → ℝ} (h : Arr (n := 2048) (w := 96) (V c (Pipeline.arrRef spec0 1)) f) (t : Fin cfg0.N) :
    Blk (n := 2048) (w := 96) (iblk0 V c 1 t) 0 (f (t.val / 4)) := by
  intro r d
  obtain ⟨-, -, ⟨e0, e1, e2⟩, -⟩ := index0 t
  refine (h (((cfg0.win 1).blk t).view.emb (ix3 (0 : Fin 1) r d))).trans ?_
  have h0 : ((((cfg0.win 1).blk t).view.emb (ix3 (0 : Fin 1) r d)) 0).val = t.val / 4 := by
    show win0_1.index t (0 : Fin 3) * 1 + 1 * 0 = _; omega
  have h1 : ((((cfg0.win 1).blk t).view.emb (ix3 (0 : Fin 1) r d)) 1).val = 0 + r.val := by
    show win0_1.index t (1 : Fin 3) * 2048 + 1 * r.val = _; omega
  have h2 : ((((cfg0.win 1).blk t).view.emb (ix3 (0 : Fin 1) r d)) 2).val = d.val := by
    show win0_1.index t (2 : Fin 3) * 96 + 1 * d.val = _; omega
  rw [h0, h1, h2]

theorem read0_2 {f : ℕ → ℕ → ℕ → ℝ} (h : Arr (n := 2048) (w := 64) (V c (Pipeline.arrRef spec0 2)) f) (t : Fin cfg0.N) :
    Blk (n := 2048) (w := 64) (iblk0 V c 2 t) 0 (f (t.val / 4)) := by
  intro r d
  obtain ⟨-, -, -, ⟨e0, e1, e2⟩, -⟩ := index0 t
  refine (h (((cfg0.win 2).blk t).view.emb (ix3 (0 : Fin 1) r d))).trans ?_
  have h0 : ((((cfg0.win 2).blk t).view.emb (ix3 (0 : Fin 1) r d)) 0).val = t.val / 4 := by
    show win0_2.index t (0 : Fin 3) * 1 + 1 * 0 = _; omega
  have h1 : ((((cfg0.win 2).blk t).view.emb (ix3 (0 : Fin 1) r d)) 1).val = 0 + r.val := by
    show win0_2.index t (1 : Fin 3) * 2048 + 1 * r.val = _; omega
  have h2 : ((((cfg0.win 2).blk t).view.emb (ix3 (0 : Fin 1) r d)) 2).val = d.val := by
    show win0_2.index t (2 : Fin 3) * 64 + 1 * d.val = _; omega
  rw [h0, h1, h2]

theorem read1_0 {f : ℕ → ℕ → ℕ → ℝ} (h : Arr (n := 2048) (w := 96) (V c (Pipeline.arrRef spec1 0)) f) (t : Fin cfg1.N) {e : ℕ} (he : t.val % 4 = e) :
    Blk (n := 512) (w := 96) (iblk1 V c 0 t) (512 * e) (f (t.val / 4)) := by
  intro r d
  obtain ⟨-, ⟨e0, e1, e2⟩, -⟩ := index1 t
  refine (h (((cfg1.win 0).blk t).view.emb (ix3 (0 : Fin 1) r d))).trans ?_
  have h0 : ((((cfg1.win 0).blk t).view.emb (ix3 (0 : Fin 1) r d)) 0).val = t.val / 4 := by
    show win1_0.index t (0 : Fin 3) * 1 + 1 * 0 = _; omega
  have h1 : ((((cfg1.win 0).blk t).view.emb (ix3 (0 : Fin 1) r d)) 1).val = 512 * e + r.val := by
    show win1_0.index t (1 : Fin 3) * 512 + 1 * r.val = _; omega
  have h2 : ((((cfg1.win 0).blk t).view.emb (ix3 (0 : Fin 1) r d)) 2).val = d.val := by
    show win1_0.index t (2 : Fin 3) * 96 + 1 * d.val = _; omega
  rw [h0, h1, h2]

theorem read1_1 {f : ℕ → ℕ → ℕ → ℝ} (h : Arr (n := 2048) (w := 96) (V c (Pipeline.arrRef spec1 1)) f) (t : Fin cfg1.N) :
    Blk (n := 2048) (w := 96) (iblk1 V c 1 t) 0 (f (t.val / 4)) := by
  intro r d
  obtain ⟨-, -, ⟨e0, e1, e2⟩, -⟩ := index1 t
  refine (h (((cfg1.win 1).blk t).view.emb (ix3 (0 : Fin 1) r d))).trans ?_
  have h0 : ((((cfg1.win 1).blk t).view.emb (ix3 (0 : Fin 1) r d)) 0).val = t.val / 4 := by
    show win1_1.index t (0 : Fin 3) * 1 + 1 * 0 = _; omega
  have h1 : ((((cfg1.win 1).blk t).view.emb (ix3 (0 : Fin 1) r d)) 1).val = 0 + r.val := by
    show win1_1.index t (1 : Fin 3) * 2048 + 1 * r.val = _; omega
  have h2 : ((((cfg1.win 1).blk t).view.emb (ix3 (0 : Fin 1) r d)) 2).val = d.val := by
    show win1_1.index t (2 : Fin 3) * 96 + 1 * d.val = _; omega
  rw [h0, h1, h2]

theorem read1_2 {f : ℕ → ℕ → ℕ → ℝ} (h : Arr (n := 2048) (w := 64) (V c (Pipeline.arrRef spec1 2)) f) (t : Fin cfg1.N) :
    Blk (n := 2048) (w := 64) (iblk1 V c 2 t) 0 (f (t.val / 4)) := by
  intro r d
  obtain ⟨-, -, -, ⟨e0, e1, e2⟩, -⟩ := index1 t
  refine (h (((cfg1.win 2).blk t).view.emb (ix3 (0 : Fin 1) r d))).trans ?_
  have h0 : ((((cfg1.win 2).blk t).view.emb (ix3 (0 : Fin 1) r d)) 0).val = t.val / 4 := by
    show win1_2.index t (0 : Fin 3) * 1 + 1 * 0 = _; omega
  have h1 : ((((cfg1.win 2).blk t).view.emb (ix3 (0 : Fin 1) r d)) 1).val = 0 + r.val := by
    show win1_2.index t (1 : Fin 3) * 2048 + 1 * r.val = _; omega
  have h2 : ((((cfg1.win 2).blk t).view.emb (ix3 (0 : Fin 1) r d)) 2).val = d.val := by
    show win1_2.index t (2 : Fin 3) * 64 + 1 * d.val = _; omega
  rw [h0, h1, h2]

theorem read1_3 {f : ℕ → ℕ → ℕ → ℝ} (h : Arr (n := 2048) (w := 64) (V c (Pipeline.arrRef spec1 3)) f) (t : Fin cfg1.N) {e : ℕ} (he : t.val % 4 = e) :
    Blk (n := 512) (w := 64) (iblk1 V c 3 t) (512 * e) (f (t.val / 4)) := by
  intro r d
  obtain ⟨-, -, -, -, ⟨e0, e1, e2⟩, -⟩ := index1 t
  refine (h (((cfg1.win 3).blk t).view.emb (ix3 (0 : Fin 1) r d))).trans ?_
  have h0 : ((((cfg1.win 3).blk t).view.emb (ix3 (0 : Fin 1) r d)) 0).val = t.val / 4 := by
    show win1_3.index t (0 : Fin 3) * 1 + 1 * 0 = _; omega
  have h1 : ((((cfg1.win 3).blk t).view.emb (ix3 (0 : Fin 1) r d)) 1).val = 512 * e + r.val := by
    show win1_3.index t (1 : Fin 3) * 512 + 1 * r.val = _; omega
  have h2 : ((((cfg1.win 3).blk t).view.emb (ix3 (0 : Fin 1) r d)) 2).val = d.val := by
    show win1_3.index t (2 : Fin 3) * 64 + 1 * d.val = _; omega
  rw [h0, h1, h2]

theorem read1_4 {f : ℕ → ℕ → ℕ → ℝ} (h : Arr (n := 2048) (w := 64) (V c (Pipeline.arrRef spec1 4)) f) (t : Fin cfg1.N) {e : ℕ} (he : t.val % 4 = e) :
    Blk (n := 512) (w := 64) (iblk1 V c 4 t) (512 * e) (f (t.val / 4)) := by
  intro r d
  obtain ⟨-, -, -, -, -, ⟨e0, e1, e2⟩, -⟩ := index1 t
  refine (h (((cfg1.win 4).blk t).view.emb (ix3 (0 : Fin 1) r d))).trans ?_
  have h0 : ((((cfg1.win 4).blk t).view.emb (ix3 (0 : Fin 1) r d)) 0).val = t.val / 4 := by
    show win1_4.index t (0 : Fin 3) * 1 + 1 * 0 = _; omega
  have h1 : ((((cfg1.win 4).blk t).view.emb (ix3 (0 : Fin 1) r d)) 1).val = 512 * e + r.val := by
    show win1_4.index t (1 : Fin 3) * 512 + 1 * r.val = _; omega
  have h2 : ((((cfg1.win 4).blk t).view.emb (ix3 (0 : Fin 1) r d)) 2).val = d.val := by
    show win1_4.index t (2 : Fin 3) * 64 + 1 * d.val = _; omega
  rw [h0, h1, h2]

theorem read1_5 {f : ℕ → ℕ → ℕ → ℝ} (h : Arr (n := 2048) (w := 1) (V c (Pipeline.arrRef spec1 5)) f) (t : Fin cfg1.N) {e : ℕ} (he : t.val % 4 = e) :
    Blk (n := 512) (w := 1) (iblk1 V c 5 t) (512 * e) (f (t.val / 4)) := by
  intro r d
  obtain ⟨-, -, -, -, -, -, ⟨e0, e1, e2⟩, -⟩ := index1 t
  refine (h (((cfg1.win 5).blk t).view.emb (ix3 (0 : Fin 1) r d))).trans ?_
  have h0 : ((((cfg1.win 5).blk t).view.emb (ix3 (0 : Fin 1) r d)) 0).val = t.val / 4 := by
    show win1_5.index t (0 : Fin 3) * 1 + 1 * 0 = _; omega
  have h1 : ((((cfg1.win 5).blk t).view.emb (ix3 (0 : Fin 1) r d)) 1).val = 512 * e + r.val := by
    show win1_5.index t (1 : Fin 3) * 512 + 1 * r.val = _; omega
  have h2 : ((((cfg1.win 5).blk t).view.emb (ix3 (0 : Fin 1) r d)) 2).val = d.val := by
    show win1_5.index t (2 : Fin 3) * 1 + 1 * d.val = _; omega
  rw [h0, h1, h2]

/-! ## What a point of the forward kernel leaves -/

variable {H : ℕ → Head}

section forward

variable (hq : Arr (n := 2048) (w := 96) (V c (Pipeline.arrRef spec0 0)) fun h => (H h).q)
    (hk : Arr (n := 2048) (w := 96) (V c (Pipeline.arrRef spec0 1)) fun h => (H h).k)
    (hv : Arr (n := 2048) (w := 64) (V c (Pipeline.arrRef spec0 2)) fun h => (H h).v)

include hq hk hv

theorem outs0 (t : Fin cfg0.N) :
    Blk (n := 512) (w := 64) (outsAt0 V c t.val t.isLt).1 (512 * (t.val % 4)) (out (H (t.val / 4)))
      ∧ Blk (n := 512) (w := 1) (outsAt0 V c t.val t.isLt).2 (512 * (t.val % 4)) (fun R _ => lse (H (t.val / 4)) R) := by
  have hi := (index0 t).1
  have hc : t.val % 4 = 0 ∨ t.val % 4 = 1 ∨ t.val % 4 = 2 ∨ t.val % 4 = 3 := by omega
  rcases hc with he | he | he | he
  · rw [he, outsAt0_A V c t he (by omega) (by omega) (by omega)]
    dsimp only
    exact ⟨forward_A_3 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) ((hcond0_0 t).mpr he) (fun h => absurd ((hcond0_1 t).mp h) (by omega)) (fun h => absurd ((hcond0_2 t).mp h) (by omega)) (fun h => absurd ((hcond0_3 t).mp h) (by omega)) (hi.trans he) (read0_0 V c hq t he) (read0_1 V c hk t) (read0_2 V c hv t),
      forward_A_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) ((hcond0_0 t).mpr he) (fun h => absurd ((hcond0_1 t).mp h) (by omega)) (fun h => absurd ((hcond0_2 t).mp h) (by omega)) (fun h => absurd ((hcond0_3 t).mp h) (by omega)) (hi.trans he) (read0_0 V c hq t he) (read0_1 V c hk t)⟩
  · rw [he, outsAt0_B V c t (by omega) he (by omega) (by omega)]
    dsimp only
    exact ⟨forward_B_3 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (fun h => absurd ((hcond0_0 t).mp h) (by omega)) ((hcond0_1 t).mpr he) (fun h => absurd ((hcond0_2 t).mp h) (by omega)) (fun h => absurd ((hcond0_3 t).mp h) (by omega)) (hi.trans he) (read0_0 V c hq t he) (read0_1 V c hk t) (read0_2 V c hv t),
      forward_B_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (fun h => absurd ((hcond0_0 t).mp h) (by omega)) ((hcond0_1 t).mpr he) (fun h => absurd ((hcond0_2 t).mp h) (by omega)) (fun h => absurd ((hcond0_3 t).mp h) (by omega)) (hi.trans he) (read0_0 V c hq t he) (read0_1 V c hk t)⟩
  · rw [he, outsAt0_C V c t (by omega) (by omega) he (by omega)]
    dsimp only
    exact ⟨forward_C_3 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (fun h => absurd ((hcond0_0 t).mp h) (by omega)) (fun h => absurd ((hcond0_1 t).mp h) (by omega)) ((hcond0_2 t).mpr he) (fun h => absurd ((hcond0_3 t).mp h) (by omega)) (hi.trans he) (read0_0 V c hq t he) (read0_1 V c hk t) (read0_2 V c hv t),
      forward_C_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (fun h => absurd ((hcond0_0 t).mp h) (by omega)) (fun h => absurd ((hcond0_1 t).mp h) (by omega)) ((hcond0_2 t).mpr he) (fun h => absurd ((hcond0_3 t).mp h) (by omega)) (hi.trans he) (read0_0 V c hq t he) (read0_1 V c hk t)⟩
  · rw [he, outsAt0_D V c t (by omega) (by omega) (by omega) he]
    dsimp only
    exact ⟨forward_D_3 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (fun h => absurd ((hcond0_0 t).mp h) (by omega)) (fun h => absurd ((hcond0_1 t).mp h) (by omega)) (fun h => absurd ((hcond0_2 t).mp h) (by omega)) ((hcond0_3 t).mpr he) (hi.trans he) (read0_0 V c hq t he) (read0_1 V c hk t) (read0_2 V c hv t),
      forward_D_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t) (fun h => absurd ((hcond0_0 t).mp h) (by omega)) (fun h => absurd ((hcond0_1 t).mp h) (by omega)) (fun h => absurd ((hcond0_2 t).mp h) (by omega)) ((hcond0_3 t).mpr he) (hi.trans he) (read0_0 V c hq t he) (read0_1 V c hk t)⟩

/-- What the forward kernel leaves in the array of `o`. -/
theorem arr0_3 : Arr (n := 2048) (w := 64) ((dat0 V c).arrAt 3 cfg0.N) fun h => out (H h) := by
  intro j
  refine congrFun ((dat0 V c).arrAt_eq_of_cover 3
    (fun j : (⟨3, ![16, 2048, 64]⟩ : Shape).Idx => (((fun h => out (H h)) (j 0).val (j 1).val (j 2).val : ℝ) : EReal)) (fun t hf => ?_) (fun i => ?_)) j
  · funext y
    obtain ⟨-, -, -, -, ⟨e0, e1, e2⟩, -⟩ := index0 t
    generalize he : t.val % 4 = e at e1
    obtain ⟨z, r, d, rfl⟩ : ∃ (z : Fin 1) (r : Fin 512) (d : Fin 64), y = ix3 z r d := ⟨y 0, y 1, y 2, by funext a; match a with | ⟨0, _⟩ => rfl | ⟨1, _⟩ => rfl | ⟨2, _⟩ => rfl⟩
    obtain rfl : z = 0 := Subsingleton.elim _ _
    show (cfg0.win 3).cut (grid0.coords t) ((dat0 V c).after 3 t) (ix3 0 r d)
      = (((fun h => out (H h)) ((((cfg0.win 3).blk t).view.emb (ix3 (0 : Fin 1) r d)) 0).val ((((cfg0.win 3).blk t).view.emb (ix3 (0 : Fin 1) r d)) 1).val
        ((((cfg0.win 3).blk t).view.emb (ix3 (0 : Fin 1) r d)) 2).val : ℝ) : EReal)
    rw [after0_3]
    have h0 : ((((cfg0.win 3).blk t).view.emb (ix3 (0 : Fin 1) r d)) 0).val = t.val / 4 := by
      show win0_3.index t (0 : Fin 3) * 1 + 1 * 0 = _; omega
    have h1 : ((((cfg0.win 3).blk t).view.emb (ix3 (0 : Fin 1) r d)) 1).val = 512 * e + r.val := by
      show win0_3.index t (1 : Fin 3) * 512 + 1 * r.val = _; omega
    have h2 : ((((cfg0.win 3).blk t).view.emb (ix3 (0 : Fin 1) r d)) 2).val = d.val := by
      show win0_3.index t (2 : Fin 3) * 64 + 1 * d.val = _; omega
    rw [h0, h1, h2]
    refine Eq.trans ?_ ((he ▸ (outs0 V c hq hk hv t).1) r d)
    rfl
  · have hl0 : (i 0).val < 16 := (i 0).isLt
    have hl1 : (i 1).val < 2048 := (i 1).isLt
    have hl2 : (i 2).val < 64 := (i 2).isLt
    let t : Fin cfg0.N := ⟨4 * (i 0).val + (i 1).val / 512, by show _ < grid0.N; rw [N_0]; omega⟩
    have ht : t.val = 4 * (i 0).val + (i 1).val / 512 := rfl
    refine ⟨t, flush0_3 t, ?_⟩
    obtain ⟨-, -, -, -, ⟨e0, e1, e2⟩, -⟩ := index0 t
    show i ∈ ((View.whole main_v6_0).slice (win0_3.rect t)).set
    rw [View.set_slice_whole, Rect.mem_set_unit]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 512 ≤ (i 1).val ∧ (i 1).val < win0_3.index t (1 : Fin 3) * 512 + 512; omega
    | ⟨2, _⟩ => show win0_3.index t (2 : Fin 3) * 64 ≤ (i 2).val ∧ (i 2).val < win0_3.index t (2 : Fin 3) * 64 + 64; omega

/-- What the forward kernel leaves in the array of `lse`. -/
theorem arr0_4 : Arr (n := 2048) (w := 1) ((dat0 V c).arrAt 4 cfg0.N) fun h R _ => lse (H h) R := by
  intro j
  refine congrFun ((dat0 V c).arrAt_eq_of_cover 4
    (fun j : (⟨3, ![16, 2048, 1]⟩ : Shape).Idx => (((fun h R _ => lse (H h) R) (j 0).val (j 1).val (j 2).val : ℝ) : EReal)) (fun t hf => ?_) (fun i => ?_)) j
  · funext y
    obtain ⟨-, -, -, -, -, ⟨e0, e1, e2⟩⟩ := index0 t
    generalize he : t.val % 4 = e at e1
    obtain ⟨z, r, d, rfl⟩ : ∃ (z : Fin 1) (r : Fin 512) (d : Fin 1), y = ix3 z r d := ⟨y 0, y 1, y 2, by funext a; match a with | ⟨0, _⟩ => rfl | ⟨1, _⟩ => rfl | ⟨2, _⟩ => rfl⟩
    obtain rfl : z = 0 := Subsingleton.elim _ _
    show (cfg0.win 4).cut (grid0.coords t) ((dat0 V c).after 4 t) (ix3 0 r d)
      = (((fun h R _ => lse (H h) R) ((((cfg0.win 4).blk t).view.emb (ix3 (0 : Fin 1) r d)) 0).val ((((cfg0.win 4).blk t).view.emb (ix3 (0 : Fin 1) r d)) 1).val
        ((((cfg0.win 4).blk t).view.emb (ix3 (0 : Fin 1) r d)) 2).val : ℝ) : EReal)
    rw [after0_4]
    have h0 : ((((cfg0.win 4).blk t).view.emb (ix3 (0 : Fin 1) r d)) 0).val = t.val / 4 := by
      show win0_4.index t (0 : Fin 3) * 1 + 1 * 0 = _; omega
    have h1 : ((((cfg0.win 4).blk t).view.emb (ix3 (0 : Fin 1) r d)) 1).val = 512 * e + r.val := by
      show win0_4.index t (1 : Fin 3) * 512 + 1 * r.val = _; omega
    have h2 : ((((cfg0.win 4).blk t).view.emb (ix3 (0 : Fin 1) r d)) 2).val = d.val := by
      show win0_4.index t (2 : Fin 3) * 1 + 1 * d.val = _; omega
    rw [h0, h1, h2]
    refine Eq.trans ?_ ((he ▸ (outs0 V c hq hk hv t).2) r d)
    rfl
  · have hl0 : (i 0).val < 16 := (i 0).isLt
    have hl1 : (i 1).val < 2048 := (i 1).isLt
    have hl2 : (i 2).val < 1 := (i 2).isLt
    let t : Fin cfg0.N := ⟨4 * (i 0).val + (i 1).val / 512, by show _ < grid0.N; rw [N_0]; omega⟩
    have ht : t.val = 4 * (i 0).val + (i 1).val / 512 := rfl
    refine ⟨t, flush0_4 t, ?_⟩
    obtain ⟨-, -, -, -, -, ⟨e0, e1, e2⟩⟩ := index0 t
    show i ∈ ((View.whole main_v6_1).slice (win0_4.rect t)).set
    rw [View.set_slice_whole, Rect.mem_set_unit]
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 512 ≤ (i 1).val ∧ (i 1).val < win0_4.index t (1 : Fin 3) * 512 + 512; omega
    | ⟨2, _⟩ => show win0_4.index t (2 : Fin 3) * 1 ≤ (i 2).val ∧ (i 2).val < win0_4.index t (2 : Fin 3) * 1 + 1; omega

end forward

/-! ## What a point of the backward kernel leaves -/

section backward

variable (hq : Arr (n := 2048) (w := 96) (V c (Pipeline.arrRef spec1 0)) fun h => (H h).q)
  (hk : Arr (n := 2048) (w := 96) (V c (Pipeline.arrRef spec1 1)) fun h => (H h).k)
  (hv : Arr (n := 2048) (w := 64) (V c (Pipeline.arrRef spec1 2)) fun h => (H h).v)
  (ho : Arr (n := 2048) (w := 64) (V c (Pipeline.arrRef spec1 3)) fun h => out (H h))
  (hg : Arr (n := 2048) (w := 64) (V c (Pipeline.arrRef spec1 4)) fun h => (H h).g)
  (hl : Arr (n := 2048) (w := 1) (V c (Pipeline.arrRef spec1 5)) fun h R _ => lse (H h) R)

include hq hk hv ho hg hl

/-- The three blocks at every point: the gradients of `k` and `v` hold what the rows so far contribute. -/
theorem outs1 : ∀ (n : ℕ) (hn : n < cfg1.N),
    Blk (n := 512) (w := 96) (outsAt1 V c n hn).1 (512 * (n % 4)) (dq (H (n / 4)))
      ∧ Blk (n := 2048) (w := 96) (outsAt1 V c n hn).2.1 0 (dk (H (n / 4)) (512 * (n % 4) + 512))
      ∧ Blk (n := 2048) (w := 64) (outsAt1 V c n hn).2.2 0 (dv (H (n / 4)) (512 * (n % 4) + 512)) := by
  intro n
  induction n using Nat.strong_induction_on with
  | _ n ih =>
    intro hn
    obtain ⟨t, rfl⟩ : ∃ t : Fin cfg1.N, t.val = n := ⟨⟨n, hn⟩, rfl⟩
    have hi := (index1 t).1
    have hc : t.val % 4 = 0 ∨ t.val % 4 = 1 ∨ t.val % 4 = 2 ∨ t.val % 4 = 3 := by omega
    rcases hc with he | he | he | he
    · rw [he, outsAt1_A V c t he he (by omega) (by omega) (by omega)]
      dsimp only
      exact ⟨backward_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) ((hcond1_0 t).mpr he) ((hcond1_1 t).mpr he) (fun h => absurd ((hcond1_2 t).mp h) (by omega)) (fun h => absurd ((hcond1_3 t).mp h) (by omega)) (fun h => absurd ((hcond1_4 t).mp h) (by omega)) (hi.trans he) (read1_0 V c hq t he) (read1_1 V c hk t) (read1_2 V c hv t) (read1_3 V c ho t he) (read1_4 V c hg t he) (read1_5 V c hl t he),
        backward_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) ((hcond1_0 t).mpr he) ((hcond1_1 t).mpr he) (fun h => absurd ((hcond1_2 t).mp h) (by omega)) (fun h => absurd ((hcond1_3 t).mp h) (by omega)) (fun h => absurd ((hcond1_4 t).mp h) (by omega)) (hi.trans he) (read1_0 V c hq t he) (read1_1 V c hk t) (read1_2 V c hv t) (read1_3 V c ho t he) (read1_4 V c hg t he) (read1_5 V c hl t he),
        backward_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) ((hcond1_0 t).mpr he) ((hcond1_1 t).mpr he) (fun h => absurd ((hcond1_2 t).mp h) (by omega)) (fun h => absurd ((hcond1_3 t).mp h) (by omega)) (fun h => absurd ((hcond1_4 t).mp h) (by omega)) (hi.trans he) (read1_0 V c hq t he) (read1_1 V c hk t) (read1_2 V c hv t) (read1_3 V c ho t he) (read1_4 V c hg t he) (read1_5 V c hl t he)⟩
    · obtain ⟨-, hp, hp'⟩ := ih (t.val - 1) (by omega) (Nat.lt_of_le_of_lt (Nat.sub_le _ _) t.isLt)
      rw [show (t.val - 1) / 4 = t.val / 4 by omega, show 512 * ((t.val - 1) % 4) + 512 = 512 * 1 by omega] at hp hp'
      rw [he, outsAt1_B V c t (by omega) (by omega) he (by omega) (by omega)]
      dsimp only
      exact ⟨backward_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 (fun h => absurd ((hcond1_0 t).mp h) (by omega)) (fun h => absurd ((hcond1_1 t).mp h) (by omega)) ((hcond1_2 t).mpr he) (fun h => absurd ((hcond1_3 t).mp h) (by omega)) (fun h => absurd ((hcond1_4 t).mp h) (by omega)) (hi.trans he) (read1_0 V c hq t he) (read1_1 V c hk t) (read1_2 V c hv t) (read1_3 V c ho t he) (read1_4 V c hg t he) (read1_5 V c hl t he),
        backward_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 (fun h => absurd ((hcond1_0 t).mp h) (by omega)) (fun h => absurd ((hcond1_1 t).mp h) (by omega)) ((hcond1_2 t).mpr he) (fun h => absurd ((hcond1_3 t).mp h) (by omega)) (fun h => absurd ((hcond1_4 t).mp h) (by omega)) (hi.trans he) (read1_0 V c hq t he) (read1_1 V c hk t) (read1_2 V c hv t) (read1_3 V c ho t he) (read1_4 V c hg t he) (read1_5 V c hl t he) hp,
        backward_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 (fun h => absurd ((hcond1_0 t).mp h) (by omega)) (fun h => absurd ((hcond1_1 t).mp h) (by omega)) ((hcond1_2 t).mpr he) (fun h => absurd ((hcond1_3 t).mp h) (by omega)) (fun h => absurd ((hcond1_4 t).mp h) (by omega)) (hi.trans he) (read1_0 V c hq t he) (read1_1 V c hk t) (read1_2 V c hv t) (read1_3 V c ho t he) (read1_4 V c hg t he) (read1_5 V c hl t he) hp'⟩
    · obtain ⟨-, hp, hp'⟩ := ih (t.val - 1) (by omega) (Nat.lt_of_le_of_lt (Nat.sub_le _ _) t.isLt)
      rw [show (t.val - 1) / 4 = t.val / 4 by omega, show 512 * ((t.val - 1) % 4) + 512 = 512 * 2 by omega] at hp hp'
      rw [he, outsAt1_C V c t (by omega) (by omega) (by omega) he (by omega)]
      dsimp only
      exact ⟨backward_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 (fun h => absurd ((hcond1_0 t).mp h) (by omega)) (fun h => absurd ((hcond1_1 t).mp h) (by omega)) (fun h => absurd ((hcond1_2 t).mp h) (by omega)) ((hcond1_3 t).mpr he) (fun h => absurd ((hcond1_4 t).mp h) (by omega)) (hi.trans he) (read1_0 V c hq t he) (read1_1 V c hk t) (read1_2 V c hv t) (read1_3 V c ho t he) (read1_4 V c hg t he) (read1_5 V c hl t he),
        backward_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 (fun h => absurd ((hcond1_0 t).mp h) (by omega)) (fun h => absurd ((hcond1_1 t).mp h) (by omega)) (fun h => absurd ((hcond1_2 t).mp h) (by omega)) ((hcond1_3 t).mpr he) (fun h => absurd ((hcond1_4 t).mp h) (by omega)) (hi.trans he) (read1_0 V c hq t he) (read1_1 V c hk t) (read1_2 V c hv t) (read1_3 V c ho t he) (read1_4 V c hg t he) (read1_5 V c hl t he) hp,
        backward_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 (fun h => absurd ((hcond1_0 t).mp h) (by omega)) (fun h => absurd ((hcond1_1 t).mp h) (by omega)) (fun h => absurd ((hcond1_2 t).mp h) (by omega)) ((hcond1_3 t).mpr he) (fun h => absurd ((hcond1_4 t).mp h) (by omega)) (hi.trans he) (read1_0 V c hq t he) (read1_1 V c hk t) (read1_2 V c hv t) (read1_3 V c ho t he) (read1_4 V c hg t he) (read1_5 V c hl t he) hp'⟩
    · obtain ⟨-, hp, hp'⟩ := ih (t.val - 1) (by omega) (Nat.lt_of_le_of_lt (Nat.sub_le _ _) t.isLt)
      rw [show (t.val - 1) / 4 = t.val / 4 by omega, show 512 * ((t.val - 1) % 4) + 512 = 512 * 3 by omega] at hp hp'
      rw [he, outsAt1_D V c t (by omega) (by omega) (by omega) (by omega) he]
      dsimp only
      exact ⟨backward_D_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 (fun h => absurd ((hcond1_0 t).mp h) (by omega)) (fun h => absurd ((hcond1_1 t).mp h) (by omega)) (fun h => absurd ((hcond1_2 t).mp h) (by omega)) (fun h => absurd ((hcond1_3 t).mp h) (by omega)) ((hcond1_4 t).mpr he) (hi.trans he) (read1_0 V c hq t he) (read1_1 V c hk t) (read1_2 V c hv t) (read1_3 V c ho t he) (read1_4 V c hg t he) (read1_5 V c hl t he),
        backward_D_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 (fun h => absurd ((hcond1_0 t).mp h) (by omega)) (fun h => absurd ((hcond1_1 t).mp h) (by omega)) (fun h => absurd ((hcond1_2 t).mp h) (by omega)) (fun h => absurd ((hcond1_3 t).mp h) (by omega)) ((hcond1_4 t).mpr he) (hi.trans he) (read1_0 V c hq t he) (read1_1 V c hk t) (read1_2 V c hv t) (read1_3 V c ho t he) (read1_4 V c hg t he) (read1_5 V c hl t he) hp,
        backward_D_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2 (fun h => absurd ((hcond1_0 t).mp h) (by omega)) (fun h => absurd ((hcond1_1 t).mp h) (by omega)) (fun h => absurd ((hcond1_2 t).mp h) (by omega)) (fun h => absurd ((hcond1_3 t).mp h) (by omega)) ((hcond1_4 t).mpr he) (hi.trans he) (read1_0 V c hq t he) (read1_1 V c hk t) (read1_2 V c hv t) (read1_3 V c ho t he) (read1_4 V c hg t he) (read1_5 V c hl t he) hp'⟩

/-- What the backward kernel leaves in the array of `dq`. -/
theorem arr1_6 : Arr (n := 2048) (w := 96) ((dat1 V c).arrAt 6 cfg1.N) fun h => dq (H h) := by
  intro j
  refine congrFun ((dat1 V c).arrAt_eq_of_cover 6
    (fun j : (⟨3, ![16, 2048, 96]⟩ : Shape).Idx => (((fun h => dq (H h)) (j 0).val (j 1).val (j 2).val : ℝ) : EReal)) (fun t hf => ?_) (fun i => ?_)) j
  · funext y
    obtain ⟨-, -, -, -, -, -, -, ⟨e0, e1, e2⟩, -⟩ := index1 t
    generalize he : t.val % 4 = e at e1
    obtain ⟨z, r, d, rfl⟩ : ∃ (z : Fin 1) (r : Fin 512) (d : Fin 96), y = ix3 z r d := ⟨y 0, y 1, y 2, by funext a; match a with | ⟨0, _⟩ => rfl | ⟨1, _⟩ => rfl | ⟨2, _⟩ => rfl⟩
    obtain rfl : z = 0 := Subsingleton.elim _ _
    show (cfg1.win 6).cut (grid1.coords t) ((dat1 V c).after 6 t) (ix3 0 r d)
      = (((fun h => dq (H h)) ((((cfg1.win 6).blk t).view.emb (ix3 (0 : Fin 1) r d)) 0).val ((((cfg1.win 6).blk t).view.emb (ix3 (0 : Fin 1) r d)) 1).val
        ((((cfg1.win 6).blk t).view.emb (ix3 (0 : Fin 1) r d)) 2).val : ℝ) : EReal)
    rw [after1_6]
    have h0 : ((((cfg1.win 6).blk t).view.emb (ix3 (0 : Fin 1) r d)) 0).val = t.val / 4 := by
      show win1_6.index t (0 : Fin 3) * 1 + 1 * 0 = _; omega
    have h1 : ((((cfg1.win 6).blk t).view.emb (ix3 (0 : Fin 1) r d)) 1).val = 512 * e + r.val := by
      show win1_6.index t (1 : Fin 3) * 512 + 1 * r.val = _; omega
    have h2 : ((((cfg1.win 6).blk t).view.emb (ix3 (0 : Fin 1) r d)) 2).val = d.val := by
      show win1_6.index t (2 : Fin 3) * 96 + 1 * d.val = _; omega
    rw [h0, h1, h2]
    refine Eq.trans ?_ ((he ▸ (outs1 V c hq hk hv ho hg hl t.val t.isLt).1) r d)
    rfl
  · have hl0 : (i 0).val < 16 := (i 0).isLt
    have hl1 : (i 1).val < 2048 := (i 1).isLt
    have hl2 : (i 2).val < 96 := (i 2).isLt
    let t : Fin cfg1.N := ⟨4 * (i 0).val + (i 1).val / 512, by show _ < grid1.N; rw [N_1]; omega⟩
    have ht : t.val = 4 * (i 0).val + (i 1).val / 512 := rfl
    refine ⟨t, flush1_6 t, ?_⟩
    obtain ⟨-, -, -, -, -, -, -, ⟨e0, e1, e2⟩, -⟩ := index1 t
    show i ∈ ((View.whole main_v9_0).slice (win1_6.rect t)).set
    rw [View.set_slice_whole, Rect.mem_set_unit]
    intro a
    match a with
    | ⟨0, _⟩ => show win1_6.index t (0 : Fin 3) * 1 ≤ (i 0).val ∧ (i 0).val < win1_6.index t (0 : Fin 3) * 1 + 1; omega
    | ⟨1, _⟩ => show win1_6.index t (1 : Fin 3) * 512 ≤ (i 1).val ∧ (i 1).val < win1_6.index t (1 : Fin 3) * 512 + 512; omega
    | ⟨2, _⟩ => show win1_6.index t (2 : Fin 3) * 96 ≤ (i 2).val ∧ (i 2).val < win1_6.index t (2 : Fin 3) * 96 + 96; omega

/-- What the backward kernel leaves in the array of `dk`. -/
theorem arr1_7 : Arr (n := 2048) (w := 96) ((dat1 V c).arrAt 7 cfg1.N) fun h => dk (H h) 2048 := by
  intro j
  refine congrFun ((dat1 V c).arrAt_eq_of_cover 7
    (fun j : (⟨3, ![16, 2048, 96]⟩ : Shape).Idx => (((fun h => dk (H h) 2048) (j 0).val (j 1).val (j 2).val : ℝ) : EReal)) (fun t hf => ?_) (fun i => ?_)) j
  · funext y
    obtain ⟨-, -, -, -, -, -, -, -, ⟨e0, e1, e2⟩, -⟩ := index1 t
    have hf3 := (flush1_7 t).mp hf
    obtain ⟨z, r, d, rfl⟩ : ∃ (z : Fin 1) (r : Fin 2048) (d : Fin 96), y = ix3 z r d := ⟨y 0, y 1, y 2, by funext a; match a with | ⟨0, _⟩ => rfl | ⟨1, _⟩ => rfl | ⟨2, _⟩ => rfl⟩
    obtain rfl : z = 0 := Subsingleton.elim _ _
    show (cfg1.win 7).cut (grid1.coords t) ((dat1 V c).after 7 t) (ix3 0 r d)
      = (((fun h => dk (H h) 2048) ((((cfg1.win 7).blk t).view.emb (ix3 (0 : Fin 1) r d)) 0).val ((((cfg1.win 7).blk t).view.emb (ix3 (0 : Fin 1) r d)) 1).val
        ((((cfg1.win 7).blk t).view.emb (ix3 (0 : Fin 1) r d)) 2).val : ℝ) : EReal)
    rw [after1_7]
    have h0 : ((((cfg1.win 7).blk t).view.emb (ix3 (0 : Fin 1) r d)) 0).val = t.val / 4 := by
      show win1_7.index t (0 : Fin 3) * 1 + 1 * 0 = _; omega
    have h1 : ((((cfg1.win 7).blk t).view.emb (ix3 (0 : Fin 1) r d)) 1).val = 0 + r.val := by
      show win1_7.index t (1 : Fin 3) * 2048 + 1 * r.val = _; omega
    have h2 : ((((cfg1.win 7).blk t).view.emb (ix3 (0 : Fin 1) r d)) 2).val = d.val := by
      show win1_7.index t (2 : Fin 3) * 96 + 1 * d.val = _; omega
    rw [h0, h1, h2]
    refine Eq.trans ?_ (((show 512 * (t.val % 4) + 512 = 2048 by omega) ▸ (outs1 V c hq hk hv ho hg hl t.val t.isLt).2.1) r d)
    rfl
  · have hl0 : (i 0).val < 16 := (i 0).isLt
    have hl1 : (i 1).val < 2048 := (i 1).isLt
    have hl2 : (i 2).val < 96 := (i 2).isLt
    let t : Fin cfg1.N := ⟨4 * (i 0).val + 3, by show _ < grid1.N; rw [N_1]; omega⟩
    have ht : t.val = 4 * (i 0).val + 3 := rfl
    refine ⟨t, (flush1_7 t).mpr (by omega), ?_⟩
    obtain ⟨-, -, -, -, -, -, -, -, ⟨e0, e1, e2⟩, -⟩ := index1 t
    show i ∈ ((View.whole main_v9_1).slice (win1_7.rect t)).set
    rw [View.set_slice_whole, Rect.mem_set_unit]
    intro a
    match a with
    | ⟨0, _⟩ => show win1_7.index t (0 : Fin 3) * 1 ≤ (i 0).val ∧ (i 0).val < win1_7.index t (0 : Fin 3) * 1 + 1; omega
    | ⟨1, _⟩ => show win1_7.index t (1 : Fin 3) * 2048 ≤ (i 1).val ∧ (i 1).val < win1_7.index t (1 : Fin 3) * 2048 + 2048; omega
    | ⟨2, _⟩ => show win1_7.index t (2 : Fin 3) * 96 ≤ (i 2).val ∧ (i 2).val < win1_7.index t (2 : Fin 3) * 96 + 96; omega

/-- What the backward kernel leaves in the array of `dv`. -/
theorem arr1_8 : Arr (n := 2048) (w := 64) ((dat1 V c).arrAt 8 cfg1.N) fun h => dv (H h) 2048 := by
  intro j
  refine congrFun ((dat1 V c).arrAt_eq_of_cover 8
    (fun j : (⟨3, ![16, 2048, 64]⟩ : Shape).Idx => (((fun h => dv (H h) 2048) (j 0).val (j 1).val (j 2).val : ℝ) : EReal)) (fun t hf => ?_) (fun i => ?_)) j
  · funext y
    obtain ⟨-, -, -, -, -, -, -, -, -, ⟨e0, e1, e2⟩⟩ := index1 t
    have hf3 := (flush1_8 t).mp hf
    obtain ⟨z, r, d, rfl⟩ : ∃ (z : Fin 1) (r : Fin 2048) (d : Fin 64), y = ix3 z r d := ⟨y 0, y 1, y 2, by funext a; match a with | ⟨0, _⟩ => rfl | ⟨1, _⟩ => rfl | ⟨2, _⟩ => rfl⟩
    obtain rfl : z = 0 := Subsingleton.elim _ _
    show (cfg1.win 8).cut (grid1.coords t) ((dat1 V c).after 8 t) (ix3 0 r d)
      = (((fun h => dv (H h) 2048) ((((cfg1.win 8).blk t).view.emb (ix3 (0 : Fin 1) r d)) 0).val ((((cfg1.win 8).blk t).view.emb (ix3 (0 : Fin 1) r d)) 1).val
        ((((cfg1.win 8).blk t).view.emb (ix3 (0 : Fin 1) r d)) 2).val : ℝ) : EReal)
    rw [after1_8]
    have h0 : ((((cfg1.win 8).blk t).view.emb (ix3 (0 : Fin 1) r d)) 0).val = t.val / 4 := by
      show win1_8.index t (0 : Fin 3) * 1 + 1 * 0 = _; omega
    have h1 : ((((cfg1.win 8).blk t).view.emb (ix3 (0 : Fin 1) r d)) 1).val = 0 + r.val := by
      show win1_8.index t (1 : Fin 3) * 2048 + 1 * r.val = _; omega
    have h2 : ((((cfg1.win 8).blk t).view.emb (ix3 (0 : Fin 1) r d)) 2).val = d.val := by
      show win1_8.index t (2 : Fin 3) * 64 + 1 * d.val = _; omega
    rw [h0, h1, h2]
    refine Eq.trans ?_ (((show 512 * (t.val % 4) + 512 = 2048 by omega) ▸ (outs1 V c hq hk hv ho hg hl t.val t.isLt).2.2) r d)
    rfl
  · have hl0 : (i 0).val < 16 := (i 0).isLt
    have hl1 : (i 1).val < 2048 := (i 1).isLt
    have hl2 : (i 2).val < 64 := (i 2).isLt
    let t : Fin cfg1.N := ⟨4 * (i 0).val + 3, by show _ < grid1.N; rw [N_1]; omega⟩
    have ht : t.val = 4 * (i 0).val + 3 := rfl
    refine ⟨t, (flush1_8 t).mpr (by omega), ?_⟩
    obtain ⟨-, -, -, -, -, -, -, -, -, ⟨e0, e1, e2⟩⟩ := index1 t
    show i ∈ ((View.whole main_v9_2).slice (win1_8.rect t)).set
    rw [View.set_slice_whole, Rect.mem_set_unit]
    intro a
    match a with
    | ⟨0, _⟩ => show win1_8.index t (0 : Fin 3) * 1 ≤ (i 0).val ∧ (i 0).val < win1_8.index t (0 : Fin 3) * 1 + 1; omega
    | ⟨1, _⟩ => show win1_8.index t (1 : Fin 3) * 2048 ≤ (i 1).val ∧ (i 1).val < win1_8.index t (1 : Fin 3) * 2048 + 2048; omega
    | ⟨2, _⟩ => show win1_8.index t (2 : Fin 3) * 64 ≤ (i 2).val ∧ (i 2).val < win1_8.index t (2 : Fin 3) * 64 + 64; omega

end backward

end Cert.KernelIdeal.Tiles

end
-- ==== Proof.Attn.Hosts.lean ====
/- The two stretches of host operations of the program: which arrays they write. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v7, main_v8]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

end Cert.KernelIdeal.Attn

end
-- ==== Proof.Attn.Contents.lean ====
/- The contents of all arrays between the segments of the program, from the launch to the end. -/
module

public import proofs.«01_k».proof.Proof.Attn.Forward
public import proofs.«01_k».proof.Proof.Attn.Backward
public import proofs.«01_k».proof.Proof.Attn.Hosts

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
end Cert.KernelIdeal.Attn

end
-- ==== Proof.Attn.State.lean ====
/- The state between two segments of the program, and the proof data of both regions. -/
module

public import proofs.«01_k».proof.Proof.Attn.Contents

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the     invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

end Cert.KernelIdeal.Attn

end
-- ==== Proof.Attn.SegForward.lean ====
/- The forward region as a segment of the program. -/
module

public import proofs.«01_k».proof.Proof.Attn.State

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Attn

end
-- ==== Proof.Attn.SegBackward.lean ====
/- The backward region as a segment of the program. -/
module

public import proofs.«01_k».proof.Proof.Attn.State

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Attn

end
-- ==== Proof.Attn.Run.lean ====
/- The run of the program: its segments chained, and the state they end in with every array named. -/
module

public import proofs.«01_k».proof.Proof.Attn.SegForward
public import proofs.«01_k».proof.Proof.Attn.SegBackward

@[expose] public section

-- membership in a rectangle of production extents (`View.cover_of_tiled`): the elaborator's structural look
-- recurses once per coordinate of the long axes
set_option maxRecDepth 16384

noncomputable section

namespace Cert.KernelIdeal.Attn

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W4_<arg>`;
    the kit shows every counter at zero except the TensorCores' unscoped ones, of which there are none. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩), funext fun g => hz g (.inr (no_unscoped g.2))⟩)

-- `θ_run_regions_kit_sems`'s implicit arguments are found by unifying its conclusion with this one, which takes unfolding
-- plain definitions in a metavariable's type
set_option backward.isDefEq.respectTransparency.types false in
/-- The same run with the three results named: every array of the program ends at `W4`. -/
theorem results : θ_run defs (onTc (τ := τ) (main (F := F))) ⟨m, fun _ => 0, ρ⟩ (fun r => ∀ c : Dev nD,
      r.2.mem ((c.tc : Thread nD τ).loc main_v9_0) = W4 m ρ c (Proc.devRef .tc main_v9_0)
      ∧ r.2.mem ((c.tc : Thread nD τ).loc main_v9_1) = W4 m ρ c (Proc.devRef .tc main_v9_1)
      ∧ r.2.mem ((c.tc : Thread nD τ).loc main_v9_2) = W4 m ρ c (Proc.devRef .tc main_v9_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v9_0 (by decide)), h c _ (mem_uc main_v9_1 (by decide)), h c _ (mem_uc main_v9_2 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Attn

end
-- ==== Proof.Value.Result.lean ====
/- The two kernels' run at real arguments: the arrays its host lines write, and the three results, each as a function of the
   arguments. -/
module

public import proofs.«01_k».proof.Proof.Value.Blocks
public import proofs.«01_k».proof.Proof.Attn.Run
public import Idealize.ShloMosaic.Lib.StableHlo.Run

@[expose] public section

set_option maxRecDepth 16384

noncomputable section

namespace Cert.KernelIdeal.Tiles

open Cert.KernelIdeal Cert.KernelIdeal.Gen Cert.KernelIdeal.Attn Cert.Softmax Idealize.ShloMosaic Idealize.ShloMosaic.TcCoe Idealize.ShloMosaic.StableHlo

variable (m : (ℓ : Loc nD τ sig) → Buf (Elt Ideal) ℓ) (ρ : Dev nD → PrngReg) (c : Dev nD)

/-- The arguments of device `c` hold the arrays of the heads `H`. -/
structure Args (H : ℕ → Head) : Prop where
  q : ∀ i : S2048x16x96.Idx, (m ((c : Thread nD τ).loc main_arg0) : S2048x16x96.Idx → EReal) i = (((H (i 1).val).q (i 0).val (i 2).val : ℝ) : EReal)
  k : ∀ i : S2048x16x96.Idx, (m ((c : Thread nD τ).loc main_arg1) : S2048x16x96.Idx → EReal) i = (((H (i 1).val).k (i 0).val (i 2).val : ℝ) : EReal)
  v : ∀ i : S2048x16x64.Idx, (m ((c : Thread nD τ).loc main_arg2) : S2048x16x64.Idx → EReal) i = (((H (i 1).val).v (i 0).val (i 2).val : ℝ) : EReal)
  g : ∀ i : S2048x1024.Idx, (m ((c : Thread nD τ).loc main_arg3) : S2048x1024.Idx → EReal) i
    = (((H ((i 1).val / 64)).g (i 0).val ((i 1).val % 64) : ℝ) : EReal)

theorem entry_q : V1 m ρ c main_v1 = truncf .bf16 (transpose S16x2048x96 [1, 0, 2] (m ((c : Thread nD τ).loc main_arg0) : S2048x16x96.Idx → EReal)
    transposes_S2048x16x96_S16x2048x96_1_0_2 : FVec Ideal S16x2048x96 .f32) bitsLt_bf16_f32 := by
  simp only [V1, V3, W1, W3, hostOps0, hostOps1]
  after_results_simp

theorem entry_k : V1 m ρ c main_v3 = truncf .bf16 (transpose S16x2048x96 [1, 0, 2] (m ((c : Thread nD τ).loc main_arg1) : S2048x16x96.Idx → EReal)
    transposes_S2048x16x96_S16x2048x96_1_0_2 : FVec Ideal S16x2048x96 .f32) bitsLt_bf16_f32 := by
  simp only [V1, V3, W1, W3, hostOps0, hostOps1]
  after_results_simp

theorem entry_v : V1 m ρ c main_v5 = truncf .bf16 (transpose S16x2048x64 [1, 0, 2] (m ((c : Thread nD τ).loc main_arg2) : S2048x16x64.Idx → EReal)
    transposes_S2048x16x64_S16x2048x64_1_0_2 : FVec Ideal S16x2048x64 .f32) bitsLt_bf16_f32 := by
  simp only [V1, V3, W1, W3, hostOps0, hostOps1]
  after_results_simp

theorem entry_g : V3 m ρ c main_v8 = (transpose S16x2048x64 [1, 0, 2] (shapeCast S2048x16x64 (W2 m ρ c (Proc.devRef .tc main_arg3) : S2048x1024.Idx → EReal)
    shapeCasts_S2048x1024_S2048x16x64) transposes_S2048x16x64_S16x2048x64_1_0_2 : FVec Ideal S16x2048x64 .f32) := by
  simp only [V1, V3, W1, W3, hostOps0, hostOps1]
  after_results_simp
  rfl

/-- Heads first: a rank-3 array with its first two axes exchanged, at an index. -/
theorem heads_first {n : ℕ} (x : (⟨3, ![2048, 16, n]⟩ : Shape).Idx → EReal) (h : (⟨3, ![2048, 16, n]⟩ : Shape).Transposes [1, 0, 2] ⟨3, ![16, 2048, n]⟩)
    (j : (⟨3, ![16, 2048, n]⟩ : Shape).Idx) :
    transpose ⟨3, ![16, 2048, n]⟩ [1, 0, 2] x h j = x (ix3 (n0 := 2048) (n1 := 16) (n2 := n) (j 1) (j 0) (j 2)) :=
  transpose_apply _ x h j _ fun b => match b with
    | ⟨0, _⟩ => rfl
    | ⟨1, _⟩ => rfl
    | ⟨2, _⟩ => rfl

variable {H : ℕ → Head} (hA : Args m c H)
include hA

theorem arr_q : Arr (n := 2048) (w := 96) (V1 m ρ c main_v1) fun h => (H h).q := fun j =>
  ((congrFun (entry_q m ρ c) j).trans (heads_first (m ((c : Thread nD τ).loc main_arg0)) _ j)).trans (hA.q _)
theorem arr_k : Arr (n := 2048) (w := 96) (V1 m ρ c main_v3) fun h => (H h).k := fun j =>
  ((congrFun (entry_k m ρ c) j).trans (heads_first (m ((c : Thread nD τ).loc main_arg1)) _ j)).trans (hA.k _)
theorem arr_v : Arr (n := 2048) (w := 64) (V1 m ρ c main_v5) fun h => (H h).v := fun j =>
  ((congrFun (entry_v m ρ c) j).trans (heads_first (m ((c : Thread nD τ).loc main_arg2)) _ j)).trans (hA.v _)

theorem arr_g : Arr (n := 2048) (w := 64) (V3 m ρ c main_v8) fun h => (H h).g := by
  intro j
  have h0 : (j 0).val < 16 := (j 0).isLt
  have h1 : (j 1).val < 2048 := (j 1).isLt
  have h2 : (j 2).val < 64 := (j 2).isLt
  refine (congrFun (entry_g m ρ c) j).trans ((heads_first _ _ j).trans ?_)
  refine (shapeCast_apply _ _ _ (ix2 (n0 := 2048) (n1 := 1024) (j 1) ⟨64 * (j 0).val + (j 2).val, by omega⟩) ?_).trans ?_
  · rw [Shape.rowMajor_val_two, Shape.rowMajor_val_three]
    show (j 1).val * 1024 + (64 * (j 0).val + (j 2).val) = ((j 1).val * 16 + (j 0).val) * 64 + (j 2).val
    omega
  · refine (congrFun (W2_args m ρ c main_arg3 (by decide)) _).trans ((hA.g _).trans ?_)
    have e1 : (64 * (j 0).val + (j 2).val) / 64 = (j 0).val := by omega
    have e2 : (64 * (j 0).val + (j 2).val) % 64 = (j 2).val := by omega
    show (((H ((64 * (j 0).val + (j 2).val) / 64)).g (j 1).val ((64 * (j 0).val + (j 2).val) % 64) : ℝ) : EReal) = _
    rw [e1, e2]

theorem keep_q : Arr (n := 2048) (w := 96) (V3 m ρ c main_v1) fun h => (H h).q := fun j =>
  ((congrFun (W3_of m ρ c main_v1 (by decide)) j).trans (congrFun (W2_of m ρ c main_v1 (by decide)) j)).trans (arr_q m ρ c hA j)
theorem keep_k : Arr (n := 2048) (w := 96) (V3 m ρ c main_v3) fun h => (H h).k := fun j =>
  ((congrFun (W3_of m ρ c main_v3 (by decide)) j).trans (congrFun (W2_of m ρ c main_v3 (by decide)) j)).trans (arr_k m ρ c hA j)
theorem keep_v : Arr (n := 2048) (w := 64) (V3 m ρ c main_v5) fun h => (H h).v := fun j =>
  ((congrFun (W3_of m ρ c main_v5 (by decide)) j).trans (congrFun (W2_of m ρ c main_v5 (by decide)) j)).trans (arr_v m ρ c hA j)

theorem keep_o : Arr (n := 2048) (w := 64) (V3 m ρ c main_v6_0) fun h => out (H h) := fun j =>
  ((congrFun (W3_of m ρ c main_v6_0 (by decide)) j).trans (congrFun (W2_arr m ρ c 3) j)).trans
    (arr0_3 (V1 m ρ) c (arr_q m ρ c hA) (arr_k m ρ c hA) (arr_v m ρ c hA) j)
theorem keep_lse : Arr (n := 2048) (w := 1) (V3 m ρ c main_v6_1) fun h R _ => lse (H h) R := fun j =>
  ((congrFun (W3_of m ρ c main_v6_1 (by decide)) j).trans (congrFun (W2_arr m ρ c 4) j)).trans
    (arr0_4 (V1 m ρ) c (arr_q m ρ c hA) (arr_k m ρ c hA) (arr_v m ρ c hA) j)

/-- The first result: the gradient of the queries. -/
theorem end_dq : Arr (n := 2048) (w := 96) (W4 m ρ c (Proc.devRef .tc main_v9_0)) fun h => dq (H h) := fun j =>
  (congrFun (W4_arr m ρ c 6) j).trans (arr1_6 (V3 m ρ) c (keep_q m ρ c hA) (keep_k m ρ c hA) (keep_v m ρ c hA) (keep_o m ρ c hA) (arr_g m ρ c hA)
    (keep_lse m ρ c hA) j)
/-- The second result: the gradient of the keys. -/
theorem end_dk : Arr (n := 2048) (w := 96) (W4 m ρ c (Proc.devRef .tc main_v9_1)) fun h => dk (H h) 2048 := fun j =>
  (congrFun (W4_arr m ρ c 7) j).trans (arr1_7 (V3 m ρ) c (keep_q m ρ c hA) (keep_k m ρ c hA) (keep_v m ρ c hA) (keep_o m ρ c hA) (arr_g m ρ c hA)
    (keep_lse m ρ c hA) j)
/-- The third result: the gradient of the values. -/
theorem end_dv : Arr (n := 2048) (w := 64) (W4 m ρ c (Proc.devRef .tc main_v9_2)) fun h => dv (H h) 2048 := fun j =>
  (congrFun (W4_arr m ρ c 8) j).trans (arr1_8 (V3 m ρ) c (keep_q m ρ c hA) (keep_k m ρ c hA) (keep_v m ρ c hA) (keep_o m ρ c hA) (arr_g m ρ c hA)
    (keep_lse m ρ c hA) j)

end Cert.KernelIdeal.Tiles

end
-- ==== Proof.Value.Finite.lean ====
/- From the precondition to real arrays: an element that is neither infinity is the real number it denotes, and the arguments are
   the arrays of the heads they hold. -/
module

public import proofs.«01_k».proof.Defs
public import proofs.«01_k».proof.Proof.Gen.ReferenceIdeal
public import proofs.«01_k».proof.Proof.Value.Result

@[expose] public section

set_option maxRecDepth 16384

noncomputable section

namespace Cert.Finite

open Idealize.ShloMosaic Idealize.ShloMosaic.TcCoe Cert.Softmax Cert.KernelIdeal

instance facts : Cert.Pre_finite.Facts where
  bcast_S_S2048x16x96 := by decide
  bcast_S_S2048x16x64 := by decide
  bcast_S_S2048x1024 := by decide

theorem top_word : Ideal.ofBits .f32 0x7F800000#32 = ⊤ := by simp [Ideal.ofBits, Ideal.ieee]

theorem bot_word : Ideal.ofBits .f32 0xFF800000#32 = ⊥ := by simp [Ideal.ofBits, Ideal.ieee]

/-- One element between the infinities is a real number. -/
theorem real_of (x : EReal) (h : IntOp.andi (Ideal.cmp .olt x (Ideal.ofBits .f32 0x7F800000#32)) (Ideal.cmp .ogt x (Ideal.ofBits .f32 0xFF800000#32)) = 1#1) :
    x = ((x.toReal : ℝ) : EReal) := by
  rw [top_word, bot_word] at h
  refine (EReal.coe_toReal ?_ ?_).symm
  · rintro rfl
    simp [Ideal.cmp, IntOp.andi] at h
  · rintro rfl
    simp [Ideal.cmp, IntOp.andi] at h

variable (m : (ℓ : Loc nD τ sig) → Buf (Elt Ideal) ℓ) (c : Dev nD)

/-- The heads whose arrays device `c`'s arguments are. -/
def heads (h : ℕ) : Head where
  q r d := ((m ((c : Thread nD τ).loc main_arg0) : S2048x16x96.Idx → EReal) (ix3 (Fin.ofNat 2048 r) (Fin.ofNat 16 h) (Fin.ofNat 96 d))).toReal
  k r d := ((m ((c : Thread nD τ).loc main_arg1) : S2048x16x96.Idx → EReal) (ix3 (Fin.ofNat 2048 r) (Fin.ofNat 16 h) (Fin.ofNat 96 d))).toReal
  v r d := ((m ((c : Thread nD τ).loc main_arg2) : S2048x16x64.Idx → EReal) (ix3 (Fin.ofNat 2048 r) (Fin.ofNat 16 h) (Fin.ofNat 64 d))).toReal
  g r d := ((m ((c : Thread nD τ).loc main_arg3) : S2048x1024.Idx → EReal) (ix2 (Fin.ofNat 2048 r) (Fin.ofNat 1024 (64 * h + d)))).toReal

theorem index_three {n0 n1 n2 : ℕ} [NeZero n0] [NeZero n1] [NeZero n2] (i : (⟨3, ![n0, n1, n2]⟩ : Shape).Idx) :
    ix3 (Fin.ofNat n0 (i 0).val) (Fin.ofNat n1 (i 1).val) (Fin.ofNat n2 (i 2).val) = i := by
  funext a
  match a with
  | ⟨0, _⟩ => exact Fin.ext (Nat.mod_eq_of_lt (i 0).isLt)
  | ⟨1, _⟩ => exact Fin.ext (Nat.mod_eq_of_lt (i 1).isLt)
  | ⟨2, _⟩ => exact Fin.ext (Nat.mod_eq_of_lt (i 2).isLt)

theorem index_two {n0 n1 : ℕ} [NeZero n0] [NeZero n1] (i : (⟨2, ![n0, n1]⟩ : Shape).Idx) :
    ix2 (Fin.ofNat n0 (i 0).val) (Fin.ofNat n1 (i 1).val) = i := by
  funext a
  match a with
  | ⟨0, _⟩ => exact Fin.ext (Nat.mod_eq_of_lt (i 0).isLt)
  | ⟨1, _⟩ => exact Fin.ext (Nat.mod_eq_of_lt (i 1).isLt)

theorem args (h : Cert.Pre_KernelIdeal_finite m) : Tiles.Args m c (heads m c) := by
  obtain ⟨h0, h1, h2, h3⟩ := h c
  refine ⟨fun i => ?_, fun i => ?_, fun i => ?_, fun i => ?_⟩
  · show _ = (((m ((c : Thread nD τ).loc main_arg0) : S2048x16x96.Idx → EReal) (ix3 (Fin.ofNat 2048 (i 0).val) (Fin.ofNat 16 (i 1).val) (Fin.ofNat 96 (i 2).val))).toReal : EReal)
    rw [index_three (n0 := 2048) (n1 := 16) (n2 := 96) i]
    exact real_of _ (congrFun h0 i)
  · show _ = (((m ((c : Thread nD τ).loc main_arg1) : S2048x16x96.Idx → EReal) (ix3 (Fin.ofNat 2048 (i 0).val) (Fin.ofNat 16 (i 1).val) (Fin.ofNat 96 (i 2).val))).toReal : EReal)
    rw [index_three (n0 := 2048) (n1 := 16) (n2 := 96) i]
    exact real_of _ (congrFun h1 i)
  · show _ = (((m ((c : Thread nD τ).loc main_arg2) : S2048x16x64.Idx → EReal) (ix3 (Fin.ofNat 2048 (i 0).val) (Fin.ofNat 16 (i 1).val) (Fin.ofNat 64 (i 2).val))).toReal : EReal)
    rw [index_three (n0 := 2048) (n1 := 16) (n2 := 64) i]
    exact real_of _ (congrFun h2 i)
  · show _ = (((m ((c : Thread nD τ).loc main_arg3) : S2048x1024.Idx → EReal) (ix2 (Fin.ofNat 2048 (i 0).val) (Fin.ofNat 1024 (64 * ((i 1).val / 64) + (i 1).val % 64)))).toReal : EReal)
    rw [Nat.div_add_mod, index_two (n0 := 2048) (n1 := 1024) i]
    exact real_of _ (congrFun h3 i)

end Cert.Finite

end
-- ==== Proof.Ffn.Real.lean ====
/- Extended reals that are real numbers: sums, differences and products of them are, and the laws of the reals hold of them. -/
module

public import proofs.«01_k».proof.Proof.Ffn.Index
public import proofs.«01_k».proof.Proof.Value.Softmax

@[expose] public section

noncomputable section

namespace Cert.Ffn

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, EReal.coe_zero.symm⟩
theorem IsReal.one : IsReal 1 := ⟨1, EReal.coe_one.symm⟩
theorem IsReal.add {x y : EReal} (hx : IsReal x) (hy : IsReal y) : IsReal (x + y) := by
  obtain ⟨r, rfl⟩ := hx; obtain ⟨s, rfl⟩ := hy
  exact ⟨r + s, (EReal.coe_add r s).symm⟩
theorem IsReal.sub {x y : EReal} (hx : IsReal x) (hy : IsReal y) : IsReal (x - y) := by
  obtain ⟨r, rfl⟩ := hx; obtain ⟨s, rfl⟩ := hy
  exact ⟨r - s, (EReal.coe_sub r s).symm⟩
theorem IsReal.mul {x y : EReal} (hx : IsReal x) (hy : IsReal y) : IsReal (x * y) := by
  obtain ⟨r, rfl⟩ := hx; obtain ⟨s, rfl⟩ := hy
  exact ⟨r * s, (EReal.coe_mul r s).symm⟩
theorem IsReal.sum {ι : Type} (s : Finset ι) {f : ι → EReal} (hf : ∀ i, IsReal (f i)) : IsReal (∑ i ∈ s, f i) := by
  choose g hg using hf
  exact ⟨∑ i ∈ s, g i, (Finset.sum_congr rfl fun i _ => hg i).trans (Cert.Softmax.coe_sum s g).symm⟩

theorem IsReal.at2 {n0 n1 : ℕ} {x : (⟨2, ![n0, n1]⟩ : Shape).Idx → EReal} (hx : ∀ i, IsReal (x i)) (a b : ℕ) : IsReal (Cert.Ffn.at2 x a b) := by
  unfold Cert.Ffn.at2
  split_ifs
  · exact hx _
  · exact IsReal.zero
theorem IsReal.at3 {n0 n1 n2 : ℕ} {x : (⟨3, ![n0, n1, n2]⟩ : Shape).Idx → EReal} (hx : ∀ i, IsReal (x i)) (a b c : ℕ) : IsReal (Cert.Ffn.at3 x a b c) := by
  unfold Cert.Ffn.at3
  split_ifs
  · exact hx _
  · exact IsReal.zero
theorem IsReal.at4 {n0 n1 n2 n3 : ℕ} {x : (⟨4, ![n0, n1, n2, n3]⟩ : Shape).Idx → EReal} (hx : ∀ i, IsReal (x i)) (a b c d : ℕ) :
    IsReal (Cert.Ffn.at4 x a b c d) := by
  unfold Cert.Ffn.at4
  split_ifs
  · exact hx _
  · exact IsReal.zero

end Cert.Ffn

end
-- ==== Proof.Ffn.Finite2.lean ====
/- From the precondition to real arrays: each element of the three arguments of the activation's gradient is a real number. -/
module

public import proofs.«01_k».proof.Defs
public import proofs.«01_k».proof.Proof.Gen.Reference2Ideal
public import proofs.«01_k».proof.Proof.Value.Finite
public import proofs.«01_k».proof.Proof.Ffn.Real

@[expose] public section

set_option maxRecDepth 16384

noncomputable section

namespace Cert.Finite2

open Idealize.ShloMosaic Idealize.ShloMosaic.TcCoe Cert.Kernel2Ideal

instance facts : Cert.Pre_finite2.Facts where
  bcast_S_S2048x1024 := by decide
  bcast_S_S4x704x1024 := by decide
  bcast_S_S4x2x2048x704 := by decide

variable (m : (ℓ : Loc nD τ sig) → Buf (Elt Ideal) ℓ) (c : Dev nD)

theorem args (h : Cert.Pre_Kernel2Ideal_finite2 m) :
    (∀ i, Ffn.IsReal ((m ((c : Thread nD τ).loc main_arg0) : S2048x1024.Idx → EReal) i))
    ∧ (∀ i, Ffn.IsReal ((m ((c : Thread nD τ).loc main_arg1) : S4x704x1024.Idx → EReal) i))
    ∧ (∀ i, Ffn.IsReal ((m ((c : Thread nD τ).loc main_arg2) : S4x2x2048x704.Idx → EReal) i)) := by
  obtain ⟨h0, h1, h2⟩ := h c
  exact ⟨fun i => ⟨_, Finite.real_of _ (congrFun h0 i)⟩, fun i => ⟨_, Finite.real_of _ (congrFun h1 i)⟩, fun i => ⟨_, Finite.real_of _ (congrFun h2 i)⟩⟩

end Cert.Finite2

end
-- ==== Proof.Ffn.GateUpGrad.lean ====
/- The gradients of the gate and the up projections: the gradient of the network's result taken back through the down
   projection's weights, times the derivatives of the gated activation. -/
module

public import proofs.«01_k».proof.Proof.Ffn.Index
public import proofs.«01_k».proof.Proof.Ffn.Finite2
public import proofs.«01_k».proof.Proof.Gen.Kernel2Ideal.Value
public import proofs.«01_k».proof.Proof.Gen.Reference2Ideal.Run
public import proofs.«01_k».proof.Proof.Gen.Reference2Ideal.Read
public import proofs.«01_k».proof.Defs
public import Idealize.ShloMosaic.Lib.StableHlo.Run
public import Idealize.ShloMosaic.Lib.KernelVsHost
public import Idealize.ShloMosaic.Lib.Pipeline.ValueKit.Tiles

@[expose] public section

set_option maxRecDepth 16384

noncomputable section

namespace Cert.Ffn.GateUpGrad

open Cert.Kernel2Ideal Cert.Kernel2Ideal.Gen Cert.Kernel2Ideal.Value Cert.Ffn Idealize.ShloMosaic Idealize.ShloMosaic.TcCoe Idealize.ShloMosaic.StableHlo

/-- The activation's gradient, for shard `s`, token `m` and column `f`. -/
def act (d : S2048x1024.Idx → EReal) (w : S4x704x1024.Idx → EReal) (s m f : ℕ) : EReal :=
  ∑ k : Fin 1024, at2 d m k.val * at3 w s f k.val

/-- The gate's gradient, from the activation's, the gate and the up projection. -/
def gate (a g u : EReal) : EReal := a * u * (Ideal.logistic g * (1 + g * (1 - Ideal.logistic g)))

/-- The up projection's gradient. -/
def up (a g : EReal) : EReal := a * (g * Ideal.logistic g)

/-- The two gradients. -/
def result (d : S2048x1024.Idx → EReal) (w : S4x704x1024.Idx → EReal) (y : S4x2x2048x704.Idx → EReal) (i : S4x2x2048x704.Idx) : EReal :=
  if (i 1).val = 0 then gate (act d w (i 0).val (i 2).val (i 3).val) (at4 y (i 0).val 0 (i 2).val (i 3).val) (at4 y (i 0).val 1 (i 2).val (i 3).val)
  else up (act d w (i 0).val (i 2).val (i 3).val) (at4 y (i 0).val 0 (i 2).val (i 3).val)

theorem one_word : (FloatOps.ofBits (F := Ideal) .f32 0x3F800000#32 : EReal) = 1 := Ideal.ofBits_one_f32

/-- One grid point's product, at an index. -/
theorem product (x0 : Vec Ideal S1024x1024 .bf16) (x1 : Vec Ideal S1x704x1024 .bf16) (r : Fin 1024) (d : Fin 704) :
    k0_pay1 x0 x1 (ix2 r d) = ∑ k : Fin 1024, (x0 (ix2 r k) : EReal) * x1 (ix3 (0 : Fin 1) d k) := by
  pointwise [k0_pay1]

theorem gate_of (x2 : Vec Ideal S1x1x1024x704 .bf16) (r : Fin 1024) (d : Fin 704) :
    (k0_pay2 x2 (ix2 r d) : EReal) = x2 (ix4 (0 : Fin 1) (0 : Fin 1) r d) := by
  pointwise [k0_pay2]

theorem stored (x0 : Vec Ideal S1024x1024 .bf16) (x1 : Vec Ideal S1x704x1024 .bf16) (x2 x3 : Vec Ideal S1x1x1024x704 .bf16) (r : Fin 1024) (d : Fin 704) :
    (k0_pay4 x0 x1 x2 x3 (ix4 (0 : Fin 1) (0 : Fin 1) r d) : EReal)
      = gate (k0_pay1 x0 x1 (ix2 r d)) (x2 (ix4 (0 : Fin 1) (0 : Fin 1) r d)) (x3 (ix4 (0 : Fin 1) (0 : Fin 1) r d)) := by
  rw [← gate_of x2 r d]
  unfold k0_pay4 k0_pay3 gate
  generalize k0_pay1 x0 x1 = P
  generalize k0_pay2 x2 = G
  rw [← one_word]
  pointwise

theorem stored' (x0 : Vec Ideal S1024x1024 .bf16) (x1 : Vec Ideal S1x704x1024 .bf16) (x2 : Vec Ideal S1x1x1024x704 .bf16) (r : Fin 1024) (d : Fin 704) :
    (k0_pay5 x0 x1 x2 (ix4 (0 : Fin 1) (0 : Fin 1) r d) : EReal) = up (k0_pay1 x0 x1 (ix2 r d)) (x2 (ix4 (0 : Fin 1) (0 : Fin 1) r d)) := by
  rw [← gate_of x2 r d]
  unfold k0_pay5 k0_pay3 up
  generalize k0_pay1 x0 x1 = P
  generalize k0_pay2 x2 = G
  pointwise

/-- One of the two projections a grid point loads. -/
theorem load (x : Vec Ideal S1x2x1024x704 .bf16) (g : Fin 2) (inb : ∀ a, ![0, g.val, 0, 0] a + S1x1x1024x704.size a ≤ S1x2x1024x704.size a) (r : Fin 1024) (d : Fin 704) :
    (View.ld (Val := Elt Ideal) (e' := .bf16) x (Rect.unit (s := S1x2x1024x704) ![0, g.val, 0, 0] S1x1x1024x704.size inb) (ix4 (0 : Fin 1) (0 : Fin 1) r d) : EReal)
      = x (ix4 (0 : Fin 1) g r d) := by
  refine View.ld_unit_apply_of (Val := Elt Ideal) (e := .bf16) _ _ _ _ _ (ix4 (0 : Fin 1) g r d) fun a => ?_
  match a with
  | ⟨0, _⟩ => show 0 = 0 + 0; omega
  | ⟨1, _⟩ => show g.val = g.val + 0; omega
  | ⟨2, _⟩ => show r.val = 0 + r.val; omega
  | ⟨3, _⟩ => show d.val = 0 + d.val; omega

/-- The two blocks a grid point stores. -/
theorem both (x0 : Vec Ideal S1024x1024 .bf16) (x1 : Vec Ideal S1x704x1024 .bf16) (x2 : Vec Ideal S1x2x1024x704 .bf16) (g : Fin 2) (r : Fin 1024) (d : Fin 704) :
    (out0_3 x0 x1 x2 (ix4 (0 : Fin 1) g r d) : EReal)
      = if g.val = 0 then gate (k0_pay1 x0 x1 (ix2 r d)) (x2 (ix4 (0 : Fin 1) (0 : Fin 2) r d)) (x2 (ix4 (0 : Fin 1) (1 : Fin 2) r d))
        else up (k0_pay1 x0 x1 (ix2 r d)) (x2 (ix4 (0 : Fin 1) (0 : Fin 2) r d)) := by
  unfold out0_3
  rw [View.ld_unit_zero (by decide), View.ld_unit_zero (by decide)]
  have tile (o : ℕ) (w : S1x1x1024x704.Idx → EReal) (z : EReal) (hw : o = g.val → w (ix4 (0 : Fin 1) (0 : Fin 1) r d) = z) :
      View.TileAt (Val := Elt Ideal) (e := .bf16) (ix4 (0 : Fin 1) g r d : S1x2x1024x704.Idx) ![0, o, 0, 0] S1x1x1024x704.size w z := by
    intro x hx
    have e1 : g.val = o + (x 1).val := hx 1
    have e2 : r.val = 0 + (x 2).val := hx 2
    have e3 : d.val = 0 + (x 3).val := hx 3
    have l0 : (x 0).val < 1 := (x 0).isLt
    have l1 : (x 1).val < 1 := (x 1).isLt
    have ex : x = ix4 (0 : Fin 1) (0 : Fin 1) r d := funext fun a => match a with
      | ⟨0, _⟩ => Fin.ext (by show (x 0).val = 0; omega)
      | ⟨1, _⟩ => Fin.ext (by show (x 1).val = 0; omega)
      | ⟨2, _⟩ => Fin.ext (by show (x 2).val = r.val; omega)
      | ⟨3, _⟩ => Fin.ext (by show (x 3).val = d.val; omega)
    rw [ex]
    exact hw (by omega)
  refine View.canon_eq_of_allAt _ _ _ (cover0_3 _ _ _) ?_
  refine View.allAt_cons_unit _ _ _ _ _ (tile 1 _ _ fun h => (stored' _ _ _ r d).trans ?_) ?_
  · rw [if_neg (by omega)]
    exact congrArg (up _) (load x2 0 _ r d)
  refine View.allAt_cons_unit _ _ _ _ _ (tile 0 _ _ fun h => (stored _ _ _ _ r d).trans ?_) ?_
  · rw [if_pos (by omega)]
    exact congrArg₂ (gate _) (load x2 0 _ r d) (load x2 1 _ r d)
  exact View.allAt_nil _ _

variable (m : (ℓ : Loc nD τ sig) → Buf (Elt Ideal) ℓ) (ρ : Dev nD → PrngReg) (c : Dev nD)

/-- Argument 0. -/
abbrev argD : S2048x1024.Idx → EReal := m ((c : Thread nD τ).loc main_arg0)
/-- Argument 1. -/
abbrev argW : S4x704x1024.Idx → EReal := m ((c : Thread nD τ).loc main_arg1)
/-- Argument 2. -/
abbrev argY : S4x2x2048x704.Idx → EReal := m ((c : Thread nD τ).loc main_arg2)

theorem entry_d : V m c main_v0 = argD m c := by
  simp only [V, hostOps0]
  after_results_simp
  rfl

theorem entry_w : V m c main_v1 = argW m c := by
  simp only [V, hostOps0]
  after_results_simp
  rfl

theorem entry_y : V m c main_v2 = argY m c := by
  simp only [V, hostOps0]
  after_results_simp
  rfl

/-- The windows' blocks at each grid point. -/
theorem index0 : ∀ t : Fin cfg0.N, (win0_0.index t 0 = t.val % 2 ∧ win0_0.index t 1 = 0)
    ∧ (win0_1.index t 0 = t.val / 2 ∧ win0_1.index t 1 = 0 ∧ win0_1.index t 2 = 0)
    ∧ (win0_2.index t 0 = t.val / 2 ∧ win0_2.index t 1 = 0 ∧ win0_2.index t 2 = t.val % 2 ∧ win0_2.index t 3 = 0)
    ∧ (win0_3.index t 0 = t.val / 2 ∧ win0_3.index t 1 = 0 ∧ win0_3.index t 2 = t.val % 2 ∧ win0_3.index t 3 = 0) :=
  (by decide +kernel : ∀ t : Fin grid0.N, _)

theorem read_d (t : Fin cfg0.N) (r : Fin 1024) (k : Fin 1024) :
    (iblk m c 0 t : S1024x1024.Idx → EReal) (ix2 r k) = at2 (argD m c) (1024 * (t.val % 2) + r.val) k.val := by
  obtain ⟨⟨e0, e1⟩, -⟩ := index0 t
  refine (congrFun (entry_d m c) (((cfg0.win 0).blk t).view.emb (ix2 r k))).trans ?_
  have h0 : ((((cfg0.win 0).blk t).view.emb (ix2 r k)) 0).val = 1024 * (t.val % 2) + r.val := by
    show win0_0.index t (0 : Fin 2) * 1024 + 1 * r.val = _; omega
  have h1 : ((((cfg0.win 0).blk t).view.emb (ix2 r k)) 1).val = k.val := by
    show win0_0.index t (1 : Fin 2) * 1024 + 1 * k.val = _; omega
  exact at2_eq _ _ h0 h1

theorem read_w (t : Fin cfg0.N) (d : Fin 704) (k : Fin 1024) :
    (iblk m c 1 t : S1x704x1024.Idx → EReal) (ix3 (0 : Fin 1) d k) = at3 (argW m c) (t.val / 2) d.val k.val := by
  obtain ⟨-, ⟨e0, e1, e2⟩, -⟩ := index0 t
  refine (congrFun (entry_w m c) (((cfg0.win 1).blk t).view.emb (ix3 (0 : Fin 1) d k))).trans ?_
  have h0 : ((((cfg0.win 1).blk t).view.emb (ix3 (0 : Fin 1) d k)) 0).val = t.val / 2 := by
    show win0_1.index t (0 : Fin 3) * 1 + 1 * 0 = _; omega
  have h1 : ((((cfg0.win 1).blk t).view.emb (ix3 (0 : Fin 1) d k)) 1).val = d.val := by
    show win0_1.index t (1 : Fin 3) * 704 + 1 * d.val = _; omega
  have h2 : ((((cfg0.win 1).blk t).view.emb (ix3 (0 : Fin 1) d k)) 2).val = k.val := by
    show win0_1.index t (2 : Fin 3) * 1024 + 1 * k.val = _; omega
  exact at3_eq _ _ h0 h1 h2

theorem read_y (t : Fin cfg0.N) (g : Fin 2) (r : Fin 1024) (d : Fin 704) :
    (iblk m c 2 t : S1x2x1024x704.Idx → EReal) (ix4 (0 : Fin 1) g r d) = at4 (argY m c) (t.val / 2) g.val (1024 * (t.val % 2) + r.val) d.val := by
  obtain ⟨-, -, ⟨e0, e1, e2, e3⟩, -⟩ := index0 t
  refine (congrFun (entry_y m c) (((cfg0.win 2).blk t).view.emb (ix4 (0 : Fin 1) g r d))).trans ?_
  have h0 : ((((cfg0.win 2).blk t).view.emb (ix4 (0 : Fin 1) g r d)) 0).val = t.val / 2 := by
    show win0_2.index t (0 : Fin 4) * 1 + 1 * 0 = _; omega
  have h1 : ((((cfg0.win 2).blk t).view.emb (ix4 (0 : Fin 1) g r d)) 1).val = g.val := by
    show win0_2.index t (1 : Fin 4) * 2 + 1 * g.val = _; omega
  have h2 : ((((cfg0.win 2).blk t).view.emb (ix4 (0 : Fin 1) g r d)) 2).val = 1024 * (t.val % 2) + r.val := by
    show win0_2.index t (2 : Fin 4) * 1024 + 1 * r.val = _; omega
  have h3 : ((((cfg0.win 2).blk t).view.emb (ix4 (0 : Fin 1) g r d)) 3).val = d.val := by
    show win0_2.index t (3 : Fin 4) * 704 + 1 * d.val = _; omega
  exact at4_eq _ _ h0 h1 h2 h3

/-- One grid point's blocks. -/
theorem act_at (t : Fin cfg0.N) (r : Fin 1024) (d : Fin 704) :
    (k0_pay1 (iblk m c 0 t) (iblk m c 1 t) (ix2 r d) : EReal) = act (argD m c) (argW m c) (t.val / 2) (1024 * (t.val % 2) + r.val) d.val := by
  refine (product _ _ r d).trans (Finset.sum_congr rfl fun k _ => ?_)
  rw [read_d, read_w]

theorem point (t : Fin cfg0.N) (g : Fin 2) (r : Fin 1024) (d : Fin 704) :
    (out0_3 (iblk m c 0 t) (iblk m c 1 t) (iblk m c 2 t) : S1x2x1024x704.Idx → EReal) (ix4 (0 : Fin 1) g r d)
      = if g.val = 0 then gate (act (argD m c) (argW m c) (t.val / 2) (1024 * (t.val % 2) + r.val) d.val) (at4 (argY m c) (t.val / 2) 0 (1024 * (t.val % 2) + r.val) d.val) (at4 (argY m c) (t.val / 2) 1 (1024 * (t.val % 2) + r.val) d.val)
        else up (act (argD m c) (argW m c) (t.val / 2) (1024 * (t.val % 2) + r.val) d.val) (at4 (argY m c) (t.val / 2) 0 (1024 * (t.val % 2) + r.val) d.val) := by
  refine (both _ _ _ g r d).trans ?_
  rw [act_at, read_y, read_y]
  rfl

/-- What the call leaves in its result. -/
theorem value : ((dats m 0 c).arrAt 3 cfg0.N : S4x2x2048x704.Idx → EReal) = result (argD m c) (argW m c) (argY m c) := by
  refine (dats m 0 c).arrAt_eq_of_cover 3 (result (argD m c) (argW m c) (argY m c)) (fun t hf => ?_) (fun i => ?_)
  · funext y
    obtain ⟨-, -, -, ⟨e0, e1, e2, e3⟩⟩ := index0 t
    obtain ⟨z0, g, r, d, rfl⟩ : ∃ (z0 : Fin 1) (g : Fin 2) (r : Fin 1024) (d : Fin 704), y = ix4 z0 g r d := ⟨y 0, y 1, y 2, y 3, ix4_self y⟩
    obtain rfl : z0 = 0 := Subsingleton.elim _ _
    show (cfg0.win 3).cut (grid0.coords t) ((dats m 0 c).after 3 t) (ix4 (0 : Fin 1) g r d)
      = result (argD m c) (argW m c) (argY m c) (((cfg0.win 3).blk t).view.emb (ix4 (0 : Fin 1) g r d))
    rw [after0_3]
    have h0 : ((((cfg0.win 3).blk t).view.emb (ix4 (0 : Fin 1) g r d)) 0).val = t.val / 2 := by
      show win0_3.index t (0 : Fin 4) * 1 + 1 * 0 = _; omega
    have h1 : ((((cfg0.win 3).blk t).view.emb (ix4 (0 : Fin 1) g r d)) 1).val = g.val := by
      show win0_3.index t (1 : Fin 4) * 2 + 1 * g.val = _; omega
    have h2 : ((((cfg0.win 3).blk t).view.emb (ix4 (0 : Fin 1) g r d)) 2).val = 1024 * (t.val % 2) + r.val := by
      show win0_3.index t (2 : Fin 4) * 1024 + 1 * r.val = _; omega
    have h3 : ((((cfg0.win 3).blk t).view.emb (ix4 (0 : Fin 1) g r d)) 3).val = d.val := by
      show win0_3.index t (3 : Fin 4) * 704 + 1 * d.val = _; omega
    unfold result
    rw [h0, h1, h2, h3]
    exact Eq.trans rfl (point m c t g r d)
  · have hl0 : (i 0).val < 4 := (i 0).isLt
    have hl1 : (i 1).val < 2 := (i 1).isLt
    have hl2 : (i 2).val < 2048 := (i 2).isLt
    have hl3 : (i 3).val < 704 := (i 3).isLt
    let t : Fin cfg0.N := ⟨2 * (i 0).val + (i 2).val / 1024, by show _ < grid0.N; rw [N_0]; omega⟩
    have ht : t.val = 2 * (i 0).val + (i 2).val / 1024 := rfl
    refine ⟨t, flush0_3 t, ?_⟩
    obtain ⟨-, -, -, ⟨e0, e1, e2, e3⟩⟩ := index0 t
    show i ∈ ((View.whole main_v3).slice (win0_3.rect t)).set
    rw [View.set_slice_whole, Rect.mem_set_unit]
    intro a
    match a with
    | ⟨0, _⟩ => show win0_3.index t (0 : Fin 4) * 1 ≤ (i 0).val ∧ (i 0).val < win0_3.index t (0 : Fin 4) * 1 + 1; omega
    | ⟨1, _⟩ => show win0_3.index t (1 : Fin 4) * 2 ≤ (i 1).val ∧ (i 1).val < win0_3.index t (1 : Fin 4) * 2 + 2; omega
    | ⟨2, _⟩ => show win0_3.index t (2 : Fin 4) * 1024 ≤ (i 2).val ∧ (i 2).val < win0_3.index t (2 : Fin 4) * 1024 + 1024; omega
    | ⟨3, _⟩ => show win0_3.index t (3 : Fin 4) * 704 ≤ (i 3).val ∧ (i 3).val < win0_3.index t (3 : Fin 4) * 704 + 704; omega

/-- A gradient through the gate, in the two terms of the product's rule, is the product with its derivative. -/
theorem rule {a g u : EReal} (ha : IsReal a) (hg : IsReal g) (hu : IsReal u) :
    a * u * Ideal.logistic g + g * (a * u) * (Ideal.logistic g * (1 - Ideal.logistic g)) = gate a g u := by
  obtain ⟨a, rfl⟩ := ha
  obtain ⟨g, rfl⟩ := hg
  obtain ⟨u, rfl⟩ := hu
  unfold gate
  rw [Ideal.logistic_coe]
  generalize (1 + Real.exp (-g))⁻¹ = z
  rw [← EReal.coe_one]
  simp only [← EReal.coe_mul, ← EReal.coe_sub, ← EReal.coe_add]
  congr 1
  ring

section

variable (d : S2048x1024.Idx → EReal) (w : S4x704x1024.Idx → EReal) (y : S4x2x2048x704.Idx → EReal)

theorem ref_act (i : Cert.Reference2Ideal.S4x2048x704.Idx) : Cert.Reference2Ideal.Read.val_main_v8 (F := Ideal) d w i = act d w (i 0).val (i 1).val (i 2).val := by
  rw [Cert.Reference2Ideal.Read.val_main_v8_apply, Cert.Reference2Ideal.Read.val_main_v7_apply]
  unfold act
  exact Finset.sum_congr rfl fun k _ => congrArg₂ (· * ·) (at2_eq d _ rfl rfl) (at3_eq w _ rfl rfl rfl)

theorem ref_gate (i : Cert.Reference2Ideal.S4x2048x704.Idx) : Cert.Reference2Ideal.Read.val_main_v1 (F := Ideal) y i = at4 y (i 0).val 0 (i 1).val (i 2).val := by
  have h0 : (i 0).val < 4 := (i 0).isLt
  have h1 : (i 1).val < 2048 := (i 1).isLt
  have h2 : (i 2).val < 704 := (i 2).isLt
  rw [Cert.Reference2Ideal.Read.val_main_v1_apply, Cert.Reference2Ideal.Read.val_main_v0_apply]
  refine at4_eq y _ ?_ rfl ?_ ?_
  · show (((i 0).val * 2048 + (i 1).val) * 704 + (i 2).val) / 1441792 = _; omega
  · show (((i 0).val * 2048 + (i 1).val) * 704 + (i 2).val) / 704 % 2048 = _; omega
  · show (((i 0).val * 2048 + (i 1).val) * 704 + (i 2).val) % 704 = _; omega

theorem ref_up (i : Cert.Reference2Ideal.S4x2048x704.Idx) : Cert.Reference2Ideal.Read.val_main_v4 (F := Ideal) y i = at4 y (i 0).val 1 (i 1).val (i 2).val := by
  have h0 : (i 0).val < 4 := (i 0).isLt
  have h1 : (i 1).val < 2048 := (i 1).isLt
  have h2 : (i 2).val < 704 := (i 2).isLt
  rw [Cert.Reference2Ideal.Read.val_main_v4_apply, Cert.Reference2Ideal.Read.val_main_v3_apply]
  refine at4_eq y _ ?_ rfl ?_ ?_
  · show (((i 0).val * 2048 + (i 1).val) * 704 + (i 2).val) / 1441792 = _; omega
  · show (((i 0).val * 2048 + (i 1).val) * 704 + (i 2).val) / 704 % 2048 = _; omega
  · show (((i 0).val * 2048 + (i 1).val) * 704 + (i 2).val) % 704 = _; omega

theorem ref_logistic (i : Cert.Reference2Ideal.S4x2048x704.Idx) : (Cert.Reference2Ideal.Read.val_main_v2_2 (F := Ideal) y i : EReal) = Ideal.logistic (at4 y (i 0).val 0 (i 1).val (i 2).val) := by
  rw [← ref_gate y i, Cert.Reference2Ideal.Read.val_main_v2_2_apply, Cert.Reference2Ideal.Read.val_main_call0_v4_apply, Cert.Reference2Ideal.Read.val_main_call0_cst_0_apply, Cert.Reference2Ideal.Read.val_main_call0_v3_apply, Cert.Reference2Ideal.Read.val_main_call0_v2_apply,
    Cert.Reference2Ideal.Read.val_main_call0_cst_apply, Cert.Reference2Ideal.Read.val_main_call0_v1_apply, Cert.Reference2Ideal.Read.val_main_call0_v0_apply]
  unfold Ideal.logistic
  generalize Cert.Reference2Ideal.Read.val_main_v1 (F := Ideal) y i = G
  rw [one_word]
  rfl

theorem ref_up_grad (i : Cert.Reference2Ideal.S4x2048x704.Idx) : (Cert.Reference2Ideal.Read.val_main_v9 (F := Ideal) d w y i : EReal)
    = up (act d w (i 0).val (i 1).val (i 2).val) (at4 y (i 0).val 0 (i 1).val (i 2).val) := by
  rw [Cert.Reference2Ideal.Read.val_main_v9_apply, Cert.Reference2Ideal.Read.val_main_v2_0_apply, ref_act, ref_logistic, ref_gate]
  exact mul_comm (_ : EReal) _

theorem ref_gate_grad (hd : ∀ i, IsReal (d i)) (hw : ∀ i, IsReal (w i)) (hy : ∀ i, IsReal (y i)) (i : Cert.Reference2Ideal.S4x2048x704.Idx) :
    (Cert.Reference2Ideal.Read.val_main_v13 (F := Ideal) d w y i : EReal)
      = gate (act d w (i 0).val (i 1).val (i 2).val) (at4 y (i 0).val 0 (i 1).val (i 2).val) (at4 y (i 0).val 1 (i 1).val (i 2).val) := by
  rw [Cert.Reference2Ideal.Read.val_main_v13_apply, Cert.Reference2Ideal.Read.val_main_call1_v1_apply, Cert.Reference2Ideal.Read.val_main_call1_v2_apply, Cert.Reference2Ideal.Read.val_main_call1_v0_apply, Cert.Reference2Ideal.Read.val_main_v10_apply, Cert.Reference2Ideal.Read.val_main_v2_1_apply,
    Cert.Reference2Ideal.Read.val_main_call0_v7_apply, Cert.Reference2Ideal.Read.val_main_call0_v6_apply, Cert.Reference2Ideal.Read.val_main_call0_cst_1_apply]
  rw [ref_act, ref_logistic, ref_gate, ref_up, one_word]
  exact rule (IsReal.sum _ fun k => (IsReal.at2 hd _ _).mul (IsReal.at3 hw _ _ _)) (IsReal.at4 hy _ _ _ _) (IsReal.at4 hy _ _ _ _)

/-- The reference's result. -/
theorem reference (hd : ∀ i, IsReal (d i)) (hw : ∀ i, IsReal (w i)) (hy : ∀ i, IsReal (y i)) :
    Cert.Reference2Ideal.Read.val_main_v17 (F := Ideal) d w y = result d w y := by
  funext i
  have hl : (i 1).val < 2 := (i 1).isLt
  have zero : (FloatOps.ofBits (F := Ideal) .f32 0x00000000#32 : EReal) = 0 := Ideal.ofBits_zero_f32
  rw [Cert.Reference2Ideal.Read.val_main_v17_apply, Cert.Reference2Ideal.Read.val_main_v16_apply]
  unfold result
  by_cases h : (i 1).val = 0
  · rw [if_pos h]
    have h12 : Cert.Reference2Ideal.Read.val_main_v12 (F := Ideal) d w y i = (0 : EReal) := by
      unfold Cert.Reference2Ideal.Read.val_main_v12
      refine (pad_apply_of_not_inside _ _ _ _ _ _ _ i (1 : Fin 4) ?_).trans zero
      intro hin
      have := hin.1
      change 1 ≤ (i 1).val at this
      omega
    have h15 : (Cert.Reference2Ideal.Read.val_main_v15 (F := Ideal) d w y i : EReal) = gate (act d w (i 0).val (i 2).val (i 3).val) (at4 y (i 0).val 0 (i 2).val (i 3).val) (at4 y (i 0).val 1 (i 2).val (i 3).val) := by
      unfold Cert.Reference2Ideal.Read.val_main_v15
      refine (pad_apply_of_inside _ _ _ _ _ _ _ i (ix4 (n0 := 4) (n1 := 1) (n2 := 2048) (n3 := 704) (i 0) (0 : Fin 1) (i 2) (i 3)) fun a => ?_).trans ?_
      · match a with
        | ⟨0, _⟩ => show (i 0).val = 0 + (i 0).val * (0 + 1); omega
        | ⟨1, _⟩ => show (i 1).val = 0 + 0 * (0 + 1); omega
        | ⟨2, _⟩ => show (i 2).val = 0 + (i 2).val * (0 + 1); omega
        | ⟨3, _⟩ => show (i 3).val = 0 + (i 3).val * (0 + 1); omega
      · rw [Cert.Reference2Ideal.Read.val_main_v14_apply]
        exact ref_gate_grad d w y hd hw hy _
    rw [h12, h15]
    exact zero_add _
  · rw [if_neg h]
    have h15 : Cert.Reference2Ideal.Read.val_main_v15 (F := Ideal) d w y i = (0 : EReal) := by
      unfold Cert.Reference2Ideal.Read.val_main_v15
      refine (pad_apply_of_not_inside _ _ _ _ _ _ _ i (1 : Fin 4) ?_).trans zero
      intro hin
      have := hin.2.2
      change ((i 1).val - 0) / (0 + 1) < 1 at this
      omega
    have h12 : (Cert.Reference2Ideal.Read.val_main_v12 (F := Ideal) d w y i : EReal) = up (act d w (i 0).val (i 2).val (i 3).val) (at4 y (i 0).val 0 (i 2).val (i 3).val) := by
      unfold Cert.Reference2Ideal.Read.val_main_v12
      refine (pad_apply_of_inside _ _ _ _ _ _ _ i (ix4 (n0 := 4) (n1 := 1) (n2 := 2048) (n3 := 704) (i 0) (0 : Fin 1) (i 2) (i 3)) fun a => ?_).trans ?_
      · match a with
        | ⟨0, _⟩ => show (i 0).val = 0 + (i 0).val * (0 + 1); omega
        | ⟨1, _⟩ => show (i 1).val = 1 + 0 * (0 + 1); omega
        | ⟨2, _⟩ => show (i 2).val = 0 + (i 2).val * (0 + 1); omega
        | ⟨3, _⟩ => show (i 3).val = 0 + (i 3).val * (0 + 1); omega
      · rw [Cert.Reference2Ideal.Read.val_main_v11_apply]
        exact ref_up_grad d w y _
    rw [h12, h15]
    exact add_zero _

end

theorem algebraic : Cert.algebraic_Kernel2Ideal_Reference2Ideal_pre_finite2 (hKernel2Ideal := Cert.Kernel2Ideal.Gen.facts)
    (hReference2Ideal := Cert.Reference2Ideal.Gen.facts) (hPre_finite2 := Cert.Finite2.facts) := by
  intro m g m' g' hpre hargs
  refine ⟨fun c => result (argD m c) (argW m c) (argY m c), ?_, ?_⟩
  · exact (θ_run Cert.Kernel2Ideal.defs _ _).mono (fun _ h c => ⟨(h c).1.trans (value m c), (h c).2⟩) (run_blocks m g)
  · refine (θ_run Cert.Reference2Ideal.defs _ _).mono (fun _ h c => ?_) (Cert.Reference2Ideal.Value.run (F := Ideal) m' g')
    obtain ⟨h0, ha⟩ := h c
    obtain ⟨a0, a1, a2⟩ := hargs c
    obtain ⟨f0, f1, f2⟩ := Cert.Finite2.args m c hpre
    refine ⟨h0.trans ((Cert.Reference2Ideal.Read.val_main_v17_eq _ _ _).trans ?_), ha⟩
    rw [a0, a1, a2]
    exact reference _ _ _ f0 f1 f2

end Cert.Ffn.GateUpGrad

end
-- ==== Proof.Ffn.GateUpWeights.lean ====
/- The gradient of the up weights' call: its result is the product of the gradient of the up products with the layer's
   input, summed over the tokens. -/
module

public import proofs.«01_k».proof.Proof.Ffn.Index
public import proofs.«01_k».proof.Proof.Gen.Kernel3Ideal.Value
public import proofs.«01_k».proof.Proof.Gen.Reference3Ideal.Run
public import proofs.«01_k».proof.Proof.Gen.Reference3Ideal.Read
public import Idealize.ShloMosaic.Lib.StableHlo.Run
public import proofs.«01_k».proof.Defs

@[expose] public section

set_option maxRecDepth 16384

noncomputable section

namespace Cert.Ffn.Weights3

open Cert.Kernel3Ideal Cert.Kernel3Ideal.Gen Cert.Kernel3Ideal.Value Cert.Ffn Idealize.ShloMosaic Idealize.ShloMosaic.TcCoe Idealize.ShloMosaic.StableHlo

/-- The result, from the call's two arguments. -/
def result (x : S4x2x2048x704.Idx → EReal) (y : S2048x1024.Idx → EReal) (i : S2x4x704x1024.Idx) : EReal :=
  ∑ k : Fin 2048, at4 x (i 1).val (i 0).val k.val (i 2).val * at2 y k.val (i 3).val

/-- One grid point's product, at an index. -/
theorem product (x0 : Vec Ideal S1x2048x704 .bf16) (x1 : Vec Ideal S1x2048x1024 .bf16) (f : Fin 704) (d : Fin 1024) :
    k0_pay1 x0 x1 (ix4 (0 : Fin 1) (0 : Fin 1) f d) = ∑ k : Fin 2048, (x0 (ix3 (0 : Fin 1) k f) : EReal) * x1 (ix3 (0 : Fin 1) k d) := by
  pointwise [k0_pay1]

variable (m : (ℓ : Loc nD τ sig) → Buf (Elt Ideal) ℓ) (ρ : Dev nD → PrngReg) (c : Dev nD)

/-- The first argument. -/
abbrev argX : S4x2x2048x704.Idx → EReal := m ((c : Thread nD τ).loc main_arg0)
/-- The second argument. -/
abbrev argY : S2048x1024.Idx → EReal := m ((c : Thread nD τ).loc main_arg1)

theorem entry_x : V m c main_v1 = shapeCast S8x2048x704 (argX m c) shapeCasts_S4x2x2048x704_S8x2048x704 := by
  simp only [V, hostOps0]
  after_results_simp
  rfl

theorem entry_y : V m c main_v3 = broadcastInDim S1x2048x1024 ![1, 2] bcast_S2048x1024_S1x2048x1024_1_2 (argY m c) := by
  simp only [V, hostOps0]
  after_results_simp
  rfl

/-- The windows' blocks at each grid point. -/
theorem index0 : ∀ t : Fin cfg0.N, (win0_0.index t 0 = t.val ∧ win0_0.index t 1 = 0 ∧ win0_0.index t 2 = 0)
    ∧ (win0_1.index t 0 = 0 ∧ win0_1.index t 1 = 0 ∧ win0_1.index t 2 = 0)
    ∧ (win0_2.index t 0 = t.val % 2 ∧ win0_2.index t 1 = t.val / 2 ∧ win0_2.index t 2 = 0 ∧ win0_2.index t 3 = 0) :=
  (by decide +kernel : ∀ t : Fin grid0.N, _)

theorem read_x (t : Fin cfg0.N) (k : Fin 2048) (f : Fin 704) :
    (iblk m c 0 t : S1x2048x704.Idx → EReal) (ix3 (0 : Fin 1) k f) = at4 (argX m c) (t.val / 2) (t.val % 2) k.val f.val := by
  obtain ⟨⟨e0, e1, e2⟩, -, -⟩ := index0 t
  refine (congrFun (entry_x m c) (((cfg0.win 0).blk t).view.emb (ix3 (0 : Fin 1) k f))).trans ?_
  refine (merge_two (n0 := 4) (n1 := 2) (n2 := 2048) (n3 := 704) (n := 8) rfl (argX m c) _ _).trans ?_
  have h0 : ((((cfg0.win 0).blk t).view.emb (ix3 (0 : Fin 1) k f)) 0).val = t.val := by
    show win0_0.index t (0 : Fin 3) * 1 + 1 * 0 = _; omega
  have h1 : ((((cfg0.win 0).blk t).view.emb (ix3 (0 : Fin 1) k f)) 1).val = k.val := by
    show win0_0.index t (1 : Fin 3) * 2048 + 1 * k.val = _; omega
  have h2 : ((((cfg0.win 0).blk t).view.emb (ix3 (0 : Fin 1) k f)) 2).val = f.val := by
    show win0_0.index t (2 : Fin 3) * 704 + 1 * f.val = _; omega
  rw [h0, h1, h2]

theorem read_y (t : Fin cfg0.N) (k : Fin 2048) (d : Fin 1024) :
    (iblk m c 1 t : S1x2048x1024.Idx → EReal) (ix3 (0 : Fin 1) k d) = at2 (argY m c) k.val d.val := by
  obtain ⟨-, ⟨e0, e1, e2⟩, -⟩ := index0 t
  refine (congrFun (entry_y m c) (((cfg0.win 1).blk t).view.emb (ix3 (0 : Fin 1) k d))).trans ?_
  refine (broadcastInDim_apply _ _ (argY m c) _ (ix2 k d) fun a => ?_).trans (at2_eq _ _ rfl rfl)
  match a with
  | ⟨0, _⟩ =>
    have h1 : ((((cfg0.win 1).blk t).view.emb (ix3 (0 : Fin 1) k d)) 1).val = k.val := by
      show win0_1.index t (1 : Fin 3) * 2048 + 1 * k.val = _; omega
    simpa using h1.symm
  | ⟨1, _⟩ =>
    have h2 : ((((cfg0.win 1).blk t).view.emb (ix3 (0 : Fin 1) k d)) 2).val = d.val := by
      show win0_1.index t (2 : Fin 3) * 1024 + 1 * d.val = _; omega
    simpa using h2.symm

/-- One grid point's block. -/
theorem point (t : Fin cfg0.N) (f : Fin 704) (d : Fin 1024) :
    (out0_2 (iblk m c 0 t) (iblk m c 1 t) : S1x1x704x1024.Idx → EReal) (ix4 (0 : Fin 1) (0 : Fin 1) f d)
      = ∑ k : Fin 2048, at4 (argX m c) (t.val / 2) (t.val % 2) k.val f.val * at2 (argY m c) k.val d.val := by
  unfold out0_2
  rw [View.canon_unit_zero (by decide), View.ld_unit_zero (by decide), View.ld_unit_zero (by decide)]
  exact (product _ _ f d).trans (Finset.sum_congr rfl fun k _ => by rw [read_x, read_y])

/-- What the call leaves in its result. -/
theorem value : ((dats m 0 c).arrAt 2 cfg0.N : S2x4x704x1024.Idx → EReal) = result (argX m c) (argY m c) := by
  refine (dats m 0 c).arrAt_eq_of_cover 2 (result (argX m c) (argY m c)) (fun t hf => ?_) (fun i => ?_)
  · funext y
    obtain ⟨-, -, ⟨e0, e1, e2, e3⟩⟩ := index0 t
    obtain ⟨z, z', f, d, rfl⟩ : ∃ (z : Fin 1) (z' : Fin 1) (f : Fin 704) (d : Fin 1024), y = ix4 z z' f d := ⟨y 0, y 1, y 2, y 3, ix4_self y⟩
    obtain rfl : z = 0 := Subsingleton.elim _ _
    obtain rfl : z' = 0 := Subsingleton.elim _ _
    show (cfg0.win 2).cut (grid0.coords t) ((dats m 0 c).after 2 t) (ix4 0 0 f d)
      = result (argX m c) (argY m c) (((cfg0.win 2).blk t).view.emb (ix4 (0 : Fin 1) (0 : Fin 1) f d))
    rw [after0_2]
    have h0 : ((((cfg0.win 2).blk t).view.emb (ix4 (0 : Fin 1) (0 : Fin 1) f d)) 0).val = t.val % 2 := by
      show win0_2.index t (0 : Fin 4) * 1 + 1 * 0 = _; omega
    have h1 : ((((cfg0.win 2).blk t).view.emb (ix4 (0 : Fin 1) (0 : Fin 1) f d)) 1).val = t.val / 2 := by
      show win0_2.index t (1 : Fin 4) * 1 + 1 * 0 = _; omega
    have h2 : ((((cfg0.win 2).blk t).view.emb (ix4 (0 : Fin 1) (0 : Fin 1) f d)) 2).val = f.val := by
      show win0_2.index t (2 : Fin 4) * 704 + 1 * f.val = _; omega
    have h3 : ((((cfg0.win 2).blk t).view.emb (ix4 (0 : Fin 1) (0 : Fin 1) f d)) 3).val = d.val := by
      show win0_2.index t (3 : Fin 4) * 1024 + 1 * d.val = _; omega
    unfold result
    rw [h0, h1, h2, h3]
    exact Eq.trans rfl (point m c t f d)
  · have hl0 : (i 0).val < 2 := (i 0).isLt
    have hl1 : (i 1).val < 4 := (i 1).isLt
    have hl2 : (i 2).val < 704 := (i 2).isLt
    have hl3 : (i 3).val < 1024 := (i 3).isLt
    let t : Fin cfg0.N := ⟨2 * (i 1).val + (i 0).val, by show _ < grid0.N; rw [N_0]; omega⟩
    have ht : t.val = 2 * (i 1).val + (i 0).val := rfl
    refine ⟨t, flush0_2 t, ?_⟩
    obtain ⟨-, -, ⟨e0, e1, e2, e3⟩⟩ := index0 t
    show i ∈ ((View.whole main_v4).slice (win0_2.rect t)).set
    rw [View.set_slice_whole, Rect.mem_set_unit]
    intro a
    match a with
    | ⟨0, _⟩ => show win0_2.index t (0 : Fin 4) * 1 ≤ (i 0).val ∧ (i 0).val < win0_2.index t (0 : Fin 4) * 1 + 1; omega
    | ⟨1, _⟩ => show win0_2.index t (1 : Fin 4) * 1 ≤ (i 1).val ∧ (i 1).val < win0_2.index t (1 : Fin 4) * 1 + 1; omega
    | ⟨2, _⟩ => show win0_2.index t (2 : Fin 4) * 704 ≤ (i 2).val ∧ (i 2).val < win0_2.index t (2 : Fin 4) * 704 + 704; omega
    | ⟨3, _⟩ => show win0_2.index t (3 : Fin 4) * 1024 ≤ (i 3).val ∧ (i 3).val < win0_2.index t (3 : Fin 4) * 1024 + 1024; omega

/-- The reference's result. -/
theorem reference (x : S4x2x2048x704.Idx → EReal) (y : S2048x1024.Idx → EReal) :
    Cert.Reference3Ideal.Read.val_main_v6 (F := Ideal) x y = result x y := by
  funext i
  rw [Cert.Reference3Ideal.Read.val_main_v6_apply, Cert.Reference3Ideal.Read.val_main_v5_apply, Cert.Reference3Ideal.Read.val_main_v4_apply]
  unfold result
  refine Finset.sum_congr rfl fun k _ => ?_
  rw [Cert.Reference3Ideal.Read.val_main_v3_apply]
  exact congrArg₂ (· * ·) (at4_eq x _ rfl rfl rfl rfl) (at2_eq y _ rfl rfl)

theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => result (argX m c) (argY m c), ?_, ?_⟩
  · exact (θ_run Cert.Kernel3Ideal.defs _ _).mono (fun _ h c => ⟨(h c).1.trans (value m c), (h c).2⟩) (run_blocks m g)
  · refine (θ_run Cert.Reference3Ideal.defs _ _).mono (fun _ h c => ?_) (Cert.Reference3Ideal.Value.run (F := Ideal) m' g')
    obtain ⟨h0, ha⟩ := h c
    obtain ⟨a0, a1⟩ := hargs c
    refine ⟨h0.trans ((Cert.Reference3Ideal.Read.val_main_v6_eq _ _).trans ?_), ha⟩
    rw [a0, a1]
    exact reference _ _

end Cert.Ffn.Weights3

end
-- ==== Proof.Ffn.Norm.lean ====
/- The gradient of a norm by the mean square, over the extended reals: the derivative of the reciprocal root written as the root's
   cube is the normalised form's, at infinite arguments as well, for the factors that are taken out of the sums are not negative. -/
module

public import proofs.«01_k».proof.Proof.Ffn.Real

@[expose] public section

noncomputable section

namespace Cert.Ffn

open Idealize.ShloMosaic

theorem word_1024 : Ideal.ofBits .f32 0x44800000#32 = ((1024 : ℝ) : EReal) := by
  simp [Ideal.ofBits, Ideal.ieee]
  rw [← EReal.coe_mul]
  congr 1
  norm_num

theorem word_half : Ideal.ofBits .f32 0xBF000000#32 = ((-(1 / 2) : ℝ) : EReal) := by
  simp [Ideal.ofBits, Ideal.ieee]
  rw [← EReal.coe_mul]
  congr 1
  norm_num

theorem word_eps : ∃ e : ℝ, 0 < e ∧ Ideal.ofBits .f32 0x358637BD#32 = (e : EReal) := by
  refine ⟨(8796093 : ℝ) / 8796093022208, by norm_num, ?_⟩
  simp [Ideal.ofBits, Ideal.ieee]
  rw [← EReal.coe_mul]
  congr 1
  norm_num

theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- The mean square with a positive number added is infinite or a positive real. -/
theorem spread {n : ℕ} (f : Fin n → EReal) :
    Ideal.div (∑ k, f k * f k) (Ideal.ofBits .f32 0x44800000#32) + Ideal.ofBits .f32 0x358637BD#32 = ⊤
    ∨ ∃ r : ℝ, 0 < r ∧ Ideal.div (∑ k, f k * f k) (Ideal.ofBits .f32 0x44800000#32) + Ideal.ofBits .f32 0x358637BD#32 = (r : EReal) := by
  obtain ⟨e, he, hw⟩ := word_eps
  have h0 : (0 : EReal) ≤ ∑ k, f k * f k := Finset.sum_nonneg fun k _ => square_nonneg _
  rw [word_1024, hw, Ideal.div_coe (by norm_num)]
  generalize (∑ k, f k * f k : EReal) = s at h0
  induction s with
  | bot => exact absurd h0 (by simp)
  | top =>
    left
    rw [EReal.top_mul_coe_of_pos (by norm_num), EReal.top_add_coe]
  | coe s =>
    right
    have : 0 ≤ s := EReal.coe_nonneg.mp h0
    exact ⟨s * (1 / 1024) + e, by positivity, by rw [EReal.coe_add, EReal.coe_mul]⟩

/-- A real factor that is not negative is taken out of a sum. -/
theorem factor {ι : Type} (s : Finset ι) (ρ : ℝ) (h : 0 ≤ ρ) (f : ι → EReal) : ∑ k ∈ s, (ρ : EReal) * f k = (ρ : EReal) * ∑ k ∈ s, f k := by
  classical
  induction s using Finset.induction_on with
  | empty => simp
  | insert a s ha ih =>
    rw [Finset.sum_insert ha, Finset.sum_insert ha, ih, EReal.left_distrib_of_nonneg_of_ne_top (EReal.coe_nonneg.mpr h) (EReal.coe_ne_top _)]

/-- The two forms of the gradient, with the residual's. -/
theorem norm_rule {n : ℕ} (p o : EReal) (d x : Fin n → EReal) (j : Fin n) (hp : p = ⊤ ∨ ∃ r : ℝ, 0 < r ∧ p = (r : EReal)) :
    o + Ideal.rsqrt p * (d j - x j * Ideal.rsqrt p * Ideal.div (∑ k, d k * (x k * Ideal.rsqrt p)) (Ideal.ofBits .f32 0x44800000#32))
      = o + d j * Ideal.rsqrt p
        + x j * Ideal.div ((∑ k, x k * d k) * (Ideal.ofBits .f32 0xBF000000#32 * Ideal.div (Ideal.rsqrt p) p)) (Ideal.ofBits .f32 0x44800000#32)
        + Ideal.div ((∑ k, x k * d k) * (Ideal.ofBits .f32 0xBF000000#32 * Ideal.div (Ideal.rsqrt p) p)) (Ideal.ofBits .f32 0x44800000#32) * x j := by
  rw [word_1024, word_half, Ideal.div_coe (by norm_num), Ideal.div_coe (by norm_num)]
  rcases hp with rfl | ⟨r, hr, rfl⟩
  · have hz : Ideal.div (0 : EReal) ⊤ = 0 := by
      unfold Ideal.div
      rw [if_neg (by simp), zero_mul]
    simp only [Ideal.rsqrt_top, hz, mul_zero, zero_mul, add_zero]
  · have hs : Ideal.rsqrt (r : EReal) = (((Real.sqrt r)⁻¹ : ℝ) : EReal) := by
      rw [Ideal.rsqrt_coe, if_neg (not_lt.mpr hr.le), if_neg hr.ne']
    have hq : 0 < (Real.sqrt r)⁻¹ := inv_pos.mpr (Real.sqrt_pos.mpr hr)
    have hc : 1 / r = (Real.sqrt r)⁻¹ * (Real.sqrt r)⁻¹ := by
      rw [← mul_inv, Real.mul_self_sqrt hr.le, one_div]
    rw [hs, Ideal.div_coe hr.ne', hc]
    generalize (Real.sqrt r)⁻¹ = q at hq
    have hf : ∑ k, d k * (x k * (q : EReal)) = (q : EReal) * ∑ k, x k * d k := by
      rw [← factor _ q hq.le]
      exact Finset.sum_congr rfl fun k _ => by rw [mul_comm (d k), mul_comm (x k) (q : EReal), mul_assoc]
    rw [hf]
    generalize (∑ k, x k * d k : EReal) = s
    generalize x j = y
    generalize d j = z
    have hl : (q : EReal) * (z - y * (q : EReal) * ((q : EReal) * s * ((1 / 1024 : ℝ) : EReal)))
        = z * (q : EReal) + (-(y * s)) * ((q * q * q * (1 / 1024) : ℝ) : EReal) := by
      rw [sub_eq_add_neg, EReal.left_distrib_of_nonneg_of_ne_top (EReal.coe_nonneg.mpr hq.le) (EReal.coe_ne_top _), mul_comm (q : EReal) z,
        mul_neg, EReal.neg_mul]
      refine congrArg (fun t : EReal => z * (q : EReal) + -t) ?_
      simp only [EReal.coe_mul]
      simp only [mul_assoc, mul_left_comm, mul_comm]
    have hr' : y * (s * (((-(1 / 2) : ℝ) : EReal) * ((q : EReal) * ((q * q : ℝ) : EReal))) * ((1 / 1024 : ℝ) : EReal))
        = (-(y * s)) * ((q * q * q * (1 / 2048) : ℝ) : EReal) := by
      have e : (((-(1 / 2) : ℝ) : EReal) * ((q : EReal) * ((q * q : ℝ) : EReal))) * ((1 / 1024 : ℝ) : EReal) = -((q * q * q * (1 / 2048) : ℝ) : EReal) := by
        rw [← EReal.coe_mul, ← EReal.coe_mul, ← EReal.coe_mul, ← EReal.coe_neg]
        congr 1
        ring
      rw [mul_assoc s, e, ← mul_assoc, mul_neg, EReal.neg_mul]
    have hr2 := hr'
    rw [mul_comm y] at hr2
    have hd : (-(y * s)) * ((q * q * q * (1 / 1024) : ℝ) : EReal)
        = (-(y * s)) * ((q * q * q * (1 / 2048) : ℝ) : EReal) + (-(y * s)) * ((q * q * q * (1 / 2048) : ℝ) : EReal) := by
      have hn : (0 : EReal) ≤ ((q * q * q * (1 / 2048) : ℝ) : EReal) := EReal.coe_nonneg.mpr (by positivity)
      rw [← EReal.left_distrib_of_nonneg hn hn, ← EReal.coe_add]
      congr 2
      ring
    rw [hl, hr', hr2, hd, ← add_assoc, ← add_assoc]

end Cert.Ffn

end
-- ==== Proof.Ffn.Input.lean ====
/- The feed-forward network's gradient back to the layer's input: the gate and up products' gradient times their weights, summed over
   the shards, then through the modulation and the norm, with the sums over the tokens for shift, scale and gain. -/
module

public import proofs.«01_k».proof.Proof.Ffn.Index
public import proofs.«01_k».proof.Proof.Ffn.Norm
public import proofs.«01_k».proof.Proof.Gen.Kernel4Ideal.Value
public import proofs.«01_k».proof.Proof.Gen.Reference4Ideal.Run
public import proofs.«01_k».proof.Proof.Gen.Reference4Ideal.Read
public import proofs.«01_k».proof.Defs
public import Idealize.ShloMosaic.Lib.StableHlo.Run
public import Idealize.ShloMosaic.Lib.WritesUnit
public import Idealize.ShloMosaic.Lib.Pipeline.ValueKit.Tiles

@[expose] public section

set_option maxRecDepth 16384

noncomputable section

namespace Cert.Ffn.Input

open Cert.Kernel4Ideal Cert.Kernel4Ideal.Gen Cert.Kernel4Ideal.Value Cert.Ffn Idealize.ShloMosaic Idealize.ShloMosaic.TcCoe Idealize.ShloMosaic.StableHlo

/-- One shard's part of the gradient, for token `r` and feature `n`: the gate's columns and the up projection's. -/
def part (d : S4x2x2048x704.Idx → EReal) (w : S4x2x1024x704.Idx → EReal) (s r n : ℕ) : EReal :=
  (∑ k : Fin 704, at4 d s 0 r k.val * at4 w s 0 n k.val) + ∑ k : Fin 704, at4 d s 1 r k.val * at4 w s 1 n k.val

/-- The gradient of the modulated tokens. -/
def back (d : S4x2x2048x704.Idx → EReal) (w : S4x2x1024x704.Idx → EReal) (r n : ℕ) : EReal :=
  ∑ s ∈ Finset.range 4, part d w s r n

/-- The reciprocal root of a token's mean square. -/
def root (f : ℕ → EReal) : EReal :=
  Ideal.rsqrt (Ideal.div (∑ k : Fin 1024, f k.val * f k.val) (Ideal.ofBits .f32 0x44800000#32) + Ideal.ofBits .f32 0x358637BD#32)

/-- The gradient of the norm's result, from the gradient `h` of the modulated token and the scale `c`. -/
def scaled (h c : EReal) : EReal := h * (Ideal.ofBits .f32 0x3F800000#32 + c)

/-- The gradient of a token, with the gradient `o` that the residual passes on. -/
def token (h f c p : ℕ → EReal) (o : EReal) (n : ℕ) : EReal :=
  o + root f * (scaled (h n) (c n) * p n
    - f n * root f * Ideal.div (∑ k : Fin 1024, scaled (h k.val) (c k.val) * p k.val * (f k.val * root f)) (Ideal.ofBits .f32 0x44800000#32))

def tokens (d : S4x2x2048x704.Idx → EReal) (w : S4x2x1024x704.Idx → EReal) (x o : S2048x1024.Idx → EReal) (p : S8x1024.Idx → EReal)
    (i : S2048x1024.Idx) : EReal :=
  token (back d w (i 0).val) (at2 x (i 0).val) (at2 p 3) (at2 p 0) (at2 o (i 0).val (i 1).val) (i 1).val

/-- A token's term of the shift's gradient, of the scale's and of the gain's. -/
def shiftTerm (h : ℕ → EReal) (n : ℕ) : EReal := h n
def scaleTerm (h f : ℕ → EReal) (p : EReal) (n : ℕ) : EReal := h n * (f n * root f * p)
def gainTerm (h f : ℕ → EReal) (c : EReal) (n : ℕ) : EReal := scaled (h n) c * (f n * root f)

def shifts (d : S4x2x2048x704.Idx → EReal) (w : S4x2x1024x704.Idx → EReal) (i : S1x1024.Idx) : EReal :=
  ∑ r ∈ Finset.range 2048, shiftTerm (back d w r) (i 1).val
def scales (d : S4x2x2048x704.Idx → EReal) (w : S4x2x1024x704.Idx → EReal) (x : S2048x1024.Idx → EReal) (p : S8x1024.Idx → EReal) (i : S1x1024.Idx) : EReal :=
  ∑ r ∈ Finset.range 2048, scaleTerm (back d w r) (at2 x r) (at2 p 0 (i 1).val) (i 1).val
def gains (d : S4x2x2048x704.Idx → EReal) (w : S4x2x1024x704.Idx → EReal) (x : S2048x1024.Idx → EReal) (p : S8x1024.Idx → EReal) (i : S1x1024.Idx) : EReal :=
  ∑ r ∈ Finset.range 2048, gainTerm (back d w r) (at2 x r) (at2 p 3 (i 1).val) (i 1).val

/-- One grid point's product, at an index. -/
theorem two (v0 v5 : Vec Ideal S1x1x512x704 .bf16) (v2 v7 : Vec Ideal S1x1x1024x704 .bf16) (r : Fin 512) (n : Fin 1024) :
    (k0_pay1 v0 v2 v5 v7 (ix2 r n) : EReal) = (∑ k : Fin 704, (v0 (ix4 (0 : Fin 1) (0 : Fin 1) r k) : EReal) * v2 (ix4 (0 : Fin 1) (0 : Fin 1) n k))
      + ∑ k : Fin 704, (v5 (ix4 (0 : Fin 1) (0 : Fin 1) r k) : EReal) * v7 (ix4 (0 : Fin 1) (0 : Fin 1) n k) := by
  pointwise [k0_pay1]

section

variable (h x : Vec Ideal S512x1024 .f32) (r : Fin 512) (n : Fin 1024) (f e : ℕ → EReal)

theorem pay9_at (hf : ∀ k : Fin 1024, (x (ix2 r k) : EReal) = f k.val) : (k0_pay9 x (ix2 r (0 : Fin 1)) : EReal) = root f := by
  unfold root
  simp only [← hf]
  pointwise [k0_pay9]

theorem pay10_at (hf : ∀ k : Fin 1024, (x (ix2 r k) : EReal) = f k.val) : (k0_pay10 x (ix2 r n) : EReal) = f n.val * root f := by
  rw [← pay9_at x r f hf, ← hf n]
  pointwise [k0_pay10]

theorem pay13_at (v53 : Vec Ideal S1x1024 .f32) : (k0_pay13 h v53 (ix2 r n) : EReal) = scaled (h (ix2 r n)) (v53 (ix2 (0 : Fin 1) n)) := by
  unfold scaled
  pointwise [k0_pay13]

theorem pay11_at (v38 : Vec Ideal S1x1024 .f32) :
    (k0_pay11 h v38 (ix2 (0 : Fin 1) n) : EReal) = v38 (ix2 (0 : Fin 1) n) + ∑ r : Fin 512, (h (ix2 r n) : EReal) := by
  pointwise [k0_pay11]

theorem pay12_at (v37 v44 : Vec Ideal S1x1024 .f32) :
    (k0_pay12 h x v37 v44 (ix2 (0 : Fin 1) n) : EReal)
      = v44 (ix2 (0 : Fin 1) n) + ∑ r : Fin 512, (h (ix2 r n) : EReal) * (k0_pay10 x (ix2 r n) * v37 (ix2 (0 : Fin 1) n)) := by
  pointwise [k0_pay12]

theorem pay7_at (v36 v57 : FVec Ideal S512x1024 .f32) (v58 : Vec Ideal S1x1024 .f32) :
    (k0_pay7 v36 v57 v58 (ix2 (0 : Fin 1) n) : EReal) = v58 (ix2 (0 : Fin 1) n) + ∑ r : Fin 512, (v57 (ix2 r n) : EReal) * v36 (ix2 r n) := by
  pointwise [k0_pay7]

theorem pay8_at (v34 : FVec Ideal S512x1 .f32) (v36 v57 v67 : FVec Ideal S512x1024 .f32) (v37 : Vec Ideal S1x1024 .f32) :
    (k0_pay8 v34 v36 v37 v57 v67 (ix2 r n) : EReal)
      = v67 (ix2 r n) + v34 (ix2 r (0 : Fin 1)) * ((v57 (ix2 r n) : EReal) * v37 (ix2 (0 : Fin 1) n)
        - v36 (ix2 r n) * Ideal.div (∑ k : Fin 1024, (v57 (ix2 r k) : EReal) * v37 (ix2 (0 : Fin 1) k) * v36 (ix2 r k)) (Ideal.ofBits .f32 0x44800000#32)) := by
  pointwise [k0_pay8]

end

theorem zero2 : (![0, 0] : Fin 2 → Nat) = fun _ => 0 := funext fun a => by fin_cases a <;> rfl

/-- One grid point's product of a shard. -/
def step (x0 : Vec Ideal S1x2x512x704 .bf16) (x1 : Vec Ideal S1x2x1024x704 .bf16) : FVec Ideal S512x1024 .f32 :=
  k0_pay1 (View.ld (Val := Elt Ideal) (e' := .bf16) x0 (Rect.unit (s := S1x2x512x704) ![0, 0, 0, 0] S1x1x512x704.size inb_S1x2x512x704_S1x1x512x704_0_0_0_0))
    (View.ld (Val := Elt Ideal) (e' := .bf16) x1 (Rect.unit (s := S1x2x1024x704) ![0, 0, 0, 0] S1x1x1024x704.size inb_S1x2x1024x704_S1x1x1024x704_0_0_0_0))
    (View.ld (Val := Elt Ideal) (e' := .bf16) x0 (Rect.unit (s := S1x2x512x704) ![0, 1, 0, 0] S1x1x512x704.size inb_S1x2x512x704_S1x1x512x704_0_1_0_0))
    (View.ld (Val := Elt Ideal) (e' := .bf16) x1 (Rect.unit (s := S1x2x1024x704) ![0, 1, 0, 0] S1x1x1024x704.size inb_S1x2x1024x704_S1x1x1024x704_0_1_0_0))

/-- The rows of the parameters the norm's result is scaled by. -/
def gainRow (x4 : Vec Ideal S8x1024 .f32) : Vec Ideal S1x1024 .f32 :=
  View.ld (Val := Elt Ideal) (e' := .f32) x4 (Rect.unit (s := S8x1024) ![0, 0] S1x1024.size inb_S8x1024_S1x1024_0_0)
def scaleRow (x4 : Vec Ideal S8x1024 .f32) : Vec Ideal S1x1024 .f32 :=
  View.ld (Val := Elt Ideal) (e' := .f32) x4 (Rect.unit (s := S8x1024) ![3, 0] S1x1024.size inb_S8x1024_S1x1024_3_0)

section

variable (c : Dev nD) (i : grid0.Coords) (a2 : Memref sig .tc .vmem S1x2x512x704 .bf16) (h2 : a2.IsWhole) (a3 : Memref sig .tc .vmem S1x2x1024x704 .bf16)
  (h3 : a3.IsWhole) (a4 : Memref sig .tc .vmem S512x1024 .f32) (h4 : a4.IsWhole) (a5 : Memref sig .tc .vmem S512x1024 .f32) (h5 : a5.IsWhole)
  (a6 : Memref sig .tc .vmem S8x1024 .f32) (h6 : a6.IsWhole) (a7 : Memref sig .tc .vmem S512x1024 .f32) (h7 : a7.IsWhole)
  (a8 : Memref sig .tc .vmem S1x1024 .f32) (h8 : a8.IsWhole) (a9 : Memref sig .tc .vmem S1x1024 .f32) (h9 : a9.IsWhole)
  (a10 : Memref sig .tc .vmem S1x1024 .f32) (h10 : a10.IsWhole) (a11 : Memref sig .tc .vmem S512x1024 .f32) (h11 : a11.IsWhole)
  (x0 : Vec Ideal S1x2x512x704 .bf16) (x1 : Vec Ideal S1x2x1024x704 .bf16) (x2 x3 : Vec Ideal S512x1024 .f32) (x4 : Vec Ideal S8x1024 .f32)
  (xs : Vec Ideal S512x1024 .f32) (o6 o7 o8 : Vec Ideal S1x1024 .f32)

/-- What a grid point after a block's first leaves in the accumulator. -/
def acc (x0 : Vec Ideal S1x2x512x704 .bf16) (x1 : Vec Ideal S1x2x1024x704 .bf16) (xs : Vec Ideal S512x1024 .f32) : Vec Ideal S512x1024 .f32 :=
  addf (F := Ideal) xs (step x0 x1)

/-- The accumulator after a block's first grid point, and after a later one. -/
theorem first_A (hc0 : cond0_0 i) (hc1 : ¬cond0_1 i) (hc2 : cond0_2 i) (hc3 : ¬cond0_3 i) :
    sout0_A_0 c i a2 h2 a3 h3 a4 h4 a5 h5 a6 h6 a7 h7 a8 h8 a9 h9 a10 h10 a11 h11 hc0 hc1 hc2 hc3 x0 x1 x2 x3 x4 = step x0 x1 := by
  unfold sout0_A_0
  rw [View.read_writes_eq_canon _ _ _ (scover0_A_0 c i a2 h2 a3 h3 a4 h4 a5 h5 a6 h6 a7 h7 a8 h8 a9 h9 a10 h10 a11 h11 hc0 hc1 hc2 hc3 x0 x1 x2 x3 x4)]
  unfold kernelRun0_A
  dsimp only
  sl_unfold_words
  rw [View.canon_unit_zero zero2]
  simp only [View.readAt_eq_ld, h2.read_unread, h3.read_unread, h4.read_unread, h5.read_unread, h6.read_unread, h8.read_unread, h9.read_unread, h10.read_unread, h11.read_unread]
  repeat rw [View.readCov_unit_zero _ zero2]
  repeat rw [View.ld_unit_zero zero2]
  unfold step k0_pay2
  rw [shapeCast_self]

theorem first_D (hc0 : cond0_0 i) (hc1 : ¬cond0_1 i) (hc2 : ¬cond0_2 i) (hc3 : ¬cond0_3 i) :
    sout0_D_0 c i a2 h2 a3 h3 a4 h4 a5 h5 a6 h6 a7 h7 a8 h8 a9 h9 a10 h10 a11 h11 hc0 hc1 hc2 hc3 x0 x1 x2 x3 x4 = step x0 x1 := by
  unfold sout0_D_0
  rw [View.read_writes_eq_canon _ _ _ (scover0_D_0 c i a2 h2 a3 h3 a4 h4 a5 h5 a6 h6 a7 h7 a8 h8 a9 h9 a10 h10 a11 h11 hc0 hc1 hc2 hc3 x0 x1 x2 x3 x4)]
  unfold kernelRun0_D
  dsimp only
  sl_unfold_words
  rw [View.canon_unit_zero zero2]
  simp only [View.readAt_eq_ld, h2.read_unread, h3.read_unread, h4.read_unread, h5.read_unread, h6.read_unread, h8.read_unread, h9.read_unread, h10.read_unread, h11.read_unread]
  repeat rw [View.readCov_unit_zero _ zero2]
  repeat rw [View.ld_unit_zero zero2]
  unfold step k0_pay2
  rw [shapeCast_self]

theorem next_B (hc0 : ¬cond0_0 i) (hc1 : cond0_1 i) (hc2 : ¬cond0_2 i) (hc3 : ¬cond0_3 i) :
    sout0_B_0 c i a2 h2 a3 h3 a4 h4 a5 h5 a6 h6 a7 h7 a8 h8 a9 h9 a10 h10 a11 h11 hc0 hc1 hc2 hc3 x0 x1 x2 x3 x4 xs = acc x0 x1 xs := by
  unfold sout0_B_0
  rw [View.read_writes_eq_canon _ _ _ (scover0_B_0 c i a2 h2 a3 h3 a4 h4 a5 h5 a6 h6 a7 h7 a8 h8 a9 h9 a10 h10 a11 h11 hc0 hc1 hc2 hc3 x0 x1 x2 x3 x4 xs)]
  unfold kernelRun0_B
  dsimp only
  sl_unfold_words
  rw [View.canon_unit_zero zero2]
  simp only [View.readAt_eq_ld, h2.read_unread, h3.read_unread, h4.read_unread, h5.read_unread, h6.read_unread, h8.read_unread, h9.read_unread, h10.read_unread, h11.read_unread]
  repeat rw [View.readCov_unit_zero _ zero2]
  repeat rw [View.ld_unit_zero zero2]
  simp only [k0_pay3, shapeCast_self]
  rfl

theorem next_C (hc0 : ¬cond0_0 i) (hc1 : cond0_1 i) (hc2 : ¬cond0_2 i) (hc3 : cond0_3 i) :
    sout0_C_0 c i a2 h2 a3 h3 a4 h4 a5 h5 a6 h6 a7 h7 a8 h8 a9 h9 a10 h10 a11 h11 hc0 hc1 hc2 hc3 x0 x1 x2 x3 x4 o6 o7 o8 xs = acc x0 x1 xs := by
  unfold sout0_C_0
  rw [View.read_writes_eq_canon _ _ _ (scover0_C_0 c i a2 h2 a3 h3 a4 h4 a5 h5 a6 h6 a7 h7 a8 h8 a9 h9 a10 h10 a11 h11 hc0 hc1 hc2 hc3 x0 x1 x2 x3 x4 o6 o7 o8 xs)]
  unfold kernelRun0_C
  dsimp only
  sl_unfold_words
  rw [View.canon_unit_zero zero2]
  simp only [View.readAt_eq_ld, h2.read_unread, h3.read_unread, h4.read_unread, h5.read_unread, h6.read_unread, h8.read_unread, h9.read_unread, h10.read_unread, h11.read_unread]
  repeat rw [View.readCov_unit_zero _ zero2]
  repeat rw [View.ld_unit_zero zero2]
  simp only [k0_pay3, shapeCast_self]
  rfl

/-- The sums over the tokens start at zero. -/
theorem zero_6 (hc0 : cond0_0 i) (hc1 : ¬cond0_1 i) (hc2 : cond0_2 i) (hc3 : ¬cond0_3 i) :
    out0_A_6 c i a2 h2 a3 h3 a4 h4 a5 h5 a6 h6 a7 h7 a8 h8 a9 h9 a10 h10 a11 h11 hc0 hc1 hc2 hc3 x0 x1 x2 x3 x4 = k0_pay4 (F := Ideal) := by
  unfold out0_A_6
  rw [View.read_writes_eq_canon _ _ _ (cover0_A_6 c i a2 h2 a3 h3 a4 h4 a5 h5 a6 h6 a7 h7 a8 h8 a9 h9 a10 h10 a11 h11 hc0 hc1 hc2 hc3 x0 x1 x2 x3 x4)]
  unfold kernelRun0_A
  dsimp only
  sl_unfold_words
  rw [View.canon_unit_zero zero2]

theorem zero_7 (hc0 : cond0_0 i) (hc1 : ¬cond0_1 i) (hc2 : cond0_2 i) (hc3 : ¬cond0_3 i) :
    out0_A_7 c i a2 h2 a3 h3 a4 h4 a5 h5 a6 h6 a7 h7 a8 h8 a9 h9 a10 h10 a11 h11 hc0 hc1 hc2 hc3 x0 x1 x2 x3 x4 = k0_pay5 (F := Ideal) := by
  unfold out0_A_7
  rw [View.read_writes_eq_canon _ _ _ (cover0_A_7 c i a2 h2 a3 h3 a4 h4 a5 h5 a6 h6 a7 h7 a8 h8 a9 h9 a10 h10 a11 h11 hc0 hc1 hc2 hc3 x0 x1 x2 x3 x4)]
  unfold kernelRun0_A
  dsimp only
  sl_unfold_words
  rw [View.canon_unit_zero zero2]

theorem zero_8 (hc0 : cond0_0 i) (hc1 : ¬cond0_1 i) (hc2 : cond0_2 i) (hc3 : ¬cond0_3 i) :
    out0_A_8 c i a2 h2 a3 h3 a4 h4 a5 h5 a6 h6 a7 h7 a8 h8 a9 h9 a10 h10 a11 h11 hc0 hc1 hc2 hc3 x0 x1 x2 x3 x4 = k0_pay6 (F := Ideal) := by
  unfold out0_A_8
  rw [View.read_writes_eq_canon _ _ _ (cover0_A_8 c i a2 h2 a3 h3 a4 h4 a5 h5 a6 h6 a7 h7 a8 h8 a9 h9 a10 h10 a11 h11 hc0 hc1 hc2 hc3 x0 x1 x2 x3 x4)]
  unfold kernelRun0_A
  dsimp only
  sl_unfold_words
  rw [View.canon_unit_zero zero2]

/-- What a block's last grid point stores. -/
theorem last_6 (hc0 : ¬cond0_0 i) (hc1 : cond0_1 i) (hc2 : ¬cond0_2 i) (hc3 : cond0_3 i) :
    out0_C_6 c i a2 h2 a3 h3 a4 h4 a5 h5 a6 h6 a7 h7 a8 h8 a9 h9 a10 h10 a11 h11 hc0 hc1 hc2 hc3 x0 x1 x2 x3 x4 o6 o7 o8 xs = k0_pay11 (acc x0 x1 xs) o6 := by
  unfold out0_C_6
  rw [View.read_writes_eq_canon _ _ _ (cover0_C_6 c i a2 h2 a3 h3 a4 h4 a5 h5 a6 h6 a7 h7 a8 h8 a9 h9 a10 h10 a11 h11 hc0 hc1 hc2 hc3 x0 x1 x2 x3 x4 o6 o7 o8 xs)]
  unfold kernelRun0_C
  dsimp only
  sl_unfold_words
  rw [View.canon_unit_zero zero2]
  simp only [View.readAt_eq_ld, h2.read_unread, h3.read_unread, h4.read_unread, h5.read_unread, h6.read_unread, h8.read_unread, h9.read_unread, h10.read_unread, h11.read_unread]
  repeat rw [View.readCov_unit_zero _ zero2]
  repeat rw [View.ld_unit_zero zero2]
  simp only [k0_pay3, shapeCast_self]
  rfl

theorem last_7 (hc0 : ¬cond0_0 i) (hc1 : cond0_1 i) (hc2 : ¬cond0_2 i) (hc3 : cond0_3 i) :
    out0_C_7 c i a2 h2 a3 h3 a4 h4 a5 h5 a6 h6 a7 h7 a8 h8 a9 h9 a10 h10 a11 h11 hc0 hc1 hc2 hc3 x0 x1 x2 x3 x4 o6 o7 o8 xs = k0_pay12 (acc x0 x1 xs) x2 (gainRow x4) o7 := by
  unfold out0_C_7
  rw [View.read_writes_eq_canon _ _ _ (cover0_C_7 c i a2 h2 a3 h3 a4 h4 a5 h5 a6 h6 a7 h7 a8 h8 a9 h9 a10 h10 a11 h11 hc0 hc1 hc2 hc3 x0 x1 x2 x3 x4 o6 o7 o8 xs)]
  unfold kernelRun0_C
  dsimp only
  sl_unfold_words
  rw [View.canon_unit_zero zero2]
  simp only [View.readAt_eq_ld, h2.read_unread, h3.read_unread, h4.read_unread, h5.read_unread, h6.read_unread, h8.read_unread, h9.read_unread, h10.read_unread, h11.read_unread]
  repeat rw [View.readCov_unit_zero _ zero2]
  repeat rw [View.ld_unit_zero zero2]
  simp only [k0_pay3, shapeCast_self]
  rfl

theorem last_8 (hc0 : ¬cond0_0 i) (hc1 : cond0_1 i) (hc2 : ¬cond0_2 i) (hc3 : cond0_3 i) :
    out0_C_8 c i a2 h2 a3 h3 a4 h4 a5 h5 a6 h6 a7 h7 a8 h8 a9 h9 a10 h10 a11 h11 hc0 hc1 hc2 hc3 x0 x1 x2 x3 x4 o6 o7 o8 xs = k0_pay7 (k0_pay10 x2) (k0_pay13 (acc x0 x1 xs) (scaleRow x4)) o8 := by
  unfold out0_C_8
  rw [View.read_writes_eq_canon _ _ _ (cover0_C_8 c i a2 h2 a3 h3 a4 h4 a5 h5 a6 h6 a7 h7 a8 h8 a9 h9 a10 h10 a11 h11 hc0 hc1 hc2 hc3 x0 x1 x2 x3 x4 o6 o7 o8 xs)]
  unfold kernelRun0_C
  dsimp only
  sl_unfold_words
  rw [View.canon_unit_zero zero2]
  simp only [View.readAt_eq_ld, h2.read_unread, h3.read_unread, h4.read_unread, h5.read_unread, h6.read_unread, h8.read_unread, h9.read_unread, h10.read_unread, h11.read_unread]
  repeat rw [View.readCov_unit_zero _ zero2]
  repeat rw [View.ld_unit_zero zero2]
  simp only [k0_pay3, shapeCast_self]
  rfl

theorem last_5 (hc0 : ¬cond0_0 i) (hc1 : cond0_1 i) (hc2 : ¬cond0_2 i) (hc3 : cond0_3 i) :
    out0_C_5 c i a2 h2 a3 h3 a4 h4 a5 h5 a6 h6 a7 h7 a8 h8 a9 h9 a10 h10 a11 h11 hc0 hc1 hc2 hc3 x0 x1 x2 x3 x4 o6 o7 o8 xs = k0_pay8 (k0_pay9 x2) (k0_pay10 x2) (gainRow x4) (k0_pay13 (acc x0 x1 xs) (scaleRow x4)) x3 := by
  unfold out0_C_5
  rw [View.read_writes_eq_canon _ _ _ (cover0_C_5 c i a2 h2 a3 h3 a4 h4 a5 h5 a6 h6 a7 h7 a8 h8 a9 h9 a10 h10 a11 h11 hc0 hc1 hc2 hc3 x0 x1 x2 x3 x4 o6 o7 o8 xs)]
  unfold kernelRun0_C
  dsimp only
  sl_unfold_words
  rw [View.canon_unit_zero zero2]
  simp only [View.readAt_eq_ld, h2.read_unread, h3.read_unread, h4.read_unread, h5.read_unread, h6.read_unread, h8.read_unread, h9.read_unread, h10.read_unread, h11.read_unread]
  repeat rw [View.readCov_unit_zero _ zero2]
  repeat rw [View.ld_unit_zero zero2]
  simp only [k0_pay3, shapeCast_self]
  rfl

end

variable (m : (ℓ : Loc nD τ sig) → Buf (Elt Ideal) ℓ) (ρ : Dev nD → PrngReg) (c : Dev nD)

/-- Argument 0. -/
abbrev argD : S4x2x2048x704.Idx → EReal := m ((c : Thread nD τ).loc main_arg0)
/-- Argument 1. -/
abbrev argW : S4x2x1024x704.Idx → EReal := m ((c : Thread nD τ).loc main_arg1)
/-- Argument 2. -/
abbrev argX : S2048x1024.Idx → EReal := m ((c : Thread nD τ).loc main_arg2)
/-- Argument 3. -/
abbrev argO : S2048x1024.Idx → EReal := m ((c : Thread nD τ).loc main_arg3)
/-- Argument 4. -/
abbrev argP : S8x1024.Idx → EReal := m ((c : Thread nD τ).loc main_arg4)

theorem entry_d : V m c main_v0 = argD m c := by
  simp only [V, hostOps0]
  after_results_simp
  rfl

theorem entry_w : V m c main_v1 = argW m c := by
  simp only [V, hostOps0]
  after_results_simp
  rfl

theorem entry_x : V m c main_arg2 = argX m c := by
  simp only [V, hostOps0]
  after_results_simp

theorem entry_o : V m c main_arg3 = argO m c := by
  simp only [V, hostOps0]
  after_results_simp

theorem entry_p : V m c main_arg4 = argP m c := by
  simp only [V, hostOps0]
  after_results_simp

/-- The windows' blocks at each grid point. -/
theorem index0 : ∀ t : Fin cfg0.N, (win0_0.index t 0 = t.val % 4 ∧ win0_0.index t 1 = 0 ∧ win0_0.index t 2 = t.val / 4 ∧ win0_0.index t 3 = 0)
    ∧ (win0_1.index t 0 = t.val % 4 ∧ win0_1.index t 1 = 0 ∧ win0_1.index t 2 = 0 ∧ win0_1.index t 3 = 0)
    ∧ (win0_2.index t 0 = t.val / 4 ∧ win0_2.index t 1 = 0)
    ∧ (win0_3.index t 0 = t.val / 4 ∧ win0_3.index t 1 = 0)
    ∧ (win0_4.index t 0 = 0 ∧ win0_4.index t 1 = 0)
    ∧ (win0_5.index t 0 = t.val / 4 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0) :=
  (by decide +kernel : ∀ t : Fin grid0.N, _)

theorem read_d (t : Fin cfg0.N) (s : Fin 2) (r : Fin 512) (k : Fin 704) :
    (iblk m c 0 t : S1x2x512x704.Idx → EReal) (ix4 (0 : Fin 1) s r k) = at4 (argD m c) (t.val % 4) s.val (512 * (t.val / 4) + r.val) k.val := by
  obtain ⟨⟨e0, e1, e2, e3⟩, -⟩ := index0 t
  refine (congrFun (entry_d m c) (((cfg0.win 0).blk t).view.emb (ix4 (0 : Fin 1) s r k))).trans ?_
  have h0 : ((((cfg0.win 0).blk t).view.emb (ix4 (0 : Fin 1) s r k)) 0).val = t.val % 4 := by
    show win0_0.index t (0 : Fin 4) * 1 + 1 * 0 = _; omega
  have h1 : ((((cfg0.win 0).blk t).view.emb (ix4 (0 : Fin 1) s r k)) 1).val = s.val := by
    show win0_0.index t (1 : Fin 4) * 2 + 1 * s.val = _; omega
  have h2 : ((((cfg0.win 0).blk t).view.emb (ix4 (0 : Fin 1) s r k)) 2).val = 512 * (t.val / 4) + r.val := by
    show win0_0.index t (2 : Fin 4) * 512 + 1 * r.val = _; omega
  have h3 : ((((cfg0.win 0).blk t).view.emb (ix4 (0 : Fin 1) s r k)) 3).val = k.val := by
    show win0_0.index t (3 : Fin 4) * 704 + 1 * k.val = _; omega
  exact at4_eq _ _ h0 h1 h2 h3

theorem read_w (t : Fin cfg0.N) (s : Fin 2) (n : Fin 1024) (k : Fin 704) :
    (iblk m c 1 t : S1x2x1024x704.Idx → EReal) (ix4 (0 : Fin 1) s n k) = at4 (argW m c) (t.val % 4) s.val n.val k.val := by
  obtain ⟨-, ⟨e0, e1, e2, e3⟩, -⟩ := index0 t
  refine (congrFun (entry_w m c) (((cfg0.win 1).blk t).view.emb (ix4 (0 : Fin 1) s n k))).trans ?_
  have h0 : ((((cfg0.win 1).blk t).view.emb (ix4 (0 : Fin 1) s n k)) 0).val = t.val % 4 := by
    show win0_1.index t (0 : Fin 4) * 1 + 1 * 0 = _; omega
  have h1 : ((((cfg0.win 1).blk t).view.emb (ix4 (0 : Fin 1) s n k)) 1).val = s.val := by
    show win0_1.index t (1 : Fin 4) * 2 + 1 * s.val = _; omega
  have h2 : ((((cfg0.win 1).blk t).view.emb (ix4 (0 : Fin 1) s n k)) 2).val = n.val := by
    show win0_1.index t (2 : Fin 4) * 1024 + 1 * n.val = _; omega
  have h3 : ((((cfg0.win 1).blk t).view.emb (ix4 (0 : Fin 1) s n k)) 3).val = k.val := by
    show win0_1.index t (3 : Fin 4) * 704 + 1 * k.val = _; omega
  exact at4_eq _ _ h0 h1 h2 h3

theorem read_x (t : Fin cfg0.N) (r : Fin 512) (n : Fin 1024) :
    (iblk m c 2 t : S512x1024.Idx → EReal) (ix2 r n) = at2 (argX m c) (512 * (t.val / 4) + r.val) n.val := by
  obtain ⟨-, -, ⟨e0, e1⟩, -⟩ := index0 t
  refine (congrFun (entry_x m c) (((cfg0.win 2).blk t).view.emb (ix2 r n))).trans ?_
  have h0 : ((((cfg0.win 2).blk t).view.emb (ix2 r n)) 0).val = 512 * (t.val / 4) + r.val := by
    show win0_2.index t (0 : Fin 2) * 512 + 1 * r.val = _; omega
  have h1 : ((((cfg0.win 2).blk t).view.emb (ix2 r n)) 1).val = n.val := by
    show win0_2.index t (1 : Fin 2) * 1024 + 1 * n.val = _; omega
  exact at2_eq _ _ h0 h1

theorem read_o (t : Fin cfg0.N) (r : Fin 512) (n : Fin 1024) :
    (iblk m c 3 t : S512x1024.Idx → EReal) (ix2 r n) = at2 (argO m c) (512 * (t.val / 4) + r.val) n.val := by
  obtain ⟨-, -, -, ⟨e0, e1⟩, -⟩ := index0 t
  refine (congrFun (entry_o m c) (((cfg0.win 3).blk t).view.emb (ix2 r n))).trans ?_
  have h0 : ((((cfg0.win 3).blk t).view.emb (ix2 r n)) 0).val = 512 * (t.val / 4) + r.val := by
    show win0_3.index t (0 : Fin 2) * 512 + 1 * r.val = _; omega
  have h1 : ((((cfg0.win 3).blk t).view.emb (ix2 r n)) 1).val = n.val := by
    show win0_3.index t (1 : Fin 2) * 1024 + 1 * n.val = _; omega
  exact at2_eq _ _ h0 h1

theorem read_p (t : Fin cfg0.N) (r : Fin 8) (n : Fin 1024) :
    (iblk m c 4 t : S8x1024.Idx → EReal) (ix2 r n) = at2 (argP m c) r.val n.val := by
  obtain ⟨-, -, -, -, ⟨e0, e1⟩, -⟩ := index0 t
  refine (congrFun (entry_p m c) (((cfg0.win 4).blk t).view.emb (ix2 r n))).trans ?_
  have h0 : ((((cfg0.win 4).blk t).view.emb (ix2 r n)) 0).val = r.val := by
    show win0_4.index t (0 : Fin 2) * 8 + 1 * r.val = _; omega
  have h1 : ((((cfg0.win 4).blk t).view.emb (ix2 r n)) 1).val = n.val := by
    show win0_4.index t (1 : Fin 2) * 1024 + 1 * n.val = _; omega
  exact at2_eq _ _ h0 h1

/-- What a grid point loads. -/
theorem load_d (t : Fin cfg0.N) (s : Fin 2) (inb : ∀ a, ![0, s.val, 0, 0] a + S1x1x512x704.size a ≤ S1x2x512x704.size a) (r : Fin 512) (k : Fin 704) :
    (View.ld (Val := Elt Ideal) (e' := .bf16) (iblk m c 0 t : Vec Ideal S1x2x512x704 .bf16) (Rect.unit (s := S1x2x512x704) ![0, s.val, 0, 0] S1x1x512x704.size inb) (ix4 (0 : Fin 1) (0 : Fin 1) r k) : EReal)
      = at4 (argD m c) (t.val % 4) s.val (512 * (t.val / 4) + r.val) k.val := by
  refine (View.ld_unit_apply_of (Val := Elt Ideal) (e := .bf16) _ _ _ _ _ (ix4 (0 : Fin 1) s r k) fun a => ?_).trans (read_d m c t s r k)
  match a with
    | ⟨0, _⟩ => show 0 = 0 + 0; omega
    | ⟨1, _⟩ => show s.val = s.val + 0; omega
    | ⟨2, _⟩ => show r.val = 0 + r.val; omega
    | ⟨3, _⟩ => show k.val = 0 + k.val; omega

theorem load_w (t : Fin cfg0.N) (s : Fin 2) (inb : ∀ a, ![0, s.val, 0, 0] a + S1x1x1024x704.size a ≤ S1x2x1024x704.size a) (n : Fin 1024) (k : Fin 704) :
    (View.ld (Val := Elt Ideal) (e' := .bf16) (iblk m c 1 t : Vec Ideal S1x2x1024x704 .bf16) (Rect.unit (s := S1x2x1024x704) ![0, s.val, 0, 0] S1x1x1024x704.size inb) (ix4 (0 : Fin 1) (0 : Fin 1) n k) : EReal)
      = at4 (argW m c) (t.val % 4) s.val n.val k.val := by
  refine (View.ld_unit_apply_of (Val := Elt Ideal) (e := .bf16) _ _ _ _ _ (ix4 (0 : Fin 1) s n k) fun a => ?_).trans (read_w m c t s n k)
  match a with
    | ⟨0, _⟩ => show 0 = 0 + 0; omega
    | ⟨1, _⟩ => show s.val = s.val + 0; omega
    | ⟨2, _⟩ => show n.val = 0 + n.val; omega
    | ⟨3, _⟩ => show k.val = 0 + k.val; omega

theorem load_p (t : Fin cfg0.N) (s : Fin 8) (inb : ∀ a, ![s.val, 0] a + S1x1024.size a ≤ S8x1024.size a) (n : Fin 1024) :
    (View.ld (Val := Elt Ideal) (e' := .f32) (iblk m c 4 t : Vec Ideal S8x1024 .f32) (Rect.unit (s := S8x1024) ![s.val, 0] S1x1024.size inb) (ix2 (0 : Fin 1) n) : EReal)
      = at2 (argP m c) s.val n.val := by
  refine (View.ld_unit_apply_of (Val := Elt Ideal) (e := .f32) _ _ _ _ _ (ix2 s n) fun a => ?_).trans (read_p m c t s n)
  match a with
    | ⟨0, _⟩ => show s.val = s.val + 0; omega
    | ⟨1, _⟩ => show n.val = 0 + n.val; omega

/-- One grid point's product, from the call's arguments. -/
theorem step_at (t : Fin cfg0.N) (r : Fin 512) (n : Fin 1024) :
    (step (iblk m c 0 t) (iblk m c 1 t) (ix2 r n) : EReal) = part (argD m c) (argW m c) (t.val % 4) (512 * (t.val / 4) + r.val) n.val := by
  unfold step part
  refine (two _ _ _ _ r n).trans (congrArg₂ (fun a b : EReal => a + b) (Finset.sum_congr rfl fun k _ => ?_) (Finset.sum_congr rfl fun k _ => ?_))
  · exact congrArg₂ (fun a b : EReal => a * b) (load_d m c t 0 _ r k) (load_w m c t 0 _ n k)
  · exact congrArg₂ (fun a b : EReal => a * b) (load_d m c t 1 _ r k) (load_w m c t 1 _ n k)

theorem gain_at (t : Fin cfg0.N) (n : Fin 1024) : (gainRow (iblk m c 4 t) (ix2 (0 : Fin 1) n) : EReal) = at2 (argP m c) 0 n.val := load_p m c t 0 _ n
theorem scale_at (t : Fin cfg0.N) (n : Fin 1024) : (scaleRow (iblk m c 4 t) (ix2 (0 : Fin 1) n) : EReal) = at2 (argP m c) 3 n.val := load_p m c t 3 _ n

/-- The accumulator after each grid point, and what the point leaves in the outputs. -/
theorem start (t : Fin cfg0.N) (h : t.val % 4 = 0) : (outsAt0 m c t.val t.isLt).2.2.2.2 = step (iblk m c 0 t) (iblk m c 1 t) := by
  have h1 : ¬1 ≤ t.val % 4 := by omega
  have h3 : ¬t.val % 4 = 3 := by omega
  by_cases h2 : t.val % 16 = 0
  · rw [outsAt0_A m c t h h1 h2 h3]
    dsimp only
    rw [first_A]
  · rw [outsAt0_D m c t h h1 h2 h3]
    dsimp only
    rw [first_D]

theorem next (t : Fin cfg0.N) (h : ¬t.val % 4 = 0) : (outsAt0 m c t.val t.isLt).2.2.2.2
    = acc (iblk m c 0 t) (iblk m c 1 t) (outsAt0 m c (t.val - 1) (Nat.lt_of_le_of_lt (Nat.sub_le _ _) t.isLt)).2.2.2.2 := by
  have h1 : 1 ≤ t.val % 4 := by omega
  have h2 : ¬t.val % 16 = 0 := by omega
  by_cases h3 : t.val % 4 = 3
  · rw [outsAt0_C m c t h h1 h2 h3]
    dsimp only
    rw [next_C]
  · rw [outsAt0_B m c t h h1 h2 h3]
    dsimp only
    rw [next_B]

theorem none (t : Fin cfg0.N) (h : t.val % 16 = 0) : (outsAt0 m c t.val t.isLt).2.1 = k0_pay4 (F := Ideal)
    ∧ (outsAt0 m c t.val t.isLt).2.2.1 = k0_pay5 (F := Ideal) ∧ (outsAt0 m c t.val t.isLt).2.2.2.1 = k0_pay6 (F := Ideal) := by
  have h0 : t.val % 4 = 0 := by omega
  have h1 : ¬1 ≤ t.val % 4 := by omega
  have h3 : ¬t.val % 4 = 3 := by omega
  rw [outsAt0_A m c t h0 h1 h h3]
  dsimp only
  rw [zero_6, zero_7, zero_8]
  exact ⟨rfl, rfl, rfl⟩

theorem keep (t : Fin cfg0.N) (h : ¬t.val % 16 = 0) (h3 : ¬t.val % 4 = 3) :
    (outsAt0 m c t.val t.isLt).2.1 = (outsAt0 m c (t.val - 1) (Nat.lt_of_le_of_lt (Nat.sub_le _ _) t.isLt)).2.1
    ∧ (outsAt0 m c t.val t.isLt).2.2.1 = (outsAt0 m c (t.val - 1) (Nat.lt_of_le_of_lt (Nat.sub_le _ _) t.isLt)).2.2.1
    ∧ (outsAt0 m c t.val t.isLt).2.2.2.1 = (outsAt0 m c (t.val - 1) (Nat.lt_of_le_of_lt (Nat.sub_le _ _) t.isLt)).2.2.2.1 := by
  by_cases h0 : t.val % 4 = 0
  · have h1 : ¬1 ≤ t.val % 4 := by omega
    rw [outsAt0_D m c t h0 h1 h h3]
    exact ⟨rfl, rfl, rfl⟩
  · have h1 : 1 ≤ t.val % 4 := by omega
    rw [outsAt0_B m c t h0 h1 h h3]
    exact ⟨rfl, rfl, rfl⟩

theorem last (t : Fin cfg0.N) (h : t.val % 4 = 3) :
    (outsAt0 m c t.val t.isLt).1 = k0_pay8 (k0_pay9 (iblk m c 2 t)) (k0_pay10 (iblk m c 2 t)) (gainRow (iblk m c 4 t))
      (k0_pay13 (outsAt0 m c t.val t.isLt).2.2.2.2 (scaleRow (iblk m c 4 t))) (iblk m c 3 t)
    ∧ (outsAt0 m c t.val t.isLt).2.1 = k0_pay11 (outsAt0 m c t.val t.isLt).2.2.2.2 (outsAt0 m c (t.val - 1) (Nat.lt_of_le_of_lt (Nat.sub_le _ _) t.isLt)).2.1
    ∧ (outsAt0 m c t.val t.isLt).2.2.1 = k0_pay12 (outsAt0 m c t.val t.isLt).2.2.2.2 (iblk m c 2 t) (gainRow (iblk m c 4 t))
      (outsAt0 m c (t.val - 1) (Nat.lt_of_le_of_lt (Nat.sub_le _ _) t.isLt)).2.2.1
    ∧ (outsAt0 m c t.val t.isLt).2.2.2.1 = k0_pay7 (k0_pay10 (iblk m c 2 t)) (k0_pay13 (outsAt0 m c t.val t.isLt).2.2.2.2 (scaleRow (iblk m c 4 t)))
      (outsAt0 m c (t.val - 1) (Nat.lt_of_le_of_lt (Nat.sub_le _ _) t.isLt)).2.2.2.1 := by
  have h0 : ¬t.val % 4 = 0 := by omega
  have h1 : 1 ≤ t.val % 4 := by omega
  have h2 : ¬t.val % 16 = 0 := by omega
  rw [next m c t h0, outsAt0_C m c t h0 h1 h2 h]
  dsimp only
  rw [last_5, last_6, last_7, last_8]
  exact ⟨rfl, rfl, rfl, rfl⟩

/-- The accumulator holds the gradient's sum over the shards seen so far. -/
theorem acc_at : ∀ (n : ℕ) (hn : n < cfg0.N) (r : Fin 512) (f : Fin 1024), ((outsAt0 m c n hn).2.2.2.2 (ix2 r f) : EReal)
    = ∑ s ∈ Finset.range (n % 4 + 1), part (argD m c) (argW m c) s (512 * (n / 4) + r.val) f.val := by
  intro n
  induction n with
  | zero =>
    intro hn r f
    rw [start m c ⟨0, hn⟩ rfl, step_at, Finset.sum_range_one]
    rfl
  | succ n ih =>
    intro hn r f
    have hs := step_at m c ⟨n + 1, hn⟩ r f
    by_cases h : (n + 1) % 4 = 0
    · rw [start m c ⟨n + 1, hn⟩ h, hs, h, Finset.sum_range_one]
    · have hi := ih (by omega) r f
      have e1 : n % 4 + 1 = (n + 1) % 4 := by omega
      have e2 : n / 4 = (n + 1) / 4 := by omega
      rw [e1, e2] at hi
      rw [Finset.sum_range_succ, ← hi, ← hs, next m c ⟨n + 1, hn⟩ h]
      rfl

theorem back_at (t : Fin cfg0.N) (h : t.val % 4 = 3) (r : Fin 512) (f : Fin 1024) :
    ((outsAt0 m c t.val t.isLt).2.2.2.2 (ix2 r f) : EReal) = back (argD m c) (argW m c) (512 * (t.val / 4) + r.val) f.val := by
  have e := acc_at m c t.val t.isLt r f
  rw [h] at e
  exact e

/-- An output that starts at zero and gains a block's sum at each of its last points. -/
theorem grow {N : ℕ} (o : (n : ℕ) → n < N → EReal) (g : ℕ → EReal) (h0 : ∀ h, o 0 h = 0)
    (hk : ∀ n h, ¬(n + 1) % 4 = 3 → o (n + 1) h = o n (Nat.lt_of_succ_lt h))
    (hl : ∀ n h, (n + 1) % 4 = 3 → o (n + 1) h = o n (Nat.lt_of_succ_lt h) + ∑ r : Fin 512, g (512 * ((n + 1) / 4) + r.val)) :
    ∀ n h, o n h = ∑ r ∈ Finset.range (512 * ((n + 1) / 4)), g r := by
  intro n
  induction n with
  | zero =>
    intro h
    rw [h0]
    rfl
  | succ n ih =>
    intro h
    by_cases h3 : (n + 1) % 4 = 3
    · have e : 512 * ((n + 1 + 1) / 4) = 512 * ((n + 1) / 4) + 512 := by omega
      rw [hl n h h3, ih, e, Finset.sum_range_add, Finset.sum_range (fun x => g (512 * ((n + 1) / 4) + x))]
    · have e : (n + 1 + 1) / 4 = (n + 1) / 4 := by omega
      rw [hk n h h3, ih, e]

theorem zero4 (f : Fin 1024) : (k0_pay4 (F := Ideal) (ix2 (0 : Fin 1) f) : EReal) = 0 := by
  pointwise [k0_pay4]
theorem zero5 (f : Fin 1024) : (k0_pay5 (F := Ideal) (ix2 (0 : Fin 1) f) : EReal) = 0 := by
  pointwise [k0_pay5]
theorem zero6 (f : Fin 1024) : (k0_pay6 (F := Ideal) (ix2 (0 : Fin 1) f) : EReal) = 0 := by
  pointwise [k0_pay6]

theorem below (n : ℕ) (h : n + 1 < cfg0.N) : ¬(n + 1) % 16 = 0 := by
  have hN : n + 1 < 16 := lt_of_lt_of_eq h (show cfg0.N = 16 from N_0)
  omega

theorem point6 (f : Fin 1024) (n : ℕ) (h : n < cfg0.N) : ((outsAt0 m c n h).2.1 (ix2 (0 : Fin 1) f) : EReal)
    = ∑ r ∈ Finset.range (512 * ((n + 1) / 4)), shiftTerm (back (argD m c) (argW m c) r) f.val := by
  refine grow (fun n h => ((outsAt0 m c n h).2.1 (ix2 (0 : Fin 1) f) : EReal)) (fun r => shiftTerm (back (argD m c) (argW m c) r) f.val) (fun h => ?_) (fun n h h3 => ?_) (fun n h h3 => ?_) n h
  · exact (congrFun (none m c ⟨0, h⟩ rfl).1 _).trans (zero4 f)
  · exact congrFun (keep m c ⟨n + 1, h⟩ (below n h) h3).1 _
  · refine (congrFun (last m c ⟨n + 1, h⟩ h3).2.1 _).trans ((pay11_at _ f _).trans (congrArg₂ (fun a b : EReal => a + b) rfl (Finset.sum_congr rfl fun r _ => ?_)))
    exact back_at m c ⟨n + 1, h⟩ h3 r f

theorem point7 (f : Fin 1024) (n : ℕ) (h : n < cfg0.N) : ((outsAt0 m c n h).2.2.1 (ix2 (0 : Fin 1) f) : EReal)
    = ∑ r ∈ Finset.range (512 * ((n + 1) / 4)), scaleTerm (back (argD m c) (argW m c) r) (at2 (argX m c) r) (at2 (argP m c) 0 f.val) f.val := by
  refine grow (fun n h => ((outsAt0 m c n h).2.2.1 (ix2 (0 : Fin 1) f) : EReal)) (fun r => scaleTerm (back (argD m c) (argW m c) r) (at2 (argX m c) r) (at2 (argP m c) 0 f.val) f.val) (fun h => ?_) (fun n h h3 => ?_) (fun n h h3 => ?_) n h
  · exact (congrFun (none m c ⟨0, h⟩ rfl).2.1 _).trans (zero5 f)
  · exact congrFun (keep m c ⟨n + 1, h⟩ (below n h) h3).2.1 _
  · refine (congrFun (last m c ⟨n + 1, h⟩ h3).2.2.1 _).trans ((pay12_at _ _ f _ _).trans (congrArg₂ (fun a b : EReal => a + b) rfl (Finset.sum_congr rfl fun r _ => ?_)))
    rw [back_at m c ⟨n + 1, h⟩ h3 r f, gain_at, pay10_at _ r f (at2 (argX m c) (512 * ((n + 1) / 4) + r.val)) fun k => read_x m c ⟨n + 1, h⟩ r k]
    rfl

theorem point8 (f : Fin 1024) (n : ℕ) (h : n < cfg0.N) : ((outsAt0 m c n h).2.2.2.1 (ix2 (0 : Fin 1) f) : EReal)
    = ∑ r ∈ Finset.range (512 * ((n + 1) / 4)), gainTerm (back (argD m c) (argW m c) r) (at2 (argX m c) r) (at2 (argP m c) 3 f.val) f.val := by
  refine grow (fun n h => ((outsAt0 m c n h).2.2.2.1 (ix2 (0 : Fin 1) f) : EReal)) (fun r => gainTerm (back (argD m c) (argW m c) r) (at2 (argX m c) r) (at2 (argP m c) 3 f.val) f.val) (fun h => ?_) (fun n h h3 => ?_) (fun n h h3 => ?_) n h
  · exact (congrFun (none m c ⟨0, h⟩ rfl).2.2 _).trans (zero6 f)
  · exact congrFun (keep m c ⟨n + 1, h⟩ (below n h) h3).2.2 _
  · refine (congrFun (last m c ⟨n + 1, h⟩ h3).2.2.2 _).trans ((pay7_at f _ _ _).trans (congrArg₂ (fun a b : EReal => a + b) rfl (Finset.sum_congr rfl fun r _ => ?_)))
    rw [pay13_at, back_at m c ⟨n + 1, h⟩ h3 r f, scale_at, pay10_at _ r f (at2 (argX m c) (512 * ((n + 1) / 4) + r.val)) fun k => read_x m c ⟨n + 1, h⟩ r k]
    rfl

theorem point5 (t : Fin cfg0.N) (h : t.val % 4 = 3) (r : Fin 512) (f : Fin 1024) :
    ((outsAt0 m c t.val t.isLt).1 (ix2 r f) : EReal)
      = token (back (argD m c) (argW m c) (512 * (t.val / 4) + r.val)) (at2 (argX m c) (512 * (t.val / 4) + r.val)) (at2 (argP m c) 3) (at2 (argP m c) 0)
        (at2 (argO m c) (512 * (t.val / 4) + r.val) f.val) f.val := by
  have hx := fun k => read_x m c t r k
  refine (congrFun (last m c t h).1 _).trans ((pay8_at r f _ _ _ _ _).trans ?_)
  simp only [pay13_at, back_at m c t h, scale_at, gain_at, read_o]
  rw [pay9_at _ r _ hx]
  simp only [pay10_at _ r _ _ hx]
  rfl

/-- What the call leaves in result 0. -/
theorem value5 : ((dats m 0 c).arrAt 5 cfg0.N : S2048x1024.Idx → EReal) = tokens (argD m c) (argW m c) (argX m c) (argO m c) (argP m c) := by
  refine (dats m 0 c).arrAt_eq_of_cover 5 (tokens (argD m c) (argW m c) (argX m c) (argO m c) (argP m c)) (fun t hf => ?_) (fun i => ?_)
  · funext y
    obtain ⟨-, -, -, -, -, ⟨e0, e1⟩, -⟩ := index0 t
    obtain ⟨r, f, rfl⟩ : ∃ (r : Fin 512) (f : Fin 1024), y = ix2 r f := ⟨y 0, y 1, ix2_self y⟩
    show (cfg0.win 5).cut (grid0.coords t) ((dats m 0 c).after 5 t) (ix2 r f)
      = tokens (argD m c) (argW m c) (argX m c) (argO m c) (argP m c) (((cfg0.win 5).blk t).view.emb (ix2 r f))
    rw [after0_5]
    have h0 : ((((cfg0.win 5).blk t).view.emb (ix2 r f)) 0).val = 512 * (t.val / 4) + r.val := by
      show win0_5.index t (0 : Fin 2) * 512 + 1 * r.val = _; omega
    have h1 : ((((cfg0.win 5).blk t).view.emb (ix2 r f)) 1).val = f.val := by
      show win0_5.index t (1 : Fin 2) * 1024 + 1 * f.val = _; omega
    unfold tokens
    rw [h0, h1]
    exact Eq.trans rfl (point5 m c t ((flush0_5 t).mp hf) r f)
  · have hl0 : (i 0).val < 2048 := (i 0).isLt
    have hl1 : (i 1).val < 1024 := (i 1).isLt
    let t : Fin cfg0.N := ⟨4 * ((i 0).val / 512) + 3, by show _ < grid0.N; rw [N_0]; omega⟩
    have ht : t.val = 4 * ((i 0).val / 512) + 3 := rfl
    refine ⟨t, (flush0_5 t).mpr (by rw [ht]; omega), ?_⟩
    obtain ⟨-, -, -, -, -, ⟨e0, e1⟩, -⟩ := index0 t
    show i ∈ ((View.whole main_v2_0).slice (win0_5.rect t)).set
    rw [View.set_slice_whole, Rect.mem_set_unit]
    intro a
    match a with
    | ⟨0, _⟩ => show win0_5.index t (0 : Fin 2) * 512 ≤ (i 0).val ∧ (i 0).val < win0_5.index t (0 : Fin 2) * 512 + 512; omega
    | ⟨1, _⟩ => show win0_5.index t (1 : Fin 2) * 1024 ≤ (i 1).val ∧ (i 1).val < win0_5.index t (1 : Fin 2) * 1024 + 1024; omega

/-- What the call leaves in result 1. -/
theorem value6 : ((dats m 0 c).arrAt 6 cfg0.N : S1x1024.Idx → EReal) = shifts (argD m c) (argW m c) := by
  refine (dats m 0 c).arrAt_eq_of_cover 6 (shifts (argD m c) (argW m c)) (fun t hf => ?_) (fun i => ?_)
  · funext y
    obtain ⟨-, -, -, -, -, -, ⟨e0, e1⟩, -⟩ := index0 t
    obtain ⟨r, f, rfl⟩ : ∃ (r : Fin 1) (f : Fin 1024), y = ix2 r f := ⟨y 0, y 1, ix2_self y⟩
    obtain rfl : r = 0 := Subsingleton.elim _ _
    show (cfg0.win 6).cut (grid0.coords t) ((dats m 0 c).after 6 t) (ix2 (0 : Fin 1) f) = shifts (argD m c) (argW m c) (((cfg0.win 6).blk t).view.emb (ix2 (0 : Fin 1) f))
    rw [after0_6]
    have h1 : ((((cfg0.win 6).blk t).view.emb (ix2 (0 : Fin 1) f)) 1).val = f.val := by
      show win0_6.index t (1 : Fin 2) * 1024 + 1 * f.val = _; omega
    have hN : t.val < 16 := lt_of_lt_of_eq t.isLt (show cfg0.N = 16 from N_0)
    have ht := (flush0_6 t).mp hf
    have e : 512 * ((t.val + 1) / 4) = 2048 := by omega
    have p := point6 m c f t.val t.isLt
    rw [e] at p
    unfold shifts
    rw [h1]
    exact Eq.trans rfl p
  · have hl0 : (i 0).val < 1 := (i 0).isLt
    have hl1 : (i 1).val < 1024 := (i 1).isLt
    let t : Fin cfg0.N := ⟨15, by show _ < grid0.N; rw [N_0]; omega⟩
    have ht : t.val = 15 := rfl
    refine ⟨t, (flush0_6 t).mpr (by rw [ht]), ?_⟩
    obtain ⟨-, -, -, -, -, -, ⟨e0, e1⟩, -⟩ := index0 t
    show i ∈ ((View.whole main_v2_1).slice (win0_6.rect t)).set
    rw [View.set_slice_whole, Rect.mem_set_unit]
    intro a
    match a with
    | ⟨0, _⟩ => show win0_6.index t (0 : Fin 2) * 1 ≤ (i 0).val ∧ (i 0).val < win0_6.index t (0 : Fin 2) * 1 + 1; omega
    | ⟨1, _⟩ => show win0_6.index t (1 : Fin 2) * 1024 ≤ (i 1).val ∧ (i 1).val < win0_6.index t (1 : Fin 2) * 1024 + 1024; omega

/-- What the call leaves in result 2. -/
theorem value7 : ((dats m 0 c).arrAt 7 cfg0.N : S1x1024.Idx → EReal) = scales (argD m c) (argW m c) (argX m c) (argP m c) := by
  refine (dats m 0 c).arrAt_eq_of_cover 7 (scales (argD m c) (argW m c) (argX m c) (argP m c)) (fun t hf => ?_) (fun i => ?_)
  · funext y
    obtain ⟨-, -, -, -, -, -, -, ⟨e0, e1⟩, -⟩ := index0 t
    obtain ⟨r, f, rfl⟩ : ∃ (r : Fin 1) (f : Fin 1024), y = ix2 r f := ⟨y 0, y 1, ix2_self y⟩
    obtain rfl : r = 0 := Subsingleton.elim _ _
    show (cfg0.win 7).cut (grid0.coords t) ((dats m 0 c).after 7 t) (ix2 (0 : Fin 1) f) = scales (argD m c) (argW m c) (argX m c) (argP m c) (((cfg0.win 7).blk t).view.emb (ix2 (0 : Fin 1) f))
    rw [after0_7]
    have h1 : ((((cfg0.win 7).blk t).view.emb (ix2 (0 : Fin 1) f)) 1).val = f.val := by
      show win0_7.index t (1 : Fin 2) * 1024 + 1 * f.val = _; omega
    have hN : t.val < 16 := lt_of_lt_of_eq t.isLt (show cfg0.N = 16 from N_0)
    have ht := (flush0_7 t).mp hf
    have e : 512 * ((t.val + 1) / 4) = 2048 := by omega
    have p := point7 m c f t.val t.isLt
    rw [e] at p
    unfold scales
    rw [h1]
    exact Eq.trans rfl p
  · have hl0 : (i 0).val < 1 := (i 0).isLt
    have hl1 : (i 1).val < 1024 := (i 1).isLt
    let t : Fin cfg0.N := ⟨15, by show _ < grid0.N; rw [N_0]; omega⟩
    have ht : t.val = 15 := rfl
    refine ⟨t, (flush0_7 t).mpr (by rw [ht]), ?_⟩
    obtain ⟨-, -, -, -, -, -, -, ⟨e0, e1⟩, -⟩ := index0 t
    show i ∈ ((View.whole main_v2_2).slice (win0_7.rect t)).set
    rw [View.set_slice_whole, Rect.mem_set_unit]
    intro a
    match a with
    | ⟨0, _⟩ => show win0_7.index t (0 : Fin 2) * 1 ≤ (i 0).val ∧ (i 0).val < win0_7.index t (0 : Fin 2) * 1 + 1; omega
    | ⟨1, _⟩ => show win0_7.index t (1 : Fin 2) * 1024 ≤ (i 1).val ∧ (i 1).val < win0_7.index t (1 : Fin 2) * 1024 + 1024; omega

/-- What the call leaves in result 3. -/
theorem value8 : ((dats m 0 c).arrAt 8 cfg0.N : S1x1024.Idx → EReal) = gains (argD m c) (argW m c) (argX m c) (argP m c) := by
  refine (dats m 0 c).arrAt_eq_of_cover 8 (gains (argD m c) (argW m c) (argX m c) (argP m c)) (fun t hf => ?_) (fun i => ?_)
  · funext y
    obtain ⟨-, -, -, -, -, -, -, -, ⟨e0, e1⟩⟩ := index0 t
    obtain ⟨r, f, rfl⟩ : ∃ (r : Fin 1) (f : Fin 1024), y = ix2 r f := ⟨y 0, y 1, ix2_self y⟩
    obtain rfl : r = 0 := Subsingleton.elim _ _
    show (cfg0.win 8).cut (grid0.coords t) ((dats m 0 c).after 8 t) (ix2 (0 : Fin 1) f) = gains (argD m c) (argW m c) (argX m c) (argP m c) (((cfg0.win 8).blk t).view.emb (ix2 (0 : Fin 1) f))
    rw [after0_8]
    have h1 : ((((cfg0.win 8).blk t).view.emb (ix2 (0 : Fin 1) f)) 1).val = f.val := by
      show win0_8.index t (1 : Fin 2) * 1024 + 1 * f.val = _; omega
    have hN : t.val < 16 := lt_of_lt_of_eq t.isLt (show cfg0.N = 16 from N_0)
    have ht := (flush0_8 t).mp hf
    have e : 512 * ((t.val + 1) / 4) = 2048 := by omega
    have p := point8 m c f t.val t.isLt
    rw [e] at p
    unfold gains
    rw [h1]
    exact Eq.trans rfl p
  · have hl0 : (i 0).val < 1 := (i 0).isLt
    have hl1 : (i 1).val < 1024 := (i 1).isLt
    let t : Fin cfg0.N := ⟨15, by show _ < grid0.N; rw [N_0]; omega⟩
    have ht : t.val = 15 := rfl
    refine ⟨t, (flush0_8 t).mpr (by rw [ht]), ?_⟩
    obtain ⟨-, -, -, -, -, -, -, -, ⟨e0, e1⟩⟩ := index0 t
    show i ∈ ((View.whole main_v2_3).slice (win0_8.rect t)).set
    rw [View.set_slice_whole, Rect.mem_set_unit]
    intro a
    match a with
    | ⟨0, _⟩ => show win0_8.index t (0 : Fin 2) * 1 ≤ (i 0).val ∧ (i 0).val < win0_8.index t (0 : Fin 2) * 1 + 1; omega
    | ⟨1, _⟩ => show win0_8.index t (1 : Fin 2) * 1024 ≤ (i 1).val ∧ (i 1).val < win0_8.index t (1 : Fin 2) * 1024 + 1024; omega

section

open Cert.Reference4Ideal Cert.Reference4Ideal.Gen Cert.Reference4Ideal.Read

theorem lhs_0 (i : Cert.Reference4Ideal.S2048x1024.Idx) (q : dot_S4x2x704x2048_S4x2x1024x704_S2048x1024_012_013_3_2_n_n.contr.Idx) : (dot_S4x2x704x2048_S4x2x1024x704_S2048x1024_012_013_3_2_n_n.lhsIdx i q 0).val = (q ⟨0, by decide⟩).val := by
  unfold DotDims.lhsIdx
  rw [dif_neg (show ¬(0 : Fin Cert.Reference4Ideal.S4x2x704x2048.rank) ∈ dot_S4x2x704x2048_S4x2x1024x704_S2048x1024_012_013_3_2_n_n.lhsBatch by decide), dif_neg (show ¬(0 : Fin Cert.Reference4Ideal.S4x2x704x2048.rank) ∈ dot_S4x2x704x2048_S4x2x1024x704_S2048x1024_012_013_3_2_n_n.lhsNonContracting by decide)]
  rfl
theorem lhs_1 (i : Cert.Reference4Ideal.S2048x1024.Idx) (q : dot_S4x2x704x2048_S4x2x1024x704_S2048x1024_012_013_3_2_n_n.contr.Idx) : (dot_S4x2x704x2048_S4x2x1024x704_S2048x1024_012_013_3_2_n_n.lhsIdx i q 1).val = (q ⟨1, by decide⟩).val := by
  unfold DotDims.lhsIdx
  rw [dif_neg (show ¬(1 : Fin Cert.Reference4Ideal.S4x2x704x2048.rank) ∈ dot_S4x2x704x2048_S4x2x1024x704_S2048x1024_012_013_3_2_n_n.lhsBatch by decide), dif_neg (show ¬(1 : Fin Cert.Reference4Ideal.S4x2x704x2048.rank) ∈ dot_S4x2x704x2048_S4x2x1024x704_S2048x1024_012_013_3_2_n_n.lhsNonContracting by decide)]
  rfl
theorem lhs_2 (i : Cert.Reference4Ideal.S2048x1024.Idx) (q : dot_S4x2x704x2048_S4x2x1024x704_S2048x1024_012_013_3_2_n_n.contr.Idx) : (dot_S4x2x704x2048_S4x2x1024x704_S2048x1024_012_013_3_2_n_n.lhsIdx i q 2).val = (q ⟨2, by decide⟩).val := by
  unfold DotDims.lhsIdx
  rw [dif_neg (show ¬(2 : Fin Cert.Reference4Ideal.S4x2x704x2048.rank) ∈ dot_S4x2x704x2048_S4x2x1024x704_S2048x1024_012_013_3_2_n_n.lhsBatch by decide), dif_neg (show ¬(2 : Fin Cert.Reference4Ideal.S4x2x704x2048.rank) ∈ dot_S4x2x704x2048_S4x2x1024x704_S2048x1024_012_013_3_2_n_n.lhsNonContracting by decide)]
  rfl
theorem lhs_3 (i : Cert.Reference4Ideal.S2048x1024.Idx) (q : dot_S4x2x704x2048_S4x2x1024x704_S2048x1024_012_013_3_2_n_n.contr.Idx) : (dot_S4x2x704x2048_S4x2x1024x704_S2048x1024_012_013_3_2_n_n.lhsIdx i q 3).val = (i 0).val := by
  unfold DotDims.lhsIdx
  rw [dif_neg (show ¬(3 : Fin Cert.Reference4Ideal.S4x2x704x2048.rank) ∈ dot_S4x2x704x2048_S4x2x1024x704_S2048x1024_012_013_3_2_n_n.lhsBatch by decide), dif_pos (show (3 : Fin Cert.Reference4Ideal.S4x2x704x2048.rank) ∈ dot_S4x2x704x2048_S4x2x1024x704_S2048x1024_012_013_3_2_n_n.lhsNonContracting by decide)]
  rfl
theorem rhs_0 (i : Cert.Reference4Ideal.S2048x1024.Idx) (q : dot_S4x2x704x2048_S4x2x1024x704_S2048x1024_012_013_3_2_n_n.contr.Idx) : (dot_S4x2x704x2048_S4x2x1024x704_S2048x1024_012_013_3_2_n_n.rhsIdx i q 0).val = (q ⟨0, by decide⟩).val := by
  unfold DotDims.rhsIdx
  rw [dif_neg (show ¬(0 : Fin Cert.Reference4Ideal.S4x2x1024x704.rank) ∈ dot_S4x2x704x2048_S4x2x1024x704_S2048x1024_012_013_3_2_n_n.rhsBatch by decide), dif_neg (show ¬(0 : Fin Cert.Reference4Ideal.S4x2x1024x704.rank) ∈ dot_S4x2x704x2048_S4x2x1024x704_S2048x1024_012_013_3_2_n_n.rhsNonContracting by decide)]
  rfl
theorem rhs_1 (i : Cert.Reference4Ideal.S2048x1024.Idx) (q : dot_S4x2x704x2048_S4x2x1024x704_S2048x1024_012_013_3_2_n_n.contr.Idx) : (dot_S4x2x704x2048_S4x2x1024x704_S2048x1024_012_013_3_2_n_n.rhsIdx i q 1).val = (q ⟨1, by decide⟩).val := by
  unfold DotDims.rhsIdx
  rw [dif_neg (show ¬(1 : Fin Cert.Reference4Ideal.S4x2x1024x704.rank) ∈ dot_S4x2x704x2048_S4x2x1024x704_S2048x1024_012_013_3_2_n_n.rhsBatch by decide), dif_neg (show ¬(1 : Fin Cert.Reference4Ideal.S4x2x1024x704.rank) ∈ dot_S4x2x704x2048_S4x2x1024x704_S2048x1024_012_013_3_2_n_n.rhsNonContracting by decide)]
  rfl
theorem rhs_2 (i : Cert.Reference4Ideal.S2048x1024.Idx) (q : dot_S4x2x704x2048_S4x2x1024x704_S2048x1024_012_013_3_2_n_n.contr.Idx) : (dot_S4x2x704x2048_S4x2x1024x704_S2048x1024_012_013_3_2_n_n.rhsIdx i q 2).val = (i 1).val := by
  unfold DotDims.rhsIdx
  rw [dif_neg (show ¬(2 : Fin Cert.Reference4Ideal.S4x2x1024x704.rank) ∈ dot_S4x2x704x2048_S4x2x1024x704_S2048x1024_012_013_3_2_n_n.rhsBatch by decide), dif_pos (show (2 : Fin Cert.Reference4Ideal.S4x2x1024x704.rank) ∈ dot_S4x2x704x2048_S4x2x1024x704_S2048x1024_012_013_3_2_n_n.rhsNonContracting by decide)]
  rfl
theorem rhs_3 (i : Cert.Reference4Ideal.S2048x1024.Idx) (q : dot_S4x2x704x2048_S4x2x1024x704_S2048x1024_012_013_3_2_n_n.contr.Idx) : (dot_S4x2x704x2048_S4x2x1024x704_S2048x1024_012_013_3_2_n_n.rhsIdx i q 3).val = (q ⟨2, by decide⟩).val := by
  unfold DotDims.rhsIdx
  rw [dif_neg (show ¬(3 : Fin Cert.Reference4Ideal.S4x2x1024x704.rank) ∈ dot_S4x2x704x2048_S4x2x1024x704_S2048x1024_012_013_3_2_n_n.rhsBatch by decide), dif_neg (show ¬(3 : Fin Cert.Reference4Ideal.S4x2x1024x704.rank) ∈ dot_S4x2x704x2048_S4x2x1024x704_S2048x1024_012_013_3_2_n_n.rhsNonContracting by decide)]
  rfl

/-- A sum over the contracted axes is a sum over each. -/
theorem sum_axes {s : Shape} (hs : s = ⟨3, ![4, 2, 704]⟩) (h0 : 0 < s.rank) (h1 : 1 < s.rank) (h2 : 2 < s.rank) (g : ℕ → ℕ → ℕ → EReal) :
    ∑ q : s.Idx, g (q ⟨0, h0⟩).val (q ⟨1, h1⟩).val (q ⟨2, h2⟩).val = ∑ a : Fin 4, ∑ b : Fin 2, ∑ k : Fin 704, g a.val b.val k.val := by
  subst hs
  exact sum_idx3 (n0 := 4) (n1 := 2) (n2 := 704) fun q => g (q 0).val (q 1).val (q 2).val

/-- The reference's product, over the shards, the two projections and their columns. -/
theorem ref_back (d : Cert.Reference4Ideal.S4x2x2048x704.Idx → EReal) (w : Cert.Reference4Ideal.S4x2x1024x704.Idx → EReal) (i : Cert.Reference4Ideal.S2048x1024.Idx) :
    (val_main_v33 (F := Ideal) d w i : EReal) = back d w (i 0).val (i 1).val := by
  unfold val_main_v33
  simp only [Host.dotGeneral]
  rw [Ideal.dotGeneral_apply]
  refine (Finset.sum_congr rfl fun q _ => congrArg₂ (fun a b : EReal => a * b) ((val_main_v32_apply (F := Ideal) d (dot_S4x2x704x2048_S4x2x1024x704_S2048x1024_012_013_3_2_n_n.lhsIdx i q)).trans (at4_eq d _ (lhs_0 i q) (lhs_1 i q) (lhs_3 i q) (lhs_2 i q))) (at4_eq w _ (rhs_0 i q) (rhs_1 i q) (rhs_2 i q) (rhs_3 i q))).trans ?_
  refine (sum_axes (s := dot_S4x2x704x2048_S4x2x1024x704_S2048x1024_012_013_3_2_n_n.contr) (congrArg (fun z : Fin 3 → ℕ => (⟨3, z⟩ : Shape)) (funext fun a => match a with | ⟨0, _⟩ => rfl | ⟨1, _⟩ => rfl | ⟨2, _⟩ => rfl)) (by decide) (by decide) (by decide) fun a b k => at4 d a b (i 0).val k * at4 w a b (i 1).val k).trans ?_
  unfold back part
  rw [Finset.sum_range]
  exact Finset.sum_congr rfl fun s _ => Fin.sum_univ_two _

end

open Cert.Reference4Ideal.Read

section

variable (d : Cert.Reference4Ideal.S4x2x2048x704.Idx → EReal) (w : Cert.Reference4Ideal.S4x2x1024x704.Idx → EReal) (x o : Cert.Reference4Ideal.S2048x1024.Idx → EReal)
  (p : Cert.Reference4Ideal.S8x1024.Idx → EReal)

theorem zero_word : (FloatOps.ofBits (F := Ideal) .f32 0x00000000#32 : EReal) = 0 := Ideal.ofBits_zero_f32

/-- The reference's mean square with the constant added, and its reciprocal root. -/
theorem ref_spread (j : Cert.Reference4Ideal.S2048x1.Idx) : (val_main_v12 (F := Ideal) x j : EReal)
    = Ideal.div (∑ k : Fin 1024, at2 x (j 0).val k.val * at2 x (j 0).val k.val) (Ideal.ofBits .f32 0x44800000#32) + Ideal.ofBits .f32 0x358637BD#32 := by
  simp only [val_main_v12_apply, val_main_v11_apply, val_main_cst_1_apply, val_main_v10_apply, val_main_v9_apply, val_main_cst_0_apply, val_main_v8_apply, val_main_v7_apply, val_main_v6_apply, val_main_cst_apply]
  have hx : ∀ k : Fin 1024, x (idx_main_v7 (idx_main_v8 j) k) = at2 x (j 0).val k.val := fun k => at2_eq x _ rfl rfl
  simp only [hx]
  rw [zero_word, zero_add]
  rfl

theorem ref_root (j : Cert.Reference4Ideal.S2048x1.Idx) : (val_main_v13 (F := Ideal) x j : EReal) = root (at2 x (j 0).val) := by
  rw [val_main_v13_apply, ref_spread]
  rfl

/-- The reference's normalised tokens, its gradient of the norm's result, and that times the gain. -/
theorem ref_norm (i : Cert.Reference4Ideal.S2048x1024.Idx) : (val_main_v18 (F := Ideal) x i : EReal) = at2 x (i 0).val (i 1).val * root (at2 x (i 0).val) := by
  rw [val_main_v18_apply, val_main_v17_apply, ref_root]
  exact congrArg₂ (fun a b : EReal => a * b) (at2_eq x i rfl rfl) rfl

theorem ref_scaled (i : Cert.Reference4Ideal.S2048x1024.Idx) : (val_main_v41 (F := Ideal) d w p i : EReal) = scaled (back d w (i 0).val (i 1).val) (at2 p 3 (i 1).val) := by
  simp only [val_main_v41_apply, val_main_v40_apply, val_main_v24_apply, val_main_v23_apply, val_main_v22_apply, val_main_cst_3_apply, val_main_v5_apply, val_main_v4_apply, ref_back]
  rw [at2_eq p _ rfl (Nat.mod_eq_of_lt (i 1).isLt)]
  rfl

theorem ref_gain (i : Cert.Reference4Ideal.S2048x1024.Idx) : (val_main_v47 (F := Ideal) d w p i : EReal)
    = scaled (back d w (i 0).val (i 1).val) (at2 p 3 (i 1).val) * at2 p 0 (i 1).val := by
  simp only [val_main_v47_apply, val_main_v46_apply, val_main_v19_apply, val_main_v1_apply, val_main_v0_apply, ref_scaled]
  exact congrArg₂ (fun a b : EReal => a * b) rfl (at2_eq p _ rfl (Nat.mod_eq_of_lt (i 1).isLt))

/-- The sum over a token's features. -/
theorem ref_sum (j : Cert.Reference4Ideal.S2048x1.Idx) : (val_main_v51 (F := Ideal) d w x p j : EReal)
    = ∑ k : Fin 1024, at2 x (j 0).val k.val * (scaled (back d w (j 0).val k.val) (at2 p 3 k.val) * at2 p 0 k.val) := by
  have h : (j 1).val < 1 := (j 1).isLt
  have e : (idx_main_v51 j 0).val = (j 0).val := by
    show (j 0).val * 1 + (j 1).val = _
    omega
  simp only [val_main_v51_apply, val_main_v50_apply, val_main_cst_10_apply, val_main_v49_apply, ref_gain]
  rw [zero_word, zero_add]
  refine Finset.sum_congr rfl fun k _ => congrArg₂ (fun a b : EReal => a * b) (at2_eq x _ e rfl) ?_
  show scaled (back d w (idx_main_v51 j 0).val k.val) (at2 p 3 k.val) * at2 p 0 k.val = _
  rw [e]

/-- The reference's four results. -/
theorem reference0 : val_main_v63 (F := Ideal) d w x o p = tokens d w x o p := by
  funext i
  simp only [val_main_v63_apply, val_main_v62_apply, val_main_v61_apply, val_main_v60_apply, val_main_v59_apply, val_main_v58_apply, val_main_cst_12_apply, val_main_v57_apply, val_main_v56_apply, val_main_cst_11_apply, val_main_v55_apply, val_main_v54_apply, val_main_v53_apply, val_main_v52_apply, val_main_v16_apply, val_main_v15_apply, val_main_cst_2_apply, val_main_v14_apply, Fin.sum_univ_one, ref_sum, ref_root, ref_spread, ref_gain]
  have hx : x i = at2 x (i 0).val (i 1).val := at2_eq x i rfl rfl
  have ho : o i = at2 o (i 0).val (i 1).val := at2_eq o i rfl rfl
  rw [hx, ho, zero_word]
  have r := norm_rule _ (at2 o (i 0).val (i 1).val) (fun k : Fin 1024 => scaled (back d w (i 0).val k.val) (at2 p 3 k.val) * at2 p 0 k.val)
    (fun k : Fin 1024 => at2 x (i 0).val k.val) (i 1) (spread fun k : Fin 1024 => at2 x (i 0).val k.val)
  refine Eq.trans ?_ r.symm
  rw [zero_add]
  rfl

theorem reference1 : val_main_v64 (F := Ideal) d w = shifts d w := by
  funext i
  have h0 : (i 0).val < 1 := (i 0).isLt
  have e : ((idx_main_v35 (idx_main_v36 (idx_main_v64 i) 0)) 0).val = (i 1).val := by
    show 0 * 1024 + ((i 0).val * 1024 + (i 1).val) = _
    omega
  simp only [val_main_v64_apply, val_main_v36_apply, val_main_cst_5_apply, val_main_v35_apply, val_main_v34_apply, val_main_cst_4_apply, Fin.sum_univ_one, ref_back]
  rw [zero_word, zero_add, zero_add]
  unfold shifts
  rw [Finset.sum_range]
  refine Finset.sum_congr rfl fun r _ => ?_
  show back d w r.val ((idx_main_v35 (idx_main_v36 (idx_main_v64 i) 0)) 0).val = back d w r.val (i 1).val
  rw [e]

theorem reference2 : val_main_v65 (F := Ideal) d w x p = scales d w x p := by
  funext i
  have h0 : (i 0).val < 1 := (i 0).isLt
  have e : ((idx_main_v39 (idx_main_v42 (idx_main_v65 i) 0)) 0).val = (i 1).val := by
    show 0 * 1024 + ((i 0).val * 1024 + (i 1).val) = _
    omega
  simp only [val_main_v65_apply, val_main_v42_apply, val_main_cst_7_apply, val_main_v39_apply, val_main_v38_apply, val_main_cst_6_apply, val_main_v37_apply, val_main_v21_apply, val_main_v20_apply, val_main_v19_apply, val_main_v1_apply, val_main_v0_apply, Fin.sum_univ_one, ref_norm, ref_back]
  rw [zero_word, zero_add, zero_add]
  unfold scales
  rw [Finset.sum_range]
  refine Finset.sum_congr rfl fun r _ => ?_
  rw [at2_eq p _ rfl (Nat.mod_eq_of_lt ((idx_main_v39 (idx_main_v42 (idx_main_v65 i) 0)) 0).isLt)]
  show at2 x r.val ((idx_main_v39 (idx_main_v42 (idx_main_v65 i) 0)) 0).val * root (at2 x r.val) * at2 p 0 ((idx_main_v39 (idx_main_v42 (idx_main_v65 i) 0)) 0).val * back d w r.val ((idx_main_v39 (idx_main_v42 (idx_main_v65 i) 0)) 0).val = _
  rw [e]
  exact mul_comm _ _

theorem reference3 : val_main_v66 (F := Ideal) d w x p = gains d w x p := by
  funext i
  have h0 : (i 0).val < 1 := (i 0).isLt
  have e : ((idx_main_v45 (idx_main_v48 (idx_main_v66 i) 0)) 0).val = (i 1).val := by
    show 0 * 1024 + ((i 0).val * 1024 + (i 1).val) = _
    omega
  simp only [val_main_v66_apply, val_main_v48_apply, val_main_cst_9_apply, val_main_v45_apply, val_main_v44_apply, val_main_cst_8_apply, val_main_v43_apply, Fin.sum_univ_one, ref_norm, ref_scaled]
  rw [zero_word, zero_add, zero_add]
  unfold gains
  rw [Finset.sum_range]
  refine Finset.sum_congr rfl fun r _ => ?_
  show at2 x r.val ((idx_main_v45 (idx_main_v48 (idx_main_v66 i) 0)) 0).val * root (at2 x r.val) * scaled (back d w r.val ((idx_main_v45 (idx_main_v48 (idx_main_v66 i) 0)) 0).val) (at2 p 3 ((idx_main_v45 (idx_main_v48 (idx_main_v66 i) 0)) 0).val) = _
  rw [e]
  exact mul_comm _ _

end

theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => tokens (argD m c) (argW m c) (argX m c) (argO m c) (argP m c), fun c => shifts (argD m c) (argW m c),
    fun c => scales (argD m c) (argW m c) (argX m c) (argP m c), fun c => gains (argD m c) (argW m c) (argX m c) (argP m c), ?_, ?_⟩
  · exact (θ_run Cert.Kernel4Ideal.defs _ _).mono (fun _ h c => ⟨(h c).1.trans (value5 m c), (h c).2.1.trans (value6 m c), (h c).2.2.1.trans (value7 m c),
      (h c).2.2.2.1.trans (value8 m c), (h c).2.2.2.2⟩) (run_blocks m g)
  · refine (θ_run Cert.Reference4Ideal.defs _ _).mono (fun _ h c => ?_) (Cert.Reference4Ideal.Value.run (F := Ideal) m' g')
    obtain ⟨h0, h1, h2, h3, ha⟩ := h c
    obtain ⟨a0, a1, a2, a3, a4⟩ := hargs c
    refine ⟨h0.trans ((val_main_v63_eq _ _).trans ?_), h1.trans ((val_main_v64_eq _ _).trans ?_),
      h2.trans ((val_main_v65_eq _ _ _ _).trans ?_), h3.trans ((val_main_v66_eq _ _ _ _).trans ?_), ha⟩
    · rw [a0, a1, a2, a3, a4]
      exact reference0 _ _ _ _ _
    · rw [a0, a1]
      exact reference1 _ _
    · rw [a0, a1, a2, a4]
      exact reference2 _ _ _ _
    · rw [a0, a1, a2, a4]
      exact reference3 _ _ _ _

end Cert.Ffn.Input

end
-- ==== Proof.Ffn.DownWeights.lean ====
/- The gradient of the down weights' call: its result is the product of the gated products with the gradient of the layer's
   output, summed over the tokens. -/
module

public import proofs.«01_k».proof.Proof.Ffn.Index
public import proofs.«01_k».proof.Proof.Gen.Kernel5Ideal.Value
public import proofs.«01_k».proof.Proof.Gen.Reference5Ideal.Run
public import proofs.«01_k».proof.Proof.Gen.Reference5Ideal.Read
public import Idealize.ShloMosaic.Lib.StableHlo.Run
public import proofs.«01_k».proof.Defs

@[expose] public section

set_option maxRecDepth 16384

noncomputable section

namespace Cert.Ffn.Weights5

open Cert.Kernel5Ideal Cert.Kernel5Ideal.Gen Cert.Kernel5Ideal.Value Cert.Ffn Idealize.ShloMosaic Idealize.ShloMosaic.TcCoe Idealize.ShloMosaic.StableHlo

/-- The result, from the call's two arguments. -/
def result (x : S4x2048x704.Idx → EReal) (y : S2048x1024.Idx → EReal) (i : S2x4x704x512.Idx) : EReal :=
  ∑ k : Fin 2048, at3 x (i 1).val k.val (i 2).val * at2 y k.val (512 * (i 0).val + (i 3).val)

/-- One grid point's product, at an index. -/
theorem product (x0 : Vec Ideal S1x2048x704 .bf16) (x1 : Vec Ideal S1x2048x512 .bf16) (f : Fin 704) (d : Fin 512) :
    k0_pay1 x0 x1 (ix4 (0 : Fin 1) (0 : Fin 1) f d) = ∑ k : Fin 2048, (x0 (ix3 (0 : Fin 1) k f) : EReal) * x1 (ix3 (0 : Fin 1) k d) := by
  pointwise [k0_pay1]

variable (m : (ℓ : Loc nD τ sig) → Buf (Elt Ideal) ℓ) (ρ : Dev nD → PrngReg) (c : Dev nD)

/-- The first argument. -/
abbrev argX : S4x2048x704.Idx → EReal := m ((c : Thread nD τ).loc main_arg0)
/-- The second argument. -/
abbrev argY : S2048x1024.Idx → EReal := m ((c : Thread nD τ).loc main_arg1)

theorem entry_x : V m c main_v0 = argX m c := by
  simp only [V, hostOps0]
  after_results_simp
  rfl

theorem entry_y : V m c main_v2 = broadcastInDim S1x2048x1024 ![1, 2] bcast_S2048x1024_S1x2048x1024_1_2 (argY m c) := by
  simp only [V, hostOps0]
  after_results_simp
  rfl

/-- The windows' blocks at each grid point. -/
theorem index0 : ∀ t : Fin cfg0.N, (win0_0.index t 0 = t.val / 2 ∧ win0_0.index t 1 = 0 ∧ win0_0.index t 2 = 0)
    ∧ (win0_1.index t 0 = 0 ∧ win0_1.index t 1 = 0 ∧ win0_1.index t 2 = t.val % 2)
    ∧ (win0_2.index t 0 = t.val % 2 ∧ win0_2.index t 1 = t.val / 2 ∧ win0_2.index t 2 = 0 ∧ win0_2.index t 3 = 0) :=
  (by decide +kernel : ∀ t : Fin grid0.N, _)

theorem read_x (t : Fin cfg0.N) (k : Fin 2048) (f : Fin 704) :
    (iblk m c 0 t : S1x2048x704.Idx → EReal) (ix3 (0 : Fin 1) k f) = at3 (argX m c) (t.val / 2) k.val f.val := by
  obtain ⟨⟨e0, e1, e2⟩, -, -⟩ := index0 t
  refine (congrFun (entry_x m c) (((cfg0.win 0).blk t).view.emb (ix3 (0 : Fin 1) k f))).trans ?_
  have h0 : ((((cfg0.win 0).blk t).view.emb (ix3 (0 : Fin 1) k f)) 0).val = t.val / 2 := by
    show win0_0.index t (0 : Fin 3) * 1 + 1 * 0 = _; omega
  have h1 : ((((cfg0.win 0).blk t).view.emb (ix3 (0 : Fin 1) k f)) 1).val = k.val := by
    show win0_0.index t (1 : Fin 3) * 2048 + 1 * k.val = _; omega
  have h2 : ((((cfg0.win 0).blk t).view.emb (ix3 (0 : Fin 1) k f)) 2).val = f.val := by
    show win0_0.index t (2 : Fin 3) * 704 + 1 * f.val = _; omega
  exact at3_eq _ _ h0 h1 h2

theorem read_y (t : Fin cfg0.N) (k : Fin 2048) (d : Fin 512) :
    (iblk m c 1 t : S1x2048x512.Idx → EReal) (ix3 (0 : Fin 1) k d) = at2 (argY m c) k.val (512 * (t.val % 2) + d.val) := by
  obtain ⟨-, ⟨e0, e1, e2⟩, -⟩ := index0 t
  refine (congrFun (entry_y m c) (((cfg0.win 1).blk t).view.emb (ix3 (0 : Fin 1) k d))).trans ?_
  refine (broadcastInDim_apply _ _ (argY m c) _ (ix2 k ⟨512 * (t.val % 2) + d.val, by omega⟩) fun a => ?_).trans (at2_eq _ _ rfl rfl)
  match a with
  | ⟨0, _⟩ =>
    have h1 : ((((cfg0.win 1).blk t).view.emb (ix3 (0 : Fin 1) k d)) 1).val = k.val := by
      show win0_1.index t (1 : Fin 3) * 2048 + 1 * k.val = _; omega
    simpa using h1.symm
  | ⟨1, _⟩ =>
    have h2 : ((((cfg0.win 1).blk t).view.emb (ix3 (0 : Fin 1) k d)) 2).val = 512 * (t.val % 2) + d.val := by
      show win0_1.index t (2 : Fin 3) * 512 + 1 * d.val = _; omega
    simpa using h2.symm

/-- One grid point's block. -/
theorem point (t : Fin cfg0.N) (f : Fin 704) (d : Fin 512) :
    (out0_2 (iblk m c 0 t) (iblk m c 1 t) : S1x1x704x512.Idx → EReal) (ix4 (0 : Fin 1) (0 : Fin 1) f d)
      = ∑ k : Fin 2048, at3 (argX m c) (t.val / 2) k.val f.val * at2 (argY m c) k.val (512 * (t.val % 2) + d.val) := by
  unfold out0_2
  rw [View.canon_unit_zero (by decide), View.ld_unit_zero (by decide), View.ld_unit_zero (by decide)]
  exact (product _ _ f d).trans (Finset.sum_congr rfl fun k _ => by rw [read_x, read_y])

/-- What the call leaves in its result. -/
theorem value : ((dats m 0 c).arrAt 2 cfg0.N : S2x4x704x512.Idx → EReal) = result (argX m c) (argY m c) := by
  refine (dats m 0 c).arrAt_eq_of_cover 2 (result (argX m c) (argY m c)) (fun t hf => ?_) (fun i => ?_)
  · funext y
    obtain ⟨-, -, ⟨e0, e1, e2, e3⟩⟩ := index0 t
    obtain ⟨z, z', f, d, rfl⟩ : ∃ (z : Fin 1) (z' : Fin 1) (f : Fin 704) (d : Fin 512), y = ix4 z z' f d := ⟨y 0, y 1, y 2, y 3, ix4_self y⟩
    obtain rfl : z = 0 := Subsingleton.elim _ _
    obtain rfl : z' = 0 := Subsingleton.elim _ _
    show (cfg0.win 2).cut (grid0.coords t) ((dats m 0 c).after 2 t) (ix4 0 0 f d)
      = result (argX m c) (argY m c) (((cfg0.win 2).blk t).view.emb (ix4 (0 : Fin 1) (0 : Fin 1) f d))
    rw [after0_2]
    have h0 : ((((cfg0.win 2).blk t).view.emb (ix4 (0 : Fin 1) (0 : Fin 1) f d)) 0).val = t.val % 2 := by
      show win0_2.index t (0 : Fin 4) * 1 + 1 * 0 = _; omega
    have h1 : ((((cfg0.win 2).blk t).view.emb (ix4 (0 : Fin 1) (0 : Fin 1) f d)) 1).val = t.val / 2 := by
      show win0_2.index t (1 : Fin 4) * 1 + 1 * 0 = _; omega
    have h2 : ((((cfg0.win 2).blk t).view.emb (ix4 (0 : Fin 1) (0 : Fin 1) f d)) 2).val = f.val := by
      show win0_2.index t (2 : Fin 4) * 704 + 1 * f.val = _; omega
    have h3 : ((((cfg0.win 2).blk t).view.emb (ix4 (0 : Fin 1) (0 : Fin 1) f d)) 3).val = d.val := by
      show win0_2.index t (3 : Fin 4) * 512 + 1 * d.val = _; omega
    unfold result
    rw [h0, h1, h2, h3]
    exact Eq.trans rfl (point m c t f d)
  · have hl0 : (i 0).val < 2 := (i 0).isLt
    have hl1 : (i 1).val < 4 := (i 1).isLt
    have hl2 : (i 2).val < 704 := (i 2).isLt
    have hl3 : (i 3).val < 512 := (i 3).isLt
    let t : Fin cfg0.N := ⟨2 * (i 1).val + (i 0).val, by show _ < grid0.N; rw [N_0]; omega⟩
    have ht : t.val = 2 * (i 1).val + (i 0).val := rfl
    refine ⟨t, flush0_2 t, ?_⟩
    obtain ⟨-, -, ⟨e0, e1, e2, e3⟩⟩ := index0 t
    show i ∈ ((View.whole main_v3).slice (win0_2.rect t)).set
    rw [View.set_slice_whole, Rect.mem_set_unit]
    intro a
    match a with
    | ⟨0, _⟩ => show win0_2.index t (0 : Fin 4) * 1 ≤ (i 0).val ∧ (i 0).val < win0_2.index t (0 : Fin 4) * 1 + 1; omega
    | ⟨1, _⟩ => show win0_2.index t (1 : Fin 4) * 1 ≤ (i 1).val ∧ (i 1).val < win0_2.index t (1 : Fin 4) * 1 + 1; omega
    | ⟨2, _⟩ => show win0_2.index t (2 : Fin 4) * 704 ≤ (i 2).val ∧ (i 2).val < win0_2.index t (2 : Fin 4) * 704 + 704; omega
    | ⟨3, _⟩ => show win0_2.index t (3 : Fin 4) * 512 ≤ (i 3).val ∧ (i 3).val < win0_2.index t (3 : Fin 4) * 512 + 512; omega

/-- The reference's result. -/
theorem reference (x : S4x2048x704.Idx → EReal) (y : S2048x1024.Idx → EReal) :
    Cert.Reference5Ideal.Read.val_main_v5 (F := Ideal) x y = result x y := by
  funext i
  have h0 : (i 0).val < 2 := (i 0).isLt
  have h3 : (i 3).val < 512 := (i 3).isLt
  have h2 : (i 2).val < 704 := (i 2).isLt
  rw [Cert.Reference5Ideal.Read.val_main_v5_apply, Cert.Reference5Ideal.Read.val_main_v4_apply, Cert.Reference5Ideal.Read.val_main_v3_apply,
    Cert.Reference5Ideal.Read.val_main_v2_apply]
  unfold result
  refine Finset.sum_congr rfl fun k _ => ?_
  rw [mul_comm]
  exact congrArg₂ (· * ·) (at3_eq x _ (by show ((((i 1).val * 704 + (i 2).val) * 2 + (i 0).val) * 512 + (i 3).val) / 720896 = _; omega) rfl (by show ((((i 1).val * 704 + (i 2).val) * 2 + (i 0).val) * 512 + (i 3).val) / 1024 % 704 = _; omega))
    (at2_eq y _ rfl (by show ((((i 1).val * 704 + (i 2).val) * 2 + (i 0).val) * 512 + (i 3).val) % 1024 = _; omega))

theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => result (argX m c) (argY m c), ?_, ?_⟩
  · exact (θ_run Cert.Kernel5Ideal.defs _ _).mono (fun _ h c => ⟨(h c).1.trans (value m c), (h c).2⟩) (run_blocks m g)
  · refine (θ_run Cert.Reference5Ideal.defs _ _).mono (fun _ h c => ?_) (Cert.Reference5Ideal.Value.run (F := Ideal) m' g')
    obtain ⟨h0, ha⟩ := h c
    obtain ⟨a0, a1⟩ := hargs c
    refine ⟨h0.trans ((Cert.Reference5Ideal.Read.val_main_v5_eq _ _).trans ?_), ha⟩
    rw [a0, a1]
    exact reference _ _

end Cert.Ffn.Weights5

end
-- ==== Proof.Ffn.Up.lean ====
/- The feed-forward network's first half: the tokens' products with the gate and the up projections' weights of each shard, and
   the gated activation of the two. -/
module

public import proofs.«01_k».proof.Proof.Ffn.Index
public import proofs.«01_k».proof.Proof.Gen.Kernel6Ideal.Value
public import proofs.«01_k».proof.Proof.Gen.Reference6Ideal.Run
public import proofs.«01_k».proof.Proof.Gen.Reference6Ideal.Read
public import proofs.«01_k».proof.Defs
public import Idealize.ShloMosaic.Lib.StableHlo.Run
public import Idealize.ShloMosaic.Lib.Pipeline.ValueKit.Tiles

@[expose] public section

set_option maxRecDepth 16384

noncomputable section

namespace Cert.Ffn.Up

open Cert.Kernel6Ideal Cert.Kernel6Ideal.Gen Cert.Kernel6Ideal.Value Cert.Ffn Idealize.ShloMosaic Idealize.ShloMosaic.TcCoe Idealize.ShloMosaic.StableHlo

/-- A projection of token `m` onto column `f`, for shard `s` and projection `g`. -/
def proj (x : S2048x1024.Idx → EReal) (y : S4x2x1024x704.Idx → EReal) (s g m f : ℕ) : EReal :=
  ∑ k : Fin 1024, at2 x m k.val * at4 y s g k.val f

/-- The two projections. -/
def projected (x : S2048x1024.Idx → EReal) (y : S4x2x1024x704.Idx → EReal) (i : S4x2x2048x704.Idx) : EReal :=
  proj x y (i 0).val (i 1).val (i 2).val (i 3).val

/-- The gated activation: the gate times its logistic, times the up projection. -/
def activated (x : S2048x1024.Idx → EReal) (y : S4x2x1024x704.Idx → EReal) (i : S4x2048x704.Idx) : EReal :=
  proj x y (i 0).val 0 (i 1).val (i 2).val * Ideal.logistic (proj x y (i 0).val 0 (i 1).val (i 2).val)
    * proj x y (i 0).val 1 (i 1).val (i 2).val

/-- One grid point's products, at an index. -/
theorem product (x0 : Vec Ideal S1024x1024 .bf16) (x1 : Vec Ideal S1x1x1024x704 .bf16) (r : Fin 1024) (d : Fin 704) :
    k0_pay2 x0 x1 (ix2 r d) = ∑ k : Fin 1024, (x0 (ix2 r k) : EReal) * x1 (ix4 (0 : Fin 1) (0 : Fin 1) k d) := by
  pointwise [k0_pay2, k0_pay1]

theorem product' (x0 : Vec Ideal S1024x1024 .bf16) (x1 : Vec Ideal S1x1x1024x704 .bf16) (r : Fin 1024) (d : Fin 704) :
    k0_pay3 x0 x1 (ix2 r d) = ∑ k : Fin 1024, (x0 (ix2 r k) : EReal) * x1 (ix4 (0 : Fin 1) (0 : Fin 1) k d) := by
  pointwise [k0_pay3, k0_pay1]

theorem stored (x0 : Vec Ideal S1024x1024 .bf16) (x1 : Vec Ideal S1x1x1024x704 .bf16) (r : Fin 1024) (d : Fin 704) :
    k0_pay4 x0 x1 (ix4 (0 : Fin 1) (0 : Fin 1) r d) = k0_pay2 x0 x1 (ix2 r d) := by
  unfold k0_pay4
  generalize k0_pay2 x0 x1 = P
  pointwise

theorem stored' (x0 : Vec Ideal S1024x1024 .bf16) (x1 : Vec Ideal S1x1x1024x704 .bf16) (r : Fin 1024) (d : Fin 704) :
    k0_pay5 x0 x1 (ix4 (0 : Fin 1) (0 : Fin 1) r d) = k0_pay3 x0 x1 (ix2 r d) := by
  unfold k0_pay5
  generalize k0_pay3 x0 x1 = P
  pointwise

theorem gated (x0 : Vec Ideal S1024x1024 .bf16) (x1 x2 : Vec Ideal S1x1x1024x704 .bf16) (r : Fin 1024) (d : Fin 704) :
    (k0_pay6 x0 x1 x2 (ix3 (0 : Fin 1) r d) : EReal)
      = k0_pay2 x0 x1 (ix2 r d) * Ideal.logistic (k0_pay2 x0 x1 (ix2 r d)) * k0_pay3 x0 x2 (ix2 r d) := by
  unfold k0_pay6
  generalize k0_pay2 x0 x1 = P
  generalize k0_pay3 x0 x2 = Q
  pointwise

/-- The two blocks a grid point stores. -/
theorem both (x0 : Vec Ideal S1024x1024 .bf16) (x1 x2 : Vec Ideal S1x1x1024x704 .bf16) (g : Fin 2) (r : Fin 1024) (d : Fin 704) :
    (out0_3 x0 x1 x2 (ix4 (0 : Fin 1) g r d) : EReal) = if g.val = 0 then k0_pay2 x0 x1 (ix2 r d) else k0_pay3 x0 x2 (ix2 r d) := by
  unfold out0_3
  rw [View.ld_unit_zero (by decide), View.ld_unit_zero (by decide), View.ld_unit_zero (by decide)]
  have tile (o : ℕ) (w : S1x1x1024x704.Idx → EReal) (z : EReal) (hw : o = g.val → w (ix4 (0 : Fin 1) (0 : Fin 1) r d) = z) :
      View.TileAt (Val := Elt Ideal) (e := .bf16) (ix4 (0 : Fin 1) g r d : S1x2x1024x704.Idx) ![0, o, 0, 0] S1x1x1024x704.size w z := by
    intro x hx
    have e1 : g.val = o + (x 1).val := hx 1
    have e2 : r.val = 0 + (x 2).val := hx 2
    have e3 : d.val = 0 + (x 3).val := hx 3
    have l0 : (x 0).val < 1 := (x 0).isLt
    have l1 : (x 1).val < 1 := (x 1).isLt
    have ex : x = ix4 (0 : Fin 1) (0 : Fin 1) r d := funext fun a => match a with
      | ⟨0, _⟩ => Fin.ext (by show (x 0).val = 0; omega)
      | ⟨1, _⟩ => Fin.ext (by show (x 1).val = 0; omega)
      | ⟨2, _⟩ => Fin.ext (by show (x 2).val = r.val; omega)
      | ⟨3, _⟩ => Fin.ext (by show (x 3).val = d.val; omega)
    rw [ex]
    exact hw (by omega)
  refine View.canon_eq_of_allAt _ _ _ (cover0_3 _ _ _) ?_
  refine View.allAt_cons_unit _ _ _ _ _ (tile 1 _ _ fun h => (stored' x0 x2 r d).trans (if_neg (by omega)).symm) ?_
  refine View.allAt_cons_unit _ _ _ _ _ (tile 0 _ _ fun h => (stored x0 x1 r d).trans (if_pos (by omega)).symm) ?_
  exact View.allAt_nil _ _

variable (m : (ℓ : Loc nD τ sig) → Buf (Elt Ideal) ℓ) (ρ : Dev nD → PrngReg) (c : Dev nD)

/-- Argument 0. -/
abbrev argX : S2048x1024.Idx → EReal := m ((c : Thread nD τ).loc main_arg0)
/-- Argument 1. -/
abbrev argY : S4x2x1024x704.Idx → EReal := m ((c : Thread nD τ).loc main_arg1)

theorem entry_x : V m c main_v0 = argX m c := by
  simp only [V, hostOps0]
  after_results_simp
  rfl

theorem entry_y : V m c main_v1 = argY m c := by
  simp only [V, hostOps0]
  after_results_simp
  rfl

/-- The windows' blocks at each grid point. -/
theorem index0 : ∀ t : Fin cfg0.N, (win0_0.index t 0 = t.val % 2 ∧ win0_0.index t 1 = 0)
    ∧ (win0_1.index t 0 = t.val / 2 ∧ win0_1.index t 1 = 0 ∧ win0_1.index t 2 = 0 ∧ win0_1.index t 3 = 0)
    ∧ (win0_2.index t 0 = t.val / 2 ∧ win0_2.index t 1 = 1 ∧ win0_2.index t 2 = 0 ∧ win0_2.index t 3 = 0)
    ∧ (win0_3.index t 0 = t.val / 2 ∧ win0_3.index t 1 = 0 ∧ win0_3.index t 2 = t.val % 2 ∧ win0_3.index t 3 = 0)
    ∧ (win0_4.index t 0 = t.val / 2 ∧ win0_4.index t 1 = t.val % 2 ∧ win0_4.index t 2 = 0) :=
  (by decide +kernel : ∀ t : Fin grid0.N, _)

theorem read_x (t : Fin cfg0.N) (r : Fin 1024) (k : Fin 1024) :
    (iblk m c 0 t : S1024x1024.Idx → EReal) (ix2 r k) = at2 (argX m c) (1024 * (t.val % 2) + r.val) k.val := by
  obtain ⟨⟨e0, e1⟩, -, -, -, -⟩ := index0 t
  refine (congrFun (entry_x m c) (((cfg0.win 0).blk t).view.emb (ix2 r k))).trans ?_
  have h0 : ((((cfg0.win 0).blk t).view.emb (ix2 r k)) 0).val = 1024 * (t.val % 2) + r.val := by
    show win0_0.index t (0 : Fin 2) * 1024 + 1 * r.val = _; omega
  have h1 : ((((cfg0.win 0).blk t).view.emb (ix2 r k)) 1).val = k.val := by
    show win0_0.index t (1 : Fin 2) * 1024 + 1 * k.val = _; omega
  exact at2_eq _ _ h0 h1

theorem read_y (t : Fin cfg0.N) (k : Fin 1024) (d : Fin 704) :
    (iblk m c 1 t : S1x1x1024x704.Idx → EReal) (ix4 (0 : Fin 1) (0 : Fin 1) k d) = at4 (argY m c) (t.val / 2) 0 k.val d.val := by
  obtain ⟨-, ⟨e0, e1, e2, e3⟩, -, -, -⟩ := index0 t
  refine (congrFun (entry_y m c) (((cfg0.win 1).blk t).view.emb (ix4 (0 : Fin 1) (0 : Fin 1) k d))).trans ?_
  have h0 : ((((cfg0.win 1).blk t).view.emb (ix4 (0 : Fin 1) (0 : Fin 1) k d)) 0).val = t.val / 2 := by
    show win0_1.index t (0 : Fin 4) * 1 + 1 * 0 = _; omega
  have h1 : ((((cfg0.win 1).blk t).view.emb (ix4 (0 : Fin 1) (0 : Fin 1) k d)) 1).val = 0 := by
    show win0_1.index t (1 : Fin 4) * 1 + 1 * 0 = _; omega
  have h2 : ((((cfg0.win 1).blk t).view.emb (ix4 (0 : Fin 1) (0 : Fin 1) k d)) 2).val = k.val := by
    show win0_1.index t (2 : Fin 4) * 1024 + 1 * k.val = _; omega
  have h3 : ((((cfg0.win 1).blk t).view.emb (ix4 (0 : Fin 1) (0 : Fin 1) k d)) 3).val = d.val := by
    show win0_1.index t (3 : Fin 4) * 704 + 1 * d.val = _; omega
  exact at4_eq _ _ h0 h1 h2 h3

theorem read_u (t : Fin cfg0.N) (k : Fin 1024) (d : Fin 704) :
    (iblk m c 2 t : S1x1x1024x704.Idx → EReal) (ix4 (0 : Fin 1) (0 : Fin 1) k d) = at4 (argY m c) (t.val / 2) 1 k.val d.val := by
  obtain ⟨-, -, ⟨e0, e1, e2, e3⟩, -, -⟩ := index0 t
  refine (congrFun (entry_y m c) (((cfg0.win 2).blk t).view.emb (ix4 (0 : Fin 1) (0 : Fin 1) k d))).trans ?_
  have h0 : ((((cfg0.win 2).blk t).view.emb (ix4 (0 : Fin 1) (0 : Fin 1) k d)) 0).val = t.val / 2 := by
    show win0_2.index t (0 : Fin 4) * 1 + 1 * 0 = _; omega
  have h1 : ((((cfg0.win 2).blk t).view.emb (ix4 (0 : Fin 1) (0 : Fin 1) k d)) 1).val = 1 := by
    show win0_2.index t (1 : Fin 4) * 1 + 1 * 0 = _; omega
  have h2 : ((((cfg0.win 2).blk t).view.emb (ix4 (0 : Fin 1) (0 : Fin 1) k d)) 2).val = k.val := by
    show win0_2.index t (2 : Fin 4) * 1024 + 1 * k.val = _; omega
  have h3 : ((((cfg0.win 2).blk t).view.emb (ix4 (0 : Fin 1) (0 : Fin 1) k d)) 3).val = d.val := by
    show win0_2.index t (3 : Fin 4) * 704 + 1 * d.val = _; omega
  exact at4_eq _ _ h0 h1 h2 h3

/-- One grid point's blocks. -/
theorem gate_at (t : Fin cfg0.N) (r : Fin 1024) (d : Fin 704) :
    (k0_pay2 (iblk m c 0 t) (iblk m c 1 t) (ix2 r d) : EReal) = proj (argX m c) (argY m c) (t.val / 2) 0 (1024 * (t.val % 2) + r.val) d.val := by
  refine (product _ _ r d).trans (Finset.sum_congr rfl fun k _ => ?_)
  rw [read_x, read_y]

theorem up_at (t : Fin cfg0.N) (r : Fin 1024) (d : Fin 704) :
    (k0_pay3 (iblk m c 0 t) (iblk m c 2 t) (ix2 r d) : EReal) = proj (argX m c) (argY m c) (t.val / 2) 1 (1024 * (t.val % 2) + r.val) d.val := by
  refine (product' _ _ r d).trans (Finset.sum_congr rfl fun k _ => ?_)
  rw [read_x, read_u]

theorem point3 (t : Fin cfg0.N) (g : Fin 2) (r : Fin 1024) (d : Fin 704) :
    (out0_3 (iblk m c 0 t) (iblk m c 1 t) (iblk m c 2 t) : S1x2x1024x704.Idx → EReal) (ix4 (0 : Fin 1) g r d)
      = proj (argX m c) (argY m c) (t.val / 2) g.val (1024 * (t.val % 2) + r.val) d.val := by
  refine (both _ _ _ g r d).trans ?_
  rw [gate_at, up_at]
  split_ifs with h
  · rw [h]
  · rw [show g.val = 1 by omega]

theorem point4 (t : Fin cfg0.N) (r : Fin 1024) (d : Fin 704) :
    (out0_4 (iblk m c 0 t) (iblk m c 1 t) (iblk m c 2 t) : S1x1024x704.Idx → EReal) (ix3 (0 : Fin 1) r d)
      = proj (argX m c) (argY m c) (t.val / 2) 0 (1024 * (t.val % 2) + r.val) d.val
        * Ideal.logistic (proj (argX m c) (argY m c) (t.val / 2) 0 (1024 * (t.val % 2) + r.val) d.val)
        * proj (argX m c) (argY m c) (t.val / 2) 1 (1024 * (t.val % 2) + r.val) d.val := by
  unfold out0_4
  rw [View.canon_unit_zero (by decide), View.ld_unit_zero (by decide), View.ld_unit_zero (by decide), View.ld_unit_zero (by decide)]
  refine (gated _ _ _ r d).trans ?_
  rw [gate_at, up_at]

/-- What the call leaves in its two results. -/
theorem value3 : ((dats m 0 c).arrAt 3 cfg0.N : S4x2x2048x704.Idx → EReal) = projected (argX m c) (argY m c) := by
  refine (dats m 0 c).arrAt_eq_of_cover 3 (projected (argX m c) (argY m c)) (fun t hf => ?_) (fun i => ?_)
  · funext y
    obtain ⟨-, -, -, ⟨e0, e1, e2, e3⟩, -⟩ := index0 t
    obtain ⟨z0, g, r, d, rfl⟩ : ∃ (z0 : Fin 1) (g : Fin 2) (r : Fin 1024) (d : Fin 704), y = ix4 z0 g r d := ⟨y 0, y 1, y 2, y 3, ix4_self y⟩
    obtain rfl : z0 = 0 := Subsingleton.elim _ _
    show (cfg0.win 3).cut (grid0.coords t) ((dats m 0 c).after 3 t) (ix4 (0 : Fin 1) g r d)
      = projected (argX m c) (argY m c) (((cfg0.win 3).blk t).view.emb (ix4 (0 : Fin 1) g r d))
    rw [after0_3]
    have h0 : ((((cfg0.win 3).blk t).view.emb (ix4 (0 : Fin 1) g r d)) 0).val = t.val / 2 := by
      show win0_3.index t (0 : Fin 4) * 1 + 1 * 0 = _; omega
    have h1 : ((((cfg0.win 3).blk t).view.emb (ix4 (0 : Fin 1) g r d)) 1).val = g.val := by
      show win0_3.index t (1 : Fin 4) * 2 + 1 * g.val = _; omega
    have h2 : ((((cfg0.win 3).blk t).view.emb (ix4 (0 : Fin 1) g r d)) 2).val = 1024 * (t.val % 2) + r.val := by
      show win0_3.index t (2 : Fin 4) * 1024 + 1 * r.val = _; omega
    have h3 : ((((cfg0.win 3).blk t).view.emb (ix4 (0 : Fin 1) g r d)) 3).val = d.val := by
      show win0_3.index t (3 : Fin 4) * 704 + 1 * d.val = _; omega
    unfold projected
    rw [h0, h1, h2, h3]
    exact Eq.trans rfl (point3 m c t g r d)
  · have hl0 : (i 0).val < 4 := (i 0).isLt
    have hl1 : (i 1).val < 2 := (i 1).isLt
    have hl2 : (i 2).val < 2048 := (i 2).isLt
    have hl3 : (i 3).val < 704 := (i 3).isLt
    let t : Fin cfg0.N := ⟨2 * (i 0).val + (i 2).val / 1024, by show _ < grid0.N; rw [N_0]; omega⟩
    have ht : t.val = 2 * (i 0).val + (i 2).val / 1024 := rfl
    refine ⟨t, flush0_3 t, ?_⟩
    obtain ⟨-, -, -, ⟨e0, e1, e2, e3⟩, -⟩ := index0 t
    show i ∈ ((View.whole main_v2_0).slice (win0_3.rect t)).set
    rw [View.set_slice_whole, Rect.mem_set_unit]
    intro a
    match a with
    | ⟨0, _⟩ => show win0_3.index t (0 : Fin 4) * 1 ≤ (i 0).val ∧ (i 0).val < win0_3.index t (0 : Fin 4) * 1 + 1; omega
    | ⟨1, _⟩ => show win0_3.index t (1 : Fin 4) * 2 ≤ (i 1).val ∧ (i 1).val < win0_3.index t (1 : Fin 4) * 2 + 2; omega
    | ⟨2, _⟩ => show win0_3.index t (2 : Fin 4) * 1024 ≤ (i 2).val ∧ (i 2).val < win0_3.index t (2 : Fin 4) * 1024 + 1024; omega
    | ⟨3, _⟩ => show win0_3.index t (3 : Fin 4) * 704 ≤ (i 3).val ∧ (i 3).val < win0_3.index t (3 : Fin 4) * 704 + 704; omega

theorem value4 : ((dats m 0 c).arrAt 4 cfg0.N : S4x2048x704.Idx → EReal) = activated (argX m c) (argY m c) := by
  refine (dats m 0 c).arrAt_eq_of_cover 4 (activated (argX m c) (argY m c)) (fun t hf => ?_) (fun i => ?_)
  · funext y
    obtain ⟨-, -, -, -, ⟨e0, e1, e2⟩⟩ := index0 t
    obtain ⟨z0, r, d, rfl⟩ : ∃ (z0 : Fin 1) (r : Fin 1024) (d : Fin 704), y = ix3 z0 r d := ⟨y 0, y 1, y 2, ix3_self y⟩
    obtain rfl : z0 = 0 := Subsingleton.elim _ _
    show (cfg0.win 4).cut (grid0.coords t) ((dats m 0 c).after 4 t) (ix3 (0 : Fin 1) r d)
      = activated (argX m c) (argY m c) (((cfg0.win 4).blk t).view.emb (ix3 (0 : Fin 1) r d))
    rw [after0_4]
    have h0 : ((((cfg0.win 4).blk t).view.emb (ix3 (0 : Fin 1) r d)) 0).val = t.val / 2 := by
      show win0_4.index t (0 : Fin 3) * 1 + 1 * 0 = _; omega
    have h1 : ((((cfg0.win 4).blk t).view.emb (ix3 (0 : Fin 1) r d)) 1).val = 1024 * (t.val % 2) + r.val := by
      show win0_4.index t (1 : Fin 3) * 1024 + 1 * r.val = _; omega
    have h2 : ((((cfg0.win 4).blk t).view.emb (ix3 (0 : Fin 1) r d)) 2).val = d.val := by
      show win0_4.index t (2 : Fin 3) * 704 + 1 * d.val = _; omega
    unfold activated
    rw [h0, h1, h2]
    exact Eq.trans rfl (point4 m c t r d)
  · have hl0 : (i 0).val < 4 := (i 0).isLt
    have hl1 : (i 1).val < 2048 := (i 1).isLt
    have hl2 : (i 2).val < 704 := (i 2).isLt
    let t : Fin cfg0.N := ⟨2 * (i 0).val + (i 1).val / 1024, by show _ < grid0.N; rw [N_0]; omega⟩
    have ht : t.val = 2 * (i 0).val + (i 1).val / 1024 := rfl
    refine ⟨t, flush0_4 t, ?_⟩
    obtain ⟨-, -, -, -, ⟨e0, e1, e2⟩⟩ := index0 t
    show i ∈ ((View.whole main_v2_1).slice (win0_4.rect t)).set
    rw [View.set_slice_whole, Rect.mem_set_unit]
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 1024 ≤ (i 1).val ∧ (i 1).val < win0_4.index t (1 : Fin 3) * 1024 + 1024; omega
    | ⟨2, _⟩ => show win0_4.index t (2 : Fin 3) * 704 ≤ (i 2).val ∧ (i 2).val < win0_4.index t (2 : Fin 3) * 704 + 704; omega

/-- The reference's two results. -/
theorem projection (x : S2048x1024.Idx → EReal) (y : S4x2x1024x704.Idx → EReal) (i : S4x2x2048x704.Idx) :
    Cert.Reference6Ideal.Read.val_main_v1 (F := Ideal) x y i = projected x y i := by
  rw [Cert.Reference6Ideal.Read.val_main_v1_apply, Cert.Reference6Ideal.Read.val_main_v0_apply]
  unfold projected proj
  refine Finset.sum_congr rfl fun k _ => ?_
  rw [mul_comm]
  exact congrArg₂ (· * ·) (at2_eq x _ rfl rfl) (at4_eq y _ rfl rfl rfl rfl)

theorem reference3 (x : S2048x1024.Idx → EReal) (y : S4x2x1024x704.Idx → EReal) :
    Cert.Reference6Ideal.Read.val_main_v2 (F := Ideal) x y = projected x y := by
  funext i
  rw [Cert.Reference6Ideal.Read.val_main_v2_apply]
  exact projection x y i

theorem reference4 (x : S2048x1024.Idx → EReal) (y : S4x2x1024x704.Idx → EReal) :
    Cert.Reference6Ideal.Read.val_main_v9 (F := Ideal) x y = activated x y := by
  funext i
  have h0 : (i 0).val < 4 := (i 0).isLt
  have h1 : (i 1).val < 2048 := (i 1).isLt
  have h2 : (i 2).val < 704 := (i 2).isLt
  have f0 : (((i 0).val * 2048 + (i 1).val) * 704 + (i 2).val) / 1441792 = (i 0).val := by omega
  have f1 : (((i 0).val * 2048 + (i 1).val) * 704 + (i 2).val) / 704 % 2048 = (i 1).val := by omega
  have f2 : (((i 0).val * 2048 + (i 1).val) * 704 + (i 2).val) % 704 = (i 2).val := by omega
  have hg : Cert.Reference6Ideal.Read.val_main_v4 (F := Ideal) x y i = proj x y (i 0).val 0 (i 1).val (i 2).val := by
    rw [Cert.Reference6Ideal.Read.val_main_v4_apply, Cert.Reference6Ideal.Read.val_main_v3_apply, projection]
    unfold projected
    congr 1
  have hu : Cert.Reference6Ideal.Read.val_main_v7 (F := Ideal) x y i = proj x y (i 0).val 1 (i 1).val (i 2).val := by
    rw [Cert.Reference6Ideal.Read.val_main_v7_apply, Cert.Reference6Ideal.Read.val_main_v6_apply, projection]
    unfold projected
    congr 1
  rw [Cert.Reference6Ideal.Read.val_main_v9_apply, Cert.Reference6Ideal.Read.val_main_v8_apply, Cert.Reference6Ideal.Read.val_main_v5_apply, Cert.Reference6Ideal.Read.val_main_call0_v5_apply, Cert.Reference6Ideal.Read.val_main_call0_v4_apply,
    Cert.Reference6Ideal.Read.val_main_call0_cst_0_apply, Cert.Reference6Ideal.Read.val_main_call0_v3_apply, Cert.Reference6Ideal.Read.val_main_call0_v2_apply, Cert.Reference6Ideal.Read.val_main_call0_cst_apply,
    Cert.Reference6Ideal.Read.val_main_call0_v1_apply, Cert.Reference6Ideal.Read.val_main_call0_v0_apply, hg, hu]
  unfold activated Ideal.logistic
  generalize proj x y (i 0).val 0 (i 1).val (i 2).val = P
  generalize proj x y (i 0).val 1 (i 1).val (i 2).val = Q
  have one : (FloatOps.ofBits (F := Ideal) .f32 0x3F800000#32 : EReal) = 1 := Ideal.ofBits_one_f32
  first | (rw [one]; rfl) | (simp only [one]; rfl)

theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => projected (argX m c) (argY m c), fun c => activated (argX m c) (argY m c), ?_, ?_⟩
  · exact (θ_run Cert.Kernel6Ideal.defs _ _).mono (fun _ h c => ⟨(h c).1.trans (value3 m c), (h c).2.1.trans (value4 m c), (h c).2.2⟩) (run_blocks m g)
  · refine (θ_run Cert.Reference6Ideal.defs _ _).mono (fun _ h c => ?_) (Cert.Reference6Ideal.Value.run (F := Ideal) m' g')
    obtain ⟨h0, h1, ha⟩ := h c
    obtain ⟨a0, a1⟩ := hargs c
    refine ⟨h0.trans ((Cert.Reference6Ideal.Read.val_main_v2_eq _ _).trans ?_), h1.trans ((Cert.Reference6Ideal.Read.val_main_v9_eq _ _).trans ?_), ha⟩
    · rw [a0, a1]
      exact reference3 _ _
    · rw [a0, a1]
      exact reference4 _ _

end Cert.Ffn.Up

end
-- ==== Proof.Ffn.Down.lean ====
/- The feed-forward network's second half: the activations' product with the down projection's weights, summed over the shards
   two at a time, then normalised over each token's features, scaled, and added with half the gate to the tokens. -/
module

public import proofs.«01_k».proof.Proof.Ffn.Index
public import proofs.«01_k».proof.Proof.Gen.Kernel7Ideal.Value
public import proofs.«01_k».proof.Proof.Gen.Reference7Ideal.Run
public import proofs.«01_k».proof.Proof.Gen.Reference7Ideal.Read
public import proofs.«01_k».proof.Defs
public import Idealize.ShloMosaic.Lib.StableHlo.Run
public import Idealize.ShloMosaic.Lib.WritesUnit
public import Idealize.ShloMosaic.Lib.Pipeline.ValueKit.Tiles

@[expose] public section

set_option maxRecDepth 16384

noncomputable section

namespace Cert.Ffn.Down

open Cert.Kernel7Ideal Cert.Kernel7Ideal.Gen Cert.Kernel7Ideal.Value Cert.Ffn Idealize.ShloMosaic Idealize.ShloMosaic.TcCoe Idealize.ShloMosaic.StableHlo

/-- The first axis taken as two. -/
theorem split_two {n0 n1 n2 n3 n : ℕ} (hn : n = n0 * n1) (x : (⟨3, ![n, n2, n3]⟩ : Shape).Idx → EReal)
    (h : (⟨3, ![n, n2, n3]⟩ : Shape).ShapeCasts ⟨4, ![n0, n1, n2, n3]⟩) (j : (⟨4, ![n0, n1, n2, n3]⟩ : Shape).Idx) :
    shapeCast ⟨4, ![n0, n1, n2, n3]⟩ x h j = at3 x ((j 0).val * n1 + (j 1).val) (j 2).val (j 3).val := by
  have h0 : (j 0).val < n0 := (j 0).isLt
  have h1 : (j 1).val < n1 := (j 1).isLt
  have hb : (j 0).val * n1 + (j 1).val < n := by
    rw [hn]
    calc (j 0).val * n1 + (j 1).val < (j 0).val * n1 + n1 := by omega
      _ = ((j 0).val + 1) * n1 := by rw [Nat.succ_mul]
      _ ≤ n0 * n1 := Nat.mul_le_mul_right _ h0
  refine (shapeCast_apply x h j (ix3 (n0 := n) (n1 := n2) (n2 := n3) ⟨(j 0).val * n1 + (j 1).val, hb⟩ (j 2) (j 3)) ?_).trans (at3_eq x _ rfl rfl rfl)
  rw [Shape.rowMajor_val_three, Shape.rowMajor_val_four]
  rfl

/-- One shard's part of the product, for token `r` and feature `n`. -/
def part (a : S4x2048x704.Idx → EReal) (w : S4x704x1024.Idx → EReal) (s r n : ℕ) : EReal :=
  ∑ k : Fin 704, at3 a s r k.val * at3 w s k.val n

/-- The product, summed over the shards. -/
def down (a : S4x2048x704.Idx → EReal) (w : S4x704x1024.Idx → EReal) (r n : ℕ) : EReal :=
  part a w 0 r n + part a w 1 r n + (part a w 2 r n + part a w 3 r n)

def product (a : S4x2048x704.Idx → EReal) (w : S4x704x1024.Idx → EReal) (i : S2048x1024.Idx) : EReal :=
  down a w (i 0).val (i 1).val

/-- The token plus half the gate times the product, normalised by its mean square over the features and scaled. -/
def mix (f : ℕ → EReal) (x q z : EReal) (n : ℕ) : EReal :=
  x + Ideal.ofBits .f32 0x3F000000#32 * z
    * (f n * Ideal.rsqrt (Ideal.div (∑ k : Fin 1024, f k.val * f k.val) (Ideal.ofBits .f32 0x44800000#32) + Ideal.ofBits .f32 0x358637BD#32) * q)

def added (a : S4x2048x704.Idx → EReal) (w : S4x704x1024.Idx → EReal) (x : S2048x1024.Idx → EReal) (p : S8x1024.Idx → EReal) (i : S2048x1024.Idx) : EReal :=
  mix (down a w (i 0).val) (at2 x (i 0).val (i 1).val) (at2 p 1 (i 1).val) (at2 p 4 (i 1).val) (i 1).val

/-- One grid point's product, at an index. -/
theorem two (v0 v5 : Vec Ideal S1x1x512x704 .bf16) (v2 v7 : Vec Ideal S1x1x704x1024 .bf16) (r : Fin 512) (n : Fin 1024) :
    (k0_pay1 v0 v2 v5 v7 (ix2 r n) : EReal) = (∑ k : Fin 704, (v0 (ix4 (0 : Fin 1) (0 : Fin 1) r k) : EReal) * v2 (ix4 (0 : Fin 1) (0 : Fin 1) k n))
      + ∑ k : Fin 704, (v5 (ix4 (0 : Fin 1) (0 : Fin 1) r k) : EReal) * v7 (ix4 (0 : Fin 1) (0 : Fin 1) k n) := by
  pointwise [k0_pay1]

theorem mixed (v20 v35 : Vec Ideal S512x1024 .f32) (v32 v36 : Vec Ideal S1x1024 .f32) (r : Fin 512) (n : Fin 1024) (f : ℕ → EReal)
    (hf : ∀ k : Fin 1024, (v20 (ix2 r k) : EReal) = f k.val) :
    (k0_pay3 v20 v32 v35 v36 (ix2 r n) : EReal) = mix f (v35 (ix2 r n)) (v32 (ix2 (0 : Fin 1) n)) (v36 (ix2 (0 : Fin 1) n)) n.val := by
  unfold mix
  simp only [← hf]
  pointwise [k0_pay3]

theorem zero2 : (![0, 0] : Fin 2 → Nat) = fun _ => 0 := funext fun a => by fin_cases a <;> rfl

/-- One grid point's product of two shards. -/
def step (x0 : Vec Ideal S1x2x512x704 .bf16) (x1 : Vec Ideal S1x2x704x1024 .bf16) : FVec Ideal S512x1024 .f32 :=
  k0_pay1 (View.ld (Val := Elt Ideal) (e' := .bf16) x0 (Rect.unit (s := S1x2x512x704) ![0, 0, 0, 0] S1x1x512x704.size inb_S1x2x512x704_S1x1x512x704_0_0_0_0))
    (View.ld (Val := Elt Ideal) (e' := .bf16) x1 (Rect.unit (s := S1x2x704x1024) ![0, 0, 0, 0] S1x1x704x1024.size inb_S1x2x704x1024_S1x1x704x1024_0_0_0_0))
    (View.ld (Val := Elt Ideal) (e' := .bf16) x0 (Rect.unit (s := S1x2x512x704) ![0, 1, 0, 0] S1x1x512x704.size inb_S1x2x512x704_S1x1x512x704_0_1_0_0))
    (View.ld (Val := Elt Ideal) (e' := .bf16) x1 (Rect.unit (s := S1x2x704x1024) ![0, 1, 0, 0] S1x1x704x1024.size inb_S1x2x704x1024_S1x1x704x1024_0_1_0_0))

/-- The row of the parameters the normalised product is scaled by, and the gate's. -/
def scaleRow (x3 : Vec Ideal S8x1024 .f32) : Vec Ideal S1x1024 .f32 :=
  View.ld (Val := Elt Ideal) (e' := .f32) x3 (Rect.unit (s := S8x1024) ![1, 0] S1x1024.size inb_S8x1024_S1x1024_1_0)
def gateRow (x3 : Vec Ideal S8x1024 .f32) : Vec Ideal S1x1024 .f32 :=
  View.ld (Val := Elt Ideal) (e' := .f32) x3 (Rect.unit (s := S8x1024) ![4, 0] S1x1024.size inb_S8x1024_S1x1024_4_0)

section

variable (c : Dev nD) (i : grid0.Coords) (a2 : Memref sig .tc .vmem S1x2x512x704 .bf16) (h2 : a2.IsWhole) (a3 : Memref sig .tc .vmem S1x2x704x1024 .bf16)
  (h3 : a3.IsWhole) (a4 : Memref sig .tc .vmem S512x1024 .f32) (h4 : a4.IsWhole) (a5 : Memref sig .tc .vmem S8x1024 .f32) (h5 : a5.IsWhole)
  (a6 : Memref sig .tc .vmem S512x1024 .f32) (h6 : a6.IsWhole) (a7 : Memref sig .tc .vmem S512x1024 .f32) (h7 : a7.IsWhole)
  (x0 : Vec Ideal S1x2x512x704 .bf16) (x1 : Vec Ideal S1x2x704x1024 .bf16) (x2 : Vec Ideal S512x1024 .f32) (x3 : Vec Ideal S8x1024 .f32)
  (xo : Vec Ideal S512x1024 .f32)

/-- The first grid point of a block of tokens stores its product. -/
theorem first_step (hc0 : cond0_0 i) (hc1 : ¬cond0_1 i) (hc2 : ¬cond0_2 i) (j : S512x1024.Idx) :
    out0_A_4 c i a2 h2 a3 h3 a4 h4 a5 h5 a6 h6 a7 h7 hc0 hc1 hc2 x0 x1 x2 x3 j = step x0 x1 j := by
  unfold out0_A_4
  rw [View.read_writes_eq_canon _ _ _ (cover0_A_4 c i a2 h2 a3 h3 a4 h4 a5 h5 a6 h6 a7 h7 hc0 hc1 hc2 x0 x1 x2 x3)]
  unfold kernelRun0_A
  dsimp only
  sl_unfold_words
  rw [View.canon_unit_zero zero2]
  simp only [View.readAt_eq_ld, h2.read_unread, h3.read_unread]
  rfl

/-- The second adds its to what the block holds. -/
def sum (x0 : Vec Ideal S1x2x512x704 .bf16) (x1 : Vec Ideal S1x2x704x1024 .bf16) (xo : Vec Ideal S512x1024 .f32) : Vec Ideal S512x1024 .f32 :=
  addf (F := Ideal) xo (step x0 x1)

theorem next_step (hc0 : ¬cond0_0 i) (hc1 : cond0_1 i) (hc2 : cond0_2 i) :
    out0_B_4 c i a2 h2 a3 h3 a4 h4 a5 h5 a6 h6 a7 h7 hc0 hc1 hc2 x0 x1 x2 x3 xo = sum x0 x1 xo := by
  unfold out0_B_4
  rw [View.read_writes_eq_canon _ _ _ (cover0_B_4 c i a2 h2 a3 h3 a4 h4 a5 h5 a6 h6 a7 h7 hc0 hc1 hc2 x0 x1 x2 x3 xo)]
  unfold kernelRun0_B
  dsimp only
  sl_unfold_words
  rw [View.canon_unit_zero zero2]
  simp only [View.readAt_eq_ld, h2.read_unread, h3.read_unread, h6.read_unread]
  rw [View.ld_unit_zero zero2]
  unfold sum step k0_pay2
  rw [shapeCast_self]

/-- And stores the tokens with the normalised sum added. -/
theorem last_step (hc0 : ¬cond0_0 i) (hc1 : cond0_1 i) (hc2 : cond0_2 i) :
    out0_B_5 c i a2 h2 a3 h3 a4 h4 a5 h5 a6 h6 a7 h7 hc0 hc1 hc2 x0 x1 x2 x3 xo = k0_pay3 (sum x0 x1 xo) (scaleRow x3) x2 (gateRow x3) := by
  unfold out0_B_5
  rw [View.read_writes_eq_canon _ _ _ (cover0_B_5 c i a2 h2 a3 h3 a4 h4 a5 h5 a6 h6 a7 h7 hc0 hc1 hc2 x0 x1 x2 x3 xo)]
  unfold kernelRun0_B
  dsimp only
  sl_unfold_words
  rw [View.canon_unit_zero zero2]
  simp only [View.readAt_eq_ld, h2.read_unread, h3.read_unread, h4.read_unread, h5.read_unread, h6.read_unread]
  rw [View.readCov_unit_zero _ zero2, View.ld_unit_zero zero2, View.ld_unit_zero zero2]
  unfold sum step k0_pay2 scaleRow gateRow
  rw [shapeCast_self]

end

variable (m : (ℓ : Loc nD τ sig) → Buf (Elt Ideal) ℓ) (ρ : Dev nD → PrngReg) (c : Dev nD)

/-- Argument 0. -/
abbrev argA : S4x2048x704.Idx → EReal := m ((c : Thread nD τ).loc main_arg0)
/-- Argument 1. -/
abbrev argW : S4x704x1024.Idx → EReal := m ((c : Thread nD τ).loc main_arg1)
/-- Argument 2. -/
abbrev argX : S2048x1024.Idx → EReal := m ((c : Thread nD τ).loc main_arg2)
/-- Argument 3. -/
abbrev argP : S8x1024.Idx → EReal := m ((c : Thread nD τ).loc main_arg3)

theorem entry_a (j : S2x2x2048x704.Idx) : V m c main_v2 j = at3 (argA m c) (2 * (j 0).val + (j 1).val) (j 2).val (j 3).val := by
  simp only [V, hostOps0]
  after_results_simp
  rw [Nat.mul_comm 2]
  exact split_two (n0 := 2) (n1 := 2) (n2 := 2048) (n3 := 704) (n := 4) rfl (argA m c) _ j

theorem entry_w (j : S2x2x704x1024.Idx) : V m c main_v3 j = at3 (argW m c) (2 * (j 0).val + (j 1).val) (j 2).val (j 3).val := by
  simp only [V, hostOps0]
  after_results_simp
  rw [Nat.mul_comm 2]
  exact split_two (n0 := 2) (n1 := 2) (n2 := 704) (n3 := 1024) (n := 4) rfl (argW m c) _ j

theorem entry_x : V m c main_arg2 = argX m c := by
  simp only [V, hostOps0]
  after_results_simp

theorem entry_p : V m c main_arg3 = argP m c := by
  simp only [V, hostOps0]
  after_results_simp

/-- The windows' blocks at each grid point. -/
theorem index0 : ∀ t : Fin cfg0.N, (win0_0.index t 0 = t.val % 2 ∧ win0_0.index t 1 = 0 ∧ win0_0.index t 2 = t.val / 2 ∧ win0_0.index t 3 = 0)
    ∧ (win0_1.index t 0 = t.val % 2 ∧ win0_1.index t 1 = 0 ∧ win0_1.index t 2 = 0 ∧ win0_1.index t 3 = 0)
    ∧ (win0_2.index t 0 = t.val / 2 ∧ win0_2.index t 1 = 0)
    ∧ (win0_3.index t 0 = 0 ∧ win0_3.index t 1 = 0)
    ∧ (win0_4.index t 0 = t.val / 2 ∧ win0_4.index t 1 = 0)
    ∧ (win0_5.index t 0 = t.val / 2 ∧ win0_5.index t 1 = 0) :=
  (by decide +kernel : ∀ t : Fin grid0.N, _)

theorem read_a (t : Fin cfg0.N) (s : Fin 2) (r : Fin 512) (k : Fin 704) :
    (iblk m c 0 t : S1x2x512x704.Idx → EReal) (ix4 (0 : Fin 1) s r k) = at3 (argA m c) (2 * (t.val % 2) + s.val) (512 * (t.val / 2) + r.val) k.val := by
  obtain ⟨⟨e0, e1, e2, e3⟩, -⟩ := index0 t
  refine (entry_a m c (((cfg0.win 0).blk t).view.emb (ix4 (0 : Fin 1) s r k))).trans ?_
  have h0 : ((((cfg0.win 0).blk t).view.emb (ix4 (0 : Fin 1) s r k)) 0).val = t.val % 2 := by
    show win0_0.index t (0 : Fin 4) * 1 + 1 * 0 = _; omega
  have h1 : ((((cfg0.win 0).blk t).view.emb (ix4 (0 : Fin 1) s r k)) 1).val = s.val := by
    show win0_0.index t (1 : Fin 4) * 2 + 1 * s.val = _; omega
  have h2 : ((((cfg0.win 0).blk t).view.emb (ix4 (0 : Fin 1) s r k)) 2).val = 512 * (t.val / 2) + r.val := by
    show win0_0.index t (2 : Fin 4) * 512 + 1 * r.val = _; omega
  have h3 : ((((cfg0.win 0).blk t).view.emb (ix4 (0 : Fin 1) s r k)) 3).val = k.val := by
    show win0_0.index t (3 : Fin 4) * 704 + 1 * k.val = _; omega
  rw [h0, h1, h2, h3]

theorem read_w (t : Fin cfg0.N) (s : Fin 2) (k : Fin 704) (n : Fin 1024) :
    (iblk m c 1 t : S1x2x704x1024.Idx → EReal) (ix4 (0 : Fin 1) s k n) = at3 (argW m c) (2 * (t.val % 2) + s.val) k.val n.val := by
  obtain ⟨-, ⟨e0, e1, e2, e3⟩, -⟩ := index0 t
  refine (entry_w m c (((cfg0.win 1).blk t).view.emb (ix4 (0 : Fin 1) s k n))).trans ?_
  have h0 : ((((cfg0.win 1).blk t).view.emb (ix4 (0 : Fin 1) s k n)) 0).val = t.val % 2 := by
    show win0_1.index t (0 : Fin 4) * 1 + 1 * 0 = _; omega
  have h1 : ((((cfg0.win 1).blk t).view.emb (ix4 (0 : Fin 1) s k n)) 1).val = s.val := by
    show win0_1.index t (1 : Fin 4) * 2 + 1 * s.val = _; omega
  have h2 : ((((cfg0.win 1).blk t).view.emb (ix4 (0 : Fin 1) s k n)) 2).val = k.val := by
    show win0_1.index t (2 : Fin 4) * 704 + 1 * k.val = _; omega
  have h3 : ((((cfg0.win 1).blk t).view.emb (ix4 (0 : Fin 1) s k n)) 3).val = n.val := by
    show win0_1.index t (3 : Fin 4) * 1024 + 1 * n.val = _; omega
  rw [h0, h1, h2, h3]

theorem read_x (t : Fin cfg0.N) (r : Fin 512) (n : Fin 1024) :
    (iblk m c 2 t : S512x1024.Idx → EReal) (ix2 r n) = at2 (argX m c) (512 * (t.val / 2) + r.val) n.val := by
  obtain ⟨-, -, ⟨e0, e1⟩, -⟩ := index0 t
  refine (congrFun (entry_x m c) (((cfg0.win 2).blk t).view.emb (ix2 r n))).trans ?_
  have h0 : ((((cfg0.win 2).blk t).view.emb (ix2 r n)) 0).val = 512 * (t.val / 2) + r.val := by
    show win0_2.index t (0 : Fin 2) * 512 + 1 * r.val = _; omega
  have h1 : ((((cfg0.win 2).blk t).view.emb (ix2 r n)) 1).val = n.val := by
    show win0_2.index t (1 : Fin 2) * 1024 + 1 * n.val = _; omega
  exact at2_eq _ _ h0 h1

theorem read_p (t : Fin cfg0.N) (r : Fin 8) (n : Fin 1024) :
    (iblk m c 3 t : S8x1024.Idx → EReal) (ix2 r n) = at2 (argP m c) r.val n.val := by
  obtain ⟨-, -, -, ⟨e0, e1⟩, -⟩ := index0 t
  refine (congrFun (entry_p m c) (((cfg0.win 3).blk t).view.emb (ix2 r n))).trans ?_
  have h0 : ((((cfg0.win 3).blk t).view.emb (ix2 r n)) 0).val = r.val := by
    show win0_3.index t (0 : Fin 2) * 8 + 1 * r.val = _; omega
  have h1 : ((((cfg0.win 3).blk t).view.emb (ix2 r n)) 1).val = n.val := by
    show win0_3.index t (1 : Fin 2) * 1024 + 1 * n.val = _; omega
  exact at2_eq _ _ h0 h1

/-- What a grid point loads of each shard. -/
theorem load_a (t : Fin cfg0.N) (s : Fin 2) (inb : ∀ a, ![0, s.val, 0, 0] a + S1x1x512x704.size a ≤ S1x2x512x704.size a) (r : Fin 512) (k : Fin 704) :
    (View.ld (Val := Elt Ideal) (e' := .bf16) (iblk m c 0 t : Vec Ideal S1x2x512x704 .bf16) (Rect.unit (s := S1x2x512x704) ![0, s.val, 0, 0] S1x1x512x704.size inb) (ix4 (0 : Fin 1) (0 : Fin 1) r k) : EReal)
      = at3 (argA m c) (2 * (t.val % 2) + s.val) (512 * (t.val / 2) + r.val) k.val := by
  refine (View.ld_unit_apply_of (Val := Elt Ideal) (e := .bf16) _ _ _ _ _ (ix4 (0 : Fin 1) s r k) fun a => ?_).trans (read_a m c t s r k)
  match a with
    | ⟨0, _⟩ => show 0 = 0 + 0; omega
    | ⟨1, _⟩ => show s.val = s.val + 0; omega
    | ⟨2, _⟩ => show r.val = 0 + r.val; omega
    | ⟨3, _⟩ => show k.val = 0 + k.val; omega

theorem load_w (t : Fin cfg0.N) (s : Fin 2) (inb : ∀ a, ![0, s.val, 0, 0] a + S1x1x704x1024.size a ≤ S1x2x704x1024.size a) (k : Fin 704) (n : Fin 1024) :
    (View.ld (Val := Elt Ideal) (e' := .bf16) (iblk m c 1 t : Vec Ideal S1x2x704x1024 .bf16) (Rect.unit (s := S1x2x704x1024) ![0, s.val, 0, 0] S1x1x704x1024.size inb) (ix4 (0 : Fin 1) (0 : Fin 1) k n) : EReal)
      = at3 (argW m c) (2 * (t.val % 2) + s.val) k.val n.val := by
  refine (View.ld_unit_apply_of (Val := Elt Ideal) (e := .bf16) _ _ _ _ _ (ix4 (0 : Fin 1) s k n) fun a => ?_).trans (read_w m c t s k n)
  match a with
    | ⟨0, _⟩ => show 0 = 0 + 0; omega
    | ⟨1, _⟩ => show s.val = s.val + 0; omega
    | ⟨2, _⟩ => show k.val = 0 + k.val; omega
    | ⟨3, _⟩ => show n.val = 0 + n.val; omega

theorem load_p (t : Fin cfg0.N) (s : Fin 8) (inb : ∀ a, ![s.val, 0] a + S1x1024.size a ≤ S8x1024.size a) (n : Fin 1024) :
    (View.ld (Val := Elt Ideal) (e' := .f32) (iblk m c 3 t : Vec Ideal S8x1024 .f32) (Rect.unit (s := S8x1024) ![s.val, 0] S1x1024.size inb) (ix2 (0 : Fin 1) n) : EReal)
      = at2 (argP m c) s.val n.val := by
  refine (View.ld_unit_apply_of (Val := Elt Ideal) (e := .f32) _ _ _ _ _ (ix2 s n) fun a => ?_).trans (read_p m c t s n)
  match a with
    | ⟨0, _⟩ => show s.val = s.val + 0; omega
    | ⟨1, _⟩ => show n.val = 0 + n.val; omega

/-- One grid point's product, from the call's arguments. -/
theorem step_at (t : Fin cfg0.N) (r : Fin 512) (n : Fin 1024) :
    (step (iblk m c 0 t) (iblk m c 1 t) (ix2 r n) : EReal)
      = part (argA m c) (argW m c) (2 * (t.val % 2)) (512 * (t.val / 2) + r.val) n.val + part (argA m c) (argW m c) (2 * (t.val % 2) + 1) (512 * (t.val / 2) + r.val) n.val := by
  unfold step part
  refine (two _ _ _ _ r n).trans (congrArg₂ (fun a b : EReal => a + b) (Finset.sum_congr rfl fun k _ => ?_) (Finset.sum_congr rfl fun k _ => ?_))
  · exact congrArg₂ (fun a b : EReal => a * b) (load_a m c t 0 _ r k) (load_w m c t 0 _ k n)
  · exact congrArg₂ (fun a b : EReal => a * b) (load_a m c t 1 _ r k) (load_w m c t 1 _ k n)

/-- The first of a block's two grid points. -/
theorem first_at (t : Fin cfg0.N) (h : t.val % 2 = 0) (r : Fin 512) (f : Fin 1024) :
    ((outsAt0 m c t.val t.isLt).1 (ix2 r f) : EReal) = part (argA m c) (argW m c) 0 (512 * (t.val / 2) + r.val) f.val + part (argA m c) (argW m c) 1 (512 * (t.val / 2) + r.val) f.val := by
  have h1 : ¬t.val % 2 = 1 := by omega
  rw [outsAt0_A m c t h h1 h1]
  dsimp only
  rw [first_step, step_at, h]

theorem sum_at (t : Fin cfg0.N) (h : t.val % 2 = 1) (r : Fin 512) (f : Fin 1024) :
    (sum (iblk m c 0 t) (iblk m c 1 t) (outsAt0 m c (t.val - 1) (Nat.lt_of_le_of_lt (Nat.sub_le _ _) t.isLt)).1 (ix2 r f) : EReal)
      = down (argA m c) (argW m c) (512 * (t.val / 2) + r.val) f.val := by
  have hs := step_at m c t r f
  have hf := first_at m c ⟨t.val - 1, Nat.lt_of_le_of_lt (Nat.sub_le _ _) t.isLt⟩ (by show (t.val - 1) % 2 = 0; omega) r f
  have e : (t.val - 1) / 2 = t.val / 2 := by omega
  dsimp only at hf
  rw [e] at hf
  rw [h] at hs
  unfold sum down
  generalize step (iblk m c 0 t) (iblk m c 1 t) = S at hs ⊢
  generalize (outsAt0 m c (t.val - 1) (Nat.lt_of_le_of_lt (Nat.sub_le _ _) t.isLt)).1 = O at hf ⊢
  exact congrArg₂ (fun a b : EReal => a + b) hf hs

theorem point4 (t : Fin cfg0.N) (h : t.val % 2 = 1) (r : Fin 512) (f : Fin 1024) :
    ((outsAt0 m c t.val t.isLt).1 (ix2 r f) : EReal) = down (argA m c) (argW m c) (512 * (t.val / 2) + r.val) f.val := by
  have h0 : ¬t.val % 2 = 0 := by omega
  rw [outsAt0_B m c t h0 h h]
  dsimp only
  rw [next_step]
  exact sum_at m c t h r f

theorem point5 (t : Fin cfg0.N) (h : t.val % 2 = 1) (r : Fin 512) (f : Fin 1024) :
    ((outsAt0 m c t.val t.isLt).2 (ix2 r f) : EReal)
      = mix (down (argA m c) (argW m c) (512 * (t.val / 2) + r.val)) (at2 (argX m c) (512 * (t.val / 2) + r.val) f.val) (at2 (argP m c) 1 f.val) (at2 (argP m c) 4 f.val) f.val := by
  have h0 : ¬t.val % 2 = 0 := by omega
  rw [outsAt0_B m c t h0 h h]
  dsimp only
  rw [last_step]
  refine (mixed _ _ _ _ r f (down (argA m c) (argW m c) (512 * (t.val / 2) + r.val)) (fun k => sum_at m c t h r k)).trans ?_
  have e1 : (scaleRow (iblk m c 3 t) (ix2 (0 : Fin 1) f) : EReal) = at2 (argP m c) 1 f.val := load_p m c t 1 _ f
  have e4 : (gateRow (iblk m c 3 t) (ix2 (0 : Fin 1) f) : EReal) = at2 (argP m c) 4 f.val := load_p m c t 4 _ f
  rw [e1, e4, read_x]

/-- What the call leaves in result 0. -/
theorem value4 : ((dats m 0 c).arrAt 4 cfg0.N : S2048x1024.Idx → EReal) = product (argA m c) (argW m c) := by
  refine (dats m 0 c).arrAt_eq_of_cover 4 (product (argA m c) (argW m c)) (fun t hf => ?_) (fun i => ?_)
  · funext y
    obtain ⟨-, -, -, -, ⟨e0, e1⟩, -⟩ := index0 t
    obtain ⟨r, f, rfl⟩ : ∃ (r : Fin 512) (f : Fin 1024), y = ix2 r f := ⟨y 0, y 1, ix2_self y⟩
    show (cfg0.win 4).cut (grid0.coords t) ((dats m 0 c).after 4 t) (ix2 r f)
      = product (argA m c) (argW m c) (((cfg0.win 4).blk t).view.emb (ix2 r f))
    rw [after0_4]
    have h0 : ((((cfg0.win 4).blk t).view.emb (ix2 r f)) 0).val = 512 * (t.val / 2) + r.val := by
      show win0_4.index t (0 : Fin 2) * 512 + 1 * r.val = _; omega
    have h1 : ((((cfg0.win 4).blk t).view.emb (ix2 r f)) 1).val = f.val := by
      show win0_4.index t (1 : Fin 2) * 1024 + 1 * f.val = _; omega
    unfold product
    rw [h0, h1]
    exact Eq.trans rfl (point4 m c t ((flush0_4 t).mp hf) r f)
  · have hl0 : (i 0).val < 2048 := (i 0).isLt
    have hl1 : (i 1).val < 1024 := (i 1).isLt
    let t : Fin cfg0.N := ⟨2 * ((i 0).val / 512) + 1, by show _ < grid0.N; rw [N_0]; omega⟩
    have ht : t.val = 2 * ((i 0).val / 512) + 1 := rfl
    refine ⟨t, (flush0_4 t).mpr (by rw [ht]; omega), ?_⟩
    obtain ⟨-, -, -, -, ⟨e0, e1⟩, -⟩ := index0 t
    show i ∈ ((View.whole main_v4_0).slice (win0_4.rect t)).set
    rw [View.set_slice_whole, Rect.mem_set_unit]
    intro a
    match a with
    | ⟨0, _⟩ => show win0_4.index t (0 : Fin 2) * 512 ≤ (i 0).val ∧ (i 0).val < win0_4.index t (0 : Fin 2) * 512 + 512; omega
    | ⟨1, _⟩ => show win0_4.index t (1 : Fin 2) * 1024 ≤ (i 1).val ∧ (i 1).val < win0_4.index t (1 : Fin 2) * 1024 + 1024; omega

/-- What the call leaves in result 1. -/
theorem value5 : ((dats m 0 c).arrAt 5 cfg0.N : S2048x1024.Idx → EReal) = added (argA m c) (argW m c) (argX m c) (argP m c) := by
  refine (dats m 0 c).arrAt_eq_of_cover 5 (added (argA m c) (argW m c) (argX m c) (argP m c)) (fun t hf => ?_) (fun i => ?_)
  · funext y
    obtain ⟨-, -, -, -, -, ⟨e0, e1⟩⟩ := index0 t
    obtain ⟨r, f, rfl⟩ : ∃ (r : Fin 512) (f : Fin 1024), y = ix2 r f := ⟨y 0, y 1, ix2_self y⟩
    show (cfg0.win 5).cut (grid0.coords t) ((dats m 0 c).after 5 t) (ix2 r f)
      = added (argA m c) (argW m c) (argX m c) (argP m c) (((cfg0.win 5).blk t).view.emb (ix2 r f))
    rw [after0_5]
    have h0 : ((((cfg0.win 5).blk t).view.emb (ix2 r f)) 0).val = 512 * (t.val / 2) + r.val := by
      show win0_5.index t (0 : Fin 2) * 512 + 1 * r.val = _; omega
    have h1 : ((((cfg0.win 5).blk t).view.emb (ix2 r f)) 1).val = f.val := by
      show win0_5.index t (1 : Fin 2) * 1024 + 1 * f.val = _; omega
    unfold added
    rw [h0, h1]
    exact Eq.trans rfl (point5 m c t ((flush0_5 t).mp hf) r f)
  · have hl0 : (i 0).val < 2048 := (i 0).isLt
    have hl1 : (i 1).val < 1024 := (i 1).isLt
    let t : Fin cfg0.N := ⟨2 * ((i 0).val / 512) + 1, by show _ < grid0.N; rw [N_0]; omega⟩
    have ht : t.val = 2 * ((i 0).val / 512) + 1 := rfl
    refine ⟨t, (flush0_5 t).mpr (by rw [ht]; omega), ?_⟩
    obtain ⟨-, -, -, -, -, ⟨e0, e1⟩⟩ := index0 t
    show i ∈ ((View.whole main_v4_1).slice (win0_5.rect t)).set
    rw [View.set_slice_whole, Rect.mem_set_unit]
    intro a
    match a with
    | ⟨0, _⟩ => show win0_5.index t (0 : Fin 2) * 512 ≤ (i 0).val ∧ (i 0).val < win0_5.index t (0 : Fin 2) * 512 + 512; omega
    | ⟨1, _⟩ => show win0_5.index t (1 : Fin 2) * 1024 ≤ (i 1).val ∧ (i 1).val < win0_5.index t (1 : Fin 2) * 1024 + 1024; omega

section

open Cert.Reference7Ideal Cert.Reference7Ideal.Gen

theorem lhs_0 (i : Cert.Reference7Ideal.S2048x1024.Idx) (q : dot_S4x2048x704_S4x704x1024_S2048x1024_20_10_1_2_n_n.contr.Idx) : (dot_S4x2048x704_S4x704x1024_S2048x1024_20_10_1_2_n_n.lhsIdx i q 0).val = (q ⟨1, by decide⟩).val := by
  unfold DotDims.lhsIdx
  rw [dif_neg (show ¬(0 : Fin Cert.Reference7Ideal.S4x2048x704.rank) ∈ dot_S4x2048x704_S4x704x1024_S2048x1024_20_10_1_2_n_n.lhsBatch by decide), dif_neg (show ¬(0 : Fin Cert.Reference7Ideal.S4x2048x704.rank) ∈ dot_S4x2048x704_S4x704x1024_S2048x1024_20_10_1_2_n_n.lhsNonContracting by decide)]
  rfl
theorem lhs_1 (i : Cert.Reference7Ideal.S2048x1024.Idx) (q : dot_S4x2048x704_S4x704x1024_S2048x1024_20_10_1_2_n_n.contr.Idx) : (dot_S4x2048x704_S4x704x1024_S2048x1024_20_10_1_2_n_n.lhsIdx i q 1).val = (i 0).val := by
  unfold DotDims.lhsIdx
  rw [dif_neg (show ¬(1 : Fin Cert.Reference7Ideal.S4x2048x704.rank) ∈ dot_S4x2048x704_S4x704x1024_S2048x1024_20_10_1_2_n_n.lhsBatch by decide), dif_pos (show (1 : Fin Cert.Reference7Ideal.S4x2048x704.rank) ∈ dot_S4x2048x704_S4x704x1024_S2048x1024_20_10_1_2_n_n.lhsNonContracting by decide)]
  rfl
theorem lhs_2 (i : Cert.Reference7Ideal.S2048x1024.Idx) (q : dot_S4x2048x704_S4x704x1024_S2048x1024_20_10_1_2_n_n.contr.Idx) : (dot_S4x2048x704_S4x704x1024_S2048x1024_20_10_1_2_n_n.lhsIdx i q 2).val = (q ⟨0, by decide⟩).val := by
  unfold DotDims.lhsIdx
  rw [dif_neg (show ¬(2 : Fin Cert.Reference7Ideal.S4x2048x704.rank) ∈ dot_S4x2048x704_S4x704x1024_S2048x1024_20_10_1_2_n_n.lhsBatch by decide), dif_neg (show ¬(2 : Fin Cert.Reference7Ideal.S4x2048x704.rank) ∈ dot_S4x2048x704_S4x704x1024_S2048x1024_20_10_1_2_n_n.lhsNonContracting by decide)]
  rfl
theorem rhs_0 (i : Cert.Reference7Ideal.S2048x1024.Idx) (q : dot_S4x2048x704_S4x704x1024_S2048x1024_20_10_1_2_n_n.contr.Idx) : (dot_S4x2048x704_S4x704x1024_S2048x1024_20_10_1_2_n_n.rhsIdx i q 0).val = (q ⟨1, by decide⟩).val := by
  unfold DotDims.rhsIdx
  rw [dif_neg (show ¬(0 : Fin Cert.Reference7Ideal.S4x704x1024.rank) ∈ dot_S4x2048x704_S4x704x1024_S2048x1024_20_10_1_2_n_n.rhsBatch by decide), dif_neg (show ¬(0 : Fin Cert.Reference7Ideal.S4x704x1024.rank) ∈ dot_S4x2048x704_S4x704x1024_S2048x1024_20_10_1_2_n_n.rhsNonContracting by decide)]
  rfl
theorem rhs_1 (i : Cert.Reference7Ideal.S2048x1024.Idx) (q : dot_S4x2048x704_S4x704x1024_S2048x1024_20_10_1_2_n_n.contr.Idx) : (dot_S4x2048x704_S4x704x1024_S2048x1024_20_10_1_2_n_n.rhsIdx i q 1).val = (q ⟨0, by decide⟩).val := by
  unfold DotDims.rhsIdx
  rw [dif_neg (show ¬(1 : Fin Cert.Reference7Ideal.S4x704x1024.rank) ∈ dot_S4x2048x704_S4x704x1024_S2048x1024_20_10_1_2_n_n.rhsBatch by decide), dif_neg (show ¬(1 : Fin Cert.Reference7Ideal.S4x704x1024.rank) ∈ dot_S4x2048x704_S4x704x1024_S2048x1024_20_10_1_2_n_n.rhsNonContracting by decide)]
  rfl
theorem rhs_2 (i : Cert.Reference7Ideal.S2048x1024.Idx) (q : dot_S4x2048x704_S4x704x1024_S2048x1024_20_10_1_2_n_n.contr.Idx) : (dot_S4x2048x704_S4x704x1024_S2048x1024_20_10_1_2_n_n.rhsIdx i q 2).val = (i 1).val := by
  unfold DotDims.rhsIdx
  rw [dif_neg (show ¬(2 : Fin Cert.Reference7Ideal.S4x704x1024.rank) ∈ dot_S4x2048x704_S4x704x1024_S2048x1024_20_10_1_2_n_n.rhsBatch by decide), dif_pos (show (2 : Fin Cert.Reference7Ideal.S4x704x1024.rank) ∈ dot_S4x2048x704_S4x704x1024_S2048x1024_20_10_1_2_n_n.rhsNonContracting by decide)]
  rfl

/-- A sum over the contracted axes is a sum over each. -/
theorem sum_axes {s : Shape} (hs : s = ⟨2, ![704, 4]⟩) (h0 : 0 < s.rank) (h1 : 1 < s.rank) (g : ℕ → ℕ → EReal) :
    ∑ q : s.Idx, g (q ⟨0, h0⟩).val (q ⟨1, h1⟩).val = ∑ a : Fin 704, ∑ b : Fin 4, g a.val b.val := by
  subst hs
  exact ValueIdx.sum_idx2 (n0 := 704) (n1 := 4) fun q => g (q 0).val (q 1).val

/-- The reference's product, over the shards and their columns. -/
theorem dot_at (u : Cert.Reference7Ideal.S4x2048x704.Idx → EReal) (w : Cert.Reference7Ideal.S4x704x1024.Idx → EReal) (i : Cert.Reference7Ideal.S2048x1024.Idx) :
    (Host.dotGeneral (F := Ideal) (φ₁ := .f32) (φ₂ := .f32) dot_S4x2048x704_S4x704x1024_S2048x1024_20_10_1_2_n_n none u w i : EReal) = ∑ a : Fin 704, ∑ b : Fin 4, at3 u b.val (i 0).val a.val * at3 w b.val a.val (i 1).val := by
  simp only [Host.dotGeneral]
  rw [Ideal.dotGeneral_apply]
  refine (Finset.sum_congr rfl fun q _ => congrArg₂ (fun a b : EReal => a * b) (at3_eq u _ (lhs_0 i q) (lhs_1 i q) (lhs_2 i q)) (at3_eq w _ (rhs_0 i q) (rhs_1 i q) (rhs_2 i q))).trans ?_
  exact sum_axes (s := dot_S4x2048x704_S4x704x1024_S2048x1024_20_10_1_2_n_n.contr) (congrArg (fun z : Fin 2 → ℕ => (⟨2, z⟩ : Shape)) (funext fun a => match a with | ⟨0, _⟩ => rfl | ⟨1, _⟩ => rfl)) (by decide) (by decide) fun a b => at3 u b (i 0).val a * at3 w b a (i 1).val

end

/-- The reference's two results. -/
theorem reference4 (a : S4x2048x704.Idx → EReal) (w : S4x704x1024.Idx → EReal) : Cert.Reference7Ideal.Read.val_main_v0 (F := Ideal) a w = product a w := by
  funext i
  unfold Cert.Reference7Ideal.Read.val_main_v0
  refine (dot_at a w i).trans ?_
  unfold product down part
  rw [Finset.sum_comm, Fin.sum_univ_four, add_assoc]
  rfl

theorem reference5 (a : S4x2048x704.Idx → EReal) (w : S4x704x1024.Idx → EReal) (x : S2048x1024.Idx → EReal) (p : S8x1024.Idx → EReal) :
    Cert.Reference7Ideal.Read.val_main_v23 (F := Ideal) a w x p = added a w x p := by
  funext i
  simp only [Cert.Reference7Ideal.Read.val_main_v23_apply, Cert.Reference7Ideal.Read.val_main_v22_apply, Cert.Reference7Ideal.Read.val_main_v21_apply, Cert.Reference7Ideal.Read.val_main_v20_apply, Cert.Reference7Ideal.Read.val_main_v19_apply, Cert.Reference7Ideal.Read.val_main_v18_apply, Cert.Reference7Ideal.Read.val_main_cst_2_apply, Cert.Reference7Ideal.Read.val_main_v17_apply, Cert.Reference7Ideal.Read.val_main_v16_apply, Cert.Reference7Ideal.Read.val_main_v15_apply, Cert.Reference7Ideal.Read.val_main_v14_apply, Cert.Reference7Ideal.Read.val_main_v13_apply, Cert.Reference7Ideal.Read.val_main_v12_apply, Cert.Reference7Ideal.Read.val_main_v11_apply, Cert.Reference7Ideal.Read.val_main_v10_apply, Cert.Reference7Ideal.Read.val_main_v9_apply, Cert.Reference7Ideal.Read.val_main_v8_apply, Cert.Reference7Ideal.Read.val_main_v7_apply, Cert.Reference7Ideal.Read.val_main_v6_apply, Cert.Reference7Ideal.Read.val_main_cst_1_apply, Cert.Reference7Ideal.Read.val_main_v5_apply, Cert.Reference7Ideal.Read.val_main_v4_apply, Cert.Reference7Ideal.Read.val_main_cst_0_apply, Cert.Reference7Ideal.Read.val_main_v3_apply, Cert.Reference7Ideal.Read.val_main_v2_apply, Cert.Reference7Ideal.Read.val_main_cst_apply, Cert.Reference7Ideal.Read.val_main_v1_apply, reference4]
  have hx : x i = at2 x (i 0).val (i 1).val := at2_eq x i rfl rfl
  have h1 : p (Cert.Reference7Ideal.Read.idx_main_v11 (Cert.Reference7Ideal.Read.idx_main_v12 (Cert.Reference7Ideal.Read.idx_main_v13 (Cert.Reference7Ideal.Read.idx_main_v14 i)))) = at2 p 1 (i 1).val := at2_eq p _ rfl (Nat.mod_eq_of_lt (i 1).isLt)
  have h4 : p (Cert.Reference7Ideal.Read.idx_main_v16 (Cert.Reference7Ideal.Read.idx_main_v17 (Cert.Reference7Ideal.Read.idx_main_v20 (Cert.Reference7Ideal.Read.idx_main_v21 i)))) = at2 p 4 (i 1).val := at2_eq p _ rfl (Nat.mod_eq_of_lt (i 1).isLt)
  have z : (FloatOps.ofBits (F := Ideal) .f32 0x00000000#32 : EReal) = 0 := Ideal.ofBits_zero_f32
  rw [hx, h1, h4, z]
  unfold added mix product
  rw [zero_add]
  rfl

theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => product (argA m c) (argW m c), fun c => added (argA m c) (argW m c) (argX m c) (argP m c), ?_, ?_⟩
  · exact (θ_run Cert.Kernel7Ideal.defs _ _).mono (fun _ h c => ⟨(h c).1.trans (value4 m c), (h c).2.1.trans (value5 m c), (h c).2.2⟩) (run_blocks m g)
  · refine (θ_run Cert.Reference7Ideal.defs _ _).mono (fun _ h c => ?_) (Cert.Reference7Ideal.Value.run (F := Ideal) m' g')
    obtain ⟨h0, h1, ha⟩ := h c
    obtain ⟨a0, a1, a2, a3⟩ := hargs c
    refine ⟨h0.trans ((Cert.Reference7Ideal.Read.val_main_v0_eq _ _).trans ?_), h1.trans ((Cert.Reference7Ideal.Read.val_main_v23_eq _ _ _ _).trans ?_), ha⟩
    · rw [a0, a1]
      exact reference4 _ _
    · rw [a0, a1, a2, a3]
      exact reference5 _ _ _ _

end Cert.Ffn.Down

end
-- ==== Proof.Dilated.Heads.lean ====
/- The dilated attention's projection into heads: head `h` of the result is the product of the tokens with the columns of
   that head's weights. -/
module

public import proofs.«01_k».proof.Proof.Ffn.Index
public import proofs.«01_k».proof.Proof.Gen.Kernel8Ideal.Value
public import proofs.«01_k».proof.Proof.Gen.Reference8Ideal.Run
public import proofs.«01_k».proof.Proof.Gen.Reference8Ideal.Read
public import proofs.«01_k».proof.Defs
public import Idealize.ShloMosaic.Lib.StableHlo.Run
public import Idealize.ShloMosaic.Lib.Pipeline.ValueKit.Tiles

@[expose] public section

set_option maxRecDepth 16384

noncomputable section

namespace Cert.Dilated.Heads

open Cert.Kernel8Ideal Cert.Kernel8Ideal.Gen Cert.Kernel8Ideal.Value Cert.Ffn Idealize.ShloMosaic Idealize.ShloMosaic.TcCoe Idealize.ShloMosaic.StableHlo

/-- The result, from the call's two arguments. -/
def result (x : S2048x1024.Idx → EReal) (y : S4x1024x2304.Idx → EReal) (i : S72x2048x128.Idx) : EReal :=
  ∑ k : Fin 1024, at2 x (i 1).val k.val * at3 y ((i 0).val / 18) k.val (128 * ((i 0).val % 18) + (i 2).val)

/-- One grid point's product, at an index. -/
theorem product (x0 : Vec Ideal S1024x1024 .bf16) (x1 : Vec Ideal S1x1024x768 .bf16) (r : Fin 1024) (d : Fin 768) :
    k0_pay2 x0 x1 (ix2 r d) = ∑ k : Fin 1024, (x0 (ix2 r k) : EReal) * x1 (ix3 (0 : Fin 1) k d) := by
  pointwise [k0_pay2]

theorem piece0 (x0 : Vec Ideal S1024x1024 .bf16) (x1 : Vec Ideal S1x1024x768 .bf16) (r : Fin 1024) (d : Fin 128) :
    k0_pay3 x0 x1 (ix3 (0 : Fin 1) r d) = k0_pay2 x0 x1 (ix2 r ⟨0 + d.val, by omega⟩) := by
  unfold k0_pay3
  generalize k0_pay2 x0 x1 = P
  pointwise
theorem piece1 (x0 : Vec Ideal S1024x1024 .bf16) (x1 : Vec Ideal S1x1024x768 .bf16) (r : Fin 1024) (d : Fin 128) :
    k0_pay4 x0 x1 (ix3 (0 : Fin 1) r d) = k0_pay2 x0 x1 (ix2 r ⟨128 + d.val, by omega⟩) := by
  unfold k0_pay4
  generalize k0_pay2 x0 x1 = P
  pointwise
theorem piece2 (x0 : Vec Ideal S1024x1024 .bf16) (x1 : Vec Ideal S1x1024x768 .bf16) (r : Fin 1024) (d : Fin 128) :
    k0_pay5 x0 x1 (ix3 (0 : Fin 1) r d) = k0_pay2 x0 x1 (ix2 r ⟨256 + d.val, by omega⟩) := by
  unfold k0_pay5
  generalize k0_pay2 x0 x1 = P
  pointwise
theorem piece3 (x0 : Vec Ideal S1024x1024 .bf16) (x1 : Vec Ideal S1x1024x768 .bf16) (r : Fin 1024) (d : Fin 128) :
    k0_pay6 x0 x1 (ix3 (0 : Fin 1) r d) = k0_pay2 x0 x1 (ix2 r ⟨384 + d.val, by omega⟩) := by
  unfold k0_pay6
  generalize k0_pay2 x0 x1 = P
  pointwise
theorem piece4 (x0 : Vec Ideal S1024x1024 .bf16) (x1 : Vec Ideal S1x1024x768 .bf16) (r : Fin 1024) (d : Fin 128) :
    k0_pay7 x0 x1 (ix3 (0 : Fin 1) r d) = k0_pay2 x0 x1 (ix2 r ⟨512 + d.val, by omega⟩) := by
  unfold k0_pay7
  generalize k0_pay2 x0 x1 = P
  pointwise
theorem piece5 (x0 : Vec Ideal S1024x1024 .bf16) (x1 : Vec Ideal S1x1024x768 .bf16) (r : Fin 1024) (d : Fin 128) :
    k0_pay1 (k0_pay8 x0 x1) (ix3 (0 : Fin 1) r d) = k0_pay2 x0 x1 (ix2 r ⟨640 + d.val, by omega⟩) := by
  unfold k0_pay1 k0_pay8
  generalize k0_pay2 x0 x1 = P
  pointwise

/-- The six heads a grid point stores. -/
theorem heads (x0 : Vec Ideal S1024x1024 .bf16) (x1 : Vec Ideal S1x1024x768 .bf16) (h : Fin 6) (r : Fin 1024) (d : Fin 128) :
    out0_2 x0 x1 (ix3 h r d) = k0_pay2 x0 x1 (ix2 r ⟨128 * h.val + d.val, by omega⟩) := by
  unfold out0_2
  rw [View.ld_unit_zero (by decide), View.ld_unit_zero (by decide)]
  have tile (o : ℕ) (w : S1x1024x128.Idx → EReal) (ho : ∀ (r : Fin 1024) (d : Fin 128), ∀ h : o < 6, w (ix3 (0 : Fin 1) r d) = k0_pay2 x0 x1 (ix2 r ⟨128 * o + d.val, by omega⟩)) :
      View.TileAt (Val := Elt Ideal) (e := .f32) (ix3 h r d : S6x1024x128.Idx) ![o, 0, 0] S1x1024x128.size w (k0_pay2 x0 x1 (ix2 r ⟨128 * h.val + d.val, by omega⟩)) := by
    intro x hx
    have e0 : h.val = o + (x 0).val := hx 0
    have e1 : r.val = 0 + (x 1).val := hx 1
    have e2 : d.val = 0 + (x 2).val := hx 2
    have l0 : (x 0).val < 1 := (x 0).isLt
    have ho' : o < 6 := by omega
    have ex : x = ix3 (0 : Fin 1) r d := funext fun a => match a with
      | ⟨0, _⟩ => Fin.ext (by show (x 0).val = 0; omega)
      | ⟨1, _⟩ => Fin.ext (by show (x 1).val = r.val; omega)
      | ⟨2, _⟩ => Fin.ext (by show (x 2).val = d.val; omega)
    rw [ex, ho r d ho']
    have eo : o = h.val := by omega
    subst eo
    rfl
  refine View.canon_eq_of_allAt _ _ _ (cover0_2 _ _ _ _ _ _ _) ?_
  refine View.allAt_cons_unit _ _ _ _ _ (tile 5 _ fun r d _ => piece5 x0 x1 r d) ?_
  refine View.allAt_cons_unit _ _ _ _ _ (tile 4 _ fun r d _ => piece4 x0 x1 r d) ?_
  refine View.allAt_cons_unit _ _ _ _ _ (tile 3 _ fun r d _ => piece3 x0 x1 r d) ?_
  refine View.allAt_cons_unit _ _ _ _ _ (tile 2 _ fun r d _ => piece2 x0 x1 r d) ?_
  refine View.allAt_cons_unit _ _ _ _ _ (tile 1 _ fun r d _ => piece1 x0 x1 r d) ?_
  refine View.allAt_cons_unit _ _ _ _ _ (tile 0 _ fun r d _ => piece0 x0 x1 r d) ?_
  exact View.allAt_nil _ _

variable (m : (ℓ : Loc nD τ sig) → Buf (Elt Ideal) ℓ) (ρ : Dev nD → PrngReg) (c : Dev nD)

/-- Argument 0. -/
abbrev argX : S2048x1024.Idx → EReal := m ((c : Thread nD τ).loc main_arg0)
/-- Argument 1. -/
abbrev argY : S4x1024x2304.Idx → EReal := m ((c : Thread nD τ).loc main_arg1)

theorem entry_x : V m c main_v0 = argX m c := by
  simp only [V, hostOps0]
  after_results_simp
  rfl

theorem entry_y : V m c main_v1 = argY m c := by
  simp only [V, hostOps0]
  after_results_simp
  rfl

/-- The windows' blocks at each grid point. -/
theorem index0 : ∀ t : Fin cfg0.N, (win0_0.index t 0 = t.val % 2 ∧ win0_0.index t 1 = 0)
    ∧ (win0_1.index t 0 = t.val / 6 ∧ win0_1.index t 1 = 0 ∧ win0_1.index t 2 = t.val / 2 % 3)
    ∧ (win0_2.index t 0 = t.val / 2 ∧ win0_2.index t 1 = t.val % 2 ∧ win0_2.index t 2 = 0) :=
  (by decide +kernel : ∀ t : Fin grid0.N, _)

theorem read_x (t : Fin cfg0.N) (r : Fin 1024) (k : Fin 1024) :
    (iblk m c 0 t : S1024x1024.Idx → EReal) (ix2 r k) = at2 (argX m c) (1024 * (t.val % 2) + r.val) k.val := by
  obtain ⟨⟨e0, e1⟩, -, -⟩ := index0 t
  refine (congrFun (entry_x m c) (((cfg0.win 0).blk t).view.emb (ix2 r k))).trans ?_
  have h0 : ((((cfg0.win 0).blk t).view.emb (ix2 r k)) 0).val = 1024 * (t.val % 2) + r.val := by
    show win0_0.index t (0 : Fin 2) * 1024 + 1 * r.val = _; omega
  have h1 : ((((cfg0.win 0).blk t).view.emb (ix2 r k)) 1).val = k.val := by
    show win0_0.index t (1 : Fin 2) * 1024 + 1 * k.val = _; omega
  exact at2_eq _ _ h0 h1

theorem read_y (t : Fin cfg0.N) (k : Fin 1024) (d : Fin 768) :
    (iblk m c 1 t : S1x1024x768.Idx → EReal) (ix3 (0 : Fin 1) k d) = at3 (argY m c) (t.val / 6) k.val (768 * (t.val / 2 % 3) + d.val) := by
  obtain ⟨-, ⟨e0, e1, e2⟩, -⟩ := index0 t
  refine (congrFun (entry_y m c) (((cfg0.win 1).blk t).view.emb (ix3 (0 : Fin 1) k d))).trans ?_
  have h0 : ((((cfg0.win 1).blk t).view.emb (ix3 (0 : Fin 1) k d)) 0).val = t.val / 6 := by
    show win0_1.index t (0 : Fin 3) * 1 + 1 * 0 = _; omega
  have h1 : ((((cfg0.win 1).blk t).view.emb (ix3 (0 : Fin 1) k d)) 1).val = k.val := by
    show win0_1.index t (1 : Fin 3) * 1024 + 1 * k.val = _; omega
  have h2 : ((((cfg0.win 1).blk t).view.emb (ix3 (0 : Fin 1) k d)) 2).val = 768 * (t.val / 2 % 3) + d.val := by
    show win0_1.index t (2 : Fin 3) * 768 + 1 * d.val = _; omega
  exact at3_eq _ _ h0 h1 h2

/-- One grid point's block. -/
theorem point (t : Fin cfg0.N) (h : Fin 6) (r : Fin 1024) (d : Fin 128) :
    (out0_2 (iblk m c 0 t) (iblk m c 1 t) : S6x1024x128.Idx → EReal) (ix3 h r d)
      = ∑ k : Fin 1024, at2 (argX m c) (1024 * (t.val % 2) + r.val) k.val
        * at3 (argY m c) ((6 * (t.val / 2) + h.val) / 18) k.val (128 * ((6 * (t.val / 2) + h.val) % 18) + d.val) := by
  refine ((heads _ _ h r d).trans (product _ _ _ _)).trans (Finset.sum_congr rfl fun k _ => ?_)
  rw [read_x, read_y]
  have e1 : (6 * (t.val / 2) + h.val) / 18 = t.val / 6 := by omega
  have e2 : 768 * (t.val / 2 % 3) + (128 * h.val + d.val) = 128 * ((6 * (t.val / 2) + h.val) % 18) + d.val := by omega
  rw [e1, ← e2]

/-- What the call leaves in its result. -/
theorem value : ((dats m 0 c).arrAt 2 cfg0.N : S72x2048x128.Idx → EReal) = result (argX m c) (argY m c) := by
  refine (dats m 0 c).arrAt_eq_of_cover 2 (result (argX m c) (argY m c)) (fun t hf => ?_) (fun i => ?_)
  · funext y
    obtain ⟨-, -, ⟨e0, e1, e2⟩⟩ := index0 t
    obtain ⟨h, r, d, rfl⟩ : ∃ (h : Fin 6) (r : Fin 1024) (d : Fin 128), y = ix3 h r d := ⟨y 0, y 1, y 2, ix3_self y⟩
    show (cfg0.win 2).cut (grid0.coords t) ((dats m 0 c).after 2 t) (ix3 h r d)
      = result (argX m c) (argY m c) (((cfg0.win 2).blk t).view.emb (ix3 h r d))
    rw [after0_2]
    have h0 : ((((cfg0.win 2).blk t).view.emb (ix3 h r d)) 0).val = 6 * (t.val / 2) + h.val := by
      show win0_2.index t (0 : Fin 3) * 6 + 1 * h.val = _; omega
    have h1 : ((((cfg0.win 2).blk t).view.emb (ix3 h r d)) 1).val = 1024 * (t.val % 2) + r.val := by
      show win0_2.index t (1 : Fin 3) * 1024 + 1 * r.val = _; omega
    have h2 : ((((cfg0.win 2).blk t).view.emb (ix3 h r d)) 2).val = d.val := by
      show win0_2.index t (2 : Fin 3) * 128 + 1 * d.val = _; omega
    unfold result
    rw [h0, h1, h2]
    exact Eq.trans rfl (point m c t h r d)
  · have hl0 : (i 0).val < 72 := (i 0).isLt
    have hl1 : (i 1).val < 2048 := (i 1).isLt
    have hl2 : (i 2).val < 128 := (i 2).isLt
    let t : Fin cfg0.N := ⟨2 * ((i 0).val / 6) + (i 1).val / 1024, by show _ < grid0.N; rw [N_0]; omega⟩
    have ht : t.val = 2 * ((i 0).val / 6) + (i 1).val / 1024 := rfl
    refine ⟨t, flush0_2 t, ?_⟩
    obtain ⟨-, -, ⟨e0, e1, e2⟩⟩ := index0 t
    show i ∈ ((View.whole main_v2).slice (win0_2.rect t)).set
    rw [View.set_slice_whole, Rect.mem_set_unit]
    intro a
    match a with
    | ⟨0, _⟩ => show win0_2.index t (0 : Fin 3) * 6 ≤ (i 0).val ∧ (i 0).val < win0_2.index t (0 : Fin 3) * 6 + 6; omega
    | ⟨1, _⟩ => show win0_2.index t (1 : Fin 3) * 1024 ≤ (i 1).val ∧ (i 1).val < win0_2.index t (1 : Fin 3) * 1024 + 1024; omega
    | ⟨2, _⟩ => show win0_2.index t (2 : Fin 3) * 128 ≤ (i 2).val ∧ (i 2).val < win0_2.index t (2 : Fin 3) * 128 + 128; omega

/-- The reference's result. -/
theorem reference (x : S2048x1024.Idx → EReal) (y : S4x1024x2304.Idx → EReal) :
    Cert.Reference8Ideal.Read.val_main_v4 (F := Ideal) x y = result x y := by
  funext i
  have h0 : (i 0).val < 72 := (i 0).isLt
  have h1 : (i 1).val < 2048 := (i 1).isLt
  have h2 : (i 2).val < 128 := (i 2).isLt
  rw [Cert.Reference8Ideal.Read.val_main_v4_apply, Cert.Reference8Ideal.Read.val_main_v3_apply, Cert.Reference8Ideal.Read.val_main_v2_apply,
    Cert.Reference8Ideal.Read.val_main_v1_apply, Cert.Reference8Ideal.Read.val_main_v0_apply]
  have f0 : (((i 0).val * 2048 + (i 1).val) * 128 + (i 2).val) / 4718592 = (i 0).val / 18 := by omega
  have f1 : (((i 0).val * 2048 + (i 1).val) * 128 + (i 2).val) / 262144 % 18 = (i 0).val % 18 := by omega
  have f2 : (((i 0).val * 2048 + (i 1).val) * 128 + (i 2).val) / 128 % 2048 = (i 1).val := by omega
  have f3 : (((i 0).val * 2048 + (i 1).val) * 128 + (i 2).val) % 128 = (i 2).val := by omega
  unfold result
  refine Finset.sum_congr rfl fun k _ => ?_
  rw [mul_comm]
  refine congrArg₂ (· * ·) (at2_eq x _ ?_ rfl) (at3_eq y _ ?_ rfl ?_)
  · show ((((((i 0).val * 2048 + (i 1).val) * 128 + (i 2).val) / 4718592 * 2048 + (((i 0).val * 2048 + (i 1).val) * 128 + (i 2).val) / 128 % 2048) * 18 + (((i 0).val * 2048 + (i 1).val) * 128 + (i 2).val) / 262144 % 18) * 128 + (((i 0).val * 2048 + (i 1).val) * 128 + (i 2).val) % 128) / 2304 % 2048 = _
    rw [f0, f1, f2, f3]
    have hb : (i 0).val % 18 < 18 := Nat.mod_lt _ (by decide)
    clear f0 f1 f2 f3
    generalize (i 0).val / 18 = a
    generalize (i 0).val % 18 = b at hb
    generalize (i 1).val = r at h1 ⊢
    generalize (i 2).val = d at h2 ⊢
    omega
  · show ((((((i 0).val * 2048 + (i 1).val) * 128 + (i 2).val) / 4718592 * 2048 + (((i 0).val * 2048 + (i 1).val) * 128 + (i 2).val) / 128 % 2048) * 18 + (((i 0).val * 2048 + (i 1).val) * 128 + (i 2).val) / 262144 % 18) * 128 + (((i 0).val * 2048 + (i 1).val) * 128 + (i 2).val) % 128) / 4718592 = _
    rw [f0, f1, f2, f3]; omega
  · show ((((((i 0).val * 2048 + (i 1).val) * 128 + (i 2).val) / 4718592 * 2048 + (((i 0).val * 2048 + (i 1).val) * 128 + (i 2).val) / 128 % 2048) * 18 + (((i 0).val * 2048 + (i 1).val) * 128 + (i 2).val) / 262144 % 18) * 128 + (((i 0).val * 2048 + (i 1).val) * 128 + (i 2).val) % 128) % 2304 = _
    rw [f0, f1, f2, f3]; omega

theorem algebraic : Cert.algebraic_Kernel8Ideal_Reference8Ideal (hKernel8Ideal := Cert.Kernel8Ideal.Gen.facts)
    (hReference8Ideal := Cert.Reference8Ideal.Gen.facts) := by
  intro m g m' g' _ hargs
  refine ⟨fun c => result (argX m c) (argY m c), ?_, ?_⟩
  · exact (θ_run Cert.Kernel8Ideal.defs _ _).mono (fun _ h c => ⟨(h c).1.trans (value m c), (h c).2⟩) (run_blocks m g)
  · refine (θ_run Cert.Reference8Ideal.defs _ _).mono (fun _ h c => ?_) (Cert.Reference8Ideal.Value.run (F := Ideal) m' g')
    obtain ⟨h0, ha⟩ := h c
    obtain ⟨a0, a1⟩ := hargs c
    refine ⟨h0.trans ((Cert.Reference8Ideal.Read.val_main_v4_eq _ _).trans ?_), ha⟩
    rw [a0, a1]
    exact reference _ _

end Cert.Dilated.Heads

end
-- ==== Proof.Dilated.HeadWeights.lean ====
/- The gradient of the weights of the dilated attention's projection into heads: the product of the layer's input with the
   gradients of the heads side by side, summed over the tokens. -/
module

public import proofs.«01_k».proof.Proof.Ffn.Index
public import proofs.«01_k».proof.Proof.Gen.Kernel9Ideal.Value
public import proofs.«01_k».proof.Proof.Gen.Reference9Ideal.Run
public import proofs.«01_k».proof.Proof.Gen.Reference9Ideal.Read
public import proofs.«01_k».proof.Defs
public import Idealize.ShloMosaic.Lib.StableHlo.Run
public import Idealize.ShloMosaic.Lib.Pipeline.ValueKit.Tiles

@[expose] public section

set_option maxRecDepth 16384

noncomputable section

namespace Cert.Dilated.HeadWeights

open Cert.Kernel9Ideal Cert.Kernel9Ideal.Gen Cert.Kernel9Ideal.Value Cert.Ffn Idealize.ShloMosaic Idealize.ShloMosaic.TcCoe Idealize.ShloMosaic.StableHlo

/-- The result, from the call's two arguments. -/
def result (x : S2048x1024.Idx → EReal) (y : S72x2048x128.Idx → EReal) (i : S2x4x512x2304.Idx) : EReal :=
  ∑ k : Fin 2048, at2 x k.val (512 * (i 0).val + (i 2).val) * at3 y (18 * (i 1).val + (i 3).val / 128) k.val ((i 3).val % 128)

/-- One grid point's product, at an index, where the six heads side by side hold `G`. -/
theorem product (x0 : Vec Ideal S2048x512 .bf16) (p0 p1 p2 p3 p4 p5 : Vec Ideal S1x2048x128 .bf16) (G : ℕ → ℕ → EReal)
    (h0 : ∀ (k : Fin 2048) (d : Fin 128), (p0 (ix3 (0 : Fin 1) k d) : EReal) = G k.val (0 + d.val))
    (h1 : ∀ (k : Fin 2048) (d : Fin 128), (p1 (ix3 (0 : Fin 1) k d) : EReal) = G k.val (128 + d.val))
    (h2 : ∀ (k : Fin 2048) (d : Fin 128), (p2 (ix3 (0 : Fin 1) k d) : EReal) = G k.val (256 + d.val))
    (h3 : ∀ (k : Fin 2048) (d : Fin 128), (p3 (ix3 (0 : Fin 1) k d) : EReal) = G k.val (384 + d.val))
    (h4 : ∀ (k : Fin 2048) (d : Fin 128), (p4 (ix3 (0 : Fin 1) k d) : EReal) = G k.val (512 + d.val))
    (h5 : ∀ (k : Fin 2048) (d : Fin 128), (p5 (ix3 (0 : Fin 1) k d) : EReal) = G k.val (640 + d.val))
    (r : Fin 512) (n : Fin 768) :
    k0_pay1 x0 p0 p1 p2 p3 p4 p5 (ix4 (0 : Fin 1) (0 : Fin 1) r n) = ∑ k : Fin 2048, (x0 (ix2 k r) : EReal) * G k.val n.val := by
  pointwise [k0_pay1]
  refine Finset.sum_congr rfl fun k _ => congrArg _ ?_
  split_ifs
  all_goals first
    | (refine (h0 _ _).trans (congrArg (G k.val) ?_); dsimp only; omega)
    | (refine (h1 _ _).trans (congrArg (G k.val) ?_); dsimp only; omega)
    | (refine (h2 _ _).trans (congrArg (G k.val) ?_); dsimp only; omega)
    | (refine (h3 _ _).trans (congrArg (G k.val) ?_); dsimp only; omega)
    | (refine (h4 _ _).trans (congrArg (G k.val) ?_); dsimp only; omega)
    | (refine (h5 _ _).trans (congrArg (G k.val) ?_); dsimp only; omega)

variable (m : (ℓ : Loc nD τ sig) → Buf (Elt Ideal) ℓ) (ρ : Dev nD → PrngReg) (c : Dev nD)

/-- Argument 0. -/
abbrev argX : S2048x1024.Idx → EReal := m ((c : Thread nD τ).loc main_arg0)
/-- Argument 1. -/
abbrev argY : S72x2048x128.Idx → EReal := m ((c : Thread nD τ).loc main_arg1)

theorem entry_x : V m c main_v0 = argX m c := by
  simp only [V, hostOps0]
  after_results_simp
  rfl

theorem entry_y : V m c main_v1 = argY m c := by
  simp only [V, hostOps0]
  after_results_simp
  rfl

/-- The windows' blocks at each grid point. -/
theorem index0 : ∀ t : Fin cfg0.N, (win0_0.index t 0 = 0 ∧ win0_0.index t 1 = t.val % 2)
    ∧ (win0_1.index t 0 = t.val / 2 ∧ win0_1.index t 1 = 0 ∧ win0_1.index t 2 = 0)
    ∧ (win0_2.index t 0 = t.val % 2 ∧ win0_2.index t 1 = t.val / 6 ∧ win0_2.index t 2 = 0 ∧ win0_2.index t 3 = t.val / 2 % 3) :=
  (by decide +kernel : ∀ t : Fin grid0.N, _)

theorem read_x (t : Fin cfg0.N) (k : Fin 2048) (r : Fin 512) :
    (iblk m c 0 t : S2048x512.Idx → EReal) (ix2 k r) = at2 (argX m c) k.val (512 * (t.val % 2) + r.val) := by
  obtain ⟨⟨e0, e1⟩, -, -⟩ := index0 t
  refine (congrFun (entry_x m c) (((cfg0.win 0).blk t).view.emb (ix2 k r))).trans ?_
  have h0 : ((((cfg0.win 0).blk t).view.emb (ix2 k r)) 0).val = k.val := by
    show win0_0.index t (0 : Fin 2) * 2048 + 1 * k.val = _; omega
  have h1 : ((((cfg0.win 0).blk t).view.emb (ix2 k r)) 1).val = 512 * (t.val % 2) + r.val := by
    show win0_0.index t (1 : Fin 2) * 512 + 1 * r.val = _; omega
  exact at2_eq _ _ h0 h1

theorem read_y (t : Fin cfg0.N) (h : Fin 6) (k : Fin 2048) (d : Fin 128) :
    (iblk m c 1 t : S6x2048x128.Idx → EReal) (ix3 h k d) = at3 (argY m c) (6 * (t.val / 2) + h.val) k.val d.val := by
  obtain ⟨-, ⟨e0, e1, e2⟩, -⟩ := index0 t
  refine (congrFun (entry_y m c) (((cfg0.win 1).blk t).view.emb (ix3 h k d))).trans ?_
  have h0 : ((((cfg0.win 1).blk t).view.emb (ix3 h k d)) 0).val = 6 * (t.val / 2) + h.val := by
    show win0_1.index t (0 : Fin 3) * 6 + 1 * h.val = _; omega
  have h1 : ((((cfg0.win 1).blk t).view.emb (ix3 h k d)) 1).val = k.val := by
    show win0_1.index t (1 : Fin 3) * 2048 + 1 * k.val = _; omega
  have h2 : ((((cfg0.win 1).blk t).view.emb (ix3 h k d)) 2).val = d.val := by
    show win0_1.index t (2 : Fin 3) * 128 + 1 * d.val = _; omega
  exact at3_eq _ _ h0 h1 h2

/-- One of the six heads a grid point loads. -/
theorem load (t : Fin cfg0.N) (h : Fin 6) (inb : ∀ a, ![h.val, 0, 0] a + S1x2048x128.size a ≤ S6x2048x128.size a) (k : Fin 2048) (d : Fin 128) :
    (View.ld (Val := Elt Ideal) (e' := .bf16) (iblk m c 1 t : Vec Ideal S6x2048x128 .bf16) (Rect.unit (s := S6x2048x128) ![h.val, 0, 0] S1x2048x128.size inb) (ix3 (0 : Fin 1) k d) : EReal)
      = at3 (argY m c) (18 * (t.val / 6) + (768 * (t.val / 2 % 3) + (128 * h.val + d.val)) / 128) k.val ((768 * (t.val / 2 % 3) + (128 * h.val + d.val)) % 128) := by
  refine (View.ld_unit_apply_of (Val := Elt Ideal) (e := .bf16) _ _ _ _ _ (ix3 h k d) fun a => ?_).trans ((read_y m c t h k d).trans ?_)
  · match a with
    | ⟨0, _⟩ => show h.val = h.val + 0; omega
    | ⟨1, _⟩ => show k.val = 0 + k.val; omega
    | ⟨2, _⟩ => show d.val = 0 + d.val; omega
  · have e1 : 6 * (t.val / 2) + h.val = 18 * (t.val / 6) + (768 * (t.val / 2 % 3) + (128 * h.val + d.val)) / 128 := by omega
    have e2 : d.val = (768 * (t.val / 2 % 3) + (128 * h.val + d.val)) % 128 := by omega
    rw [← e1, ← e2]

/-- One grid point's block. -/
theorem point (t : Fin cfg0.N) (r : Fin 512) (n : Fin 768) :
    (out0_2 (iblk m c 0 t) (iblk m c 1 t) : S1x1x512x768.Idx → EReal) (ix4 (0 : Fin 1) (0 : Fin 1) r n)
      = ∑ k : Fin 2048, at2 (argX m c) k.val (512 * (t.val % 2) + r.val)
        * at3 (argY m c) (18 * (t.val / 6) + (768 * (t.val / 2 % 3) + n.val) / 128) k.val ((768 * (t.val / 2 % 3) + n.val) % 128) := by
  unfold out0_2
  rw [View.canon_unit_zero (by decide), View.ld_unit_zero (by decide)]
  refine (product _ _ _ _ _ _ _ (fun k n => at3 (argY m c) (18 * (t.val / 6) + (768 * (t.val / 2 % 3) + n) / 128) k ((768 * (t.val / 2 % 3) + n) % 128))
    (load m c t 0 _) (load m c t 1 _) (load m c t 2 _) (load m c t 3 _) (load m c t 4 _) (load m c t 5 _) r n).trans (Finset.sum_congr rfl fun k _ => ?_)
  rw [read_x]

/-- What the call leaves in its result. -/
theorem value : ((dats m 0 c).arrAt 2 cfg0.N : S2x4x512x2304.Idx → EReal) = result (argX m c) (argY m c) := by
  refine (dats m 0 c).arrAt_eq_of_cover 2 (result (argX m c) (argY m c)) (fun t hf => ?_) (fun i => ?_)
  · funext y
    obtain ⟨-, -, ⟨e0, e1, e2, e3⟩⟩ := index0 t
    obtain ⟨z0, z1, r, n, rfl⟩ : ∃ (z0 : Fin 1) (z1 : Fin 1) (r : Fin 512) (n : Fin 768), y = ix4 z0 z1 r n := ⟨y 0, y 1, y 2, y 3, ix4_self y⟩
    obtain rfl : z0 = 0 := Subsingleton.elim _ _
    obtain rfl : z1 = 0 := Subsingleton.elim _ _
    show (cfg0.win 2).cut (grid0.coords t) ((dats m 0 c).after 2 t) (ix4 (0 : Fin 1) (0 : Fin 1) r n)
      = result (argX m c) (argY m c) (((cfg0.win 2).blk t).view.emb (ix4 (0 : Fin 1) (0 : Fin 1) r n))
    rw [after0_2]
    have h0 : ((((cfg0.win 2).blk t).view.emb (ix4 (0 : Fin 1) (0 : Fin 1) r n)) 0).val = t.val % 2 := by
      show win0_2.index t (0 : Fin 4) * 1 + 1 * 0 = _; omega
    have h1 : ((((cfg0.win 2).blk t).view.emb (ix4 (0 : Fin 1) (0 : Fin 1) r n)) 1).val = t.val / 6 := by
      show win0_2.index t (1 : Fin 4) * 1 + 1 * 0 = _; omega
    have h2 : ((((cfg0.win 2).blk t).view.emb (ix4 (0 : Fin 1) (0 : Fin 1) r n)) 2).val = r.val := by
      show win0_2.index t (2 : Fin 4) * 512 + 1 * r.val = _; omega
    have h3 : ((((cfg0.win 2).blk t).view.emb (ix4 (0 : Fin 1) (0 : Fin 1) r n)) 3).val = 768 * (t.val / 2 % 3) + n.val := by
      show win0_2.index t (3 : Fin 4) * 768 + 1 * n.val = _; omega
    unfold result
    rw [h0, h1, h2, h3]
    exact Eq.trans rfl (point m c t r n)
  · have hl0 : (i 0).val < 2 := (i 0).isLt
    have hl1 : (i 1).val < 4 := (i 1).isLt
    have hl2 : (i 2).val < 512 := (i 2).isLt
    have hl3 : (i 3).val < 2304 := (i 3).isLt
    let t : Fin cfg0.N := ⟨6 * (i 1).val + 2 * ((i 3).val / 768) + (i 0).val, by show _ < grid0.N; rw [N_0]; omega⟩
    have ht : t.val = 6 * (i 1).val + 2 * ((i 3).val / 768) + (i 0).val := rfl
    refine ⟨t, flush0_2 t, ?_⟩
    obtain ⟨-, -, ⟨e0, e1, e2, e3⟩⟩ := index0 t
    show i ∈ ((View.whole main_v2).slice (win0_2.rect t)).set
    rw [View.set_slice_whole, Rect.mem_set_unit]
    intro a
    match a with
    | ⟨0, _⟩ => show win0_2.index t (0 : Fin 4) * 1 ≤ (i 0).val ∧ (i 0).val < win0_2.index t (0 : Fin 4) * 1 + 1; omega
    | ⟨1, _⟩ => show win0_2.index t (1 : Fin 4) * 1 ≤ (i 1).val ∧ (i 1).val < win0_2.index t (1 : Fin 4) * 1 + 1; omega
    | ⟨2, _⟩ => show win0_2.index t (2 : Fin 4) * 512 ≤ (i 2).val ∧ (i 2).val < win0_2.index t (2 : Fin 4) * 512 + 512; omega
    | ⟨3, _⟩ => show win0_2.index t (3 : Fin 4) * 768 ≤ (i 3).val ∧ (i 3).val < win0_2.index t (3 : Fin 4) * 768 + 768; omega

/-- The reference's gradients of the heads side by side. -/
theorem side (y : S72x2048x128.Idx → EReal) (i : Cert.Reference9Ideal.S4x2304x2048.Idx) :
    Cert.Reference9Ideal.Read.val_main_v9 (F := Ideal) y i = at3 y (18 * (i 0).val + (i 1).val / 128) (i 2).val ((i 1).val % 128) := by
  have h0 : (i 0).val < 4 := (i 0).isLt
  have h1 : (i 1).val < 2304 := (i 1).isLt
  have h2 : (i 2).val < 2048 := (i 2).isLt
  rw [Cert.Reference9Ideal.Read.val_main_v9_apply, Cert.Reference9Ideal.Read.val_main_v8_apply, Cert.Reference9Ideal.Read.val_main_v7_apply, Cert.Reference9Ideal.Read.val_main_v6_apply]
  have f0 : (((i 0).val * 2048 + (i 2).val) * 2304 + (i 1).val) / 4718592 = (i 0).val := by omega
  have f1 : (((i 0).val * 2048 + (i 2).val) * 2304 + (i 1).val) / 128 % 18 = (i 1).val / 128 := by omega
  have f2 : (((i 0).val * 2048 + (i 2).val) * 2304 + (i 1).val) / 2304 % 2048 = (i 2).val := by omega
  have f3 : (((i 0).val * 2048 + (i 2).val) * 2304 + (i 1).val) % 128 = (i 1).val % 128 := by omega
  have hb : (i 1).val / 128 < 18 := by omega
  have hd : (i 1).val % 128 < 128 := Nat.mod_lt _ (by decide)
  refine at3_eq y _ ?_ ?_ ?_
  · show ((((((i 0).val * 2048 + (i 2).val) * 2304 + (i 1).val) / 4718592 * 18 + (((i 0).val * 2048 + (i 2).val) * 2304 + (i 1).val) / 128 % 18) * 2048 + (((i 0).val * 2048 + (i 2).val) * 2304 + (i 1).val) / 2304 % 2048) * 128 + (((i 0).val * 2048 + (i 2).val) * 2304 + (i 1).val) % 128) / 262144 = _
    rw [f0, f1, f2, f3]
    clear f0 f1 f2 f3
    generalize (i 1).val / 128 = b at hb ⊢
    generalize (i 1).val % 128 = d at hd ⊢
    omega
  · show ((((((i 0).val * 2048 + (i 2).val) * 2304 + (i 1).val) / 4718592 * 18 + (((i 0).val * 2048 + (i 2).val) * 2304 + (i 1).val) / 128 % 18) * 2048 + (((i 0).val * 2048 + (i 2).val) * 2304 + (i 1).val) / 2304 % 2048) * 128 + (((i 0).val * 2048 + (i 2).val) * 2304 + (i 1).val) % 128) / 128 % 2048 = _
    rw [f0, f1, f2, f3]
    clear f0 f1 f2 f3
    generalize (i 1).val / 128 = b at hb ⊢
    generalize (i 1).val % 128 = d at hd ⊢
    omega
  · show ((((((i 0).val * 2048 + (i 2).val) * 2304 + (i 1).val) / 4718592 * 18 + (((i 0).val * 2048 + (i 2).val) * 2304 + (i 1).val) / 128 % 18) * 2048 + (((i 0).val * 2048 + (i 2).val) * 2304 + (i 1).val) / 2304 % 2048) * 128 + (((i 0).val * 2048 + (i 2).val) * 2304 + (i 1).val) % 128) % 128 = _
    rw [f0, f1, f2, f3]
    clear f0 f1 f2 f3
    generalize (i 1).val / 128 = b at hb ⊢
    generalize (i 1).val % 128 = d at hd ⊢
    omega

/-- The reference's result. -/
theorem reference (x : S2048x1024.Idx → EReal) (y : S72x2048x128.Idx → EReal) :
    Cert.Reference9Ideal.Read.val_main_v13 (F := Ideal) x y = result x y := by
  funext i
  have h0 : (i 0).val < 2 := (i 0).isLt
  have h1 : (i 1).val < 4 := (i 1).isLt
  have h2 : (i 2).val < 512 := (i 2).isLt
  have h3 : (i 3).val < 2304 := (i 3).isLt
  rw [Cert.Reference9Ideal.Read.val_main_v13_apply, Cert.Reference9Ideal.Read.val_main_v12_apply, Cert.Reference9Ideal.Read.val_main_v11_apply, Cert.Reference9Ideal.Read.val_main_v10_apply]
  have f0 : ((((i 1).val * 2 + (i 0).val) * 512 + (i 2).val) * 2304 + (i 3).val) / 2359296 = (i 1).val := by omega
  have f1 : ((((i 1).val * 2 + (i 0).val) * 512 + (i 2).val) * 2304 + (i 3).val) / 2304 % 1024 = 512 * (i 0).val + (i 2).val := by omega
  have f2 : ((((i 1).val * 2 + (i 0).val) * 512 + (i 2).val) * 2304 + (i 3).val) % 2304 = (i 3).val := by omega
  unfold result
  refine Finset.sum_congr rfl fun k _ => ?_
  rw [side, mul_comm]
  refine congrArg₂ (· * ·) (at2_eq x _ rfl f1) ?_
  show at3 y (18 * (((((i 1).val * 2 + (i 0).val) * 512 + (i 2).val) * 2304 + (i 3).val) / 2359296) + ((((i 1).val * 2 + (i 0).val) * 512 + (i 2).val) * 2304 + (i 3).val) % 2304 / 128) k.val (((((i 1).val * 2 + (i 0).val) * 512 + (i 2).val) * 2304 + (i 3).val) % 2304 % 128) = _
  rw [f0, f2]

theorem algebraic : Cert.algebraic_Kernel9Ideal_Reference9Ideal (hKernel9Ideal := Cert.Kernel9Ideal.Gen.facts)
    (hReference9Ideal := Cert.Reference9Ideal.Gen.facts) := by
  intro m g m' g' _ hargs
  refine ⟨fun c => result (argX m c) (argY m c), ?_, ?_⟩
  · exact (θ_run Cert.Kernel9Ideal.defs _ _).mono (fun _ h c => ⟨(h c).1.trans (value m c), (h c).2⟩) (run_blocks m g)
  · refine (θ_run Cert.Reference9Ideal.defs _ _).mono (fun _ h c => ?_) (Cert.Reference9Ideal.Value.run (F := Ideal) m' g')
    obtain ⟨h0, ha⟩ := h c
    obtain ⟨a0, a1⟩ := hargs c
    refine ⟨h0.trans ((Cert.Reference9Ideal.Read.val_main_v13_eq _ _).trans ?_), ha⟩
    rw [a0, a1]
    exact reference _ _

end Cert.Dilated.HeadWeights

end
-- ==== Proof.Dilated.Input.lean ====
/- The gradient of the input of the dilated attention's projection into heads: the product of the heads' gradients with the
   heads' weights, summed over all heads' columns, nine heads at a time. -/
module

public import proofs.«01_k».proof.Proof.Ffn.Index
public import proofs.«01_k».proof.Proof.Gen.Kernel10Ideal.Value
public import proofs.«01_k».proof.Proof.Gen.Reference10Ideal.Run
public import proofs.«01_k».proof.Proof.Gen.Reference10Ideal.Read
public import proofs.«01_k».proof.Defs
public import Idealize.ShloMosaic.Lib.StableHlo.Run
public import Idealize.ShloMosaic.Lib.WritesUnit
public import Idealize.ShloMosaic.Lib.Pipeline.ValueKit.Tiles

@[expose] public section

set_option maxRecDepth 16384

noncomputable section

namespace Cert.Dilated.Input

open Cert.Kernel10Ideal Cert.Kernel10Ideal.Gen Cert.Kernel10Ideal.Value Cert.Ffn Idealize.ShloMosaic Idealize.ShloMosaic.TcCoe Idealize.ShloMosaic.StableHlo

/-- The gradient of token `r`'s head columns, at column `K` of all the heads'. -/
def grad (y : S72x2048x128.Idx → EReal) (r K : ℕ) : EReal := at3 y (K / 128) r (K % 128)

/-- The weight of the input's feature `f`, at column `K` of all the heads'. -/
def weight (w : S4x1024x2304.Idx → EReal) (f K : ℕ) : EReal := at3 w (K / 2304) f (K % 2304)

/-- The result, from the call's two arguments. -/
def result (y : S72x2048x128.Idx → EReal) (w : S4x1024x2304.Idx → EReal) (i : S2048x1024.Idx) : EReal :=
  ∑ K ∈ Finset.range 9216, grad y (i 0).val K * weight w (i 1).val K

/-- A sum in equal runs. -/
theorem sum_runs (f : ℕ → EReal) (b : ℕ) : ∀ a : ℕ, ∑ k ∈ Finset.range (b * a), f k = ∑ i ∈ Finset.range a, ∑ j ∈ Finset.range b, f (b * i + j)
  | 0 => by simp
  | a + 1 => by rw [Nat.mul_succ, Finset.sum_range_add, sum_runs f b a, Finset.sum_range_succ]

/-- One grid point's product, at an index, where the nine heads side by side hold `G`. -/
theorem product (p0 p1 p2 p3 p4 p5 p6 p7 p8 : Vec Ideal S1x512x128 .bf16) (x1 : Vec Ideal S1x1024x1152 .bf16) (G : ℕ → ℕ → EReal)
    (h0 : ∀ (k : Fin 512) (d : Fin 128), (p0 (ix3 (0 : Fin 1) k d) : EReal) = G k.val (0 + d.val))
    (h1 : ∀ (k : Fin 512) (d : Fin 128), (p1 (ix3 (0 : Fin 1) k d) : EReal) = G k.val (128 + d.val))
    (h2 : ∀ (k : Fin 512) (d : Fin 128), (p2 (ix3 (0 : Fin 1) k d) : EReal) = G k.val (256 + d.val))
    (h3 : ∀ (k : Fin 512) (d : Fin 128), (p3 (ix3 (0 : Fin 1) k d) : EReal) = G k.val (384 + d.val))
    (h4 : ∀ (k : Fin 512) (d : Fin 128), (p4 (ix3 (0 : Fin 1) k d) : EReal) = G k.val (512 + d.val))
    (h5 : ∀ (k : Fin 512) (d : Fin 128), (p5 (ix3 (0 : Fin 1) k d) : EReal) = G k.val (640 + d.val))
    (h6 : ∀ (k : Fin 512) (d : Fin 128), (p6 (ix3 (0 : Fin 1) k d) : EReal) = G k.val (768 + d.val))
    (h7 : ∀ (k : Fin 512) (d : Fin 128), (p7 (ix3 (0 : Fin 1) k d) : EReal) = G k.val (896 + d.val))
    (h8 : ∀ (k : Fin 512) (d : Fin 128), (p8 (ix3 (0 : Fin 1) k d) : EReal) = G k.val (1024 + d.val))
    (r : Fin 512) (n : Fin 1024) :
    k0_pay2 p0 p1 p2 p3 p4 p5 p6 p7 p8 x1 (ix2 r n) = ∑ k : Fin 1152, G r.val k.val * (x1 (ix3 (0 : Fin 1) n k) : EReal) := by
  pointwise [k0_pay2]
  refine Finset.sum_congr rfl fun k _ => congrArg (· * _) ?_
  split_ifs
  all_goals first
    | (refine (h0 _ _).trans (congrArg (G r.val) ?_); dsimp only; omega)
    | (refine (h1 _ _).trans (congrArg (G r.val) ?_); dsimp only; omega)
    | (refine (h2 _ _).trans (congrArg (G r.val) ?_); dsimp only; omega)
    | (refine (h3 _ _).trans (congrArg (G r.val) ?_); dsimp only; omega)
    | (refine (h4 _ _).trans (congrArg (G r.val) ?_); dsimp only; omega)
    | (refine (h5 _ _).trans (congrArg (G r.val) ?_); dsimp only; omega)
    | (refine (h6 _ _).trans (congrArg (G r.val) ?_); dsimp only; omega)
    | (refine (h7 _ _).trans (congrArg (G r.val) ?_); dsimp only; omega)
    | (refine (h8 _ _).trans (congrArg (G r.val) ?_); dsimp only; omega)

theorem zero3 : (![0, 0, 0] : Fin 3 → Nat) = fun _ => 0 := funext fun a => by fin_cases a <;> rfl
theorem zero2 : (![0, 0] : Fin 2 → Nat) = fun _ => 0 := funext fun a => by fin_cases a <;> rfl

/-- One grid point's product of nine heads with their weights. -/
def step (x0 : Vec Ideal S9x512x128 .bf16) (x1 : Vec Ideal S1x1024x1152 .bf16) : FVec Ideal S512x1024 .f32 :=
  k0_pay2 (View.ld (Val := Elt Ideal) (e' := .bf16) x0 (Rect.unit (s := S9x512x128) ![0, 0, 0] S1x512x128.size inb_S9x512x128_S1x512x128_0_0_0)) (View.ld (Val := Elt Ideal) (e' := .bf16) x0 (Rect.unit (s := S9x512x128) ![1, 0, 0] S1x512x128.size inb_S9x512x128_S1x512x128_1_0_0)) (View.ld (Val := Elt Ideal) (e' := .bf16) x0 (Rect.unit (s := S9x512x128) ![2, 0, 0] S1x512x128.size inb_S9x512x128_S1x512x128_2_0_0)) (View.ld (Val := Elt Ideal) (e' := .bf16) x0 (Rect.unit (s := S9x512x128) ![3, 0, 0] S1x512x128.size inb_S9x512x128_S1x512x128_3_0_0)) (View.ld (Val := Elt Ideal) (e' := .bf16) x0 (Rect.unit (s := S9x512x128) ![4, 0, 0] S1x512x128.size inb_S9x512x128_S1x512x128_4_0_0)) (View.ld (Val := Elt Ideal) (e' := .bf16) x0 (Rect.unit (s := S9x512x128) ![5, 0, 0] S1x512x128.size inb_S9x512x128_S1x512x128_5_0_0)) (View.ld (Val := Elt Ideal) (e' := .bf16) x0 (Rect.unit (s := S9x512x128) ![6, 0, 0] S1x512x128.size inb_S9x512x128_S1x512x128_6_0_0)) (View.ld (Val := Elt Ideal) (e' := .bf16) x0 (Rect.unit (s := S9x512x128) ![7, 0, 0] S1x512x128.size inb_S9x512x128_S1x512x128_7_0_0)) (View.ld (Val := Elt Ideal) (e' := .bf16) x0 (Rect.unit (s := S9x512x128) ![8, 0, 0] S1x512x128.size inb_S9x512x128_S1x512x128_8_0_0)) x1

section

variable (c : Dev nD) (i : grid0.Coords) (a2 : Memref sig .tc .vmem S9x512x128 .bf16) (h2 : a2.IsWhole) (a3 : Memref sig .tc .vmem S1x1024x1152 .bf16)
  (h3 : a3.IsWhole) (a4 : Memref sig .tc .vmem S512x1024 .f32) (h4 : a4.IsWhole) (x0 : Vec Ideal S9x512x128 .bf16) (x1 : Vec Ideal S1x1024x1152 .bf16)
  (xo : Vec Ideal S512x1024 .f32)

/-- The first grid point of a row of blocks stores its product. -/
theorem first_step (hc0 : cond0_0 i) (hc1 : ¬cond0_1 i) (j : S512x1024.Idx) :
    out0_A_2 c i a2 h2 a3 h3 a4 h4 hc0 hc1 x0 x1 j = step x0 x1 j := by
  unfold out0_A_2
  rw [View.read_writes_eq_canon _ _ _ (cover0_A_2 c i a2 h2 a3 h3 a4 h4 hc0 hc1 x0 x1)]
  unfold kernelRun0_A
  dsimp only
  sl_unfold_words
  rw [View.canon_unit_zero zero2]
  simp only [View.readAt_eq_ld, h2.read_unread, h3.read_unread]
  rw [View.ld_unit_zero zero3]
  rfl

/-- The others add theirs to what the block holds. -/
theorem next_step (hc0 : ¬cond0_0 i) (hc1 : cond0_1 i) (j : S512x1024.Idx) :
    (out0_B_2 c i a2 h2 a3 h3 a4 h4 hc0 hc1 x0 x1 xo j : EReal) = xo j + step x0 x1 j := by
  unfold out0_B_2
  rw [View.read_writes_eq_canon _ _ _ (cover0_B_2 c i a2 h2 a3 h3 a4 h4 hc0 hc1 x0 x1 xo)]
  unfold kernelRun0_B
  dsimp only
  sl_unfold_words
  rw [View.canon_unit_zero zero2]
  simp only [View.readAt_eq_ld, h2.read_unread, h3.read_unread, h4.read_unread]
  rw [View.ld_unit_zero zero3, View.ld_unit_zero zero2]
  unfold step k0_pay1
  rw [shapeCast_self]
  rfl

end

variable (m : (ℓ : Loc nD τ sig) → Buf (Elt Ideal) ℓ) (ρ : Dev nD → PrngReg) (c : Dev nD)

/-- Argument 0. -/
abbrev argY : S72x2048x128.Idx → EReal := m ((c : Thread nD τ).loc main_arg0)
/-- Argument 1. -/
abbrev argW : S4x1024x2304.Idx → EReal := m ((c : Thread nD τ).loc main_arg1)

theorem entry_y : V m c main_v0 = argY m c := by
  simp only [V, hostOps0]
  after_results_simp
  rfl

theorem entry_w : V m c main_v1 = argW m c := by
  simp only [V, hostOps0]
  after_results_simp
  rfl

/-- The windows' blocks at each grid point. -/
theorem index0 : ∀ t : Fin cfg0.N, (win0_0.index t 0 = t.val % 8 ∧ win0_0.index t 1 = t.val / 8 ∧ win0_0.index t 2 = 0)
    ∧ (win0_1.index t 0 = t.val % 8 / 2 ∧ win0_1.index t 1 = 0 ∧ win0_1.index t 2 = t.val % 2)
    ∧ (win0_2.index t 0 = t.val / 8 ∧ win0_2.index t 1 = 0) :=
  (by decide +kernel : ∀ t : Fin grid0.N, _)

theorem read_y (t : Fin cfg0.N) (h : Fin 9) (r : Fin 512) (d : Fin 128) :
    (iblk m c 0 t : S9x512x128.Idx → EReal) (ix3 h r d) = at3 (argY m c) (9 * (t.val % 8) + h.val) (512 * (t.val / 8) + r.val) d.val := by
  obtain ⟨⟨e0, e1, e2⟩, -, -⟩ := index0 t
  refine (congrFun (entry_y m c) (((cfg0.win 0).blk t).view.emb (ix3 h r d))).trans ?_
  have h0 : ((((cfg0.win 0).blk t).view.emb (ix3 h r d)) 0).val = 9 * (t.val % 8) + h.val := by
    show win0_0.index t (0 : Fin 3) * 9 + 1 * h.val = _; omega
  have h1 : ((((cfg0.win 0).blk t).view.emb (ix3 h r d)) 1).val = 512 * (t.val / 8) + r.val := by
    show win0_0.index t (1 : Fin 3) * 512 + 1 * r.val = _; omega
  have h2 : ((((cfg0.win 0).blk t).view.emb (ix3 h r d)) 2).val = d.val := by
    show win0_0.index t (2 : Fin 3) * 128 + 1 * d.val = _; omega
  exact at3_eq _ _ h0 h1 h2

theorem read_w (t : Fin cfg0.N) (n : Fin 1024) (k : Fin 1152) :
    (iblk m c 1 t : S1x1024x1152.Idx → EReal) (ix3 (0 : Fin 1) n k) = at3 (argW m c) (t.val % 8 / 2) n.val (1152 * (t.val % 2) + k.val) := by
  obtain ⟨-, ⟨e0, e1, e2⟩, -⟩ := index0 t
  refine (congrFun (entry_w m c) (((cfg0.win 1).blk t).view.emb (ix3 (0 : Fin 1) n k))).trans ?_
  have h0 : ((((cfg0.win 1).blk t).view.emb (ix3 (0 : Fin 1) n k)) 0).val = t.val % 8 / 2 := by
    show win0_1.index t (0 : Fin 3) * 1 + 1 * 0 = _; omega
  have h1 : ((((cfg0.win 1).blk t).view.emb (ix3 (0 : Fin 1) n k)) 1).val = n.val := by
    show win0_1.index t (1 : Fin 3) * 1024 + 1 * n.val = _; omega
  have h2 : ((((cfg0.win 1).blk t).view.emb (ix3 (0 : Fin 1) n k)) 2).val = 1152 * (t.val % 2) + k.val := by
    show win0_1.index t (2 : Fin 3) * 1152 + 1 * k.val = _; omega
  exact at3_eq _ _ h0 h1 h2

/-- One of the nine heads a grid point loads. -/
theorem load (t : Fin cfg0.N) (h : Fin 9) (inb : ∀ a, ![h.val, 0, 0] a + S1x512x128.size a ≤ S9x512x128.size a) (r : Fin 512) (d : Fin 128) :
    (View.ld (Val := Elt Ideal) (e' := .bf16) (iblk m c 0 t : Vec Ideal S9x512x128 .bf16) (Rect.unit (s := S9x512x128) ![h.val, 0, 0] S1x512x128.size inb) (ix3 (0 : Fin 1) r d) : EReal)
      = grad (argY m c) (512 * (t.val / 8) + r.val) (1152 * (t.val % 8) + (128 * h.val + d.val)) := by
  refine (View.ld_unit_apply_of (Val := Elt Ideal) (e := .bf16) _ _ _ _ _ (ix3 h r d) fun a => ?_).trans ((read_y m c t h r d).trans ?_)
  · match a with
    | ⟨0, _⟩ => show h.val = h.val + 0; omega
    | ⟨1, _⟩ => show r.val = 0 + r.val; omega
    | ⟨2, _⟩ => show d.val = 0 + d.val; omega
  · have e1 : 9 * (t.val % 8) + h.val = (1152 * (t.val % 8) + (128 * h.val + d.val)) / 128 := by omega
    have e2 : d.val = (1152 * (t.val % 8) + (128 * h.val + d.val)) % 128 := by omega
    unfold grad
    rw [← e1, ← e2]

/-- One grid point's product, from the call's arguments. -/
theorem step_at (t : Fin cfg0.N) (r : Fin 512) (n : Fin 1024) :
    (step (iblk m c 0 t) (iblk m c 1 t) (ix2 r n) : EReal)
      = ∑ K ∈ Finset.range 1152, grad (argY m c) (512 * (t.val / 8) + r.val) (1152 * (t.val % 8) + K) * weight (argW m c) n.val (1152 * (t.val % 8) + K) := by
  unfold step
  refine (product _ _ _ _ _ _ _ _ _ _ (fun r K => grad (argY m c) (512 * (t.val / 8) + r) (1152 * (t.val % 8) + K))
    (load m c t 0 _) (load m c t 1 _) (load m c t 2 _) (load m c t 3 _) (load m c t 4 _) (load m c t 5 _) (load m c t 6 _) (load m c t 7 _) (load m c t 8 _) r n).trans ?_
  rw [Finset.sum_range]
  refine Finset.sum_congr rfl fun k _ => congrArg _ ?_
  rw [read_w]
  unfold weight
  have e1 : t.val % 8 / 2 = (1152 * (t.val % 8) + k.val) / 2304 := by omega
  have e2 : 1152 * (t.val % 2) + k.val = (1152 * (t.val % 8) + k.val) % 2304 := by omega
  rw [e1, e2]

/-- What the output block holds after each grid point: the columns so far. -/
theorem outs : ∀ (n : ℕ) (hn : n < cfg0.N) (r : Fin 512) (f : Fin 1024), (outsAt0 m c n hn (ix2 r f) : EReal)
    = ∑ K ∈ Finset.range (1152 * (n % 8 + 1)), grad (argY m c) (512 * (n / 8) + r.val) K * weight (argW m c) f.val K := by
  intro n
  induction n with
  | zero =>
    intro hn r f
    refine (congrFun (outsAt0_A m c ⟨0, hn⟩ rfl (by show ¬1 ≤ 0 % 8; decide)) (ix2 r f)).trans ((first_step c _ _ _ _ _ _ _ _ _ _ _ _).trans ((step_at m c ⟨0, hn⟩ r f).trans ?_))
    refine Finset.sum_congr rfl fun K _ => ?_
    simp only [Nat.zero_mod, Nat.mul_zero, Nat.zero_add]
  | succ n ih =>
    intro hn r f
    by_cases h0 : (n + 1) % 8 = 0
    · refine (congrFun (outsAt0_A m c ⟨n + 1, hn⟩ h0 (by show ¬1 ≤ (n + 1) % 8; omega)) (ix2 r f)).trans ((first_step c _ _ _ _ _ _ _ _ _ _ _ _).trans ((step_at m c ⟨n + 1, hn⟩ r f).trans ?_))
      show ∑ K ∈ Finset.range 1152, grad (argY m c) (512 * ((n + 1) / 8) + r.val) (1152 * ((n + 1) % 8) + K) * weight (argW m c) f.val (1152 * ((n + 1) % 8) + K) = _
      rw [h0]
      refine Finset.sum_congr rfl fun K _ => ?_
      simp only [Nat.mul_zero, Nat.zero_add]
    · refine (congrFun (outsAt0_B m c ⟨n + 1, hn⟩ h0 (by show 1 ≤ (n + 1) % 8; omega)) (ix2 r f)).trans ((next_step c _ _ _ _ _ _ _ _ _ _ _ _ _).trans ?_)
      refine (congrArg₂ (fun a b : EReal => a + b) (ih (Nat.lt_of_succ_lt hn) r f) (step_at m c ⟨n + 1, hn⟩ r f)).trans ?_
      show _ + ∑ K ∈ Finset.range 1152, grad (argY m c) (512 * ((n + 1) / 8) + r.val) (1152 * ((n + 1) % 8) + K) * weight (argW m c) f.val (1152 * ((n + 1) % 8) + K) = _
      have e1 : (n + 1) % 8 = n % 8 + 1 := by omega
      have e2 : (n + 1) / 8 = n / 8 := by omega
      rw [e1, e2, Nat.mul_succ 1152 (n % 8 + 1), Finset.sum_range_add]

theorem point (t : Fin cfg0.N) (ht : t.val % 8 = 7) (r : Fin 512) (f : Fin 1024) :
    (outsAt0 m c t.val t.isLt (ix2 r f) : EReal)
      = ∑ K ∈ Finset.range 9216, grad (argY m c) (512 * (t.val / 8) + r.val) K * weight (argW m c) f.val K := by
  refine (outs m c t.val t.isLt r f).trans ?_
  rw [ht]

/-- What the call leaves in its result. -/
theorem value : ((dats m 0 c).arrAt 2 cfg0.N : S2048x1024.Idx → EReal) = result (argY m c) (argW m c) := by
  refine (dats m 0 c).arrAt_eq_of_cover 2 (result (argY m c) (argW m c)) (fun t hf => ?_) (fun i => ?_)
  · funext y
    obtain ⟨-, -, ⟨e0, e1⟩⟩ := index0 t
    obtain ⟨r, f, rfl⟩ : ∃ (r : Fin 512) (f : Fin 1024), y = ix2 r f := ⟨y 0, y 1, ix2_self y⟩
    show (cfg0.win 2).cut (grid0.coords t) ((dats m 0 c).after 2 t) (ix2 r f)
      = result (argY m c) (argW m c) (((cfg0.win 2).blk t).view.emb (ix2 r f))
    rw [after0_2]
    have h0 : ((((cfg0.win 2).blk t).view.emb (ix2 r f)) 0).val = 512 * (t.val / 8) + r.val := by
      show win0_2.index t (0 : Fin 2) * 512 + 1 * r.val = _; omega
    have h1 : ((((cfg0.win 2).blk t).view.emb (ix2 r f)) 1).val = f.val := by
      show win0_2.index t (1 : Fin 2) * 1024 + 1 * f.val = _; omega
    unfold result
    rw [h0, h1]
    exact Eq.trans rfl (point m c t ((flush0_2 t).mp hf) r f)
  · have hl0 : (i 0).val < 2048 := (i 0).isLt
    have hl1 : (i 1).val < 1024 := (i 1).isLt
    let t : Fin cfg0.N := ⟨8 * ((i 0).val / 512) + 7, by show _ < grid0.N; rw [N_0]; omega⟩
    have ht : t.val = 8 * ((i 0).val / 512) + 7 := rfl
    refine ⟨t, (flush0_2 t).mpr (by rw [ht]; omega), ?_⟩
    obtain ⟨-, -, ⟨e0, e1⟩⟩ := index0 t
    show i ∈ ((View.whole main_v2).slice (win0_2.rect t)).set
    rw [View.set_slice_whole, Rect.mem_set_unit]
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 1024 ≤ (i 1).val ∧ (i 1).val < win0_2.index t (1 : Fin 2) * 1024 + 1024; omega

/-- The reference's gradients of the heads side by side. -/
theorem side (y : S72x2048x128.Idx → EReal) (i : Cert.Reference10Ideal.S4x2304x2048.Idx) :
    Cert.Reference10Ideal.Read.val_main_v9 (F := Ideal) y i = at3 y (18 * (i 0).val + (i 1).val / 128) (i 2).val ((i 1).val % 128) := by
  have h0 : (i 0).val < 4 := (i 0).isLt
  have h1 : (i 1).val < 2304 := (i 1).isLt
  have h2 : (i 2).val < 2048 := (i 2).isLt
  rw [Cert.Reference10Ideal.Read.val_main_v9_apply, Cert.Reference10Ideal.Read.val_main_v8_apply, Cert.Reference10Ideal.Read.val_main_v7_apply, Cert.Reference10Ideal.Read.val_main_v6_apply]
  have f0 : (((i 0).val * 2048 + (i 2).val) * 2304 + (i 1).val) / 4718592 = (i 0).val := by omega
  have f1 : (((i 0).val * 2048 + (i 2).val) * 2304 + (i 1).val) / 128 % 18 = (i 1).val / 128 := by omega
  have f2 : (((i 0).val * 2048 + (i 2).val) * 2304 + (i 1).val) / 2304 % 2048 = (i 2).val := by omega
  have f3 : (((i 0).val * 2048 + (i 2).val) * 2304 + (i 1).val) % 128 = (i 1).val % 128 := by omega
  have hb : (i 1).val / 128 < 18 := by omega
  have hd : (i 1).val % 128 < 128 := Nat.mod_lt _ (by decide)
  refine at3_eq y _ ?_ ?_ ?_
  · show ((((((i 0).val * 2048 + (i 2).val) * 2304 + (i 1).val) / 4718592 * 18 + (((i 0).val * 2048 + (i 2).val) * 2304 + (i 1).val) / 128 % 18) * 2048 + (((i 0).val * 2048 + (i 2).val) * 2304 + (i 1).val) / 2304 % 2048) * 128 + (((i 0).val * 2048 + (i 2).val) * 2304 + (i 1).val) % 128) / 262144 = _
    rw [f0, f1, f2, f3]
    clear f0 f1 f2 f3
    generalize (i 1).val / 128 = b at hb ⊢
    generalize (i 1).val % 128 = d at hd ⊢
    omega
  · show ((((((i 0).val * 2048 + (i 2).val) * 2304 + (i 1).val) / 4718592 * 18 + (((i 0).val * 2048 + (i 2).val) * 2304 + (i 1).val) / 128 % 18) * 2048 + (((i 0).val * 2048 + (i 2).val) * 2304 + (i 1).val) / 2304 % 2048) * 128 + (((i 0).val * 2048 + (i 2).val) * 2304 + (i 1).val) % 128) / 128 % 2048 = _
    rw [f0, f1, f2, f3]
    clear f0 f1 f2 f3
    generalize (i 1).val / 128 = b at hb ⊢
    generalize (i 1).val % 128 = d at hd ⊢
    omega
  · show ((((((i 0).val * 2048 + (i 2).val) * 2304 + (i 1).val) / 4718592 * 18 + (((i 0).val * 2048 + (i 2).val) * 2304 + (i 1).val) / 128 % 18) * 2048 + (((i 0).val * 2048 + (i 2).val) * 2304 + (i 1).val) / 2304 % 2048) * 128 + (((i 0).val * 2048 + (i 2).val) * 2304 + (i 1).val) % 128) % 128 = _
    rw [f0, f1, f2, f3]
    clear f0 f1 f2 f3
    generalize (i 1).val / 128 = b at hb ⊢
    generalize (i 1).val % 128 = d at hd ⊢
    omega

section

open Cert.Reference10Ideal Cert.Reference10Ideal.Gen

theorem lhs_0 (i : Cert.Reference10Ideal.S2048x1024.Idx) (q : dot_S4x2304x2048_S4x1024x2304_S2048x1024_01_02_2_1_n_n.contr.Idx) : (dot_S4x2304x2048_S4x1024x2304_S2048x1024_01_02_2_1_n_n.lhsIdx i q 0).val = (q ⟨0, by decide⟩).val := by
  unfold DotDims.lhsIdx
  rw [dif_neg (show ¬(0 : Fin Cert.Reference10Ideal.S4x2304x2048.rank) ∈ dot_S4x2304x2048_S4x1024x2304_S2048x1024_01_02_2_1_n_n.lhsBatch by decide), dif_neg (show ¬(0 : Fin Cert.Reference10Ideal.S4x2304x2048.rank) ∈ dot_S4x2304x2048_S4x1024x2304_S2048x1024_01_02_2_1_n_n.lhsNonContracting by decide)]
  rfl
theorem lhs_1 (i : Cert.Reference10Ideal.S2048x1024.Idx) (q : dot_S4x2304x2048_S4x1024x2304_S2048x1024_01_02_2_1_n_n.contr.Idx) : (dot_S4x2304x2048_S4x1024x2304_S2048x1024_01_02_2_1_n_n.lhsIdx i q 1).val = (q ⟨1, by decide⟩).val := by
  unfold DotDims.lhsIdx
  rw [dif_neg (show ¬(1 : Fin Cert.Reference10Ideal.S4x2304x2048.rank) ∈ dot_S4x2304x2048_S4x1024x2304_S2048x1024_01_02_2_1_n_n.lhsBatch by decide), dif_neg (show ¬(1 : Fin Cert.Reference10Ideal.S4x2304x2048.rank) ∈ dot_S4x2304x2048_S4x1024x2304_S2048x1024_01_02_2_1_n_n.lhsNonContracting by decide)]
  rfl
theorem lhs_2 (i : Cert.Reference10Ideal.S2048x1024.Idx) (q : dot_S4x2304x2048_S4x1024x2304_S2048x1024_01_02_2_1_n_n.contr.Idx) : (dot_S4x2304x2048_S4x1024x2304_S2048x1024_01_02_2_1_n_n.lhsIdx i q 2).val = (i 0).val := by
  unfold DotDims.lhsIdx
  rw [dif_neg (show ¬(2 : Fin Cert.Reference10Ideal.S4x2304x2048.rank) ∈ dot_S4x2304x2048_S4x1024x2304_S2048x1024_01_02_2_1_n_n.lhsBatch by decide), dif_pos (show (2 : Fin Cert.Reference10Ideal.S4x2304x2048.rank) ∈ dot_S4x2304x2048_S4x1024x2304_S2048x1024_01_02_2_1_n_n.lhsNonContracting by decide)]
  rfl
theorem rhs_0 (i : Cert.Reference10Ideal.S2048x1024.Idx) (q : dot_S4x2304x2048_S4x1024x2304_S2048x1024_01_02_2_1_n_n.contr.Idx) : (dot_S4x2304x2048_S4x1024x2304_S2048x1024_01_02_2_1_n_n.rhsIdx i q 0).val = (q ⟨0, by decide⟩).val := by
  unfold DotDims.rhsIdx
  rw [dif_neg (show ¬(0 : Fin Cert.Reference10Ideal.S4x1024x2304.rank) ∈ dot_S4x2304x2048_S4x1024x2304_S2048x1024_01_02_2_1_n_n.rhsBatch by decide), dif_neg (show ¬(0 : Fin Cert.Reference10Ideal.S4x1024x2304.rank) ∈ dot_S4x2304x2048_S4x1024x2304_S2048x1024_01_02_2_1_n_n.rhsNonContracting by decide)]
  rfl
theorem rhs_1 (i : Cert.Reference10Ideal.S2048x1024.Idx) (q : dot_S4x2304x2048_S4x1024x2304_S2048x1024_01_02_2_1_n_n.contr.Idx) : (dot_S4x2304x2048_S4x1024x2304_S2048x1024_01_02_2_1_n_n.rhsIdx i q 1).val = (i 1).val := by
  unfold DotDims.rhsIdx
  rw [dif_neg (show ¬(1 : Fin Cert.Reference10Ideal.S4x1024x2304.rank) ∈ dot_S4x2304x2048_S4x1024x2304_S2048x1024_01_02_2_1_n_n.rhsBatch by decide), dif_pos (show (1 : Fin Cert.Reference10Ideal.S4x1024x2304.rank) ∈ dot_S4x2304x2048_S4x1024x2304_S2048x1024_01_02_2_1_n_n.rhsNonContracting by decide)]
  rfl
theorem rhs_2 (i : Cert.Reference10Ideal.S2048x1024.Idx) (q : dot_S4x2304x2048_S4x1024x2304_S2048x1024_01_02_2_1_n_n.contr.Idx) : (dot_S4x2304x2048_S4x1024x2304_S2048x1024_01_02_2_1_n_n.rhsIdx i q 2).val = (q ⟨1, by decide⟩).val := by
  unfold DotDims.rhsIdx
  rw [dif_neg (show ¬(2 : Fin Cert.Reference10Ideal.S4x1024x2304.rank) ∈ dot_S4x2304x2048_S4x1024x2304_S2048x1024_01_02_2_1_n_n.rhsBatch by decide), dif_neg (show ¬(2 : Fin Cert.Reference10Ideal.S4x1024x2304.rank) ∈ dot_S4x2304x2048_S4x1024x2304_S2048x1024_01_02_2_1_n_n.rhsNonContracting by decide)]
  rfl

/-- A sum over the contracted axes is a sum over each. -/
theorem sum_axes {s : Shape} (hs : s = ⟨2, ![4, 2304]⟩) (h0 : 0 < s.rank) (h1 : 1 < s.rank) (g : ℕ → ℕ → EReal) :
    ∑ q : s.Idx, g (q ⟨0, h0⟩).val (q ⟨1, h1⟩).val = ∑ a : Fin 4, ∑ b : Fin 2304, g a.val b.val := by
  subst hs
  exact ValueIdx.sum_idx2 (n0 := 4) (n1 := 2304) fun q => g (q 0).val (q 1).val

/-- The reference's product, over the heads' columns shard by shard. -/
theorem dot_at (u : Cert.Reference10Ideal.S4x2304x2048.Idx → EReal) (w : Cert.Reference10Ideal.S4x1024x2304.Idx → EReal) (i : Cert.Reference10Ideal.S2048x1024.Idx) :
    (Host.dotGeneral (F := Ideal) (φ₁ := .f32) (φ₂ := .f32) dot_S4x2304x2048_S4x1024x2304_S2048x1024_01_02_2_1_n_n none u w i : EReal) = ∑ a : Fin 4, ∑ b : Fin 2304, at3 u a.val b.val (i 0).val * at3 w a.val (i 1).val b.val := by
  simp only [Host.dotGeneral]
  rw [Ideal.dotGeneral_apply]
  refine (Finset.sum_congr rfl fun q _ => congrArg₂ (fun a b : EReal => a * b) (at3_eq u _ (lhs_0 i q) (lhs_1 i q) (lhs_2 i q)) (at3_eq w _ (rhs_0 i q) (rhs_1 i q) (rhs_2 i q))).trans ?_
  exact sum_axes (s := dot_S4x2304x2048_S4x1024x2304_S2048x1024_01_02_2_1_n_n.contr) (congrArg (fun z : Fin 2 → ℕ => (⟨2, z⟩ : Shape)) (funext fun a => match a with | ⟨0, _⟩ => rfl | ⟨1, _⟩ => rfl)) (by decide) (by decide) fun a b => at3 u a b (i 0).val * at3 w a (i 1).val b

end

/-- The reference's result. -/
theorem reference (y : S72x2048x128.Idx → EReal) (w : S4x1024x2304.Idx → EReal) :
    Cert.Reference10Ideal.Read.val_main_v10 (F := Ideal) y w = result y w := by
  funext i
  refine (dot_at (Cert.Reference10Ideal.Read.val_main_v9 (F := Ideal) y) w i).trans ?_
  unfold result
  rw [show (9216 : ℕ) = 2304 * 4 from rfl, sum_runs, Finset.sum_range]
  refine Finset.sum_congr rfl fun a _ => ?_
  rw [Finset.sum_range]
  refine Finset.sum_congr rfl fun b _ => congrArg₂ (fun a b : EReal => a * b) ?_ ?_
  · refine (at3_eq (Cert.Reference10Ideal.Read.val_main_v9 (F := Ideal) y) (ix3 a b (i 0)) rfl rfl rfl).symm.trans ((side y (ix3 a b (i 0))).trans ?_)
    show at3 y (18 * a.val + b.val / 128) (i 0).val (b.val % 128) = at3 y ((2304 * a.val + b.val) / 128) (i 0).val ((2304 * a.val + b.val) % 128)
    have e1 : (2304 * a.val + b.val) / 128 = 18 * a.val + b.val / 128 := by omega
    have e2 : (2304 * a.val + b.val) % 128 = b.val % 128 := by omega
    rw [e1, e2]
  · unfold weight
    have hb : b.val < 2304 := b.isLt
    have e1 : (2304 * a.val + b.val) / 2304 = a.val := by omega
    have e2 : (2304 * a.val + b.val) % 2304 = b.val := by omega
    rw [e1, e2]

theorem algebraic : Cert.algebraic_Kernel10Ideal_Reference10Ideal (hKernel10Ideal := Cert.Kernel10Ideal.Gen.facts)
    (hReference10Ideal := Cert.Reference10Ideal.Gen.facts) := by
  intro m g m' g' _ hargs
  refine ⟨fun c => result (argY m c) (argW m c), ?_, ?_⟩
  · exact (θ_run Cert.Kernel10Ideal.defs _ _).mono (fun _ h c => ⟨(h c).1.trans (value m c), (h c).2⟩) (run_blocks m g)
  · refine (θ_run Cert.Reference10Ideal.defs _ _).mono (fun _ h c => ?_) (Cert.Reference10Ideal.Value.run (F := Ideal) m' g')
    obtain ⟨h0, ha⟩ := h c
    obtain ⟨a0, a1⟩ := hargs c
    refine ⟨h0.trans ((Cert.Reference10Ideal.Read.val_main_v10_eq _ _).trans ?_), ha⟩
    rw [a0, a1]
    exact reference _ _

end Cert.Dilated.Input

end
-- ==== Proof.Optimiser.Step.lean ====
/- The optimiser's step of one weight: the moments' averages, their bias corrections and the change of the weight. -/
module

public import Idealize.ShloMosaic.PureOps.IdealRules
public import Idealize.ShloMosaic.PureOps.Ideal

@[expose] public section

noncomputable section

namespace Cert.Optimiser

open Idealize.ShloMosaic Idealize.ShloMosaic.TcCoe Idealize.SL.Sem

/-- The first moment's divisor, as the reference spells it. -/
theorem divisor1 : Ideal.ofBits .f32 0x3F26BD02#32 = ((5463681 / 8388608 : ℝ) : EReal) := by
  simp [Ideal.ofBits, Ideal.ieee, -EReal.coe_mul]; norm_num

/-- The second moment's divisor. -/
theorem divisor2 : Ideal.ofBits .f32 0x3C231ACC#32 = ((2672307 / 268435456 : ℝ) : EReal) := by
  simp [Ideal.ofBits, Ideal.ieee, -EReal.coe_mul]; norm_num

/-- A division by the first divisor is a product with its inverse. -/
theorem correct1 (x : EReal) : Ideal.div x (Ideal.ofBits .f32 0x3F26BD02#32) = x * (((5463681 / 8388608)⁻¹ : ℝ) : EReal) := by
  rw [divisor1, Ideal.div_coe (by norm_num), one_div]

theorem correct2 (x : EReal) : Ideal.div x (Ideal.ofBits .f32 0x3C231ACC#32) = x * (((2672307 / 268435456)⁻¹ : ℝ) : EReal) := by
  rw [divisor2, Ideal.div_coe (by norm_num), one_div]

/-- The table of named constants gives the two inverses. -/
theorem named1 (κ : String → Option EReal) (h : κ "inv_bias1" = some (((5463681 / 8388608)⁻¹ : ℝ) : EReal)) :
    Named.named (F := Ideal) κ "inv_bias1" (φ := .f32) 0x3FC48605#32 = (((5463681 / 8388608)⁻¹ : ℝ) : EReal) :=
  IdealRules.named_const.ideal_named_scalar _ _ _ _ h

theorem named2 (κ : String → Option EReal) (h : κ "inv_bias2" = some (((2672307 / 268435456)⁻¹ : ℝ) : EReal)) :
    Named.named (F := Ideal) κ "inv_bias2" (φ := .f32) 0x42C8E6D3#32 = (((2672307 / 268435456)⁻¹ : ℝ) : EReal) :=
  IdealRules.named_const.ideal_named_scalar _ _ _ _ h

/-- The weight's change, with the corrections as divisions and as products. -/
theorem change (κ : String → Option EReal) (h1 : κ "inv_bias1" = some (((5463681 / 8388608)⁻¹ : ℝ) : EReal))
    (h2 : κ "inv_bias2" = some (((2672307 / 268435456)⁻¹ : ℝ) : EReal)) (m v e s d r : EReal) :
    r * (Ideal.div (Ideal.div m (Ideal.ofBits .f32 0x3F26BD02#32)) (Ideal.sqrt (Ideal.div v (Ideal.ofBits .f32 0x3C231ACC#32)) + e) + s * d)
      = r * (Ideal.div (m * Named.named (F := Ideal) κ "inv_bias1" (φ := .f32) 0x3FC48605#32)
          (Ideal.sqrt (v * Named.named (F := Ideal) κ "inv_bias2" (φ := .f32) 0x42C8E6D3#32) + e) + s * d) := by
  rw [correct1, correct2, named1 κ h1, named2 κ h2]

/-- The two ledger entries, which every weight's program has. -/
theorem stated1 (κ : String → Option EReal) (h : κ "inv_bias1" = some (((5463681 / 8388608)⁻¹ : ℝ) : EReal)) :
    IdealRules.named_const.Statement κ "inv_bias1" .f32 0x3FC48605#32 (((5463681 / 8388608)⁻¹ : ℝ) : EReal) :=
  IdealRules.named_const.statement κ "inv_bias1" .f32 0x3FC48605#32 _ h

theorem stated2 (κ : String → Option EReal) (h : κ "inv_bias2" = some (((2672307 / 268435456)⁻¹ : ℝ) : EReal)) :
    IdealRules.named_const.Statement κ "inv_bias2" .f32 0x42C8E6D3#32 (((2672307 / 268435456)⁻¹ : ℝ) : EReal) :=
  IdealRules.named_const.statement κ "inv_bias2" .f32 0x42C8E6D3#32 _ h

end Cert.Optimiser

end
-- ==== Proof.Optimiser.Weights.lean ====
/- The optimiser's step of each weight, at the shapes of one device. -/
module

public import proofs.«01_k».proof.Proof.Optimiser.Step
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run
public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run
public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run
public import proofs.«01_k».proof.Defs

@[expose] public section

noncomputable section

open Idealize.ShloMosaic Idealize.ShloMosaic.TcCoe Idealize.SL.Sem Cert.Optimiser

namespace Cert.Optimiser.W11

open Cert.Kernel11Ideal

theorem preserves : Cert.preserves_Kernel11_Kernel11Ideal := ⟨stated1 κ rfl, stated2 κ rfl⟩

theorem algebraic : Cert.algebraic_Kernel11Ideal_Reference11Ideal (hKernel11Ideal := Gen.facts) (hReference11Ideal := Cert.Reference11Ideal.Gen.facts) := by
  intro m g m' g' _ hargs
  refine ⟨_, _, _, Value.run (F := Ideal) m g, (θ_run Cert.Reference11Ideal.defs _ _).mono (fun _ h c => ?_) (Cert.Reference11Ideal.Value.run (F := Ideal) m' g')⟩
  obtain ⟨h0, h1, h2, ha⟩ := h c
  obtain ⟨a0, a1, a2, a3⟩ := hargs c
  rw [a0, a1, a2, a3] at h0
  rw [a1, a2] at h1
  rw [a1, a3] at h2
  exact ⟨h0.trans (funext fun _ => change κ rfl rfl _ _ _ _ _ _), h1, h2, ha⟩

end Cert.Optimiser.W11

namespace Cert.Optimiser.W12

open Cert.Kernel12Ideal

theorem preserves : Cert.preserves_Kernel12_Kernel12Ideal := ⟨stated1 κ rfl, stated2 κ rfl⟩

theorem algebraic : Cert.algebraic_Kernel12Ideal_Reference12Ideal (hKernel12Ideal := Gen.facts) (hReference12Ideal := Cert.Reference12Ideal.Gen.facts) := by
  intro m g m' g' _ hargs
  refine ⟨_, _, _, Value.run (F := Ideal) m g, (θ_run Cert.Reference12Ideal.defs _ _).mono (fun _ h c => ?_) (Cert.Reference12Ideal.Value.run (F := Ideal) m' g')⟩
  obtain ⟨h0, h1, h2, ha⟩ := h c
  obtain ⟨a0, a1, a2, a3⟩ := hargs c
  rw [a0, a1, a2, a3] at h0
  rw [a1, a2] at h1
  rw [a1, a3] at h2
  exact ⟨h0.trans (funext fun _ => change κ rfl rfl _ _ _ _ _ _), h1, h2, ha⟩

end Cert.Optimiser.W12

namespace Cert.Optimiser.W13

open Cert.Kernel13Ideal

theorem preserves : Cert.preserves_Kernel13_Kernel13Ideal := ⟨stated1 κ rfl, stated2 κ rfl⟩

theorem algebraic : Cert.algebraic_Kernel13Ideal_Reference13Ideal (hKernel13Ideal := Gen.facts) (hReference13Ideal := Cert.Reference13Ideal.Gen.facts) := by
  intro m g m' g' _ hargs
  refine ⟨_, _, _, Value.run (F := Ideal) m g, (θ_run Cert.Reference13Ideal.defs _ _).mono (fun _ h c => ?_) (Cert.Reference13Ideal.Value.run (F := Ideal) m' g')⟩
  obtain ⟨h0, h1, h2, ha⟩ := h c
  obtain ⟨a0, a1, a2, a3⟩ := hargs c
  rw [a0, a1, a2, a3] at h0
  rw [a1, a2] at h1
  rw [a1, a3] at h2
  exact ⟨h0.trans (funext fun _ => change κ rfl rfl _ _ _ _ _ _), h1, h2, ha⟩

end Cert.Optimiser.W13

namespace Cert.Optimiser.W14

open Cert.Kernel14Ideal

theorem preserves : Cert.preserves_Kernel14_Kernel14Ideal := ⟨stated1 κ rfl, stated2 κ rfl⟩

theorem algebraic : Cert.algebraic_Kernel14Ideal_Reference14Ideal (hKernel14Ideal := Gen.facts) (hReference14Ideal := Cert.Reference14Ideal.Gen.facts) := by
  intro m g m' g' _ hargs
  refine ⟨_, _, _, Value.run (F := Ideal) m g, (θ_run Cert.Reference14Ideal.defs _ _).mono (fun _ h c => ?_) (Cert.Reference14Ideal.Value.run (F := Ideal) m' g')⟩
  obtain ⟨h0, h1, h2, ha⟩ := h c
  obtain ⟨a0, a1, a2, a3⟩ := hargs c
  rw [a0, a1, a2, a3] at h0
  rw [a1, a2] at h1
  rw [a1, a3] at h2
  exact ⟨h0.trans (funext fun _ => change κ rfl rfl _ _ _ _ _ _), h1, h2, ha⟩

end Cert.Optimiser.W14

namespace Cert.Optimiser.W15

open Cert.Kernel15Ideal

theorem preserves : Cert.preserves_Kernel15_Kernel15Ideal := ⟨stated1 κ rfl, stated2 κ rfl⟩

theorem algebraic : Cert.algebraic_Kernel15Ideal_Reference15Ideal (hKernel15Ideal := Gen.facts) (hReference15Ideal := Cert.Reference15Ideal.Gen.facts) := by
  intro m g m' g' _ hargs
  refine ⟨_, _, _, Value.run (F := Ideal) m g, (θ_run Cert.Reference15Ideal.defs _ _).mono (fun _ h c => ?_) (Cert.Reference15Ideal.Value.run (F := Ideal) m' g')⟩
  obtain ⟨h0, h1, h2, ha⟩ := h c
  obtain ⟨a0, a1, a2, a3⟩ := hargs c
  rw [a0, a1, a2, a3] at h0
  rw [a1, a2] at h1
  rw [a1, a3] at h2
  exact ⟨h0.trans (funext fun _ => change κ rfl rfl _ _ _ _ _ _), h1, h2, ha⟩

end Cert.Optimiser.W15

namespace Cert.Optimiser.W16

open Cert.Kernel16Ideal

theorem preserves : Cert.preserves_Kernel16_Kernel16Ideal := ⟨stated1 κ rfl, stated2 κ rfl⟩

theorem algebraic : Cert.algebraic_Kernel16Ideal_Reference16Ideal (hKernel16Ideal := Gen.facts) (hReference16Ideal := Cert.Reference16Ideal.Gen.facts) := by
  intro m g m' g' _ hargs
  refine ⟨_, _, _, Value.run (F := Ideal) m g, (θ_run Cert.Reference16Ideal.defs _ _).mono (fun _ h c => ?_) (Cert.Reference16Ideal.Value.run (F := Ideal) m' g')⟩
  obtain ⟨h0, h1, h2, ha⟩ := h c
  obtain ⟨a0, a1, a2, a3⟩ := hargs c
  rw [a0, a1, a2, a3] at h0
  rw [a1, a2] at h1
  rw [a1, a3] at h2
  exact ⟨h0.trans (funext fun _ => change κ rfl rfl _ _ _ _ _ _), h1, h2, ha⟩

end Cert.Optimiser.W16

namespace Cert.Optimiser.W17

open Cert.Kernel17Ideal

theorem preserves : Cert.preserves_Kernel17_Kernel17Ideal := ⟨stated1 κ rfl, stated2 κ rfl⟩

theorem algebraic : Cert.algebraic_Kernel17Ideal_Reference17Ideal (hKernel17Ideal := Gen.facts) (hReference17Ideal := Cert.Reference17Ideal.Gen.facts) := by
  intro m g m' g' _ hargs
  refine ⟨_, _, _, Value.run (F := Ideal) m g, (θ_run Cert.Reference17Ideal.defs _ _).mono (fun _ h c => ?_) (Cert.Reference17Ideal.Value.run (F := Ideal) m' g')⟩
  obtain ⟨h0, h1, h2, ha⟩ := h c
  obtain ⟨a0, a1, a2, a3⟩ := hargs c
  rw [a0, a1, a2, a3] at h0
  rw [a1, a2] at h1
  rw [a1, a3] at h2
  exact ⟨h0.trans (funext fun _ => change κ rfl rfl _ _ _ _ _ _), h1, h2, ha⟩

end Cert.Optimiser.W17

namespace Cert.Optimiser.W18

open Cert.Kernel18Ideal

theorem preserves : Cert.preserves_Kernel18_Kernel18Ideal := ⟨stated1 κ rfl, stated2 κ rfl⟩

theorem algebraic : Cert.algebraic_Kernel18Ideal_Reference18Ideal (hKernel18Ideal := Gen.facts) (hReference18Ideal := Cert.Reference18Ideal.Gen.facts) := by
  intro m g m' g' _ hargs
  refine ⟨_, _, _, Value.run (F := Ideal) m g, (θ_run Cert.Reference18Ideal.defs _ _).mono (fun _ h c => ?_) (Cert.Reference18Ideal.Value.run (F := Ideal) m' g')⟩
  obtain ⟨h0, h1, h2, ha⟩ := h c
  obtain ⟨a0, a1, a2, a3⟩ := hargs c
  rw [a0, a1, a2, a3] at h0
  rw [a1, a2] at h1
  rw [a1, a3] at h2
  exact ⟨h0.trans (funext fun _ => change κ rfl rfl _ _ _ _ _ _), h1, h2, ha⟩

end Cert.Optimiser.W18

namespace Cert.Optimiser.W19

open Cert.Kernel19Ideal

theorem preserves : Cert.preserves_Kernel19_Kernel19Ideal := ⟨stated1 κ rfl, stated2 κ rfl⟩

theorem algebraic : Cert.algebraic_Kernel19Ideal_Reference19Ideal (hKernel19Ideal := Gen.facts) (hReference19Ideal := Cert.Reference19Ideal.Gen.facts) := by
  intro m g m' g' _ hargs
  refine ⟨_, _, _, Value.run (F := Ideal) m g, (θ_run Cert.Reference19Ideal.defs _ _).mono (fun _ h c => ?_) (Cert.Reference19Ideal.Value.run (F := Ideal) m' g')⟩
  obtain ⟨h0, h1, h2, ha⟩ := h c
  obtain ⟨a0, a1, a2, a3⟩ := hargs c
  rw [a0, a1, a2, a3] at h0
  rw [a1, a2] at h1
  rw [a1, a3] at h2
  exact ⟨h0.trans (funext fun _ => change κ rfl rfl _ _ _ _ _ _), h1, h2, ha⟩

end Cert.Optimiser.W19

namespace Cert.Optimiser.W20

open Cert.Kernel20Ideal

theorem preserves : Cert.preserves_Kernel20_Kernel20Ideal := ⟨stated1 κ rfl, stated2 κ rfl⟩

theorem algebraic : Cert.algebraic_Kernel20Ideal_Reference20Ideal (hKernel20Ideal := Gen.facts) (hReference20Ideal := Cert.Reference20Ideal.Gen.facts) := by
  intro m g m' g' _ hargs
  refine ⟨_, _, _, Value.run (F := Ideal) m g, (θ_run Cert.Reference20Ideal.defs _ _).mono (fun _ h c => ?_) (Cert.Reference20Ideal.Value.run (F := Ideal) m' g')⟩
  obtain ⟨h0, h1, h2, ha⟩ := h c
  obtain ⟨a0, a1, a2, a3⟩ := hargs c
  rw [a0, a1, a2, a3] at h0
  rw [a1, a2] at h1
  rw [a1, a3] at h2
  exact ⟨h0.trans (funext fun _ => change κ rfl rfl _ _ _ _ _ _), h1, h2, ha⟩

end Cert.Optimiser.W20

namespace Cert.Optimiser.W21

open Cert.Kernel21Ideal

theorem preserves : Cert.preserves_Kernel21_Kernel21Ideal := ⟨stated1 κ rfl, stated2 κ rfl⟩

theorem algebraic : Cert.algebraic_Kernel21Ideal_Reference21Ideal (hKernel21Ideal := Gen.facts) (hReference21Ideal := Cert.Reference21Ideal.Gen.facts) := by
  intro m g m' g' _ hargs
  refine ⟨_, _, _, Value.run (F := Ideal) m g, (θ_run Cert.Reference21Ideal.defs _ _).mono (fun _ h c => ?_) (Cert.Reference21Ideal.Value.run (F := Ideal) m' g')⟩
  obtain ⟨h0, h1, h2, ha⟩ := h c
  obtain ⟨a0, a1, a2, a3⟩ := hargs c
  rw [a0, a1, a2, a3] at h0
  rw [a1, a2] at h1
  rw [a1, a3] at h2
  exact ⟨h0.trans (funext fun _ => change κ rfl rfl _ _ _ _ _ _), h1, h2, ha⟩

end Cert.Optimiser.W21

namespace Cert.Optimiser.W22

open Cert.Kernel22Ideal

theorem preserves : Cert.preserves_Kernel22_Kernel22Ideal := ⟨stated1 κ rfl, stated2 κ rfl⟩

theorem algebraic : Cert.algebraic_Kernel22Ideal_Reference22Ideal (hKernel22Ideal := Gen.facts) (hReference22Ideal := Cert.Reference22Ideal.Gen.facts) := by
  intro m g m' g' _ hargs
  refine ⟨_, _, _, Value.run (F := Ideal) m g, (θ_run Cert.Reference22Ideal.defs _ _).mono (fun _ h c => ?_) (Cert.Reference22Ideal.Value.run (F := Ideal) m' g')⟩
  obtain ⟨h0, h1, h2, ha⟩ := h c
  obtain ⟨a0, a1, a2, a3⟩ := hargs c
  rw [a0, a1, a2, a3] at h0
  rw [a1, a2] at h1
  rw [a1, a3] at h2
  exact ⟨h0.trans (funext fun _ => change κ rfl rfl _ _ _ _ _ _), h1, h2, ha⟩

end Cert.Optimiser.W22

end
-- ==== Proof.Attn.Words.lean ====
/- The program read with its words has the same text as the idealized one: its body table and its @main are equal to the other's,
   and so it has the same run. -/
module

public import proofs.«01_k».proof.Defs
public import proofs.«01_k».proof.Proof.Gen.Kernel
public import proofs.«01_k».proof.Proof.Attn.Run

@[expose] public section

set_option maxRecDepth 16384

noncomputable section

namespace Cert.Words

open Idealize.ShloMosaic Idealize.ShloMosaic.TcCoe Idealize.SL.Sem

theorem forward_eq : Cert.Kernel.cc0_mla_attn_fwd (F := Bits) = Cert.KernelIdeal.cc0_mla_attn_fwd (F := Bits) := rfl

theorem backward_eq : Cert.Kernel.cc1_mla_attn_bwd (F := Bits) = Cert.KernelIdeal.cc1_mla_attn_bwd (F := Bits) := rfl

set_option maxHeartbeats 4000000 in
theorem bodies_eq : Cert.Kernel.defs₀ (F := Bits) = Cert.KernelIdeal.defs₀ (F := Bits) := by
  unfold Cert.Kernel.defs₀ Cert.KernelIdeal.defs₀
  rw [forward_eq, backward_eq]
  congr 1
  funext l
  rcases l with ⟨_ | _ | n, h⟩
  · rfl
  · rfl
  · exact absurd h (by omega)

theorem defs_eq : Cert.Kernel.defs (F := Bits) = Cert.KernelIdeal.defs (F := Bits) :=
  congrArg (fun d => Pipeline.defs Cert.Kernel.pcfgs d) bodies_eq

theorem main_eq : Cert.Kernel.main (F := Bits) = Cert.KernelIdeal.main (F := Bits) := rfl

/-- A run under equal tables of an equal program. -/
theorem run_eq {nD : ℕ} {τ : Topo} {sig : RefSig} {Val : EltTy → Type} {Λ : Labels} {d d' : Defs nD τ sig Val Λ}
    {p p' : Dev nD → Prog (TpuEff nD τ sig Val Λ .tc) PUnit} (hd : d = d') (hp : p = p') {s} {Q}
    (h : θ_run d' (onTc (τ := τ) p') s Q) : θ_run d (onTc (τ := τ) p) s Q := by
  subst hd; subst hp; exact h

theorem frame : Cert.quiescent_Kernel (hKernel := Cert.Kernel.Gen.facts) := fun m ρ _ =>
  run_eq defs_eq main_eq (Cert.KernelIdeal.Attn.frame (F := Bits) m ρ)

end Cert.Words

end
-- ==== Proof.Value.Reference.lean ====
/- The reference program's three results at real arguments: the gradients `Softmax.dq`, `Softmax.dk` and `Softmax.dv` of
   each head. -/
module

public import proofs.«01_k».proof.Proof.Gen.ReferenceIdeal.Read
public import proofs.«01_k».proof.Proof.Value.Softmax
public import Idealize.ShloMosaic.Lib.IdealHost

@[expose] public section

noncomputable section

namespace Cert.ReferenceIdeal.Real

open Cert.ReferenceIdeal Cert.ReferenceIdeal.Gen Cert.ReferenceIdeal.Read Cert.Softmax Idealize.ShloMosaic Finset

variable {x0 x1 : (⟨S2048x16x96, .f32⟩ : BufTy).Contents (Elt Ideal)} {x2 : (⟨S2048x16x64, .f32⟩ : BufTy).Contents (Elt Ideal)}
  {x3 : (⟨S2048x1024, .f32⟩ : BufTy).Contents (Elt Ideal)} {H : ℕ → Head}

/-- The queries are those of the heads `H`. -/
abbrev IsQ (x0 : (⟨S2048x16x96, .f32⟩ : BufTy).Contents (Elt Ideal)) (H : ℕ → Head) : Prop :=
  ∀ i : S2048x16x96.Idx, x0 i = (((H (i 1).val).q (i 0).val (i 2).val : ℝ) : EReal)
/-- The keys are those of the heads `H`. -/
abbrev IsK (x1 : (⟨S2048x16x96, .f32⟩ : BufTy).Contents (Elt Ideal)) (H : ℕ → Head) : Prop :=
  ∀ i : S2048x16x96.Idx, x1 i = (((H (i 1).val).k (i 0).val (i 2).val : ℝ) : EReal)
/-- The values are those of the heads `H`. -/
abbrev IsV (x2 : (⟨S2048x16x64, .f32⟩ : BufTy).Contents (Elt Ideal)) (H : ℕ → Head) : Prop :=
  ∀ i : S2048x16x64.Idx, x2 i = (((H (i 1).val).v (i 0).val (i 2).val : ℝ) : EReal)
/-- The cotangent, the heads side by side, is that of the heads `H`. -/
abbrev IsG (x3 : (⟨S2048x1024, .f32⟩ : BufTy).Contents (Elt Ideal)) (H : ℕ → Head) : Prop :=
  ∀ i : S2048x1024.Idx, x3 i = (((H ((i 1).val / 64)).g (i 0).val ((i 1).val % 64) : ℝ) : EReal)

section scores

variable (hq : IsQ x0 H) (hk : IsK x1 H)
include hq hk

theorem scores (i : S16x2048x2048.Idx) :
    val_main_v2 x0 x1 i = ((score (H (i 0).val) (i 1).val (i 2).val : ℝ) : EReal) := by
  rw [val_main_v2_apply, val_main_v0_apply, val_main_v1_apply, val_main_cst_apply, score, EReal.coe_mul, ← ofBits_scale]
  refine congrArg (· * _) ?_
  rw [← sum_fin]
  refine Finset.sum_congr rfl fun k _ => ?_
  rw [hq, hk, EReal.coe_mul]

omit hq hk in
theorem mask (i : S16x2048x2048.Idx) :
    val_main_v9_1 (F := Ideal) i = BitVec.ofBool (decide ((i 2).val ≤ (i 1).val)) := by
  rw [val_main_v9_1_apply, val_main_v8_apply, val_main_v6_apply, val_main_v7_apply, val_main_v4_apply, val_main_v5_apply,
    val_main_v3_apply, val_main_v3_apply]
  have h1 : (i 1).val < 2048 := (i 1).isLt
  have h2 : (i 2).val < 2048 := (i 2).isLt
  exact WordCmp.cmpi_sle_ofNat (w := 32) (a := (i 2).val) (b := (i 1).val) (by omega) (by omega)

theorem maskedScores (i : S16x2048x2048.Idx) :
    val_main_v9_0 x0 x1 i = masked (score (H (i 0).val)  (i 1).val) (i 1).val (i 2).val := by
  rw [val_main_v9_0_apply, mask, WordCmp.select_decide, scores hq hk, val_main_call0_v2_apply, val_main_call0_v0_apply,
    val_main_cst_0_apply]
  exact congrArg (fun z : EReal => if (i 2).val ≤ (i 1).val then ((score (H (i 0).val) (i 1).val (i 2).val : ℝ) : EReal) else z) ofBits_bot

theorem maxes (i : S16x2048.Idx) :
    val_main_v17 x0 x1 i = ((top (score (H (i 0).val) (i 1).val) (i 1).val : ℝ) : EReal) := by
  rw [val_main_v17_apply]
  have e : val_main_v10 x0 x1 i = ((top (score (H (i 0).val) (i 1).val) (i 1).val : ℝ) : EReal) := by
    unfold val_main_v10
    rw [Host.reduce_eq_fold_single FloatOps.maximumf _ _ _ (by decide)]
    have h1 : (i 1).val < 2048 := (i 1).isLt
    rw [← fold_max h1]
    have e0 : val_main_cst_1 (F := Ideal) (Shape.Idx.first h_S_) = (⊥ : EReal) := ofBits_bot
    rw [e0]
    show Finset.fold max _ _ _ = _
    congr 1
    funext k
    exact maskedScores hq hk _
  rw [e, val_main_v16_apply, val_main_cst_3_apply]
  show max (Ideal.ofBits .f32 0xFF800000#32) _ = _
  rw [ofBits_bot]
  exact max_eq_right bot_le

theorem exps (i : S16x2048x2048.Idx) :
    val_main_v30 x0 x1 i = ((weight (score (H (i 0).val) (i 1).val) (i 1).val (i 2).val : ℝ) : EReal) := by
  rw [val_main_v30_apply, val_main_v29_apply, maskedScores hq hk, val_main_v28_apply, val_main_v27_apply, maxes hq hk]
  exact exp_masked _ _ _

theorem sums (i : S16x2048.Idx) :
    val_main_v31 x0 x1 i = ((mass (score (H (i 0).val) (i 1).val) (i 1).val : ℝ) : EReal) := by
  rw [val_main_v31_apply]
  have h1 : (i 1).val < 2048 := (i 1).isLt
  rw [← sum_weight h1]
  have e0 : val_main_cst_9 (F := Ideal) (Shape.Idx.first h_S_) = (0 : EReal) := Ideal.ofBits_zero_f32
  rw [e0, zero_add]
  exact Finset.sum_congr rfl fun k _ => exps hq hk _

theorem probs (i : S16x2048x2048.Idx) :
    val_main_v34 x0 x1 i = ((p (H (i 0).val) (i 1).val (i 2).val : ℝ) : EReal) := by
  rw [val_main_v34_apply, exps hq hk, val_main_v33_apply, val_main_v32_apply, sums hq hk]
  exact div_coe _ (mass_ne _ _)

theorem invSquares (i : S16x2048x1.Idx) :
    val_main_v37 x0 x1 i
      = ((1 / (mass (score (H (i 0).val) (i 1).val) (i 1).val * mass (score (H (i 0).val) (i 1).val) (i 1).val) : ℝ) : EReal) := by
  rw [val_main_v37_apply, val_main_v36_apply, val_main_v35_apply, val_main_v32_apply, sums hq hk, val_main_cst_10_apply]
  have e1 : (Ideal.ofBits .f32 0x3F800000#32 : EReal) = ((1 : ℝ) : EReal) := Ideal.ofBits_one_f32
  show Ideal.div (Ideal.ofBits .f32 0x3F800000#32) (((mass _ _ : ℝ) : EReal) * ((mass _ _ : ℝ) : EReal)) = _
  rw [e1, ← EReal.coe_mul]
  exact div_coe _ (mul_ne_zero (mass_ne _ _) (mass_ne _ _))

end scores

section cotangent

variable (hg : IsG x3 H)
include hg

theorem cotangent (i : S16x64x2048.Idx) :
    val_main_v41 x3 i = (((H (i 0).val).g (i 2).val (i 1).val : ℝ) : EReal) := by
  rw [val_main_v41_apply, val_main_v40_apply, hg]
  have h0 : (i 0).val < 16 := (i 0).isLt
  have h1 : (i 1).val < 64 := (i 1).isLt
  have h2 : (i 2).val < 2048 := (i 2).isLt
  have a0 : (((i 2).val * 16 + (i 0).val) * 64 + (i 1).val) / 1024 = (i 2).val := by omega
  have a1 : (((i 2).val * 16 + (i 0).val) * 64 + (i 1).val) % 1024 / 64 = (i 0).val := by omega
  have a2 : (((i 2).val * 16 + (i 0).val) * 64 + (i 1).val) % 1024 % 64 = (i 1).val := by omega
  show (((H ((((i 2).val * 16 + (i 0).val) * 64 + (i 1).val) % 1024 / 64)).g ((((i 2).val * 16 + (i 0).val) * 64 + (i 1).val) / 1024) ((((i 2).val * 16 + (i 0).val) * 64 + (i 1).val) % 1024 % 64) : ℝ) : EReal) = _
  rw [a0, a1, a2]

variable (hv : IsV x2 H)
include hv

theorem dps (i : S16x2048x2048.Idx) :
    val_main_v42 x2 x3 i = ((dp (H (i 0).val) (i 1).val (i 2).val : ℝ) : EReal) := by
  rw [val_main_v42_apply, dp, ← sum_fin]
  refine Finset.sum_congr rfl fun k _ => ?_
  rw [cotangent hg, hv, EReal.coe_mul]

end cotangent

section results

variable (hq : IsQ x0 H) (hk : IsK x1 H) (hg : IsG x3 H)
include hq hk hg

theorem res_dv (i : S16x2048x64.Idx) :
    val_main_v66 x0 x1 x3 i = ((dv (H (i 0).val) 2048 (i 1).val (i 2).val : ℝ) : EReal) := by
  rw [val_main_v66_apply, val_main_v44_apply, val_main_v43_apply, dv, ← sum_fin]
  refine Finset.sum_congr rfl fun k _ => ?_
  rw [cotangent hg, probs hq hk, ← EReal.coe_mul, mul_comm]

variable (hv : IsV x2 H)
include hv

theorem means (i : S16x2048.Idx) :
    val_main_v48 x0 x1 x2 x3 i
      = ((mean (H (i 0).val) (i 1).val / mass (score (H (i 0).val) (i 1).val) (i 1).val : ℝ) : EReal) := by
  rw [val_main_v48_apply]
  have e0 : val_main_cst_11 (F := Ideal) (Shape.Idx.first h_S_) = (0 : EReal) := Ideal.ofBits_zero_f32
  rw [e0, zero_add]
  have h1 : (i 1).val < 2048 := (i 1).isLt
  have e : ∀ k : Fin 2048, val_main_v47 x0 x1 x2 x3 (idx_main_v48 i k)
      = ((p (H (i 0).val) (i 1).val k.val * dp (H (i 0).val) (i 1).val k.val
          / mass (score (H (i 0).val) (i 1).val) (i 1).val : ℝ) : EReal) := fun k => by
    rw [val_main_v47_apply, val_main_v46_apply, dps hg hv, val_main_v45_apply, invSquares hq hk, exps hq hk]
    show ((_ : ℝ) : EReal) * ((_ : ℝ) : EReal) * ((_ : ℝ) : EReal) = _
    rw [← EReal.coe_mul, ← EReal.coe_mul]
    refine congrArg ((↑) : ℝ → EReal) ?_
    have hm := mass_ne (score (H (i 0).val) (i 1).val) (i 1).val
    show dp (H (i 0).val) (i 1).val k.val * (1 / (mass (score (H (i 0).val) (i 1).val) (i 1).val * mass (score (H (i 0).val) (i 1).val) (i 1).val)) * weight (score (H (i 0).val) (i 1).val) (i 1).val k.val = _
    unfold p prob
    field_simp
  rw [Finset.sum_congr rfl fun k _ => e k,
    sum_fin 2048 fun j => p (H (i 0).val) (i 1).val j * dp (H (i 0).val) (i 1).val j / mass (score (H (i 0).val) (i 1).val) (i 1).val,
    sum_cut h1 _ fun j hj => by rw [p_past _ _ _ hj, zero_mul, zero_div], ← Finset.sum_div]
  rfl

theorem negMeans (i : S16x2048x1.Idx) :
    val_main_v50 x0 x1 x2 x3 i
      = ((-(mean (H (i 0).val) (i 1).val / mass (score (H (i 0).val) (i 1).val) (i 1).val) : ℝ) : EReal) := by
  rw [val_main_v50_apply, val_main_v49_apply, means hq hk hg hv]
  have h0 : (i 0).val < 16 := (i 0).isLt
  have h1 : (i 1).val < 2048 := (i 1).isLt
  have h2 : (i 2).val < 1 := (i 2).isLt
  have a0 : (((i 0).val * 2048 + (i 1).val) * 1 + (i 2).val) / 2048 = (i 0).val := by omega
  have a1 : (((i 0).val * 2048 + (i 1).val) * 1 + (i 2).val) % 2048 = (i 1).val := by omega
  rw [EReal.coe_neg]
  show -((mean (H ((((i 0).val * 2048 + (i 1).val) * 1 + (i 2).val) / 2048)) ((((i 0).val * 2048 + (i 1).val) * 1 + (i 2).val) % 2048)
    / mass (score (H ((((i 0).val * 2048 + (i 1).val) * 1 + (i 2).val) / 2048)) ((((i 0).val * 2048 + (i 1).val) * 1 + (i 2).val) % 2048)) ((((i 0).val * 2048 + (i 1).val) * 1 + (i 2).val) % 2048) : ℝ) : EReal) = _
  rw [a0, a1]

theorem dss (i : S16x2048x2048.Idx) :
    val_main_v59 x0 x1 x2 x3 i = ((ds (H (i 0).val) (i 1).val (i 2).val : ℝ) : EReal) := by
  have e53 : val_main_v53 x0 x1 x2 x3 (idx_main_v54 i)
      = ((-(mean (H (i 0).val) (i 1).val / mass (score (H (i 0).val) (i 1).val) (i 1).val) : ℝ) : EReal) := by
    rw [val_main_v53_apply]
    have e0 : val_main_cst_12 (F := Ideal) (Shape.Idx.first h_S_) = (0 : EReal) := Ideal.ofBits_zero_f32
    rw [e0, zero_add, Fin.sum_univ_one]
    exact negMeans hq hk hg hv _
  have ez : val_main_call1_v0 (F := Ideal) i = ((0 : ℝ) : EReal) := by
    rw [val_main_call1_v0_apply, val_main_call1_cst_apply]
    exact Ideal.ofBits_zero_f32
  have ec : val_main_v58 (F := Ideal) i = ((scale : ℝ) : EReal) := by
    rw [val_main_v58_apply, val_main_cst_13_apply]
    exact ofBits_scale
  rw [val_main_v59_apply, val_main_v57_apply, mask, WordCmp.select_decide, ez, ec, val_main_v56_apply, val_main_v55_apply,
    val_main_v54_apply, e53, val_main_v52_apply, dps hg hv, val_main_v51_apply, val_main_v32_apply, sums hq hk, exps hq hk]
  have hm := mass_ne (score (H (i 0).val) (i 1).val) (i 1).val
  show (if (i 2).val ≤ (i 1).val then (Ideal.div ((dp (H (i 0).val) (i 1).val (i 2).val : ℝ) : EReal) ((mass (score (H (i 0).val) (i 1).val) (i 1).val : ℝ) : EReal) + ((_ : ℝ) : EReal)) * ((_ : ℝ) : EReal) else ((0 : ℝ) : EReal)) * ((_ : ℝ) : EReal) = _
  rw [div_coe _ hm, ← EReal.coe_add, ← EReal.coe_mul]
  split
  · next h =>
    rw [← EReal.coe_mul]
    refine congrArg ((↑) : ℝ → EReal) ?_
    unfold ds p prob
    field_simp
    ring
  · next h =>
    rw [← EReal.coe_mul, zero_mul, ds_past _ _ _ (by omega)]

theorem res_dq (i : S16x2048x96.Idx) :
    val_main_v64 x0 x1 x2 x3 i = ((dq (H (i 0).val) (i 1).val (i 2).val : ℝ) : EReal) := by
  rw [val_main_v64_apply, val_main_v63_apply, val_main_v62_apply]
  have h1 : (i 1).val < 2048 := (i 1).isLt
  rw [dq, ← sum_cut h1 _ fun j hj => by rw [ds_past _ _ _ hj, zero_mul], ← sum_fin]
  refine Finset.sum_congr rfl fun k _ => ?_
  rw [dss hq hk hg hv, hk, EReal.coe_mul]

theorem res_dk (i : S16x2048x96.Idx) :
    val_main_v65 x0 x1 x2 x3 i = ((dk (H (i 0).val) 2048 (i 1).val (i 2).val : ℝ) : EReal) := by
  rw [val_main_v65_apply, val_main_v61_apply, val_main_v60_apply, dk, ← sum_fin]
  refine Finset.sum_congr rfl fun k _ => ?_
  rw [dss hq hk hg hv, hq, EReal.coe_mul]

end results

end Cert.ReferenceIdeal.Real

end
-- ==== Proof.lean ====
/- The certificate: the attention kernels run as one program, forward and then backward, compute the gradients of the attention's
   queries, keys and values that the reference computes, at real arguments; each of the further calls computes what its own
   reference computes; and the frames of all programs. -/
module

public import proofs.«01_k».proof.Proof.Gen.Kernel2.Frame
public import proofs.«01_k».proof.Proof.Ffn.GateUpGrad
public import proofs.«01_k».proof.Proof.Gen.Kernel3.Frame
public import proofs.«01_k».proof.Proof.Ffn.GateUpWeights
public import proofs.«01_k».proof.Proof.Gen.Kernel4.Frame
public import proofs.«01_k».proof.Proof.Ffn.Input
public import proofs.«01_k».proof.Proof.Gen.Kernel5.Frame
public import proofs.«01_k».proof.Proof.Ffn.DownWeights
public import proofs.«01_k».proof.Proof.Gen.Kernel6.Frame
public import proofs.«01_k».proof.Proof.Ffn.Up
public import proofs.«01_k».proof.Proof.Gen.Kernel7.Frame
public import proofs.«01_k».proof.Proof.Ffn.Down
public import proofs.«01_k».proof.Proof.Gen.Kernel8.Frame
public import proofs.«01_k».proof.Proof.Dilated.Heads
public import proofs.«01_k».proof.Proof.Gen.Kernel9.Frame
public import proofs.«01_k».proof.Proof.Dilated.HeadWeights
public import proofs.«01_k».proof.Proof.Gen.Kernel10.Frame
public import proofs.«01_k».proof.Proof.Dilated.Input
public import proofs.«01_k».proof.Proof.Gen.Kernel11.Frame
public import proofs.«01_k».proof.Proof.Optimiser.Weights
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Ffn.Finite2
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Attn.Run
public import proofs.«01_k».proof.Proof.Attn.Words
public import proofs.«01_k».proof.Proof.Value.Reference
public import proofs.«01_k».proof.Proof.Value.Result
public import proofs.«01_k».proof.Proof.Value.Finite

@[expose] public section

noncomputable section

namespace Cert.Proof

open Idealize.ShloMosaic Idealize.ShloMosaic.TcCoe Idealize.SL.Sem

/-- The idealized kernels run and leave their arguments. -/
theorem kernel_ideal_frame : Cert.quiescent_KernelIdeal (hKernelIdeal := Cert.KernelIdeal.Gen.facts) := fun m ρ _ =>
  Cert.KernelIdeal.Attn.frame (F := Ideal) m ρ

/-- The reference runs and leaves its arguments. It is a list of host operations, none of which touches a semaphore. -/
theorem reference_frame : Cert.quiescent_ReferenceIdeal (hReferenceIdeal := Cert.ReferenceIdeal.Gen.facts) := fun m ρ _ =>
  (θ_run Cert.ReferenceIdeal.defs _ _).mono
    (fun _ h => ⟨fun c => (h c).2.2.2, funext fun g => nomatch g⟩)
    (Cert.ReferenceIdeal.Value.run (F := Ideal) m ρ)

open Cert.Softmax in
/-- The kernels' three results are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hargs
  refine ⟨fun c => Cert.KernelIdeal.Attn.W4 m g c (Proc.devRef .tc Cert.KernelIdeal.main_v9_0),
    fun c => Cert.KernelIdeal.Attn.W4 m g c (Proc.devRef .tc Cert.KernelIdeal.main_v9_1),
    fun c => Cert.KernelIdeal.Attn.W4 m g c (Proc.devRef .tc Cert.KernelIdeal.main_v9_2), ?_, ?_⟩
  · exact Cert.KernelIdeal.Attn.results (F := Ideal) m g
  · refine (θ_run Cert.ReferenceIdeal.defs _ _).mono (fun _ h c => ?_) (Cert.ReferenceIdeal.Value.run (F := Ideal) m' g')
    obtain ⟨h0, h1, h2, ha⟩ := h c
    obtain ⟨a0, a1, a2, a3⟩ := hargs c
    have hA := Cert.Finite.args m c hpre
    have hq : Cert.ReferenceIdeal.Real.IsQ (m' ((c.tc : Thread Cert.ReferenceIdeal.nD Cert.ReferenceIdeal.τ).loc Cert.ReferenceIdeal.main_arg0))
        (Cert.Finite.heads m c) := fun i => (congrFun a0 i).trans (hA.q i)
    have hk : Cert.ReferenceIdeal.Real.IsK (m' ((c.tc : Thread Cert.ReferenceIdeal.nD Cert.ReferenceIdeal.τ).loc Cert.ReferenceIdeal.main_arg1))
        (Cert.Finite.heads m c) := fun i => (congrFun a1 i).trans (hA.k i)
    have hv : Cert.ReferenceIdeal.Real.IsV (m' ((c.tc : Thread Cert.ReferenceIdeal.nD Cert.ReferenceIdeal.τ).loc Cert.ReferenceIdeal.main_arg2))
        (Cert.Finite.heads m c) := fun i => (congrFun a2 i).trans (hA.v i)
    have hg : Cert.ReferenceIdeal.Real.IsG (m' ((c.tc : Thread Cert.ReferenceIdeal.nD Cert.ReferenceIdeal.τ).loc Cert.ReferenceIdeal.main_arg3))
        (Cert.Finite.heads m c) := fun i => (congrFun a3 i).trans (hA.g i)
    refine ⟨h0.trans ?_, h1.trans ?_, h2.trans ?_, ha⟩
    · refine (Cert.ReferenceIdeal.Read.val_main_v64_eq m' c).trans (funext fun i => ?_)
      exact (Cert.ReferenceIdeal.Real.res_dq hq hk hg hv i).trans (Cert.KernelIdeal.Tiles.end_dq m g c hA i).symm
    · refine (Cert.ReferenceIdeal.Read.val_main_v65_eq m' c).trans (funext fun i => ?_)
      exact (Cert.ReferenceIdeal.Real.res_dk hq hk hg hv i).trans (Cert.KernelIdeal.Tiles.end_dk m g c hA i).symm
    · refine (Cert.ReferenceIdeal.Read.val_main_v66_eq m' c).trans (funext fun i => ?_)
      exact (Cert.ReferenceIdeal.Real.res_dv hq hk hg i).trans (Cert.KernelIdeal.Tiles.end_dv m g c hA i).symm

/-! The further references run and leave their arguments. -/

theorem reference2_frame : Cert.quiescent_Reference2Ideal (hReference2Ideal := Cert.Reference2Ideal.Gen.facts) := fun m ρ _ =>
  (θ_run Cert.Reference2Ideal.defs _ _).mono (fun _ h => ⟨fun c => (h c).2, funext fun g => nomatch g⟩)
    (Cert.Reference2Ideal.Value.run (F := Ideal) m ρ)

theorem reference3_frame : Cert.quiescent_Reference3Ideal (hReference3Ideal := Cert.Reference3Ideal.Gen.facts) := fun m ρ _ =>
  (θ_run Cert.Reference3Ideal.defs _ _).mono (fun _ h => ⟨fun c => (h c).2, funext fun g => nomatch g⟩)
    (Cert.Reference3Ideal.Value.run (F := Ideal) m ρ)

theorem reference4_frame : Cert.quiescent_Reference4Ideal (hReference4Ideal := Cert.Reference4Ideal.Gen.facts) := fun m ρ _ =>
  (θ_run Cert.Reference4Ideal.defs _ _).mono (fun _ h => ⟨fun c => (h c).2.2.2.2, funext fun g => nomatch g⟩)
    (Cert.Reference4Ideal.Value.run (F := Ideal) m ρ)

theorem reference5_frame : Cert.quiescent_Reference5Ideal (hReference5Ideal := Cert.Reference5Ideal.Gen.facts) := fun m ρ _ =>
  (θ_run Cert.Reference5Ideal.defs _ _).mono (fun _ h => ⟨fun c => (h c).2, funext fun g => nomatch g⟩)
    (Cert.Reference5Ideal.Value.run (F := Ideal) m ρ)

theorem reference6_frame : Cert.quiescent_Reference6Ideal (hReference6Ideal := Cert.Reference6Ideal.Gen.facts) := fun m ρ _ =>
  (θ_run Cert.Reference6Ideal.defs _ _).mono (fun _ h => ⟨fun c => (h c).2.2, funext fun g => nomatch g⟩)
    (Cert.Reference6Ideal.Value.run (F := Ideal) m ρ)

theorem reference7_frame : Cert.quiescent_Reference7Ideal (hReference7Ideal := Cert.Reference7Ideal.Gen.facts) := fun m ρ _ =>
  (θ_run Cert.Reference7Ideal.defs _ _).mono (fun _ h => ⟨fun c => (h c).2.2, funext fun g => nomatch g⟩)
    (Cert.Reference7Ideal.Value.run (F := Ideal) m ρ)

theorem reference8_frame : Cert.quiescent_Reference8Ideal (hReference8Ideal := Cert.Reference8Ideal.Gen.facts) := fun m ρ _ =>
  (θ_run Cert.Reference8Ideal.defs _ _).mono (fun _ h => ⟨fun c => (h c).2, funext fun g => nomatch g⟩)
    (Cert.Reference8Ideal.Value.run (F := Ideal) m ρ)

theorem reference9_frame : Cert.quiescent_Reference9Ideal (hReference9Ideal := Cert.Reference9Ideal.Gen.facts) := fun m ρ _ =>
  (θ_run Cert.Reference9Ideal.defs _ _).mono (fun _ h => ⟨fun c => (h c).2, funext fun g => nomatch g⟩)
    (Cert.Reference9Ideal.Value.run (F := Ideal) m ρ)

theorem reference10_frame : Cert.quiescent_Reference10Ideal (hReference10Ideal := Cert.Reference10Ideal.Gen.facts) := fun m ρ _ =>
  (θ_run Cert.Reference10Ideal.defs _ _).mono (fun _ h => ⟨fun c => (h c).2, funext fun g => nomatch g⟩)
    (Cert.Reference10Ideal.Value.run (F := Ideal) m ρ)

theorem reference11_frame : Cert.quiescent_Reference11Ideal (hReference11Ideal := Cert.Reference11Ideal.Gen.facts) := fun m ρ _ =>
  (θ_run Cert.Reference11Ideal.defs _ _).mono (fun _ h => ⟨fun c => (h c).2.2.2, funext fun g => nomatch g⟩)
    (Cert.Reference11Ideal.Value.run (F := Ideal) m ρ)

theorem reference12_frame : Cert.quiescent_Reference12Ideal (hReference12Ideal := Cert.Reference12Ideal.Gen.facts) := fun m ρ _ =>
  (θ_run Cert.Reference12Ideal.defs _ _).mono (fun _ h => ⟨fun c => (h c).2.2.2, funext fun g => nomatch g⟩)
    (Cert.Reference12Ideal.Value.run (F := Ideal) m ρ)

theorem reference13_frame : Cert.quiescent_Reference13Ideal (hReference13Ideal := Cert.Reference13Ideal.Gen.facts) := fun m ρ _ =>
  (θ_run Cert.Reference13Ideal.defs _ _).mono (fun _ h => ⟨fun c => (h c).2.2.2, funext fun g => nomatch g⟩)
    (Cert.Reference13Ideal.Value.run (F := Ideal) m ρ)

theorem reference14_frame : Cert.quiescent_Reference14Ideal (hReference14Ideal := Cert.Reference14Ideal.Gen.facts) := fun m ρ _ =>
  (θ_run Cert.Reference14Ideal.defs _ _).mono (fun _ h => ⟨fun c => (h c).2.2.2, funext fun g => nomatch g⟩)
    (Cert.Reference14Ideal.Value.run (F := Ideal) m ρ)

theorem reference15_frame : Cert.quiescent_Reference15Ideal (hReference15Ideal := Cert.Reference15Ideal.Gen.facts) := fun m ρ _ =>
  (θ_run Cert.Reference15Ideal.defs _ _).mono (fun _ h => ⟨fun c => (h c).2.2.2, funext fun g => nomatch g⟩)
    (Cert.Reference15Ideal.Value.run (F := Ideal) m ρ)

theorem reference16_frame : Cert.quiescent_Reference16Ideal (hReference16Ideal := Cert.Reference16Ideal.Gen.facts) := fun m ρ _ =>
  (θ_run Cert.Reference16Ideal.defs _ _).mono (fun _ h => ⟨fun c => (h c).2.2.2, funext fun g => nomatch g⟩)
    (Cert.Reference16Ideal.Value.run (F := Ideal) m ρ)

theorem reference17_frame : Cert.quiescent_Reference17Ideal (hReference17Ideal := Cert.Reference17Ideal.Gen.facts) := fun m ρ _ =>
  (θ_run Cert.Reference17Ideal.defs _ _).mono (fun _ h => ⟨fun c => (h c).2.2.2, funext fun g => nomatch g⟩)
    (Cert.Reference17Ideal.Value.run (F := Ideal) m ρ)

theorem reference18_frame : Cert.quiescent_Reference18Ideal (hReference18Ideal := Cert.Reference18Ideal.Gen.facts) := fun m ρ _ =>
  (θ_run Cert.Reference18Ideal.defs _ _).mono (fun _ h => ⟨fun c => (h c).2.2.2, funext fun g => nomatch g⟩)
    (Cert.Reference18Ideal.Value.run (F := Ideal) m ρ)

theorem reference19_frame : Cert.quiescent_Reference19Ideal (hReference19Ideal := Cert.Reference19Ideal.Gen.facts) := fun m ρ _ =>
  (θ_run Cert.Reference19Ideal.defs _ _).mono (fun _ h => ⟨fun c => (h c).2.2.2, funext fun g => nomatch g⟩)
    (Cert.Reference19Ideal.Value.run (F := Ideal) m ρ)

theorem reference20_frame : Cert.quiescent_Reference20Ideal (hReference20Ideal := Cert.Reference20Ideal.Gen.facts) := fun m ρ _ =>
  (θ_run Cert.Reference20Ideal.defs _ _).mono (fun _ h => ⟨fun c => (h c).2.2.2, funext fun g => nomatch g⟩)
    (Cert.Reference20Ideal.Value.run (F := Ideal) m ρ)

theorem reference21_frame : Cert.quiescent_Reference21Ideal (hReference21Ideal := Cert.Reference21Ideal.Gen.facts) := fun m ρ _ =>
  (θ_run Cert.Reference21Ideal.defs _ _).mono (fun _ h => ⟨fun c => (h c).2.2.2, funext fun g => nomatch g⟩)
    (Cert.Reference21Ideal.Value.run (F := Ideal) m ρ)

theorem reference22_frame : Cert.quiescent_Reference22Ideal (hReference22Ideal := Cert.Reference22Ideal.Gen.facts) := fun m ρ _ =>
  (θ_run Cert.Reference22Ideal.defs _ _).mono (fun _ h => ⟨fun c => (h c).2.2.2, funext fun g => nomatch g⟩)
    (Cert.Reference22Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Finite.facts, Cert.Finite2.facts,
    Cert.Words.frame, kernel_ideal_frame, fun m ρ _ => kernel_ideal_frame m ρ trivial,
    reference_frame, fun m ρ _ => reference_frame m ρ trivial, fun m ρ _ => Cert.Kernel2.Gen.frame m ρ,
    fun m ρ _ => Cert.Kernel2Ideal.Gen.frame m ρ, fun m ρ _ => Cert.Kernel2Ideal.Gen.frame m ρ, reference2_frame,
    fun m ρ _ => reference2_frame m ρ trivial, fun m ρ _ => Cert.Kernel3.Gen.frame m ρ, fun m ρ _ => Cert.Kernel3Ideal.Gen.frame m ρ,
    reference3_frame, fun m ρ _ => Cert.Kernel4.Gen.frame m ρ, fun m ρ _ => Cert.Kernel4Ideal.Gen.frame m ρ,
    reference4_frame, fun m ρ _ => Cert.Kernel5.Gen.frame m ρ, fun m ρ _ => Cert.Kernel5Ideal.Gen.frame m ρ,
    reference5_frame, fun m ρ _ => Cert.Kernel6.Gen.frame m ρ, fun m ρ _ => Cert.Kernel6Ideal.Gen.frame m ρ,
    reference6_frame, fun m ρ _ => Cert.Kernel7.Gen.frame m ρ, fun m ρ _ => Cert.Kernel7Ideal.Gen.frame m ρ,
    reference7_frame, fun m ρ _ => Cert.Kernel8.Gen.frame m ρ, fun m ρ _ => Cert.Kernel8Ideal.Gen.frame m ρ,
    reference8_frame, fun m ρ _ => Cert.Kernel9.Gen.frame m ρ, fun m ρ _ => Cert.Kernel9Ideal.Gen.frame m ρ,
    reference9_frame, fun m ρ _ => Cert.Kernel10.Gen.frame m ρ, fun m ρ _ => Cert.Kernel10Ideal.Gen.frame m ρ,
    reference10_frame, fun m ρ _ => Cert.Kernel11.Gen.frame m ρ, fun m ρ _ => Cert.Kernel11Ideal.Gen.frame m ρ,
    reference11_frame, fun m ρ _ => Cert.Kernel12.Gen.frame m ρ, fun m ρ _ => Cert.Kernel12Ideal.Gen.frame m ρ,
    reference12_frame, fun m ρ _ => Cert.Kernel13.Gen.frame m ρ, fun m ρ _ => Cert.Kernel13Ideal.Gen.frame m ρ,
    reference13_frame, fun m ρ _ => Cert.Kernel14.Gen.frame m ρ, fun m ρ _ => Cert.Kernel14Ideal.Gen.frame m ρ,
    reference14_frame, fun m ρ _ => Cert.Kernel15.Gen.frame m ρ, fun m ρ _ => Cert.Kernel15Ideal.Gen.frame m ρ,
    reference15_frame, fun m ρ _ => Cert.Kernel16.Gen.frame m ρ, fun m ρ _ => Cert.Kernel16Ideal.Gen.frame m ρ,
    reference16_frame, fun m ρ _ => Cert.Kernel17.Gen.frame m ρ, fun m ρ _ => Cert.Kernel17Ideal.Gen.frame m ρ,
    reference17_frame, fun m ρ _ => Cert.Kernel18.Gen.frame m ρ, fun m ρ _ => Cert.Kernel18Ideal.Gen.frame m ρ,
    reference18_frame, fun m ρ _ => Cert.Kernel19.Gen.frame m ρ, fun m ρ _ => Cert.Kernel19Ideal.Gen.frame m ρ,
    reference19_frame, fun m ρ _ => Cert.Kernel20.Gen.frame m ρ, fun m ρ _ => Cert.Kernel20Ideal.Gen.frame m ρ,
    reference20_frame, fun m ρ _ => Cert.Kernel21.Gen.frame m ρ, fun m ρ _ => Cert.Kernel21Ideal.Gen.frame m ρ,
    reference21_frame, fun m ρ _ => Cert.Kernel22.Gen.frame m ρ, fun m ρ _ => Cert.Kernel22Ideal.Gen.frame m ρ,
    reference22_frame,
    trivial, algebraic, trivial,
    Cert.Ffn.GateUpGrad.algebraic, trivial, Cert.Ffn.Weights3.algebraic,
    trivial, Cert.Ffn.Input.algebraic, trivial,
    Cert.Ffn.Weights5.algebraic, trivial, Cert.Ffn.Up.algebraic,
    trivial, Cert.Ffn.Down.algebraic, trivial,
    Cert.Dilated.Heads.algebraic, trivial, Cert.Dilated.HeadWeights.algebraic,
    trivial, Cert.Dilated.Input.algebraic, Cert.Optimiser.W11.preserves,
    Cert.Optimiser.W11.algebraic, Cert.Optimiser.W12.preserves, Cert.Optimiser.W12.algebraic,
    Cert.Optimiser.W13.preserves, Cert.Optimiser.W13.algebraic, Cert.Optimiser.W14.preserves,
    Cert.Optimiser.W14.algebraic, Cert.Optimiser.W15.preserves, Cert.Optimiser.W15.algebraic,
    Cert.Optimiser.W16.preserves, Cert.Optimiser.W16.algebraic, Cert.Optimiser.W17.preserves,
    Cert.Optimiser.W17.algebraic, Cert.Optimiser.W18.preserves, Cert.Optimiser.W18.algebraic,
    Cert.Optimiser.W19.preserves, Cert.Optimiser.W19.algebraic, Cert.Optimiser.W20.preserves,
    Cert.Optimiser.W20.algebraic, Cert.Optimiser.W21.preserves, Cert.Optimiser.W21.algebraic,
    Cert.Optimiser.W22.preserves, Cert.Optimiser.W22.algebraic⟩

end Cert.Proof

end
